-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))) = (fun _ => 1#1)

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2))) = (fun _ => 1#1)

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_post_finite [hPre_post_finite : Cert.Pre_post_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_post_finite [hPre_post_finite : Cert.Pre_post_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6))) = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ r.2.sem = fun _ => 0)

def quiescent_PostKernelIdeal_pre_post_finite [hPostKernelIdeal : Cert.PostKernelIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_post_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6))
      ∧ r.2.sem = fun _ => 0)

def quiescent_PostReferenceIdeal_pre_post_finite [hPostReferenceIdeal : Cert.PostReferenceIdeal.Facts] [hPre_post_finite : Cert.Pre_post_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_post_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v12_0)) (v1 : (c : Dev Cert.MemKernelIdeal.nD) → Buf (Elt Ideal) ((c.tc : Thread Cert.MemKernelIdeal.nD Cert.MemKernelIdeal.τ).loc Cert.MemKernelIdeal.main_v12_1)) (v2 : (c : Dev Cert.MemKernelIdeal.nD) → Buf (Elt Ideal) ((c.tc : Thread Cert.MemKernelIdeal.nD Cert.MemKernelIdeal.τ).loc Cert.MemKernelIdeal.main_v12_2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v12_0) = v0 c
          ∧ r.2.mem ((c.tc : Thread Cert.MemKernelIdeal.nD Cert.MemKernelIdeal.τ).loc Cert.MemKernelIdeal.main_v12_1) = v1 c
          ∧ r.2.mem ((c.tc : Thread Cert.MemKernelIdeal.nD Cert.MemKernelIdeal.τ).loc Cert.MemKernelIdeal.main_v12_2) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v78) = v0 c
          ∧ r.2.mem ((c.tc : Thread Cert.MemReferenceIdeal.nD Cert.MemReferenceIdeal.τ).loc Cert.MemReferenceIdeal.main_v79) = v1 c
          ∧ r.2.mem ((c.tc : Thread Cert.MemReferenceIdeal.nD Cert.MemReferenceIdeal.τ).loc Cert.MemReferenceIdeal.main_v80) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)) →
    ∃ (v0 : (c : Dev Cert.FoxKernelIdeal.nD) → Buf (Elt Ideal) ((c.tc : Thread Cert.FoxKernelIdeal.nD Cert.FoxKernelIdeal.τ).loc Cert.FoxKernelIdeal.main_v130_0)) (v1 : (c : Dev Cert.FoxKernelIdeal.nD) → Buf (Elt Ideal) ((c.tc : Thread Cert.FoxKernelIdeal.nD Cert.FoxKernelIdeal.τ).loc Cert.FoxKernelIdeal.main_v130_2)) (v2 : (c : Dev Cert.FoxKernelIdeal.nD) → Buf (Elt Ideal) ((c.tc : Thread Cert.FoxKernelIdeal.nD Cert.FoxKernelIdeal.τ).loc Cert.FoxKernelIdeal.main_v130_3)) (v3 : (c : Dev Cert.FoxKernelIdeal.nD) → Buf (Elt Ideal) ((c.tc : Thread Cert.FoxKernelIdeal.nD Cert.FoxKernelIdeal.τ).loc Cert.FoxKernelIdeal.main_v132)) (v4 : (c : Dev Cert.FoxKernelIdeal.nD) → Buf (Elt Ideal) ((c.tc : Thread Cert.FoxKernelIdeal.nD Cert.FoxKernelIdeal.τ).loc Cert.FoxKernelIdeal.main_v133)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v130_0) = v0 c
          ∧ r.2.mem ((c.tc : Thread Cert.FoxKernelIdeal.nD Cert.FoxKernelIdeal.τ).loc Cert.FoxKernelIdeal.main_v130_2) = v1 c
          ∧ r.2.mem ((c.tc : Thread Cert.FoxKernelIdeal.nD Cert.FoxKernelIdeal.τ).loc Cert.FoxKernelIdeal.main_v130_3) = v2 c
          ∧ r.2.mem ((c.tc : Thread Cert.FoxKernelIdeal.nD Cert.FoxKernelIdeal.τ).loc Cert.FoxKernelIdeal.main_v132) = v3 c
          ∧ r.2.mem ((c.tc : Thread Cert.FoxKernelIdeal.nD Cert.FoxKernelIdeal.τ).loc Cert.FoxKernelIdeal.main_v133) = v4 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v105) = v0 c
          ∧ r.2.mem ((c.tc : Thread Cert.FoxReferenceIdeal.nD Cert.FoxReferenceIdeal.τ).loc Cert.FoxReferenceIdeal.main_v107) = v1 c
          ∧ r.2.mem ((c.tc : Thread Cert.FoxReferenceIdeal.nD Cert.FoxReferenceIdeal.τ).loc Cert.FoxReferenceIdeal.main_v109) = v2 c
          ∧ r.2.mem ((c.tc : Thread Cert.FoxReferenceIdeal.nD Cert.FoxReferenceIdeal.τ).loc Cert.FoxReferenceIdeal.main_v110) = v3 c
          ∧ r.2.mem ((c.tc : Thread Cert.FoxReferenceIdeal.nD Cert.FoxReferenceIdeal.τ).loc Cert.FoxReferenceIdeal.main_v112) = v4 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v4)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v4) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v12) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v6)) (v1 : (c : Dev Cert.LossKernelIdeal.nD) → Buf (Elt Ideal) ((c.tc : Thread Cert.LossKernelIdeal.nD Cert.LossKernelIdeal.τ).loc Cert.LossKernelIdeal.main_v3_0)) (v2 : (c : Dev Cert.LossKernelIdeal.nD) → Buf (Elt Ideal) ((c.tc : Thread Cert.LossKernelIdeal.nD Cert.LossKernelIdeal.τ).loc Cert.LossKernelIdeal.main_v3_1)) (v3 : (c : Dev Cert.LossKernelIdeal.nD) → Buf (Elt Ideal) ((c.tc : Thread Cert.LossKernelIdeal.nD Cert.LossKernelIdeal.τ).loc Cert.LossKernelIdeal.main_v7)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v6) = v0 c
          ∧ r.2.mem ((c.tc : Thread Cert.LossKernelIdeal.nD Cert.LossKernelIdeal.τ).loc Cert.LossKernelIdeal.main_v3_0) = v1 c
          ∧ r.2.mem ((c.tc : Thread Cert.LossKernelIdeal.nD Cert.LossKernelIdeal.τ).loc Cert.LossKernelIdeal.main_v3_1) = v2 c
          ∧ r.2.mem ((c.tc : Thread Cert.LossKernelIdeal.nD Cert.LossKernelIdeal.τ).loc Cert.LossKernelIdeal.main_v7) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v28) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v55) = v2 c
          ∧ r.2.mem ((c.tc : Thread Cert.LossReferenceIdeal.nD Cert.LossReferenceIdeal.τ).loc Cert.LossReferenceIdeal.main_v40) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v11_0)) (v1 : (c : Dev Cert.NormKernelIdeal.nD) → Buf (Elt Ideal) ((c.tc : Thread Cert.NormKernelIdeal.nD Cert.NormKernelIdeal.τ).loc Cert.NormKernelIdeal.main_v11_1)) (v2 : (c : Dev Cert.NormKernelIdeal.nD) → Buf (Elt Ideal) ((c.tc : Thread Cert.NormKernelIdeal.nD Cert.NormKernelIdeal.τ).loc Cert.NormKernelIdeal.main_v12)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v11_0) = v0 c
          ∧ r.2.mem ((c.tc : Thread Cert.NormKernelIdeal.nD Cert.NormKernelIdeal.τ).loc Cert.NormKernelIdeal.main_v11_1) = v1 c
          ∧ r.2.mem ((c.tc : Thread Cert.NormKernelIdeal.nD Cert.NormKernelIdeal.τ).loc Cert.NormKernelIdeal.main_v12) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v39) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_v24) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_PostKernel_PostKernelIdeal : Prop :=
  True

def algebraic_PostKernelIdeal_PostReferenceIdeal_pre_post_finite [hPostKernelIdeal : Cert.PostKernelIdeal.Facts] [hPostReferenceIdeal : Cert.PostReferenceIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_post_finite m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)) →
    ∃ (v0 : (c : Dev Cert.PostKernelIdeal.nD) → Buf (Elt Ideal) ((c.tc : Thread Cert.PostKernelIdeal.nD Cert.PostKernelIdeal.τ).loc Cert.PostKernelIdeal.main_v16_0)) (v1 : (c : Dev Cert.PostKernelIdeal.nD) → Buf (Elt Ideal) ((c.tc : Thread Cert.PostKernelIdeal.nD Cert.PostKernelIdeal.τ).loc Cert.PostKernelIdeal.main_v16_1)) (v2 : (c : Dev Cert.PostKernelIdeal.nD) → Buf (Elt Ideal) ((c.tc : Thread Cert.PostKernelIdeal.nD Cert.PostKernelIdeal.τ).loc Cert.PostKernelIdeal.main_v16_2)) (v3 : (c : Dev Cert.PostKernelIdeal.nD) → Buf (Elt Ideal) ((c.tc : Thread Cert.PostKernelIdeal.nD Cert.PostKernelIdeal.τ).loc Cert.PostKernelIdeal.main_v17)) (v4 : (c : Dev Cert.PostKernelIdeal.nD) → Buf (Elt Ideal) ((c.tc : Thread Cert.PostKernelIdeal.nD Cert.PostKernelIdeal.τ).loc Cert.PostKernelIdeal.main_v19)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v16_0) = v0 c
          ∧ r.2.mem ((c.tc : Thread Cert.PostKernelIdeal.nD Cert.PostKernelIdeal.τ).loc Cert.PostKernelIdeal.main_v16_1) = v1 c
          ∧ r.2.mem ((c.tc : Thread Cert.PostKernelIdeal.nD Cert.PostKernelIdeal.τ).loc Cert.PostKernelIdeal.main_v16_2) = v2 c
          ∧ r.2.mem ((c.tc : Thread Cert.PostKernelIdeal.nD Cert.PostKernelIdeal.τ).loc Cert.PostKernelIdeal.main_v17) = v3 c
          ∧ r.2.mem ((c.tc : Thread Cert.PostKernelIdeal.nD Cert.PostKernelIdeal.τ).loc Cert.PostKernelIdeal.main_v19) = v4 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v24) = v0 c
          ∧ r.2.mem ((c.tc : Thread Cert.PostReferenceIdeal.nD Cert.PostReferenceIdeal.τ).loc Cert.PostReferenceIdeal.main_v26) = v1 c
          ∧ r.2.mem ((c.tc : Thread Cert.PostReferenceIdeal.nD Cert.PostReferenceIdeal.τ).loc Cert.PostReferenceIdeal.main_v28) = v2 c
          ∧ r.2.mem ((c.tc : Thread Cert.PostReferenceIdeal.nD Cert.PostReferenceIdeal.τ).loc Cert.PostReferenceIdeal.main_v19) = v3 c
          ∧ r.2.mem ((c.tc : Thread Cert.PostReferenceIdeal.nD Cert.PostReferenceIdeal.τ).loc Cert.PostReferenceIdeal.main_v22) = v4 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6))

def preserves_FirstKernel_FirstKernelIdeal : Prop :=
  True

def algebraic_FirstKernelIdeal_FirstReferenceIdeal [hFirstKernelIdeal : Cert.FirstKernelIdeal.Facts] [hFirstReferenceIdeal : Cert.FirstReferenceIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)) →
    ∃ (v0 : (c : Dev Cert.FirstKernelIdeal.nD) → Buf (Elt Ideal) ((c.tc : Thread Cert.FirstKernelIdeal.nD Cert.FirstKernelIdeal.τ).loc Cert.FirstKernelIdeal.main_v28_0)) (v1 : (c : Dev Cert.FirstKernelIdeal.nD) → Buf (Elt Ideal) ((c.tc : Thread Cert.FirstKernelIdeal.nD Cert.FirstKernelIdeal.τ).loc Cert.FirstKernelIdeal.main_v29)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v28_0) = v0 c
          ∧ r.2.mem ((c.tc : Thread Cert.FirstKernelIdeal.nD Cert.FirstKernelIdeal.τ).loc Cert.FirstKernelIdeal.main_v29) = v1 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v38) = v0 c
          ∧ r.2.mem ((c.tc : Thread Cert.FirstReferenceIdeal.nD Cert.FirstReferenceIdeal.τ).loc Cert.FirstReferenceIdeal.main_v23) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def Claim : Prop :=
  ∃ (hKernel : Cert.Kernel.Facts) (hKernelIdeal : Cert.KernelIdeal.Facts) (hReferenceIdeal : Cert.ReferenceIdeal.Facts) (hMemKernel : Cert.MemKernel.Facts) (hMemKernelIdeal : Cert.MemKernelIdeal.Facts) (hMemReferenceIdeal : Cert.MemReferenceIdeal.Facts) (hFoxKernel : Cert.FoxKernel.Facts) (hFoxKernelIdeal : Cert.FoxKernelIdeal.Facts) (hFoxReferenceIdeal : Cert.FoxReferenceIdeal.Facts) (hActKernel : Cert.ActKernel.Facts) (hActKernelIdeal : Cert.ActKernelIdeal.Facts) (hActReferenceIdeal : Cert.ActReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hPostKernel : Cert.PostKernel.Facts) (hPostKernelIdeal : Cert.PostKernelIdeal.Facts) (hPostReferenceIdeal : Cert.PostReferenceIdeal.Facts) (hFirstKernel : Cert.FirstKernel.Facts) (hFirstKernelIdeal : Cert.FirstKernelIdeal.Facts) (hFirstReferenceIdeal : Cert.FirstReferenceIdeal.Facts) (hPre_mem_finite : Cert.Pre_mem_finite.Facts) (hPre_fox_finite : Cert.Pre_fox_finite.Facts) (hPre_post_finite : Cert.Pre_post_finite.Facts),
    quiescent_Kernel (hKernel := hKernel)
    ∧ quiescent_KernelIdeal (hKernelIdeal := hKernelIdeal)
    ∧ quiescent_ReferenceIdeal (hReferenceIdeal := hReferenceIdeal)
    ∧ quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_PostKernel (hPostKernel := hPostKernel)
    ∧ quiescent_PostKernelIdeal (hPostKernelIdeal := hPostKernelIdeal)
    ∧ quiescent_PostKernelIdeal_pre_post_finite (hPostKernelIdeal := hPostKernelIdeal) (hPre_post_finite := hPre_post_finite)
    ∧ quiescent_PostReferenceIdeal (hPostReferenceIdeal := hPostReferenceIdeal)
    ∧ quiescent_PostReferenceIdeal_pre_post_finite (hPostReferenceIdeal := hPostReferenceIdeal) (hPre_post_finite := hPre_post_finite)
    ∧ quiescent_FirstKernel (hFirstKernel := hFirstKernel)
    ∧ quiescent_FirstKernelIdeal (hFirstKernelIdeal := hFirstKernelIdeal)
    ∧ quiescent_FirstReferenceIdeal (hFirstReferenceIdeal := hFirstReferenceIdeal)
    ∧ preserves_Kernel_KernelIdeal
    ∧ algebraic_KernelIdeal_ReferenceIdeal (hKernelIdeal := hKernelIdeal) (hReferenceIdeal := hReferenceIdeal)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_ActKernel_ActKernelIdeal
    ∧ algebraic_ActKernelIdeal_ActReferenceIdeal (hActKernelIdeal := hActKernelIdeal) (hActReferenceIdeal := hActReferenceIdeal)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_PostKernel_PostKernelIdeal
    ∧ algebraic_PostKernelIdeal_PostReferenceIdeal_pre_post_finite (hPostKernelIdeal := hPostKernelIdeal) (hPostReferenceIdeal := hPostReferenceIdeal) (hPre_post_finite := hPre_post_finite)
    ∧ preserves_FirstKernel_FirstKernelIdeal
    ∧ algebraic_FirstKernelIdeal_FirstReferenceIdeal (hFirstKernelIdeal := hFirstKernelIdeal) (hFirstReferenceIdeal := hFirstReferenceIdeal)
-- ==== Pre_fox_finite.lean ====
abbrev S16384x6680 : Shape := ⟨2, ![16384, 6680]⟩
abbrev S8 : Shape := ⟨1, ![8]⟩
abbrev S16384x512 : Shape := ⟨2, ![16384, 512]⟩
abbrev S16384x1544 : Shape := ⟨2, ![16384, 1544]⟩
abbrev S_ : Shape := ⟨0, ![]⟩

class Facts : Prop where
  slices_S16384x6680_S16384x1544_0_1552 : S16384x6680.Slices ![0, 1552] S16384x1544
  bcast_S_S16384x1544 : S_.BroadcastsInDim S16384x1544 (![] : Fin 0 → Fin S16384x1544.rank)
  reducesTo_S16384x1544_S_d0_1 : S16384x1544.ReducesTo [0, 1] S_
  h_S_ : 0 < S_.numel
  bcast_S_S8 : S_.BroadcastsInDim S8 (![] : Fin 0 → Fin S8.rank)
  reducesTo_S8_S_d0 : S8.ReducesTo [0] S_
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x6680 .f32) (main_arg1 : FVec F S8 .f32) (main_arg2 : FVec F S16384x512 .f32) : IVec S_ 1 :=
  let main_v0 : FVec F S16384x1544 .f32 := (extractStridedSlice S16384x1544 ![0, 1552] · slices_S16384x6680_S16384x1544_0_1552) main_arg0
  let main_v1 : FVec F S16384x1544 .f32 := Host.absf main_v0
  let main_cst : FVec F S_ .f32 := constant S_ .f32 0x7F800000#32
  let main_v2 : FVec F S16384x1544 .f32 := broadcastInDim S16384x1544 ![] bcast_S_S16384x1544 main_cst
  let main_v3 : IVec S16384x1544 1 := cmpf .olt main_v1 main_v2
  let main_c : IVec S_ 1 := constantI S_ 1 1#1
  let main_v4 : IVec S_ 1 := (fun x v => Host.reduce IntOp.andi x v reducesTo_S16384x1544_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  let main_v10 : FVec F S16384x512 .f32 := Host.absf main_arg2
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v9 main_v13
  main_v14
-- ==== Pre_mem_finite.lean ====
abbrev S16384x6680 : Shape := ⟨2, ![16384, 6680]⟩
abbrev S256x1024 : Shape := ⟨2, ![256, 1024]⟩
abbrev S16384x512 : Shape := ⟨2, ![16384, 512]⟩
abbrev S_ : Shape := ⟨0, ![]⟩

class Facts : Prop where
  slices_S16384x6680_S16384x512_0_3096 : S16384x6680.Slices ![0, 3096] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x6680 .f32) (main_arg1 : FVec F S256x1024 .f32) (main_arg2 : FVec F S16384x512 .f32) : IVec S_ 1 :=
  let main_v0 : FVec F S16384x512 .f32 := (extractStridedSlice S16384x512 ![0, 3096] · slices_S16384x6680_S16384x512_0_3096) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  let main_v10 : FVec F S16384x512 .f32 := Host.absf main_arg2
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v9 main_v13
  main_v14
-- ==== Pre_post_finite.lean ====
abbrev S16384x6680 : Shape := ⟨2, ![16384, 6680]⟩
abbrev S8 : Shape := ⟨1, ![8]⟩
abbrev S8x16384 : Shape := ⟨2, ![8, 16384]⟩
abbrev S512x16384 : Shape := ⟨2, ![512, 16384]⟩
abbrev S_ : Shape := ⟨0, ![]⟩

class Facts : Prop where
  bcast_S_S8x16384 : S_.BroadcastsInDim S8x16384 (![] : Fin 0 → Fin S8x16384.rank)
  reducesTo_S8x16384_S_d0_1 : S8x16384.ReducesTo [0, 1] S_
  h_S_ : 0 < S_.numel

variable [Facts]

def fn {F : FTy → Type} [FloatOps F] (main_arg0 : FVec F S16384x6680 .f32) (main_arg1 : FVec F S8 .f32) (main_arg2 : FVec F S8x16384 .f32) (main_arg3 : FVec F S8x16384 .f32) (main_arg4 : FVec F S512x16384 .f32) (main_arg5 : FVec F S512x16384 .f32) (main_arg6 : FVec F S512x16384 .f32) : IVec S_ 1 :=
  let main_v0 : FVec F S8x16384 .f32 := Host.absf main_arg2
  let main_cst : FVec F S_ .f32 := constant S_ .f32 0x7F800000#32
  let main_v1 : FVec F S8x16384 .f32 := broadcastInDim S8x16384 ![] bcast_S_S8x16384 main_cst
  let main_v2 : IVec S8x16384 1 := cmpf .olt main_v0 main_v1
  let main_c : IVec S_ 1 := constantI S_ 1 1#1
  let main_v3 : IVec S_ 1 := (fun x v => Host.reduce IntOp.andi x v reducesTo_S8x16384_S_d0_1 h_S_) main_v2 main_c
  let main_v4 : FVec F S8x16384 .f32 := Host.absf main_arg3
  let main_cst_0 : FVec F S_ .f32 := constant S_ .f32 0x7F800000#32
  let main_v5 : FVec F S8x16384 .f32 := broadcastInDim S8x16384 ![] bcast_S_S8x16384 main_cst_0
  let main_v6 : IVec S8x16384 1 := cmpf .olt main_v4 main_v5
  let main_c_1 : IVec S_ 1 := constantI S_ 1 1#1
  let main_v7 : IVec S_ 1 := (fun x v => Host.reduce IntOp.andi x v reducesTo_S8x16384_S_d0_1 h_S_) main_v6 main_c_1
  let main_v8 : IVec S_ 1 := andi main_v3 main_v7
  main_v8
-- ==== Kernel.lean ====
abbrev S256x1024 : Shape := ⟨2, ![256, 1024]⟩
abbrev S1x1024 : Shape := ⟨2, ![1, 1024]⟩
abbrev S256x1 : Shape := ⟨2, ![256, 1]⟩
abbrev S256 : Shape := ⟨1, ![256]⟩
abbrev S8x1024 : Shape := ⟨2, ![8, 1024]⟩
abbrev S32x8x1024 : Shape := ⟨3, ![32, 8, 1024]⟩
abbrev S_ : Shape := ⟨0, ![]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .bf16⟩
  | .hbm, ⟨4, _⟩ => ⟨S256x1, .f32⟩
  | .hbm, ⟨5, _⟩ => ⟨S8x1024, .f32⟩
  | .hbm, ⟨6, _⟩ => ⟨S_, .f32⟩
  | .hbm, ⟨7, _⟩ => ⟨S1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MemKernel.lean ====
abbrev S16384x6680 : Shape := ⟨2, ![16384, 6680]⟩
abbrev S256x1024 : Shape := ⟨2, ![256, 1024]⟩
abbrev S16384x512 : Shape := ⟨2, ![16384, 512]⟩
abbrev S16384x3072 : Shape := ⟨2, ![16384, 3072]⟩
abbrev S16384x1536 : Shape := ⟨2, ![16384, 1536]⟩
abbrev S16384x6656 : Shape := ⟨2, ![16384, 6656]⟩
abbrev S16384x16 : Shape := ⟨2, ![16384, 16]⟩
abbrev S16384x8 : Shape := ⟨2, ![16384, 8]⟩
abbrev S_ : Shape := ⟨0, ![]⟩
abbrev S16384x104 : Shape := ⟨2, ![16384, 104]⟩
abbrev S16384x128 : Shape := ⟨2, ![16384, 128]⟩
abbrev S256x512 : Shape := ⟨2, ![256, 512]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x6680, .f32⟩
  | .hbm, ⟨1, _⟩ => ⟨S256x1024, .f32⟩
  | .hbm, ⟨2, _⟩ => ⟨S16384x512, .f32⟩
  | .hbm, ⟨3, _⟩ => ⟨S16384x3072, .f32⟩
  | .hbm, ⟨4, _⟩ => ⟨S16384x1536, .f32⟩
  | .hbm, ⟨5, _⟩ => ⟨S16384x1536, .f32⟩
  | .hbm, ⟨6, _⟩ => ⟨S16384x512, .f32⟩
  | .hbm, ⟨7, _⟩ => ⟨S16384x6656, .f32⟩
  | .hbm, ⟨8, _⟩ => ⟨S16384x6656, .bf16⟩
  | .hbm, ⟨9, _⟩ => ⟨S16384x16, .f32⟩
  | .hbm, ⟨10, _⟩ => ⟨S16384x8, .f32⟩
  | .hbm, ⟨11, _⟩ => ⟨S_, .f32⟩
  | .hbm, ⟨12, _⟩ => ⟨S16384x104, .f32⟩
  | .hbm, ⟨13, _⟩ => ⟨S16384x128, .f32⟩
  | .hbm, ⟨14, _⟩ => ⟨S256x1024, .bf16⟩
  | .hbm, ⟨15, _⟩ => ⟨S16384x512, .bf16⟩
  | .hbm, ⟨16, _⟩ => ⟨S16384x512, .bf16⟩
  | .hbm, ⟨17, _⟩ => ⟨S256x512, .f32⟩
  | .hbm, ⟨18, _⟩ => ⟨S256x512, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S256x512, .f32⟩
  | .local _ .vmem, ⟨9, _⟩ => ⟨S256x512, .f32⟩
  | _, _ => ⟨S16384x6680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemReferenceIdeal.lean ====
abbrev S16384x6680 : Shape := ⟨2, ![16384, 6680]⟩
abbrev S256x1024 : Shape := ⟨2, ![256, 1024]⟩
abbrev S16384x512 : Shape := ⟨2, ![16384, 512]⟩
abbrev S16384x256 : Shape := ⟨2, ![16384, 256]⟩
abbrev S16384x16 : Shape := ⟨2, ![16384, 16]⟩
abbrev S16384x8 : Shape := ⟨2, ![16384, 8]⟩
abbrev S16384x3072 : Shape := ⟨2, ![16384, 3072]⟩
abbrev S256x512 : Shape := ⟨2, ![256, 512]⟩
abbrev S1x16384x4x128 : Shape := ⟨4, ![1, 16384, 4, 128]⟩
abbrev S1x256x4x128 : Shape := ⟨4, ![1, 256, 4, 128]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩
abbrev S1x4x128x256 : Shape := ⟨4, ![1, 4, 128, 256]⟩
abbrev S4x16384 : Shape := ⟨2, ![4, 16384]⟩
abbrev S1x4x256x128 : Shape := ⟨4, ![1, 4, 256, 128]⟩
abbrev S1x4x16384x128 : Shape := ⟨4, ![1, 4, 16384, 128]⟩

abbrev nBuf : Space → Nat
  | .hbm => 98
  | .vmem => 0
  | .smem => 0
  | _ => 0

abbrev bufTy : (tb : Table) → Fin (tcTables nBuf tb) → BufTy
  | .hbm, ⟨0, _⟩ => ⟨S16384x6680, .f32⟩
  | .hbm, ⟨1, _⟩ => ⟨S256x1024, .f32⟩
  | .hbm, ⟨2, _⟩ => ⟨S16384x512, .f32⟩
  | .hbm, ⟨3, _⟩ => ⟨S16384x256, .f32⟩
  | .hbm, ⟨4, _⟩ => ⟨S16384x256, .f32⟩
  | .hbm, ⟨5, _⟩ => ⟨S16384x512, .f32⟩
  | .hbm, ⟨6, _⟩ => ⟨S16384x512, .f32⟩
  | .hbm, ⟨7, _⟩ => ⟨S16384x16, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x8, .f32⟩
  | .hbm, ⟨12, _⟩ => ⟨S16384x512, .f32⟩
  | .hbm, ⟨13, _⟩ => ⟨S16384x3072, .f32⟩
  | .hbm, ⟨14, _⟩ => ⟨S256x512, .f32⟩
  | .hbm, ⟨15, _⟩ => ⟨S256x512, .f32⟩
  | .hbm, ⟨16, _⟩ => ⟨S1x16384x4x128, .f32⟩
  | .hbm, ⟨17, _⟩ => ⟨S1x256x4x128, .f32⟩
  | .hbm, ⟨18, _⟩ => ⟨S1x256x4x128, .f32⟩
  | .hbm, ⟨19, _⟩ => ⟨S1x4x16384x256, .f32⟩
  | .hbm, ⟨20, _⟩ => ⟨S_, .f32⟩
  | .hbm, ⟨21, _⟩ => ⟨S1x4x16384x256, .f32⟩
  | .hbm, ⟨22, _⟩ => ⟨S1x4x16384x256, .f32⟩
  | .hbm, ⟨23, _⟩ => ⟨S_, .f32⟩
  | .hbm, ⟨24, _⟩ => ⟨S1x4x16384, .f32⟩
  | .hbm, ⟨25, _⟩ => ⟨S1x4x16384x1, .f32⟩
  | .hbm, ⟨26, _⟩ => ⟨S1x4x16384x256, .f32⟩
  | .hbm, ⟨27, _⟩ => ⟨S1x4x16384x256, .i1⟩
  | .hbm, ⟨28, _⟩ => ⟨S1x4x16384x256, .f32⟩
  | .hbm, ⟨29, _⟩ => ⟨S_, .f32⟩
  | .hbm, ⟨30, _⟩ => ⟨S1x4x16384, .f32⟩
  | .hbm, ⟨31, _⟩ => ⟨S_, .f32⟩
  | .hbm, ⟨32, _⟩ => ⟨S1x4x16384, .f32⟩
  | .hbm, ⟨33, _⟩ => ⟨S1x4x16384, .f32⟩
  | .hbm, ⟨34, _⟩ => ⟨S_, .f32⟩
  | .hbm, ⟨35, _⟩ => ⟨S1x4x16384, .f32⟩
  | .hbm, ⟨36, _⟩ => ⟨S1x4x16384, .i1⟩
  | .hbm, ⟨37, _⟩ => ⟨S_, .f32⟩
  | .hbm, ⟨38, _⟩ => ⟨S1x4x16384, .f32⟩
  | .hbm, ⟨39, _⟩ => ⟨S1x4x16384, .i1⟩
  | .hbm, ⟨40, _⟩ => ⟨S_, .f32⟩
  | .hbm, ⟨41, _⟩ => ⟨S1x4x16384, .f32⟩
  | .hbm, ⟨42, _⟩ => ⟨S_, .f32⟩
  | .hbm, ⟨43, _⟩ => ⟨S1x4x16384, .f32⟩
  | .hbm, ⟨44, _⟩ => ⟨S_, .f32⟩
  | .hbm, ⟨45, _⟩ => ⟨S1x4x16384, .f32⟩
  | .hbm, ⟨46, _⟩ => ⟨S1x4x16384, .f32⟩
  | .hbm, ⟨47, _⟩ => ⟨S1x4x16384, .f32⟩
  | .hbm, ⟨48, _⟩ => ⟨S1x4x16384x1, .f32⟩
  | .hbm, ⟨49, _⟩ => ⟨S1x4x16384x256, .f32⟩
  | .hbm, ⟨50, _⟩ => ⟨S1x4x16384x256, .f32⟩
  | .hbm, ⟨51, _⟩ => ⟨S1x4x16384x256, .f32⟩
  | .hbm, ⟨52, _⟩ => ⟨S_, .f32⟩
  | .hbm, ⟨53, _⟩ => ⟨S1x4x16384, .f32⟩
  | .hbm, ⟨54, _⟩ => ⟨S1x4x16384x1, .f32⟩
  | .hbm, ⟨55, _⟩ => ⟨S1x4x16384x256, .f32⟩
  | .hbm, ⟨56, _⟩ => ⟨S1x4x16384x256, .f32⟩
  | .hbm, ⟨57, _⟩ => ⟨S1x4x16384x1, .f32⟩
  | .hbm, ⟨58, _⟩ => ⟨S_, .f32⟩
  | .hbm, ⟨59, _⟩ => ⟨S1x4x16384x1, .f32⟩
  | .hbm, ⟨60, _⟩ => ⟨S1x4x16384x1, .f32⟩
  | .hbm, ⟨61, _⟩ => ⟨S1x4x128x16384, .f32⟩
  | .hbm, ⟨62, _⟩ => ⟨S1x16384x4x128, .f32⟩
  | .hbm, ⟨63, _⟩ => ⟨S16384x512, .f32⟩
  | .hbm, ⟨64, _⟩ => ⟨S1x16384x4x128, .f32⟩
  | .hbm, ⟨65, _⟩ => ⟨S1x4x128x16384, .f32⟩
  | .hbm, ⟨66, _⟩ => ⟨S1x4x16384x256, .f32⟩
  | .hbm, ⟨67, _⟩ => ⟨S1x4x128x256, .f32⟩
  | .hbm, ⟨68, _⟩ => ⟨S1x256x4x128, .f32⟩
  | .hbm, ⟨69, _⟩ => ⟨S1x4x16384x256, .f32⟩
  | .hbm, ⟨70, _⟩ => ⟨S1x4x16384x256, .f32⟩
  | .hbm, ⟨71, _⟩ => ⟨S1x4x16384x256, .f32⟩
  | .hbm, ⟨72, _⟩ => ⟨S_, .f32⟩
  | .hbm, ⟨73, _⟩ => ⟨S1x4x16384, .f32⟩
  | .hbm, ⟨74, _⟩ => ⟨S1x4x16384x1, .f32⟩
  | .hbm, ⟨75, _⟩ => ⟨S1x4x16384x1, .f32⟩
  | .hbm, ⟨76, _⟩ => ⟨S1x4x16384x256, .f32⟩
  | .hbm, ⟨77, _⟩ => ⟨S1x4x16384x256, .f32⟩
  | .hbm, ⟨78, _⟩ => ⟨S_, .f32⟩
  | .hbm, ⟨79, _⟩ => ⟨S4x16384, .f32⟩
  | .hbm, ⟨80, _⟩ => ⟨S1x4x16384, .f32⟩
  | .hbm, ⟨81, _⟩ => ⟨S1x4x16384x256, .f32⟩
  | .hbm, ⟨82, _⟩ => ⟨S1x4x16384x256, .f32⟩
  | .hbm, ⟨83, _⟩ => ⟨S1x4x16384x256, .f32⟩
  | .hbm, ⟨84, _⟩ => ⟨S_, .f32⟩
  | .hbm, ⟨85, _⟩ => ⟨S1x4x16384x256, .f32⟩
  | .hbm, ⟨86, _⟩ => ⟨S1x4x16384x256, .f32⟩
  | .hbm, ⟨87, _⟩ => ⟨S1x4x256x128, .f32⟩
  | .hbm, ⟨88, _⟩ => ⟨S1x256x4x128, .f32⟩
  | .hbm, ⟨89, _⟩ => ⟨S1x4x16384x128, .f32⟩
  | .hbm, ⟨90, _⟩ => ⟨S1x16384x4x128, .f32⟩
  | .hbm, ⟨91, _⟩ => ⟨S256x512, .f32⟩
  | .hbm, ⟨92, _⟩ => ⟨S256x512, .f32⟩
  | .hbm, ⟨93, _⟩ => ⟨S16384x512, .f32⟩
  | .hbm, ⟨94, _⟩ => ⟨S256x1024, .f32⟩
  | .hbm, ⟨95, _⟩ => ⟨S16384x512, .bf16⟩
  | .hbm, ⟨96, _⟩ => ⟨S256x512, .f32⟩
  | .hbm, ⟨97, _⟩ => ⟨S256x512, .f32⟩
  | _, _ => ⟨S16384x6680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== FoxKernel.lean ====
abbrev S16384x6680 : Shape := ⟨2, ![16384, 6680]⟩
abbrev S8 : Shape := ⟨1, ![8]⟩
abbrev S16384x512 : Shape := ⟨2, ![16384, 512]⟩
abbrev S16384x256 : Shape := ⟨2, ![16384, 256]⟩
abbrev S16384x16 : Shape := ⟨2, ![16384, 16]⟩
abbrev S16384x8 : Shape := ⟨2, ![16384, 8]⟩
abbrev S16384x3072 : Shape := ⟨2, ![16384, 3072]⟩
abbrev S16384x8x64 : Shape := ⟨3, ![16384, 8, 64]⟩
abbrev S1x8 : Shape := ⟨2, ![1, 8]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S16384x8x3 : Shape := ⟨3, ![16384, 8, 3]⟩
abbrev S16384x8x1 : Shape := ⟨3, ![16384, 8, 1]⟩
abbrev S16384x8x58 : Shape := ⟨3, ![16384, 8, 58]⟩
abbrev S16384x8x128 : Shape := ⟨3, ![16384, 8, 128]⟩
abbrev S16384x1024 : Shape := ⟨2, ![16384, 1024]⟩
abbrev S16384x8x61 : Shape := ⟨3, ![16384, 8, 61]⟩
abbrev S512x16384 : Shape := ⟨2, ![512, 16384]⟩
abbrev S8x8x16384 : Shape := ⟨3, ![8, 8, 16384]⟩
abbrev S16384x128 : Shape := ⟨2, ![16384, 128]⟩
abbrev S64x16384 : Shape := ⟨2, ![64, 16384]⟩
abbrev S2048x128 : Shape := ⟨2, ![2048, 128]⟩
abbrev S64x2048 : Shape := ⟨2, ![64, 2048]⟩
abbrev S1x8x16384 : Shape := ⟨3, ![1, 8, 16384]⟩
abbrev S1x1x2048 : Shape := ⟨3, ![1, 1, 2048]⟩
abbrev S16x2048 : Shape := ⟨2, ![16, 2048]⟩
abbrev S80x2048 : Shape := ⟨2, ![80, 2048]⟩
abbrev S512x512 : Shape := ⟨2, ![512, 512]⟩
abbrev S512x128 : Shape := ⟨2, ![512, 128]⟩
abbrev S80x512 : Shape := ⟨2, ![80, 512]⟩
abbrev S64x512 : Shape := ⟨2, ![64, 512]⟩
abbrev S1x8x512 : Shape := ⟨3, ![1, 8, 512]⟩
abbrev S8x512 : Shape := ⟨2, ![8, 512]⟩
abbrev S16x512 : Shape := ⟨2, ![16, 512]⟩
abbrev S80x1536 : Shape := ⟨2, ![80, 1536]⟩
abbrev S64x1536 : Shape := ⟨2, ![64, 1536]⟩
abbrev S1024x128 : Shape := ⟨2, ![1024, 128]⟩
abbrev S512x1024 : Shape := ⟨2, ![512, 1024]⟩
abbrev S80x1024 : Shape := ⟨2, ![80, 1024]⟩
abbrev S64x1024 : Shape := ⟨2, ![64, 1024]⟩
abbrev S1536x128 : Shape := ⟨2, ![1536, 128]⟩
abbrev S512x1536 : Shape := ⟨2, ![512, 1536]⟩
abbrev S512x2048 : Shape := ⟨2, ![512, 2048]⟩
abbrev S1x2048 : Shape := ⟨2, ![1, 2048]⟩

abbrev nBuf : Space → Nat
  | .hbm => 176
  | .vmem => 24
  | .smem => 0
  | _ => 0

abbrev hbmTy0_0 (i : Nat) : BufTy := match i % 128 with
  | 0 => ⟨S16384x6680, .f32⟩
  | 1 => ⟨S8, .f32⟩
  | 2 => ⟨S16384x512, .f32⟩
  | 3 => ⟨S16384x256, .f32⟩
  | 4 => ⟨S16384x256, .f32⟩
  | 5 => ⟨S16384x512, .f32⟩
  | 6 => ⟨S16384x512, .f32⟩
  | 7 => ⟨S16384x16, .f32⟩
  | 8 => ⟨S16384x512, .f32⟩
  | 9 => ⟨S16384x512, .f32⟩
  | 10 => ⟨S16384x512, .f32⟩
  | 11 => ⟨S16384x8, .f32⟩
  | 12 => ⟨S16384x512, .f32⟩
  | 13 => ⟨S16384x3072, .f32⟩
  | 14 => ⟨S16384x8x64, .f32⟩
  | 15 => ⟨S16384x8x64, .f32⟩
  | 16 => ⟨S16384x8x64, .f32⟩
  | 17 => ⟨S16384x8x64, .f32⟩
  | 18 => ⟨S1x8, .f32⟩
  | 19 => ⟨S16384x8, .f32⟩
  | 20 => ⟨S16384x8, .f32⟩
  | 21 => ⟨S16384x8, .f32⟩
  | 22 => ⟨S_, .f32⟩
  | 23 => ⟨S16384x8, .f32⟩
  | 24 => ⟨S16384x8, .f32⟩
  | 25 => ⟨S16384x8, .f32⟩
  | 26 => ⟨S16384x8, .f32⟩
  | 27 => ⟨S16384x8, .i1⟩
  | 28 => ⟨S16384x8, .f32⟩
  | 29 => ⟨S16384x8, .f32⟩
  | 30 => ⟨S16384x8, .f32⟩
  | 31 => ⟨S16384x8, .f32⟩
  | 32 => ⟨S16384x8, .f32⟩
  | 33 => ⟨S16384x8, .f32⟩
  | 34 => ⟨S16384x8, .f32⟩
  | 35 => ⟨S16384x8, .f32⟩
  | 36 => ⟨S16384x8, .f32⟩
  | 37 => ⟨S_, .f32⟩
  | 38 => ⟨S_, .f32⟩
  | 39 => ⟨S16384x8, .f32⟩
  | 40 => ⟨S8x16384x16384, .f32⟩
  | 41 => ⟨S_, .f32⟩
  | 42 => ⟨S8x16384x16384, .f32⟩
  | 43 => ⟨S8x16384x16384, .f32⟩
  | 44 => ⟨S8x16384, .f32⟩
  | 45 => ⟨S8x16384x1, .f32⟩
  | 46 => ⟨S8x16384x16384, .f32⟩
  | 47 => ⟨S8x16384x16384, .f32⟩
  | 48 => ⟨S8x16384, .f32⟩
  | 49 => ⟨S8x1x16384, .f32⟩
  | 50 => ⟨S8x16384x16384, .f32⟩
  | 51 => ⟨S8x16384x16384, .f32⟩
  | 52 => ⟨S16384, .i32⟩
  | 53 => ⟨S1x16384, .i32⟩
  | 54 => ⟨S16384, .i32⟩
  | 55 => ⟨S16384x1, .i32⟩
  | 56 => ⟨S16384x16384, .i32⟩
  | 57 => ⟨S16384x16384, .i32⟩
  | 58 => ⟨S16384x16384, .i1⟩
  | 59 => ⟨S_, .f32⟩
  | 60 => ⟨S_, .f32⟩
  | 61 => ⟨S8x16384x16384, .i1⟩
  | 62 => ⟨S8x16384x16384, .f32⟩
  | 63 => ⟨S8x16384x16384, .f32⟩
  | 64 => ⟨S_, .f32⟩
  | 65 => ⟨S8x16384, .f32⟩
  | 66 => ⟨S8x16384x1, .f32⟩
  | 67 => ⟨S8x16384x16384, .f32⟩
  | 68 => ⟨S8x16384x16384, .f32⟩
  | 69 => ⟨S8x16384x16384, .f32⟩
  | 70 => ⟨S_, .f32⟩
  | 71 => ⟨S8x16384, .f32⟩
  | 72 => ⟨S8x16384x1, .f32⟩
  | 73 => ⟨S8x16384x16384, .f32⟩
  | 74 => ⟨S8x16384x16384, .f32⟩
  | 75 => ⟨S8x64x16384, .f32⟩
  | 76 => ⟨S16384x8x64, .f32⟩
  | 77 => ⟨S_, .f32⟩
  | 78 => ⟨S_, .f32⟩
  | 79 => ⟨S_, .f32⟩
  | 80 => ⟨S_, .f32⟩
  | 81 => ⟨S8x16384x1, .f32⟩
  | 82 => ⟨S8x16384x1, .f32⟩
  | 83 => ⟨S8x16384, .f32⟩
  | 84 => ⟨S8x16384, .f32⟩
  | 85 => ⟨S8x16384, .f32⟩
  | 86 => ⟨S16384x8, .f32⟩
  | 87 => ⟨S_, .bf16⟩
  | 88 => ⟨S16384x8x3, .bf16⟩
  | 89 => ⟨S_, .f32⟩
  | 90 => ⟨S_, .f32⟩
  | 91 => ⟨S16384x8x64, .f32⟩
  | 92 => ⟨S16384x8x64, .f32⟩
  | 93 => ⟨S16384x8, .f32⟩
  | 94 => ⟨S16384x8, .f32⟩
  | 95 => ⟨S16384x8, .f32⟩
  | 96 => ⟨S16384x8, .bf16⟩
  | 97 => ⟨S16384x8, .f32⟩
  | 98 => ⟨S16384x8, .f32⟩
  | 99 => ⟨S16384x8, .bf16⟩
  | 100 => ⟨S16384x8, .f32⟩
  | 101 => ⟨S16384x8, .f32⟩
  | 102 => ⟨S16384x8, .bf16⟩
  | 103 => ⟨S16384x8x1, .bf16⟩
  | 104 => ⟨S16384x8x1, .bf16⟩
  | 105 => ⟨S16384x8x1, .bf16⟩
  | 106 => ⟨S16384x8x3, .bf16⟩
  | 107 => ⟨S16384x8x64, .bf16⟩
  | 108 => ⟨S_, .bf16⟩
  | 109 => ⟨S16384x8x58, .bf16⟩
  | 110 => ⟨S16384x8x128, .bf16⟩
  | 111 => ⟨S16384x1024, .bf16⟩
  | 112 => ⟨S16384x8, .f32⟩
  | 113 => ⟨S16384x8, .f32⟩
  | 114 => ⟨S16384x8, .bf16⟩
  | 115 => ⟨S16384x8, .f32⟩
  | 116 => ⟨S16384x8, .f32⟩
  | 117 => ⟨S16384x8, .bf16⟩
  | 118 => ⟨S16384x8, .f32⟩
  | 119 => ⟨S16384x8, .f32⟩
  | 120 => ⟨S16384x8, .bf16⟩
  | 121 => ⟨S16384x8x1, .bf16⟩
  | 122 => ⟨S16384x8x1, .bf16⟩
  | 123 => ⟨S16384x8x1, .bf16⟩
  | 124 => ⟨S16384x8x3, .bf16⟩
  | 125 => ⟨S16384x8x3, .bf16⟩
  | 126 => ⟨S16384x8x64, .bf16⟩
  | 127 => ⟨S_, .bf16⟩
  | _ => ⟨S16384x6680, .f32⟩

abbrev hbmTy0_1 (i : Nat) : BufTy := match i % 128 with
  | 0 => ⟨S16384x8x58, .bf16⟩
  | 1 => ⟨S16384x8x128, .bf16⟩
  | 2 => ⟨S16384x1024, .bf16⟩
  | 3 => ⟨S16384x8x3, .bf16⟩
  | 4 => ⟨S16384x8x64, .bf16⟩
  | 5 => ⟨S_, .bf16⟩
  | 6 => ⟨S16384x8x61, .bf16⟩
  | 7 => ⟨S16384x8x128, .bf16⟩
  | 8 => ⟨S16384x1024, .bf16⟩
  | 9 => ⟨S16384x8x64, .f32⟩
  | 10 => ⟨S_, .f32⟩
  | 11 => ⟨S16384x8, .f32⟩
  | 12 => ⟨S16384x8, .bf16⟩
  | 13 => ⟨S16384x8, .f32⟩
  | 14 => ⟨S16384x8, .f32⟩
  | 15 => ⟨S16384x8, .bf16⟩
  | 16 => ⟨S16384x8, .f32⟩
  | 17 => ⟨S16384x8, .f32⟩
  | 18 => ⟨S16384x8, .bf16⟩
  | 19 => ⟨S16384x8x1, .bf16⟩
  | 20 => ⟨S16384x8x1, .bf16⟩
  | 21 => ⟨S16384x8x1, .bf16⟩
  | 22 => ⟨S16384x8x3, .bf16⟩
  | 23 => ⟨S16384x8x64, .bf16⟩
  | 24 => ⟨S_, .bf16⟩
  | 25 => ⟨S16384x8x61, .bf16⟩
  | 26 => ⟨S16384x8x128, .bf16⟩
  | 27 => ⟨S16384x1024, .bf16⟩
  | 28 => ⟨S_, .f32⟩
  | 29 => ⟨S16384x512, .f32⟩
  | 30 => ⟨S16384x512, .f32⟩
  | 31 => ⟨S16384x512, .bf16⟩
  | 32 => ⟨S512x16384, .bf16⟩
  | 33 => ⟨S16384x512, .bf16⟩
  | 34 => ⟨S512x16384, .bf16⟩
  | 35 => ⟨S_, .f32⟩
  | 36 => ⟨S16384x512, .f32⟩
  | 37 => ⟨S16384x512, .f32⟩
  | 38 => ⟨S16384x512, .bf16⟩
  | 39 => ⟨S512x16384, .bf16⟩
  | 40 => ⟨S512x16384, .f32⟩
  | 41 => ⟨S8x8x16384, .f32⟩
  | 42 => ⟨S512x16384, .bf16⟩
  | 43 => ⟨S512x16384, .bf16⟩
  | 44 => ⟨S8x1x16384, .f32⟩
  | 45 => ⟨S8x1x16384, .f32⟩
  | 46 => ⟨S8x16384, .f32⟩
  | 47 => ⟨S8x16384, .f32⟩
  | _ => ⟨S16384x6680, .f32⟩

abbrev hbmTy (i : Nat) : BufTy := match i / 128 with
  | 0 => hbmTy0_0 i
  | 1 => hbmTy0_1 i
  | _ => ⟨S16384x6680, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S64x16384, .bf16⟩
  | .local _ .vmem, ⟨5, _⟩ => ⟨S64x16384, .bf16⟩
  | .local _ .vmem, ⟨6, _⟩ => ⟨S64x16384, .bf16⟩
  | .local _ .vmem, ⟨7, _⟩ => ⟨S64x16384, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S64x2048, .bf16⟩
  | .local _ .vmem, ⟨13, _⟩ => ⟨S64x2048, .bf16⟩
  | .local _ .vmem, ⟨14, _⟩ => ⟨S64x16384, .f32⟩
  | .local _ .vmem, ⟨15, _⟩ => ⟨S64x16384, .f32⟩
  | .local _ .vmem, ⟨16, _⟩ => ⟨S1x8x16384, .f32⟩
  | .local _ .vmem, ⟨17, _⟩ => ⟨S1x8x16384, .f32⟩
  | .local _ .vmem, ⟨18, _⟩ => ⟨S64x2048, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S1x1x2048, .f32⟩
  | .local _ .vmem, ⟨23, _⟩ => ⟨S1x1x2048, .f32⟩
  | _, _ => ⟨S16384x6680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_call1_call0_cst : Ref sig .tc := ⟨.hbm, 37, rfl⟩
abbrev main_call1_call0_v0 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_0 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_cst_4 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_5 : Ref sig .tc := ⟨.hbm, 87, rfl⟩
abbrev main_v58 : Ref sig .tc := ⟨.hbm, 88, rfl⟩
abbrev main_cst_6 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_8 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_9 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_10 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_11 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_12 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_13 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130_0 : Ref sig .tc := ⟨.hbm, 168, rfl⟩
abbrev main_v130_1 : Ref sig .tc := ⟨.hbm, 169, rfl⟩
abbrev main_v130_2 : Ref sig .tc := ⟨.hbm, 170, rfl⟩
abbrev main_v130_3 : Ref sig .tc := ⟨.hbm, 171, rfl⟩
abbrev main_v130_4 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v21 : BitVec 32 := Scalar.muli arg1 c4_i32
  let c0_i32_8 : BitVec 32 := 0#32
  let v22 : BitVec 32 := Scalar.addi v21 c0_i32_8
  let c512_i32 : BitVec 32 := 512#32
  let v23 : BitVec 32 := Scalar.muli v22 c512_i32
  v23
def k0_off1 (i : grid0.Coords) (c0_i32_8 : BitVec 32) : Fin 2 → Nat :=
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v25 : Index := Scalar.indexCast v24
  let c0_9 : Index := 0#32
  ![v25.toNat, 0]
def k0_off2 (i : grid0.Coords) (c0_i32_8 : BitVec 32) : Fin 2 → Nat :=
  let c0_15 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v42 : Index := Scalar.indexCast v24
  ![0, v42.toNat]
def k0_off3 (i : grid0.Coords) (c0_i32_8 : BitVec 32) : Fin 3 → Nat :=
  let c0_17 : Index := 0#32
  let c0_18 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v49 : Index := Scalar.indexCast v24
  ![0, 0, v49.toNat]
def k0_mult2 (i : grid0.Coords) : BitVec 32 :=
  let arg1 : BitVec 32 := BitVec.ofNat 32 (i 1).val
  let c4_i32_25 : BitVec 32 := 4#32
  let v77 : BitVec 32 := Scalar.muli arg1 c4_i32_25
  let c1_i32 : BitVec 32 := 1#32
  let v78 : BitVec 32 := Scalar.addi v77 c1_i32
  let c512_i32_26 : BitVec 32 := 512#32
  let v79 : BitVec 32 := Scalar.muli v78 c512_i32_26
  v79
def k0_mult3 (i : grid0.Coords) : BitVec 32 :=
  let arg1 : BitVec 32 := BitVec.ofNat 32 (i 1).val
  let c4_i32_43 : BitVec 32 := 4#32
  let v136 : BitVec 32 := Scalar.muli arg1 c4_i32_43
  let c2_i32 : BitVec 32 := 2#32
  let v137 : BitVec 32 := Scalar.addi v136 c2_i32
  let c512_i32_44 : BitVec 32 := 512#32
  let v138 : BitVec 32 := Scalar.muli v137 c512_i32_44
  v138
def k0_mult4 (i : grid0.Coords) : BitVec 32 :=
  let arg1 : BitVec 32 := BitVec.ofNat 32 (i 1).val
  let c4_i32_61 : BitVec 32 := 4#32
  let v195 : BitVec 32 := Scalar.muli arg1 c4_i32_61
  let c3_i32 : BitVec 32 := 3#32
  let v196 : BitVec 32 := Scalar.addi v195 c3_i32
  let c512_i32_62 : BitVec 32 := 512#32
  let v197 : BitVec 32 := Scalar.muli v196 c512_i32_62
  v197
@[reducible] def k0_t1_loop (i : grid0.Coords) : Scf.Loop 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_82 : BitVec 32 := 1#32
  ⟨v246, v251, c1_i32_82⟩
def k0_mult5 (i : grid0.Coords) (k0_t1 : Fin (k0_t1_loop i).trips) : BitVec 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  v263
def k0_off4 (i : grid0.Coords) (k0_t1 : Fin (k0_t1_loop i).trips) : Fin 2 → Nat :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v265 : Index := Scalar.indexCast v264
  let c0_92 : Index := 0#32
  ![v265.toNat, 0]
def k0_off5 (i : grid0.Coords) (k0_t1 : Fin (k0_t1_loop i).trips) : Fin 2 → Nat :=
  let c0_97 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v277 : Index := Scalar.indexCast v264
  ![0, v277.toNat]
def k0_off6 (i : grid0.Coords) (k0_t1 : Fin (k0_t1_loop i).trips) : Fin 3 → Nat :=
  let c0_99 : Index := 0#32
  let c0_100 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v284 : Index := Scalar.indexCast v264
  ![0, 0, v284.toNat]
@[reducible] def k0_t2_loop (i : grid0.Coords) : Scf.Loop 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let v248 : BitVec 32 := Scalar.addi v246 v247
  let c1_i32_83 : BitVec 32 := 1#32
  ⟨v251, v248, c1_i32_83⟩
def k0_mult6 (i : grid0.Coords) (k0_t2 : Fin (k0_t2_loop i).trips) : BitVec 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  v263
def k0_off7 (i : grid0.Coords) (k0_t2 : Fin (k0_t2_loop i).trips) : Fin 2 → Nat :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v265 : Index := Scalar.indexCast v264
  let c0_92 : Index := 0#32
  ![v265.toNat, 0]
def k0_off8 (i : grid0.Coords) (k0_t2 : Fin (k0_t2_loop i).trips) : Fin 2 → Nat :=
  let c0_97 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v277 : Index := Scalar.indexCast v264
  ![0, v277.toNat]
def k0_off9 (i : grid0.Coords) (k0_t2 : Fin (k0_t2_loop i).trips) : Fin 3 → Nat :=
  let c0_99 : Index := 0#32
  let c0_100 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v284 : Index := Scalar.indexCast v264
  ![0, 0, v284.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxKernelIdeal.lean ====
variable {F : FTy → Type} [FloatOps F] [Named F]
def κ : String → Option EReal := fun
  | "mask" => some ⊥
  | _ => none
-- ==== FoxReferenceIdeal.lean ====
abbrev S16384x6680 : Shape := ⟨2, ![16384, 6680]⟩
abbrev S8 : Shape := ⟨1, ![8]⟩
abbrev S16384x512 : Shape := ⟨2, ![16384, 512]⟩
abbrev S16384x256 : Shape := ⟨2, ![16384, 256]⟩
abbrev S16384x16 : Shape := ⟨2, ![16384, 16]⟩
abbrev S16384x8 : Shape := ⟨2, ![16384, 8]⟩
abbrev S16384x3072 : Shape := ⟨2, ![16384, 3072]⟩
abbrev S1x8 : Shape := ⟨2, ![1, 8]⟩
abbrev S_ : Shape := ⟨0, ![]⟩
abbrev S16384x8x64 : Shape := ⟨3, ![16384, 8, 64]⟩
abbrev S8x16384x16384 : Shape := ⟨3, ![8, 16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩
abbrev S512x16384 : Shape := ⟨2, ![512, 16384]⟩

abbrev nBuf : Space → Nat
  | .hbm => 159
  | .vmem => 0
  | .smem => 0
  | _ => 0

abbrev hbmTy0_0 (i : Nat) : BufTy := match i % 128 with
  | 0 => ⟨S16384x6680, .f32⟩
  | 1 => ⟨S8, .f32⟩
  | 2 => ⟨S16384x512, .f32⟩
  | 3 => ⟨S16384x256, .f32⟩
  | 4 => ⟨S16384x256, .f32⟩
  | 5 => ⟨S16384x512, .f32⟩
  | 6 => ⟨S16384x512, .f32⟩
  | 7 => ⟨S16384x16, .f32⟩
  | 8 => ⟨S16384x512, .f32⟩
  | 9 => ⟨S16384x512, .f32⟩
  | 10 => ⟨S16384x512, .f32⟩
  | 11 => ⟨S16384x8, .f32⟩
  | 12 => ⟨S16384x512, .f32⟩
  | 13 => ⟨S16384x3072, .f32⟩
  | 14 => ⟨S1x8, .f32⟩
  | 15 => ⟨S16384x8, .f32⟩
  | 16 => ⟨S16384x8, .f32⟩
  | 17 => ⟨S16384x8, .f32⟩
  | 18 => ⟨S_, .f32⟩
  | 19 => ⟨S16384x8, .f32⟩
  | 20 => ⟨S16384x8, .f32⟩
  | 21 => ⟨S16384x8, .f32⟩
  | 22 => ⟨S16384x8, .f32⟩
  | 23 => ⟨S16384x8, .i1⟩
  | 24 => ⟨S16384x8, .f32⟩
  | 25 => ⟨S16384x8, .f32⟩
  | 26 => ⟨S16384x8, .f32⟩
  | 27 => ⟨S16384x8, .f32⟩
  | 28 => ⟨S16384x8, .f32⟩
  | 29 => ⟨S16384x8, .f32⟩
  | 30 => ⟨S16384x8, .f32⟩
  | 31 => ⟨S16384x8, .f32⟩
  | 32 => ⟨S16384x8, .f32⟩
  | 33 => ⟨S_, .f32⟩
  | 34 => ⟨S_, .f32⟩
  | 35 => ⟨S16384x8, .f32⟩
  | 36 => ⟨S16384x8x64, .f32⟩
  | 37 => ⟨S16384x8x64, .f32⟩
  | 38 => ⟨S16384x8x64, .f32⟩
  | 39 => ⟨S8x16384x16384, .f32⟩
  | 40 => ⟨S_, .f32⟩
  | 41 => ⟨S8x16384x16384, .f32⟩
  | 42 => ⟨S8x16384x16384, .f32⟩
  | 43 => ⟨S8x16384, .f32⟩
  | 44 => ⟨S8x16384x1, .f32⟩
  | 45 => ⟨S8x16384x16384, .f32⟩
  | 46 => ⟨S8x16384x16384, .f32⟩
  | 47 => ⟨S8x16384, .f32⟩
  | 48 => ⟨S8x1x16384, .f32⟩
  | 49 => ⟨S8x16384x16384, .f32⟩
  | 50 => ⟨S8x16384x16384, .f32⟩
  | 51 => ⟨S16384, .i32⟩
  | 52 => ⟨S1x16384, .i32⟩
  | 53 => ⟨S16384, .i32⟩
  | 54 => ⟨S16384x1, .i32⟩
  | 55 => ⟨S16384x16384, .i32⟩
  | 56 => ⟨S16384x16384, .i32⟩
  | 57 => ⟨S16384x16384, .i1⟩
  | 58 => ⟨S_, .f32⟩
  | 59 => ⟨S_, .f32⟩
  | 60 => ⟨S8x16384x16384, .i1⟩
  | 61 => ⟨S8x16384x16384, .f32⟩
  | 62 => ⟨S8x16384x16384, .f32⟩
  | 63 => ⟨S_, .f32⟩
  | 64 => ⟨S8x16384x16384, .f32⟩
  | 65 => ⟨S_, .f32⟩
  | 66 => ⟨S8x16384, .f32⟩
  | 67 => ⟨S8x16384x1, .f32⟩
  | 68 => ⟨S8x16384x16384, .f32⟩
  | 69 => ⟨S8x16384x16384, .i1⟩
  | 70 => ⟨S8x16384x16384, .f32⟩
  | 71 => ⟨S_, .f32⟩
  | 72 => ⟨S8x16384, .f32⟩
  | 73 => ⟨S_, .f32⟩
  | 74 => ⟨S8x16384, .f32⟩
  | 75 => ⟨S8x16384, .f32⟩
  | 76 => ⟨S_, .f32⟩
  | 77 => ⟨S8x16384, .f32⟩
  | 78 => ⟨S8x16384, .i1⟩
  | 79 => ⟨S_, .f32⟩
  | 80 => ⟨S8x16384, .f32⟩
  | 81 => ⟨S8x16384, .i1⟩
  | 82 => ⟨S_, .f32⟩
  | 83 => ⟨S8x16384, .f32⟩
  | 84 => ⟨S_, .f32⟩
  | 85 => ⟨S8x16384, .f32⟩
  | 86 => ⟨S_, .f32⟩
  | 87 => ⟨S8x16384, .f32⟩
  | 88 => ⟨S8x16384, .f32⟩
  | 89 => ⟨S8x16384, .f32⟩
  | 90 => ⟨S8x16384x1, .f32⟩
  | 91 => ⟨S8x16384x16384, .f32⟩
  | 92 => ⟨S8x16384x16384, .f32⟩
  | 93 => ⟨S8x16384x16384, .f32⟩
  | 94 => ⟨S_, .f32⟩
  | 95 => ⟨S8x16384, .f32⟩
  | 96 => ⟨S8x16384x1, .f32⟩
  | 97 => ⟨S8x16384x16384, .f32⟩
  | 98 => ⟨S8x16384x16384, .f32⟩
  | 99 => ⟨S8x16384x1, .f32⟩
  | 100 => ⟨S_, .f32⟩
  | 101 => ⟨S8x16384x1, .f32⟩
  | 102 => ⟨S8x16384x1, .f32⟩
  | 103 => ⟨S8x64x16384, .f32⟩
  | 104 => ⟨S16384x8x64, .f32⟩
  | 105 => ⟨S16384x512, .f32⟩
  | 106 => ⟨S16384x8x64, .f32⟩
  | 107 => ⟨S8x64x16384, .f32⟩
  | 108 => ⟨S8x16384x16384, .f32⟩
  | 109 => ⟨S8x64x16384, .f32⟩
  | 110 => ⟨S16384x8x64, .f32⟩
  | 111 => ⟨S8x16384x16384, .f32⟩
  | 112 => ⟨S8x16384x16384, .f32⟩
  | 113 => ⟨S8x16384x16384, .f32⟩
  | 114 => ⟨S_, .f32⟩
  | 115 => ⟨S8x16384, .f32⟩
  | 116 => ⟨S8x16384x1, .f32⟩
  | 117 => ⟨S8x16384x1, .f32⟩
  | 118 => ⟨S8x16384x16384, .f32⟩
  | 119 => ⟨S8x16384x16384, .f32⟩
  | 120 => ⟨S_, .f32⟩
  | 121 => ⟨S8x16384, .f32⟩
  | 122 => ⟨S8x16384x16384, .f32⟩
  | 123 => ⟨S8x16384x16384, .f32⟩
  | 124 => ⟨S8x16384x16384, .f32⟩
  | 125 => ⟨S_, .f32⟩
  | 126 => ⟨S8x16384x16384, .f32⟩
  | 127 => ⟨S8x16384x16384, .f32⟩
  | _ => ⟨S16384x6680, .f32⟩

abbrev hbmTy0_1 (i : Nat) : BufTy := match i % 128 with
  | 0 => ⟨S8x16384x16384, .f32⟩
  | 1 => ⟨S_, .f32⟩
  | 2 => ⟨S8x16384, .f32⟩
  | 3 => ⟨S8x1x16384, .f32⟩
  | 4 => ⟨S_, .f32⟩
  | 5 => ⟨S8x16384, .f32⟩
  | 6 => ⟨S16384x8, .f32⟩
  | 7 => ⟨S_, .f32⟩
  | 8 => ⟨S8x16384, .f32⟩
  | 9 => ⟨S8x16384x1, .f32⟩
  | 10 => ⟨S_, .f32⟩
  | 11 => ⟨S8x16384, .f32⟩
  | 12 => ⟨S16384x8, .f32⟩
  | 13 => ⟨S_, .f32⟩
  | 14 => ⟨S8x16384x16384, .f32⟩
  | 15 => ⟨S8x16384x16384, .f32⟩
  | 16 => ⟨S8x16384x64, .f32⟩
  | 17 => ⟨S16384x8x64, .f32⟩
  | 18 => ⟨S8x16384x64, .f32⟩
  | 19 => ⟨S16384x8x64, .f32⟩
  | 20 => ⟨S16384x512, .f32⟩
  | 21 => ⟨S16384x512, .f32⟩
  | 22 => ⟨S16384x512, .f32⟩
  | 23 => ⟨S512x16384, .f32⟩
  | 24 => ⟨S512x16384, .f32⟩
  | 25 => ⟨S512x16384, .bf16⟩
  | 26 => ⟨S512x16384, .f32⟩
  | 27 => ⟨S512x16384, .bf16⟩
  | 28 => ⟨S8x16384, .f32⟩
  | 29 => ⟨S8x16384, .f32⟩
  | 30 => ⟨S8x16384, .f32⟩
  | _ => ⟨S16384x6680, .f32⟩

abbrev hbmTy (i : Nat) : BufTy := match i / 128 with
  | 0 => hbmTy0_0 i
  | 1 => hbmTy0_1 i
  | _ => ⟨S16384x6680, .f32⟩

abbrev bufTy : (tb : Table) → Fin (tcTables nBuf tb) → BufTy
  | .hbm, ⟨i, _⟩ => hbmTy i
  | _, _ => ⟨S16384x6680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_call1_call0_cst : Ref sig .tc := ⟨.hbm, 33, rfl⟩
abbrev main_call1_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_0 : Ref sig .tc := ⟨.hbm, 58, rfl⟩
abbrev main_call2_v0 : Ref sig .tc := ⟨.hbm, 59, rfl⟩
abbrev main_v37_1 : Ref sig .tc := ⟨.hbm, 60, rfl⟩
abbrev main_call2_v2 : Ref sig .tc := ⟨.hbm, 61, rfl⟩
abbrev main_v37_0 : Ref sig .tc := ⟨.hbm, 62, rfl⟩
abbrev main_call2_cst : Ref sig .tc := ⟨.hbm, 63, rfl⟩
abbrev main_v37_2 : Ref sig .tc := ⟨.hbm, 64, rfl⟩
abbrev main_cst_1 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_2 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call3_cst : Ref sig .tc := ⟨.hbm, 125, rfl⟩
abbrev main_call3_v0 : Ref sig .tc := ⟨.hbm, 126, rfl⟩
abbrev main_v86 : Ref sig .tc := ⟨.hbm, 127, rfl⟩
abbrev main_v87 : Ref sig .tc := ⟨.hbm, 128, rfl⟩
abbrev main_cst_13 : Ref sig .tc := ⟨.hbm, 129, rfl⟩
abbrev main_v88 : Ref sig .tc := ⟨.hbm, 130, rfl⟩
abbrev main_v89 : Ref sig .tc := ⟨.hbm, 131, rfl⟩
abbrev main_cst_14 : Ref sig .tc := ⟨.hbm, 132, rfl⟩
abbrev main_v90 : Ref sig .tc := ⟨.hbm, 133, rfl⟩
abbrev main_v91 : Ref sig .tc := ⟨.hbm, 134, rfl⟩
abbrev main_cst_15 : Ref sig .tc := ⟨.hbm, 135, rfl⟩
abbrev main_v92 : Ref sig .tc := ⟨.hbm, 136, rfl⟩
abbrev main_v93 : Ref sig .tc := ⟨.hbm, 137, rfl⟩
abbrev main_cst_16 : Ref sig .tc := ⟨.hbm, 138, rfl⟩
abbrev main_v94 : Ref sig .tc := ⟨.hbm, 139, rfl⟩
abbrev main_v95 : Ref sig .tc := ⟨.hbm, 140, rfl⟩
abbrev main_cst_17 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== ActKernel.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .bf16⟩
  | .hbm, ⟨4, _⟩ => ⟨S4096x1024, .bf16⟩
  | .hbm, ⟨5, _⟩ => ⟨S1024x4096, .bf16⟩
  | .hbm, ⟨6, _⟩ => ⟨S16384x4096, .bf16⟩
  | .hbm, ⟨7, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActReferenceIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== LossKernel.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x4096, .bf16⟩
  | .hbm, ⟨6, _⟩ => ⟨S4096x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x128, .f32⟩
  | .hbm, ⟨11, _⟩ => ⟨S8x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S8x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== NormKernel.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S4096x1024 : Shape := ⟨2, ![4096, 1024]⟩
abbrev S8x1024 : Shape := ⟨2, ![8, 1024]⟩
abbrev S512x4096 : Shape := ⟨2, ![512, 4096]⟩
abbrev S512x1024 : Shape := ⟨2, ![512, 1024]⟩
abbrev S512x1 : Shape := ⟨2, ![512, 1]⟩
abbrev S64x8x1024 : Shape := ⟨3, ![64, 8, 1024]⟩
abbrev S512 : Shape := ⟨1, ![512]⟩
abbrev S1024 : Shape := ⟨1, ![1024]⟩

abbrev nBuf : Space → Nat
  | .hbm => 24
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .bf16⟩
  | .hbm, ⟨17, _⟩ => ⟨S1024x4096, .bf16⟩
  | .hbm, ⟨18, _⟩ => ⟨S4096x1024, .bf16⟩
  | .hbm, ⟨19, _⟩ => ⟨S16384x1024, .f32⟩
  | .hbm, ⟨20, _⟩ => ⟨S16384x1024, .bf16⟩
  | .hbm, ⟨21, _⟩ => ⟨S8x1024, .f32⟩
  | .hbm, ⟨22, _⟩ => ⟨S_, .f32⟩
  | .hbm, ⟨23, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_cst_2 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== PostKernel.lean ====
abbrev S16384x6680 : Shape := ⟨2, ![16384, 6680]⟩
abbrev S8 : Shape := ⟨1, ![8]⟩
abbrev S8x16384 : Shape := ⟨2, ![8, 16384]⟩
abbrev S512x16384 : Shape := ⟨2, ![512, 16384]⟩
abbrev S8x128 : Shape := ⟨2, ![8, 128]⟩
abbrev S16384x3072 : Shape := ⟨2, ![16384, 3072]⟩
abbrev S16384x1536 : Shape := ⟨2, ![16384, 1536]⟩
abbrev S16384x512 : Shape := ⟨2, ![16384, 512]⟩
abbrev S16384x6656 : Shape := ⟨2, ![16384, 6656]⟩
abbrev S16384x16 : Shape := ⟨2, ![16384, 16]⟩
abbrev S16384x8 : Shape := ⟨2, ![16384, 8]⟩
abbrev S_ : Shape := ⟨0, ![]⟩
abbrev S16384x104 : Shape := ⟨2, ![16384, 104]⟩
abbrev S16384x128 : Shape := ⟨2, ![16384, 128]⟩
abbrev S16 : Shape := ⟨1, ![16]⟩
abbrev S104 : Shape := ⟨1, ![104]⟩
abbrev S128 : Shape := ⟨1, ![128]⟩
abbrev S1x128 : Shape := ⟨2, ![1, 128]⟩
abbrev S512x1024 : Shape := ⟨2, ![512, 1024]⟩
abbrev S8x1024 : Shape := ⟨2, ![8, 1024]⟩
abbrev S1024x128 : Shape := ⟨2, ![1024, 128]⟩
abbrev S1024x512 : Shape := ⟨2, ![1024, 512]⟩
abbrev S1024x1024 : Shape := ⟨2, ![1024, 1024]⟩
abbrev S1024x384 : Shape := ⟨2, ![1024, 384]⟩
abbrev S128x8x128 : Shape := ⟨3, ![128, 8, 128]⟩

abbrev nBuf : Space → Nat
  | .hbm => 36
  | .vmem => 24
  | .smem => 0
  | _ => 0

abbrev bufTy : (tb : Table) → Fin (tcTables nBuf tb) → BufTy
  | .hbm, ⟨0, _⟩ => ⟨S16384x6680, .f32⟩
  | .hbm, ⟨1, _⟩ => ⟨S8, .f32⟩
  | .hbm, ⟨2, _⟩ => ⟨S8x16384, .f32⟩
  | .hbm, ⟨3, _⟩ => ⟨S8x16384, .f32⟩
  | .hbm, ⟨4, _⟩ => ⟨S512x16384, .f32⟩
  | .hbm, ⟨5, _⟩ => ⟨S512x16384, .f32⟩
  | .hbm, ⟨6, _⟩ => ⟨S512x16384, .f32⟩
  | .hbm, ⟨7, _⟩ => ⟨S8x128, .f32⟩
  | .hbm, ⟨8, _⟩ => ⟨S16384x3072, .f32⟩
  | .hbm, ⟨9, _⟩ => ⟨S16384x1536, .f32⟩
  | .hbm, ⟨10, _⟩ => ⟨S16384x1536, .f32⟩
  | .hbm, ⟨11, _⟩ => ⟨S16384x512, .f32⟩
  | .hbm, ⟨12, _⟩ => ⟨S16384x6656, .f32⟩
  | .hbm, ⟨13, _⟩ => ⟨S16384x6656, .bf16⟩
  | .hbm, ⟨14, _⟩ => ⟨S16384x16, .f32⟩
  | .hbm, ⟨15, _⟩ => ⟨S16384x8, .f32⟩
  | .hbm, ⟨16, _⟩ => ⟨S_, .f32⟩
  | .hbm, ⟨17, _⟩ => ⟨S16384x104, .f32⟩
  | .hbm, ⟨18, _⟩ => ⟨S16384x128, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S104, .f32⟩
  | .hbm, ⟨23, _⟩ => ⟨S128, .f32⟩
  | .hbm, ⟨24, _⟩ => ⟨S1x128, .f32⟩
  | .hbm, ⟨25, _⟩ => ⟨S512x16384, .bf16⟩
  | .hbm, ⟨26, _⟩ => ⟨S512x16384, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S16384x128, .f32⟩
  | .hbm, ⟨31, _⟩ => ⟨S8x128, .f32⟩
  | .hbm, ⟨32, _⟩ => ⟨S16384x8, .f32⟩
  | .hbm, ⟨33, _⟩ => ⟨S_, .f32⟩
  | .hbm, ⟨34, _⟩ => ⟨S128, .f32⟩
  | .hbm, ⟨35, _⟩ => ⟨S8, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S8x128, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | .local _ .vmem, ⟨22, _⟩ => ⟨S8x128, .f32⟩
  | .local _ .vmem, ⟨23, _⟩ => ⟨S8x128, .f32⟩
  | _, _ => ⟨S16384x6680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PostReferenceIdeal.lean ====
abbrev S16384x6680 : Shape := ⟨2, ![16384, 6680]⟩
abbrev S8 : Shape := ⟨1, ![8]⟩
abbrev S8x16384 : Shape := ⟨2, ![8, 16384]⟩
abbrev S512x16384 : Shape := ⟨2, ![512, 16384]⟩
abbrev S16384x256 : Shape := ⟨2, ![16384, 256]⟩
abbrev S16384x512 : Shape := ⟨2, ![16384, 512]⟩
abbrev S16384x16 : Shape := ⟨2, ![16384, 16]⟩
abbrev S16384x8 : Shape := ⟨2, ![16384, 8]⟩
abbrev S16384x3072 : Shape := ⟨2, ![16384, 3072]⟩
abbrev S1x8 : Shape := ⟨2, ![1, 8]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S16384x6680, .f32⟩
  | .hbm, ⟨1, _⟩ => ⟨S8, .f32⟩
  | .hbm, ⟨2, _⟩ => ⟨S8x16384, .f32⟩
  | .hbm, ⟨3, _⟩ => ⟨S8x16384, .f32⟩
  | .hbm, ⟨4, _⟩ => ⟨S512x16384, .f32⟩
  | .hbm, ⟨5, _⟩ => ⟨S512x16384, .f32⟩
  | .hbm, ⟨6, _⟩ => ⟨S512x16384, .f32⟩
  | .hbm, ⟨7, _⟩ => ⟨S16384x256, .f32⟩
  | .hbm, ⟨8, _⟩ => ⟨S16384x256, .f32⟩
  | .hbm, ⟨9, _⟩ => ⟨S16384x512, .f32⟩
  | .hbm, ⟨10, _⟩ => ⟨S16384x512, .f32⟩
  | .hbm, ⟨11, _⟩ => ⟨S16384x16, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x8, .f32⟩
  | .hbm, ⟨16, _⟩ => ⟨S16384x512, .f32⟩
  | .hbm, ⟨17, _⟩ => ⟨S16384x3072, .f32⟩
  | .hbm, ⟨18, _⟩ => ⟨S1x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .i1⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S_, .f32⟩
  | .hbm, ⟨37, _⟩ => ⟨S16384x8, .f32⟩
  | .hbm, ⟨38, _⟩ => ⟨S16384x8, .i1⟩
  | .hbm, ⟨39, _⟩ => ⟨S_, .f32⟩
  | .hbm, ⟨40, _⟩ => ⟨S16384x8, .f32⟩
  | .hbm, ⟨41, _⟩ => ⟨S16384x8, .f32⟩
  | .hbm, ⟨42, _⟩ => ⟨S_, .f32⟩
  | .hbm, ⟨43, _⟩ => ⟨S16384x8, .f32⟩
  | .hbm, ⟨44, _⟩ => ⟨S16384x8, .i1⟩
  | .hbm, ⟨45, _⟩ => ⟨S_, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x8, .f32⟩
  | .hbm, ⟨58, _⟩ => ⟨S16384x8, .i1⟩
  | .hbm, ⟨59, _⟩ => ⟨S_, .f32⟩
  | .hbm, ⟨60, _⟩ => ⟨S16384x8, .f32⟩
  | .hbm, ⟨61, _⟩ => ⟨S16384x8, .f32⟩
  | .hbm, ⟨62, _⟩ => ⟨S16384x8, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S16384x8, .f32⟩
  | .hbm, ⟨67, _⟩ => ⟨S16384x8, .f32⟩
  | .hbm, ⟨68, _⟩ => ⟨S16384x8, .f32⟩
  | .hbm, ⟨69, _⟩ => ⟨S_, .f32⟩
  | .hbm, ⟨70, _⟩ => ⟨S_, .f32⟩
  | .hbm, ⟨71, _⟩ => ⟨S16384x8, .f32⟩
  | .hbm, ⟨72, _⟩ => ⟨S8x16384, .f32⟩
  | .hbm, ⟨73, _⟩ => ⟨S16384x8, .f32⟩
  | .hbm, ⟨74, _⟩ => ⟨S_, .f32⟩
  | .hbm, ⟨75, _⟩ => ⟨S_, .f32⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S16384x8, .f32⟩
  | .hbm, ⟨80, _⟩ => ⟨S_, .f32⟩
  | .hbm, ⟨81, _⟩ => ⟨S8, .f32⟩
  | .hbm, ⟨82, _⟩ => ⟨S1x8, .f32⟩
  | .hbm, ⟨83, _⟩ => ⟨S_, .f32⟩
  | .hbm, ⟨84, _⟩ => ⟨S8, .f32⟩
  | .hbm, ⟨85, _⟩ => ⟨S16384x512, .f32⟩
  | .hbm, ⟨86, _⟩ => ⟨S16384x512, .bf16⟩
  | .hbm, ⟨87, _⟩ => ⟨S16384x512, .f32⟩
  | .hbm, ⟨88, _⟩ => ⟨S16384x512, .bf16⟩
  | .hbm, ⟨89, _⟩ => ⟨S16384x512, .f32⟩
  | .hbm, ⟨90, _⟩ => ⟨S16384x512, .bf16⟩
  | _, _ => ⟨S16384x6680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v14_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v14_2 : Ref sig .tc := ⟨.hbm, 67, rfl⟩
abbrev main_v14_0 : Ref sig .tc := ⟨.hbm, 68, rfl⟩
abbrev main_call1_call0_cst : Ref sig .tc := ⟨.hbm, 69, rfl⟩
abbrev main_call1_call0_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_call2_call0_cst : Ref sig .tc := ⟨.hbm, 74, rfl⟩
abbrev main_call2_call0_v0 : Ref sig .tc := ⟨.hbm, 75, rfl⟩
abbrev main_v18 : Ref sig .tc := ⟨.hbm, 76, rfl⟩
abbrev main_call3_v0 : Ref sig .tc := ⟨.hbm, 77, rfl⟩
abbrev main_call3_v1 : Ref sig .tc := ⟨.hbm, 78, rfl⟩
abbrev main_v19 : Ref sig .tc := ⟨.hbm, 79, rfl⟩
abbrev main_cst : Ref sig .tc := ⟨.hbm, 80, rfl⟩
abbrev main_v20 : Ref sig .tc := ⟨.hbm, 81, rfl⟩
abbrev main_v21 : Ref sig .tc := ⟨.hbm, 82, rfl⟩
abbrev main_cst_0 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩

abbrev nD : Nat := 1
abbrev τ : Topo := Topo.v7x

variable {F : FTy → Type} [FloatOps F]
-- ==== FirstKernel.lean ====
abbrev S16384x1024 : Shape := ⟨2, ![16384, 1024]⟩
abbrev S1024 : Shape := ⟨1, ![1024]⟩
abbrev S1024x6680 : Shape := ⟨2, ![1024, 6680]⟩
abbrev S16384x6680 : Shape := ⟨2, ![16384, 6680]⟩
abbrev S1x1024 : Shape := ⟨2, ![1, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩
abbrev S1024x3072 : Shape := ⟨2, ![1024, 3072]⟩
abbrev S1024x1536 : Shape := ⟨2, ![1024, 1536]⟩
abbrev S1024x512 : Shape := ⟨2, ![1024, 512]⟩
abbrev S1024x6656 : Shape := ⟨2, ![1024, 6656]⟩
abbrev S1024x16 : Shape := ⟨2, ![1024, 16]⟩
abbrev S1024x8 : Shape := ⟨2, ![1024, 8]⟩
abbrev S_ : Shape := ⟨0, ![]⟩
abbrev S1024x104 : Shape := ⟨2, ![1024, 104]⟩
abbrev S1024x128 : Shape := ⟨2, ![1024, 128]⟩
abbrev S1024x6784 : Shape := ⟨2, ![1024, 6784]⟩
abbrev S6784x1024 : Shape := ⟨2, ![6784, 1024]⟩
abbrev S16384x256 : Shape := ⟨2, ![16384, 256]⟩
abbrev S16384x512 : Shape := ⟨2, ![16384, 512]⟩
abbrev S16384x16 : Shape := ⟨2, ![16384, 16]⟩
abbrev S16384x8 : Shape := ⟨2, ![16384, 8]⟩
abbrev S16384x3072 : Shape := ⟨2, ![16384, 3072]⟩
abbrev S16384x104 : Shape := ⟨2, ![16384, 104]⟩
abbrev S16384x128 : Shape := ⟨2, ![16384, 128]⟩
abbrev S8x1024 : Shape := ⟨2, ![8, 1024]⟩
abbrev S512x3072 : Shape := ⟨2, ![512, 3072]⟩
abbrev S512x256 : Shape := ⟨2, ![512, 256]⟩
abbrev S512x512 : Shape := ⟨2, ![512, 512]⟩
abbrev S512x128 : Shape := ⟨2, ![512, 128]⟩
abbrev S3072x1024 : Shape := ⟨2, ![3072, 1024]⟩
abbrev S256x1024 : Shape := ⟨2, ![256, 1024]⟩
abbrev S128x1024 : Shape := ⟨2, ![128, 1024]⟩
abbrev S64x8x1024 : Shape := ⟨3, ![64, 8, 1024]⟩

abbrev nBuf : Space → Nat
  | .hbm => 40
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6680, .f32⟩
  | .hbm, ⟨3, _⟩ => ⟨S16384x6680, .f32⟩
  | .hbm, ⟨4, _⟩ => ⟨S16384x1024, .f32⟩
  | .hbm, ⟨5, _⟩ => ⟨S1x1024, .f32⟩
  | .hbm, ⟨6, _⟩ => ⟨S16384x1024, .bf16⟩
  | .hbm, ⟨7, _⟩ => ⟨S16384x1, .f32⟩
  | .hbm, ⟨8, _⟩ => ⟨S1024x6680, .bf16⟩
  | .hbm, ⟨9, _⟩ => ⟨S16384x6680, .bf16⟩
  | .hbm, ⟨10, _⟩ => ⟨S1024x3072, .bf16⟩
  | .hbm, ⟨11, _⟩ => ⟨S1024x1536, .bf16⟩
  | .hbm, ⟨12, _⟩ => ⟨S1024x1536, .bf16⟩
  | .hbm, ⟨13, _⟩ => ⟨S1024x512, .bf16⟩
  | .hbm, ⟨14, _⟩ => ⟨S1024x6656, .bf16⟩
  | .hbm, ⟨15, _⟩ => ⟨S1024x16, .bf16⟩
  | .hbm, ⟨16, _⟩ => ⟨S1024x8, .bf16⟩
  | .hbm, ⟨17, _⟩ => ⟨S_, .bf16⟩
  | .hbm, ⟨18, _⟩ => ⟨S1024x104, .bf16⟩
  | .hbm, ⟨19, _⟩ => ⟨S1024x128, .bf16⟩
  | .hbm, ⟨20, _⟩ => ⟨S1024x6784, .bf16⟩
  | .hbm, ⟨21, _⟩ => ⟨S6784x1024, .bf16⟩
  | .hbm, ⟨22, _⟩ => ⟨S16384x256, .bf16⟩
  | .hbm, ⟨23, _⟩ => ⟨S16384x256, .bf16⟩
  | .hbm, ⟨24, _⟩ => ⟨S16384x512, .bf16⟩
  | .hbm, ⟨25, _⟩ => ⟨S16384x512, .bf16⟩
  | .hbm, ⟨26, _⟩ => ⟨S16384x16, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S16384x8, .bf16⟩
  | .hbm, ⟨31, _⟩ => ⟨S16384x512, .bf16⟩
  | .hbm, ⟨32, _⟩ => ⟨S16384x3072, .bf16⟩
  | .hbm, ⟨33, _⟩ => ⟨S_, .bf16⟩
  | .hbm, ⟨34, _⟩ => ⟨S16384x104, .bf16⟩
  | .hbm, ⟨35, _⟩ => ⟨S16384x128, .bf16⟩
  | .hbm, ⟨36, _⟩ => ⟨S16384x1024, .f32⟩
  | .hbm, ⟨37, _⟩ => ⟨S8x1024, .f32⟩
  | .hbm, ⟨38, _⟩ => ⟨S_, .f32⟩
  | .hbm, ⟨39, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | .local _ .vmem, ⟨7, _⟩ => ⟨S512x3072, .bf16⟩
  | .local _ .vmem, ⟨8, _⟩ => ⟨S512x3072, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x128, .bf16⟩
  | .local _ .vmem, ⟨26, _⟩ => ⟨S512x128, .bf16⟩
  | .local _ .vmem, ⟨27, _⟩ => ⟨S6784x1024, .bf16⟩
  | .local _ .vmem, ⟨28, _⟩ => ⟨S512x1024, .f32⟩
  | .local _ .vmem, ⟨29, _⟩ => ⟨S512x1024, .f32⟩
  | .local _ .vmem, ⟨30, _⟩ => ⟨S512x1, .f32⟩
  | .local _ .vmem, ⟨31, _⟩ => ⟨S512x1, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_cst_1 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S6784x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S512x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S8x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== FirstReferenceIdeal.lean ====
abbrev S16384x1024 : Shape := ⟨2, ![16384, 1024]⟩
abbrev S1024 : Shape := ⟨1, ![1024]⟩
abbrev S1024x6680 : Shape := ⟨2, ![1024, 6680]⟩
abbrev S16384x6680 : Shape := ⟨2, ![16384, 6680]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6680, .f32⟩
  | .hbm, ⟨3, _⟩ => ⟨S16384x6680, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x6680, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Gain.lean ====
module

public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- The reciprocal root of a row's mean square. -/
def rowScale (mem : FVec Ideal S256x1024 .f32) (i : Fin 256) : EReal :=
  Ideal.rsqrt (Ideal.div (∑ k : Fin 1024, mem (ix2 i k) * mem (ix2 i k)) (Ideal.ofBits .f32 0x44800000#32) + Ideal.ofBits .f32 0x358637BD#32)

theorem pay1_apply (x : FVec Ideal S256x1024 .f32) (i : Fin 256) (j : Fin 1) : k0_pay1 (F := Ideal) x (ix2 i j) = rowScale x i := by
  pointwise [k0_pay1, rowScale]

theorem pay3_apply (d x : FVec Ideal S256x1024 .f32) (r : FVec Ideal S256x1 .f32) (i : Fin 8) (j : Fin 1024) :
    k1_pay1 (F := Ideal) d x r (ix2 i j) = ∑ k : Fin 32, d (ix2 ⟨k * 8 + i, by omega⟩ j) * (x (ix2 ⟨k * 8 + i, by omega⟩ j) * r (ix2 ⟨k * 8 + i, by omega⟩ 0)) := by
  pointwise [k1_pay1]

theorem idx0 : win0_0.index t0_0 = ![0, 0] := by decide +kernel
theorem idx1 : win1_0.index t1_0 = ![0, 0] ∧ win1_1.index t1_0 = ![0, 0] ∧ win1_2.index t1_0 = ![0, 0] := by decide +kernel

/-- The first call leaves the rows' scales. -/
theorem first (c : Dev nD) : (dat0 (V0 m ρ) c).arrAt 3 cfg0.N = k0_pay1 (F := Ideal) (m ((c.tc : Thread nD τ).loc main_arg0)) := by
  refine (dat0 (V0 m ρ) c).arrAt_eq_of_after_last 3 t0_0 (by decide +kernel) _ fun j => ?_
  blk_simp
  rw [after0_3]
  frame_out
  refine congrFun (congrArg _ ?_) j
  funext y
  blk_point [iblk0, V0, W0, idx0]

/-- The second call leaves the products' sums over each eighth row. -/
theorem second (c : Dev nD) : (dat1 (V1 m ρ) c).arrAt 3 cfg1.N =
    k1_pay1 (F := Ideal) (m ((c.tc : Thread nD τ).loc main_arg2)) (m ((c.tc : Thread nD τ).loc main_arg0)) (k0_pay1 (F := Ideal) (m ((c.tc : Thread nD τ).loc main_arg0))) := by
  have h0 : V1 m ρ c main_arg0 = m ((c.tc : Thread nD τ).loc main_arg0) := W1_args m ρ c _ (by decide)
  have h2 : V1 m ρ c main_arg2 = m ((c.tc : Thread nD τ).loc main_arg2) := W1_args m ρ c _ (by decide)
  have h3 : V1 m ρ c (Pipeline.arrRef spec0 3) = _ := (W1_arr m ρ c 3).trans (first m ρ c)
  refine (dat1 (V1 m ρ) c).arrAt_eq_of_after_last 3 t1_0 (by decide +kernel) _ fun j => ?_
  blk_simp
  rw [after1_3]
  frame_out
  rw [← h3, ← h0, ← h2]
  have e0 : iblk1 (V1 m ρ) c 0 t1_0 = V1 m ρ c main_arg2 := by funext y; blk_point [iblk1, idx1]
  have e1 : iblk1 (V1 m ρ) c 1 t1_0 = V1 m ρ c main_arg0 := by funext y; blk_point [iblk1, idx1]
  have e2 : iblk1 (V1 m ρ) c 2 t1_0 = V1 m ρ c (Pipeline.arrRef spec0 3) := by funext y; blk_point [iblk1, idx1]
  rw [e0, e1, e2]

theorem result (c : Dev nD) : W3 m ρ c (Proc.devRef .tc main_v2) =
    Host.reduceAdd (k1_pay1 (F := Ideal) (m ((c.tc : Thread nD τ).loc main_arg2)) (m ((c.tc : Thread nD τ).loc main_arg0)) (k0_pay1 (F := Ideal) (m ((c.tc : Thread nD τ).loc main_arg0))))
      (constant S_ .f32 0x00000000#32) reducesTo_S8x1024_S1024_d0 h_S_ := by
  have h : W2 m ρ c (Proc.devRef .tc main_v1) = _ := (W2_arr m ρ c 3).trans (second m ρ c)
  rw [← h]
  unfold W3 hostOps2
  after_results

/-- Every weakly fair execution ends with each buffer at the last boundary's contents. -/
theorem whole : θ_run defs (onTc (τ := τ) (main (F := Ideal))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- What the program returns. -/
abbrev gain (d x : FVec Ideal S256x1024 .f32) : FVec Ideal S1024 .f32 :=
  Host.reduceAdd (k1_pay1 (F := Ideal) d x (k0_pay1 (F := Ideal) x)) (constant S_ .f32 0x00000000#32) reducesTo_S8x1024_S1024_d0 h_S_

theorem run : θ_run defs (onTc (τ := τ) (main (F := Ideal))) ⟨m, fun _ => 0, ρ⟩ (fun r => ∀ c : Dev nD,
      r.2.mem ((c.tc : Thread nD τ).loc main_v2) = gain (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_v2 (by decide))).trans (result m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c)⟩) (whole m ρ)

/-- The gain's gradient, entry by entry: the sum over all rows. -/
theorem gain_apply (d x : FVec Ideal S256x1024 .f32) (j : Fin 1024) :
    gain d x (ix1 j) = ∑ i : Fin 256, d (ix2 i j) * (x (ix2 i j) * rowScale x i) := by
  pointwise [gain, pay3_apply, pay1_apply]
  rw [Finset.sum_comm]
  exact Fin.sum_mul_add_congr fun s k hl => rfl

end Cert.KernelIdeal.Value

end
-- ==== Proof.GainReference.lean ====
module

public import proofs.«01_k».proof.Proof.Gain

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- The reference's gradient of the gain, entry by entry: the sum over all rows. -/
theorem gain_apply (x d : FVec Ideal S256x1024 .f32) (j : Fin 1024) :
    (val_main_v17 (F := Ideal) x d : FVec Ideal S1024 .f32) (ix1 j) =
      ∑ i : Fin 256, d (ix2 i j) * (x (ix2 i j) * Cert.KernelIdeal.Value.rowScale x i) := by
  pointwise [val_main_v17, val_main_v16, val_main_v15, val_main_v14, val_main_v10, val_main_v9, val_main_v8, val_main_v7,
    val_main_v6, val_main_v5, val_main_v4, val_main_v3, val_main_v2, val_main_v1, val_main_cst, val_main_cst_0, val_main_cst_1,
    val_main_cst_2, val_main_cst_3]
  rw [Fin.sum_univ_one]
  exact Finset.sum_congr rfl fun i _ => mul_comm _ _

theorem gain_eq (x d : FVec Ideal S256x1024 .f32) :
    val_main_v17 (F := Ideal) x d = Cert.KernelIdeal.Value.gain d x := by
  funext j
  rw [show j = ix1 (j 0) by blk_ext]
  exact (gain_apply x d _).trans (Cert.KernelIdeal.Value.gain_apply d x _).symm

end Cert.ReferenceIdeal.Read

end
-- ==== Proof.MemBlock.lean ====
module

public import proofs.«01_k».proof.Proof.Gen.MemKernelIdeal.Value
public import Idealize.ShloMosaic.Lib.Pipeline.ValueKit
public import Idealize.ShloMosaic.Lib.Pipeline.ReadBack

@[expose] public section

set_option maxRecDepth 16384

noncomputable section

/-! One head of the memory's attention at one row of queries, and what the kernel's body computes of it. -/

namespace Cert.MemKernelIdeal.Value

open Cert.MemKernelIdeal Cert.MemKernelIdeal.Gen Idealize.ShloMosaic Idealize.ShloMosaic.TcCoe Idealize.SL.Sem
open Idealize.ShloMosaic.Pipeline (Dat)

/-- The factor on the scores. -/
abbrev scale : EReal := Ideal.ofBits .f32 0x3DB504F3#32

/-- One query's scores against the keys. -/
def score (q : Fin 128 → EReal) (k : Fin 256 → Fin 128 → EReal) (j : Fin 256) : EReal := (∑ d : Fin 128, q d * k j d) * scale

/-- The exponentials of the scores less their greatest. -/
def weight (s : Fin 256 → EReal) (j : Fin 256) : EReal := Ideal.exp (s j - Finset.univ.fold max (Ideal.ofBits .f32 0xFF800000#32) s)

/-- The softmax. -/
def prob (s : Fin 256 → EReal) (j : Fin 256) : EReal := Ideal.div (weight s j) (∑ l : Fin 256, weight s l)

/-- The gradient of the scores before the factor: `p (dp - ∑ p dp)`. -/
def grad (p dp : Fin 256 → EReal) (j : Fin 256) : EReal := p j * (dp j - ∑ l : Fin 256, p l * dp l) * scale

/-- A head's row of a block. -/
abbrev row {n : ℕ} (x : FVec Ideal ⟨2, ![n, 128]⟩ .bf16) (i : Fin n) (d : Fin 128) : EReal := x (ix2 i d)

theorem prob_apply (q : FVec Ideal S1024x128 .bf16) (k : FVec Ideal S256x128 .bf16) (i : Fin 1024) (j : Fin 256) :
    k0_pay7 (F := Ideal) q k (ix2 i j) = prob (score (row q i) (row k)) j := by
  pointwise [k0_pay7, k0_pay4, k0_pay5, prob, weight]
  simp only [score, row, scale]
  rfl

theorem grad_apply (q : FVec Ideal S1024x128 .bf16) (k v : FVec Ideal S256x128 .bf16) (g : FVec Ideal S1024x128 .bf16) (i : Fin 1024) (j : Fin 256) :
    k0_pay9 (F := Ideal) q k v g (ix2 i j) =
      grad (prob (score (row q i) (row k))) (fun j => ∑ d : Fin 128, row g i d * row v j d) j := by
  pointwise [k0_pay9, prob_apply, k0_pay6, grad]

theorem dq_apply (q : FVec Ideal S1024x128 .bf16) (k v : FVec Ideal S256x128 .bf16) (g : FVec Ideal S1024x128 .bf16) (i : Fin 1024) (d : Fin 128) :
    k0_pay10 (F := Ideal) q k v g (ix2 i d) =
      ∑ j : Fin 256, grad (prob (score (row q i) (row k))) (fun j => ∑ d : Fin 128, row g i d * row v j d) j * row k j d := by
  pointwise [k0_pay10, grad_apply, k0_pay5]

theorem dk_apply (q : FVec Ideal S1024x128 .bf16) (w : FVec Ideal S1024x256 .bf16) (a : FVec Ideal S256x128 .f32) (j : Fin 256) (d : Fin 128) :
    k0_pay11 (F := Ideal) q w a (ix2 j d) = a (ix2 j d) + ∑ i : Fin 1024, w (ix2 i j) * q (ix2 i d) := by
  pointwise [k0_pay11]

theorem dv_apply (g : FVec Ideal S1024x128 .bf16) (w : FVec Ideal S1024x256 .bf16) (a : FVec Ideal S256x128 .f32) (j : Fin 256) (d : Fin 128) :
    k0_pay12 (F := Ideal) g w a (ix2 j d) = a (ix2 j d) + ∑ i : Fin 1024, w (ix2 i j) * g (ix2 i d) := by
  pointwise [k0_pay12]

/-! The other heads' bodies are the first's, cut at other places. -/

section heads
variable (q g : FVec Ideal S1024x128 .bf16) (k v : FVec Ideal S256x128 .bf16) (a : FVec Ideal S256x128 .f32)

theorem dq1 : k0_pay21 (k0_pay14 k) (k0_pay16 q k) (k0_pay18 v g) (k0_pay19 q k v g) = k0_pay10 (F := Ideal) q k v g := rfl
theorem dq2 : k0_pay32 (k0_pay25 k) (k0_pay26 v) (k0_pay27 g) (k0_pay28 q k) (k0_pay29 q k) = k0_pay10 (F := Ideal) q k v g := rfl
theorem dq3 : k0_pay41 (k0_pay35 q) (k0_pay36 k) v g = k0_pay10 (F := Ideal) q k v g := rfl
theorem dk1 : k0_pay22 (k0_pay13 q) (k0_pay16 q k) (k0_pay18 v g) (k0_pay19 q k v g) a = k0_pay11 (F := Ideal) (k0_pay4 q) (k0_pay9 q k v g) a := rfl
theorem dk2 : k0_pay33 (k0_pay24 q) (k0_pay26 v) (k0_pay27 g) (k0_pay28 q k) (k0_pay29 q k) a = k0_pay11 (F := Ideal) (k0_pay4 q) (k0_pay9 q k v g) a := rfl
theorem dk3 : k0_pay42 (k0_pay35 q) (k0_pay36 k) v g a = k0_pay11 (F := Ideal) (k0_pay4 q) (k0_pay9 q k v g) a := rfl
theorem dv1 : k0_pay23 (k0_pay15 g) (k0_pay17 q k) a = k0_pay12 (F := Ideal) (k0_pay6 g) (k0_pay8 q k) a := rfl
theorem dv2 : k0_pay34 (k0_pay27 g) (k0_pay28 q k) (k0_pay29 q k) a = k0_pay12 (F := Ideal) (k0_pay6 g) (k0_pay8 q k) a := rfl
theorem dv3 : k0_pay1 (k0_pay37 g) (k0_pay39 (k0_pay35 q) (k0_pay36 k)) (k0_pay43 a) = k0_pay12 (F := Ideal) (k0_pay6 g) (k0_pay8 q k) a := rfl
end heads

end Cert.MemKernelIdeal.Value

end
-- ==== Proof.MemPoint.lean ====
module

public import proofs.«01_k».proof.Proof.Gen.MemKernelIdeal.Value
public import proofs.«01_k».proof.Proof.MemBlock
public import Idealize.ShloMosaic.Lib.Pipeline.ValueKit
public import Idealize.ShloMosaic.Lib.Pipeline.ReadBack

@[expose] public section

set_option maxRecDepth 16384

noncomputable section

/-! What a grid point of the memory attention's backward leaves in its blocks. -/

namespace Cert.MemKernelIdeal.Value

open Cert.MemKernelIdeal Cert.MemKernelIdeal.Gen Idealize.ShloMosaic Idealize.ShloMosaic.TcCoe Idealize.SL.Sem
open Idealize.ShloMosaic.Pipeline (Dat)

/-- Entry `d` of the head that column `y` belongs to. -/
def hd (y : Fin 512) (d : Fin 128) : Fin 512 := ⟨(y : ℕ) / 128 * 128 + d, by omega⟩

/-- A row's probabilities in the head of column `y`. -/
def probs {n : ℕ} (q : FVec Ideal ⟨2, ![n, 512]⟩ .bf16) (k : FVec Ideal S256x512 .bf16) (y : Fin 512) (i : Fin n) : Fin 256 → EReal :=
  prob (score (fun d => q (ix2 i (hd y d))) (fun j d => k (ix2 j (hd y d))))

/-- A row's gradients of the scores in the head of column `y`. -/
def grads {n : ℕ} (q : FVec Ideal ⟨2, ![n, 512]⟩ .bf16) (k v : FVec Ideal S256x512 .bf16) (g : FVec Ideal ⟨2, ![n, 512]⟩ .bf16) (y : Fin 512) (i : Fin n) :
    Fin 256 → EReal :=
  grad (probs q k y i) (fun j => ∑ d : Fin 128, g (ix2 i (hd y d)) * v (ix2 j (hd y d)))

/-! The body on one head's tiles, where the tiles are the head's columns of the blocks. -/

section head
variable {X0 X3 : FVec Ideal S1024x512 .bf16} {X1 X2 : FVec Ideal S256x512 .bf16} {q g : FVec Ideal S1024x128 .bf16} {k v : FVec Ideal S256x128 .bf16}
  {y : Fin 512} {x : Fin 128} (hx : (y : ℕ) % 128 = x)
  (hq : ∀ i d, q (ix2 i d) = X0 (ix2 i (hd y d))) (hk : ∀ j d, k (ix2 j d) = X1 (ix2 j (hd y d)))
  (hv : ∀ j d, v (ix2 j d) = X2 (ix2 j (hd y d))) (hg : ∀ i d, g (ix2 i d) = X3 (ix2 i (hd y d)))
include hx

omit hx in
theorem hd_self (hx : (y : ℕ) % 128 = x) : hd y x = y := Fin.ext (by simp only [hd]; omega)

include hq hk hv hg

theorem dq_head (i : Fin 1024) : k0_pay10 (F := Ideal) q k v g (ix2 i x) = ∑ j : Fin 256, grads X0 X1 X2 X3 y i j * X1 (ix2 j y) := by
  rw [dq_apply]
  have eq : row q = fun i d => X0 (ix2 i (hd y d)) := funext fun i => funext (hq i)
  have ek : row k = fun i d => X1 (ix2 i (hd y d)) := funext fun i => funext (hk i)
  have ev : row v = fun i d => X2 (ix2 i (hd y d)) := funext fun i => funext (hv i)
  have eg : row g = fun i d => X3 (ix2 i (hd y d)) := funext fun i => funext (hg i)
  simp only [eq, ek, grads, probs]
  simp only [row, hg, hv, hk, hq, hd_self hx]

theorem dk_head (a : FVec Ideal S256x128 .f32) (j : Fin 256) : k0_pay11 (F := Ideal) (k0_pay4 q) (k0_pay9 q k v g) a (ix2 j x) =
    a (ix2 j x) + ∑ i : Fin 1024, grads X0 X1 X2 X3 y i j * X0 (ix2 i y) := by
  pointwise [dk_apply, grad_apply, k0_pay4]
  have eq : row q = fun i d => X0 (ix2 i (hd y d)) := funext fun i => funext (hq i)
  have ek : row k = fun i d => X1 (ix2 i (hd y d)) := funext fun i => funext (hk i)
  have ev : row v = fun i d => X2 (ix2 i (hd y d)) := funext fun i => funext (hv i)
  have eg : row g = fun i d => X3 (ix2 i (hd y d)) := funext fun i => funext (hg i)
  simp only [eq, ek, grads, probs]
  simp only [row, hg, hv, hk, hq, hd_self hx]

omit hv in
theorem dv_head (a : FVec Ideal S256x128 .f32) (j : Fin 256) : k0_pay12 (F := Ideal) (k0_pay6 g) (k0_pay8 q k) a (ix2 j x) =
    a (ix2 j x) + ∑ i : Fin 1024, probs X0 X1 y i j * X3 (ix2 i y) := by
  pointwise [dv_apply, prob_apply, k0_pay6, k0_pay8]
  have eq : row q = fun i d => X0 (ix2 i (hd y d)) := funext fun i => funext (hq i)
  have ek : row k = fun i d => X1 (ix2 i (hd y d)) := funext fun i => funext (hk i)
  simp only [eq, ek, hg, hd_self hx, probs]

end head

variable (m : (ℓ : Loc nD τ sig) → Buf (Elt Ideal) ℓ) (ρ : Dev nD → PrngReg)

/-- A head's tile of a block is the head's columns. -/
theorem tile_read {Val : EltTy → Type} {e : EltTy} {n : ℕ} {off : ℕ} (X : (⟨2, ![n, 512]⟩ : Shape).Idx → Val e)
    (inb : ∀ a, (![0, off] : Fin 2 → ℕ) a + (![n, 128] : Fin 2 → ℕ) a ≤ (⟨2, ![n, 512]⟩ : Shape).size a) (i : Fin n) (d : Fin 128) (z : Fin 512)
    (hz : (z : ℕ) = off + d) :
    View.ld (Val := Val) (e' := e) X (Rect.unit (s := ⟨2, ![n, 512]⟩) ![0, off] ![n, 128] inb) (ix2 i d) = X (ix2 i z) := by
  refine View.ld_unit_apply_of _ _ _ _ _ _ fun a => ?_
  match a with
  | 0 => exact (Nat.zero_add _).symm
  | 1 => exact hz

/-- Likewise at the entry the tile's index lands on. -/
theorem tile_self {Val : EltTy → Type} {e : EltTy} {n : ℕ} {off : ℕ} (X : (⟨2, ![n, 512]⟩ : Shape).Idx → Val e)
    (inb : ∀ a, (![0, off] : Fin 2 → ℕ) a + (![n, 128] : Fin 2 → ℕ) a ≤ (⟨2, ![n, 512]⟩ : Shape).size a) (y : (⟨2, ![n, 512]⟩ : Shape).Idx) (d : Fin 128)
    (hz : (y 1 : ℕ) = off + d) :
    View.ld (Val := Val) (e' := e) X (Rect.unit (s := ⟨2, ![n, 512]⟩) ![0, off] ![n, 128] inb) (ix2 (y 0) d) = X y := by
  refine View.ld_unit_apply_of _ _ _ _ _ _ fun a => ?_
  match a with
  | 0 => exact (Nat.zero_add _).symm
  | 1 => exact hz

/-- Likewise, where the entry is one of the head of column `y`. -/
theorem tile_head {Val : EltTy → Type} {e : EltTy} {n : ℕ} {off : ℕ} (X : (⟨2, ![n, 512]⟩ : Shape).Idx → Val e)
    (inb : ∀ a, (![0, off] : Fin 2 → ℕ) a + (![n, 128] : Fin 2 → ℕ) a ≤ (⟨2, ![n, 512]⟩ : Shape).size a) (y : Fin 512) (x : ℕ)
    (hy : (y : ℕ) = off + x) (hx : x < 128) (ho : off % 128 = 0) (i : Fin n) (d : Fin 128) :
    View.ld (Val := Val) (e' := e) X (Rect.unit (s := ⟨2, ![n, 512]⟩) ![0, off] ![n, 128] inb) (ix2 i d) = X (ix2 i (hd y d)) :=
  tile_read X inb i d _ (show (y : ℕ) / 128 * 128 + d = off + d by omega)

/-- Stores that tile a buffer hide an earlier store. -/
theorem canon_over {Val : EltTy → Type} [∀ e, Nonempty (Val e)] {S : Shape} {e : EltTy} (r : Rect S) (w : r.shape.Idx → Val e)
    (p q s z : View.Piece Val S e) (y : S.Idx) (h : View.Piece.tiled ((⟨r, w⟩ : View.Piece Val S e) :: [p, q, s]) r.size = true) :
    View.canon (⟨r, w⟩ :: [p, q, s, z]) y = View.canon (⟨r, w⟩ :: [p, q, s]) y := by
  have key : ∀ L : List (View.Piece Val S e), (∃ a ∈ L, y ∈ a.1.set) → View.canon (L ++ [z]) y = View.canon L y := by
    intro L
    induction L with
    | nil => rintro ⟨a, ha, _⟩; exact absurd ha List.not_mem_nil
    | cons a L ih =>
      rintro ⟨b, hb, hy⟩
      by_cases hm : y ∈ a.1.set
      · obtain ⟨x, rfl⟩ := a.1.exists_idx_of_mem hm
        rw [show a.1.idx x = a.1.emb x from rfl, List.cons_append, View.canon_cons_emb, View.canon_cons_emb]
      · rw [List.cons_append, View.canon_cons_of_not_mem _ _ hm, View.canon_cons_of_not_mem _ _ hm]
        rcases List.mem_cons.mp hb with rfl | hb
        · exact absurd hy hm
        · exact ih ⟨b, hb, hy⟩
  exact key [⟨r, w⟩, p, q, s] (View.cover_of_tiled_head r w _ h y)

/-- A grid point's block of the queries' gradient. -/
def dqOf (X0 X3 : FVec Ideal S1024x512 .bf16) (X1 X2 : FVec Ideal S256x512 .bf16) (y : S1024x512.Idx) : EReal :=
  ∑ j : Fin 256, grads X0 X1 X2 X3 (y 1) (y 0) j * X1 (ix2 j (y 1))

/-- What a grid point adds to the keys' gradient. -/
def dkOf (X0 X3 : FVec Ideal S1024x512 .bf16) (X1 X2 : FVec Ideal S256x512 .bf16) (y : S256x512.Idx) : EReal :=
  ∑ i : Fin 1024, grads X0 X1 X2 X3 (y 1) i (y 0) * X0 (ix2 i (y 1))

/-- What a grid point adds to the values' gradient. -/
def dvOf (X0 X3 : FVec Ideal S1024x512 .bf16) (X1 : FVec Ideal S256x512 .bf16) (y : S256x512.Idx) : EReal :=
  ∑ i : Fin 1024, probs X0 X1 (y 1) i (y 0) * X3 (ix2 i (y 1))

theorem pay2_apply (y : S256x512.Idx) : k0_pay2 (F := Ideal) y = 0 := by pointwise [k0_pay2]
theorem pay3_apply (y : S256x512.Idx) : k0_pay3 (F := Ideal) y = 0 := by pointwise [k0_pay3]

/-- A tile of a block of zeros. -/
theorem tile_zero {n : ℕ} {off : ℕ} (X : FVec Ideal ⟨2, ![n, 512]⟩ .f32)
    (inb : ∀ a, (![0, off] : Fin 2 → ℕ) a + (![n, 128] : Fin 2 → ℕ) a ≤ (⟨2, ![n, 512]⟩ : Shape).size a) (i : Fin n) (d : Fin 128) (h : ∀ y, X y = 0) :
    View.ld (Val := Elt Ideal) (e' := .f32) X (Rect.unit (s := ⟨2, ![n, 512]⟩) ![0, off] ![n, 128] inb) (ix2 i d) = (0 : EReal) := h _

theorem dqA (c : Dev nD) (t : Fin cfg0.N) (h : t.val % 16 = 0) (y : S1024x512.Idx) :
    (outsAt0 m c t.val t.isLt).1 y = dqOf (iblk m c 0 t) (iblk m c 3 t) (iblk m c 1 t) (iblk m c 2 t) y := by
  rw [outsAt0_A m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  clear h
  canon_tiles x e
  all_goals
    try simp only [dq1, dq2, dq3]
    have ex : x = ix2 (y 0) (x 1) := by blk_ext
    refine (congrArg _ ex).trans ?_
    exact dq_head (X0 := X0) (X1 := X1) (X2 := X2) (X3 := X3) (y := y 1) (x := x 1) (by omega) (tile_head _ _ _ _ (by omega) x1_lt (by decide))
      (tile_head _ _ _ _ (by omega) x1_lt (by decide))
      (tile_head _ _ _ _ (by omega) x1_lt (by decide))
      (tile_head _ _ _ _ (by omega) x1_lt (by decide)) _

theorem dqB (c : Dev nD) (t : Fin cfg0.N) (h : ¬ t.val % 16 = 0) (y : S1024x512.Idx) :
    (outsAt0 m c t.val t.isLt).1 y = dqOf (iblk m c 0 t) (iblk m c 3 t) (iblk m c 1 t) (iblk m c 2 t) y := by
  rw [outsAt0_B m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  clear h
  canon_tiles x e
  all_goals
    try simp only [dq1, dq2, dq3]
    have ex : x = ix2 (y 0) (x 1) := by blk_ext
    refine (congrArg _ ex).trans ?_
    exact dq_head (X0 := X0) (X1 := X1) (X2 := X2) (X3 := X3) (y := y 1) (x := x 1) (by omega) (tile_head _ _ _ _ (by omega) x1_lt (by decide))
      (tile_head _ _ _ _ (by omega) x1_lt (by decide))
      (tile_head _ _ _ _ (by omega) x1_lt (by decide))
      (tile_head _ _ _ _ (by omega) x1_lt (by decide)) _

theorem dkA (c : Dev nD) (t : Fin cfg0.N) (h : t.val % 16 = 0) (y : S256x512.Idx) :
    (outsAt0 m c t.val t.isLt).2.1 y = dkOf (iblk m c 0 t) (iblk m c 3 t) (iblk m c 1 t) (iblk m c 2 t) y := by
  rw [outsAt0_A m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  clear h
  refine (canon_over _ _ _ _ _ _ _ rfl).trans ?_
  canon_tiles x e
  all_goals
    try simp only [dk1, dk2, dk3]
    have ex : x = ix2 (y 0) (x 1) := by blk_ext
    refine (congrArg _ ex).trans ?_
    exact (dk_head (X0 := X0) (X1 := X1) (X2 := X2) (X3 := X3) (y := y 1) (x := x 1) (by omega) (tile_head _ _ _ _ (by omega) x1_lt (by decide))
      (tile_head _ _ _ _ (by omega) x1_lt (by decide))
      (tile_head _ _ _ _ (by omega) x1_lt (by decide))
      (tile_head _ _ _ _ (by omega) x1_lt (by decide)) _ _).trans ((congrArg (· + _) (tile_zero _ _ _ _ (pay2_apply))).trans (zero_add _))

theorem dkB (c : Dev nD) (t : Fin cfg0.N) (h : ¬ t.val % 16 = 0) (y : S256x512.Idx) :
    (outsAt0 m c t.val t.isLt).2.1 y = (outsAt0 m c (t.val - 1) (by omega)).2.1 y + dkOf (iblk m c 0 t) (iblk m c 3 t) (iblk m c 1 t) (iblk m c 2 t) y := by
  rw [outsAt0_B m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize (outsAt0 m c (t.val - 1) (by omega)).2.1 = A
  clear h
  canon_tiles x e
  all_goals
    try simp only [dk1, dk2, dk3]
    have ex : x = ix2 (y 0) (x 1) := by blk_ext
    refine (congrArg _ ex).trans ?_
    refine (dk_head (X0 := X0) (X1 := X1) (X2 := X2) (X3 := X3) (y := y 1) (x := x 1) (by omega) (tile_head _ _ _ _ (by omega) x1_lt (by decide))
      (tile_head _ _ _ _ (by omega) x1_lt (by decide))
      (tile_head _ _ _ _ (by omega) x1_lt (by decide))
      (tile_head _ _ _ _ (by omega) x1_lt (by decide)) _ _).trans (congrArg (· + _) ?_)
    exact tile_self _ _ y _ (by omega)

theorem dvA (c : Dev nD) (t : Fin cfg0.N) (h : t.val % 16 = 0) (y : S256x512.Idx) :
    (outsAt0 m c t.val t.isLt).2.2 y = dvOf (iblk m c 0 t) (iblk m c 3 t) (iblk m c 1 t) y := by
  rw [outsAt0_A m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  clear h
  refine (canon_over _ _ _ _ _ _ _ rfl).trans ?_
  canon_tiles x e
  all_goals
    try simp only [dv1, dv2, dv3]
    have ex : x = ix2 (y 0) (x 1) := by blk_ext
    refine (congrArg _ ex).trans ?_
    exact (dv_head (X0 := X0) (X1 := X1) (X3 := X3) (y := y 1) (x := x 1) (by omega) (tile_head _ _ _ _ (by omega) x1_lt (by decide))
      (tile_head _ _ _ _ (by omega) x1_lt (by decide))
      (tile_head _ _ _ _ (by omega) x1_lt (by decide)) _ _).trans ((congrArg (· + _) (tile_zero _ _ _ _ (pay3_apply))).trans (zero_add _))

theorem dvB (c : Dev nD) (t : Fin cfg0.N) (h : ¬ t.val % 16 = 0) (y : S256x512.Idx) :
    (outsAt0 m c t.val t.isLt).2.2 y = (outsAt0 m c (t.val - 1) (by omega)).2.2 y + dvOf (iblk m c 0 t) (iblk m c 3 t) (iblk m c 1 t) y := by
  rw [outsAt0_B m c t h]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize (outsAt0 m c (t.val - 1) (by omega)).2.2 = A
  clear h
  canon_tiles x e
  all_goals
    try simp only [dv1, dv2, dv3]
    have ex : x = ix2 (y 0) (x 1) := by blk_ext
    refine (congrArg _ ex).trans ?_
    refine (dv_head (X0 := X0) (X1 := X1) (X3 := X3) (y := y 1) (x := x 1) (by omega) (tile_head _ _ _ _ (by omega) x1_lt (by decide))
      (tile_head _ _ _ _ (by omega) x1_lt (by decide))
      (tile_head _ _ _ _ (by omega) x1_lt (by decide)) _ _).trans (congrArg (· + _) ?_)
    exact tile_self _ _ y _ (by omega)

end Cert.MemKernelIdeal.Value

end
-- ==== Proof.MemArray.lean ====
module

public import proofs.«01_k».proof.Proof.Gen.MemKernelIdeal.Value
public import proofs.«01_k».proof.Proof.MemPoint
public import Idealize.ShloMosaic.Lib.Pipeline.ValueKit
public import Idealize.ShloMosaic.Lib.Pipeline.ReadBack

@[expose] public section

set_option maxRecDepth 16384

noncomputable section

/-! The arrays that the memory attention's backward leaves. -/

namespace Cert.MemKernelIdeal.Value

open Cert.MemKernelIdeal Cert.MemKernelIdeal.Gen Idealize.ShloMosaic Idealize.ShloMosaic.TcCoe Idealize.SL.Sem
open Idealize.ShloMosaic.Pipeline (Dat)

/-- The memory's queries among the projection's columns. -/
def queries (proj : FVec Ideal S16384x6680 .f32) : FVec Ideal S16384x512 .bf16 := fun z => proj (ix2 (z 0) ⟨3096 + z 1, by have : (z 1 : ℕ) < 512 := (z 1).isLt; omega⟩)

/-- The keys: the first half of the memory's projection. -/
def keys (mkv : FVec Ideal S256x1024 .f32) : FVec Ideal S256x512 .bf16 := fun z => mkv (ix2 (z 0) ⟨z 1, by have : (z 1 : ℕ) < 512 := (z 1).isLt; omega⟩)

/-- The values: the second half. -/
def vals (mkv : FVec Ideal S256x1024 .f32) : FVec Ideal S256x512 .bf16 := fun z => mkv (ix2 (z 0) ⟨512 + z 1, by have : (z 1 : ℕ) < 512 := (z 1).isLt; omega⟩)

/-- The cotangent, rounded. -/
def cot (g : FVec Ideal S16384x512 .f32) : FVec Ideal S16384x512 .bf16 := fun z => g z

theorem queries_eq (P : FVec Ideal S16384x6680 .f32) (i : Fin 16384) (y : Fin 512) : queries P (ix2 i y) = P (ix2 i ⟨3096 + y, by omega⟩) := rfl
theorem keys_eq (M : FVec Ideal S256x1024 .f32) (j : Fin 256) (y : Fin 512) : keys M (ix2 j y) = M (ix2 j ⟨y, by omega⟩) := rfl
theorem vals_eq (M : FVec Ideal S256x1024 .f32) (j : Fin 256) (y : Fin 512) : vals M (ix2 j y) = M (ix2 j ⟨512 + y, by omega⟩) := rfl
theorem cot_eq (g : FVec Ideal S16384x512 .f32) (i : Fin 16384) (y : Fin 512) : cot g (ix2 i y) = g (ix2 i y) := rfl

/-- The queries' gradient. -/
def dq (proj : FVec Ideal S16384x6680 .f32) (mkv : FVec Ideal S256x1024 .f32) (g : FVec Ideal S16384x512 .f32) : FVec Ideal S16384x512 .bf16 :=
  fun z => ∑ j : Fin 256, grads (queries proj) (keys mkv) (vals mkv) (cot g) (z 1) (z 0) j * keys mkv (ix2 j (z 1))

/-- The keys' gradient. -/
def dk (proj : FVec Ideal S16384x6680 .f32) (mkv : FVec Ideal S256x1024 .f32) (g : FVec Ideal S16384x512 .f32) : FVec Ideal S256x512 .f32 :=
  fun z => ∑ i : Fin 16384, grads (queries proj) (keys mkv) (vals mkv) (cot g) (z 1) i (z 0) * queries proj (ix2 i (z 1))

/-- The values' gradient. -/
def dv (proj : FVec Ideal S16384x6680 .f32) (mkv : FVec Ideal S256x1024 .f32) (g : FVec Ideal S16384x512 .f32) : FVec Ideal S256x512 .f32 :=
  fun z => ∑ i : Fin 16384, probs (queries proj) (keys mkv) (z 1) i (z 0) * cot g (ix2 i (z 1))

variable (m : (ℓ : Loc nD τ sig) → Buf (Elt Ideal) ℓ) (ρ : Dev nD → PrngReg)

theorem idx : ∀ t : Fin cfg0.N, win0_0.index t = ![t.val, 12] ∧ win0_1.index t = ![0, 0] ∧ win0_2.index t = ![0, 1] ∧ win0_3.index t = ![t.val, 0] ∧
    win0_4.index t = ![t.val, 0] := (by decide +kernel : ∀ t : Fin grid0.N, _)

/-- A row's probabilities read that row of the queries only. -/
theorem probs_congr {n n' : ℕ} {q : FVec Ideal ⟨2, ![n, 512]⟩ .bf16} {q' : FVec Ideal ⟨2, ![n', 512]⟩ .bf16} {k k' : FVec Ideal S256x512 .bf16} {i : Fin n} {i' : Fin n'}
    (hq : ∀ y, q (ix2 i y) = q' (ix2 i' y)) (hk : ∀ j y, k (ix2 j y) = k' (ix2 j y)) (y : Fin 512) : probs q k y i = probs q' k' y i' := by
  simp only [probs, hq, hk]

/-- Likewise the gradients of the scores. -/
theorem grads_congr {n n' : ℕ} {q g : FVec Ideal ⟨2, ![n, 512]⟩ .bf16} {q' g' : FVec Ideal ⟨2, ![n', 512]⟩ .bf16} {k k' v v' : FVec Ideal S256x512 .bf16}
    {i : Fin n} {i' : Fin n'} (hq : ∀ y, q (ix2 i y) = q' (ix2 i' y)) (hk : ∀ j y, k (ix2 j y) = k' (ix2 j y)) (hv : ∀ j y, v (ix2 j y) = v' (ix2 j y))
    (hg : ∀ y, g (ix2 i y) = g' (ix2 i' y)) (y : Fin 512) : grads q k v g y i = grads q' k' v' g' y i' := by
  simp only [grads, probs_congr hq hk, hv, hg]

/-- Row `i` of grid point `t`. -/
def rowAt (t : Fin cfg0.N) (i : Fin 1024) : Fin 16384 := ⟨t.val * 1024 + i, by have := lt_of_lt_of_eq t.isLt N_0; omega⟩

theorem rowAt_val (t : Fin cfg0.N) (i : Fin 1024) : (rowAt t i : ℕ) = t.val * 1024 + i := rfl

/-- The grid's rows are all rows. -/
theorem sum_rows (f : Fin 16384 → EReal) : ∑ t : Fin cfg0.N, ∑ i : Fin 1024, f (rowAt t i) = ∑ i : Fin 16384, f i :=
  Fin.sum_mul_add_congr fun t i h => rfl

/-- The projection packed for the kernel: its last columns are the memory's queries. -/
def packed (P : FVec Ideal S16384x6680 .f32) : FVec Ideal S16384x6656 .bf16 :=
  truncf .bf16 (concatenate S16384x6656 1 [⟨S16384x3072, extractStridedSlice S16384x3072 ![0, 3608] P slices_S16384x6680_S16384x3072_0_3608⟩,
    ⟨S16384x1536, extractStridedSlice S16384x1536 ![0, 0] P slices_S16384x6680_S16384x1536_0_0⟩,
    ⟨S16384x1536, extractStridedSlice S16384x1536 ![0, 1552] P slices_S16384x6680_S16384x1536_0_1552⟩,
    ⟨S16384x512, extractStridedSlice S16384x512 ![0, 3096] P slices_S16384x6680_S16384x512_0_3096⟩] concatenates_S16384x3072_S16384x1536_S16384x1536_S16384x512_S16384x6656_d1) bitsLt_bf16_f32

theorem packed_queries (P : FVec Ideal S16384x6680 .f32) (r : Fin 16384) (y : Fin 512) : packed P (ix2 r ⟨6144 + y, by omega⟩) = queries P (ix2 r y) := by
  rw [queries_eq]
  pointwise [packed]
  rw [dif_neg (by omega), dif_neg (by omega), dif_neg (by omega)]
  blk_ext

theorem V_packed (c : Dev nD) : V m c main_v5 = packed (m ((c.tc : Thread nD τ).loc main_arg0)) := by
  rfl

section blocks
variable (c : Dev nD) (t : Fin cfg0.N)

theorem blk0 (i : Fin 1024) (y : Fin 512) : (iblk m c 0 t : FVec Ideal S1024x512 .bf16) (ix2 i y) = queries (m ((c.tc : Thread nD τ).loc main_arg0)) (ix2 (rowAt t i) y) := by
  rw [← packed_queries]
  have e : iblk m c 0 t = fun x => packed (m ((c.tc : Thread nD τ).loc main_arg0)) (((cfg0.win 0).blk t).view.emb x) := rfl
  refine (congrFun e _).trans (congrArg _ ?_)
  blk_ext [idx t, rowAt_val]
theorem blk1 (j : Fin 256) (y : Fin 512) : (iblk m c 1 t : FVec Ideal S256x512 .bf16) (ix2 j y) = keys (m ((c.tc : Thread nD τ).loc main_arg1)) (ix2 j y) := by
  rw [keys_eq]
  blk_point [iblk, V, idx t]
theorem blk2 (j : Fin 256) (y : Fin 512) : (iblk m c 2 t : FVec Ideal S256x512 .bf16) (ix2 j y) = vals (m ((c.tc : Thread nD τ).loc main_arg1)) (ix2 j y) := by
  rw [vals_eq]
  blk_point [iblk, V, idx t]
theorem blk3 (i : Fin 1024) (y : Fin 512) : (iblk m c 3 t : FVec Ideal S1024x512 .bf16) (ix2 i y) = cot (m ((c.tc : Thread nD τ).loc main_arg2)) (ix2 (rowAt t i) y) := by
  rw [cot_eq]
  blk_point [iblk, V, idx t, rowAt_val]

/-- The projection's queries, the keys and values and the cotangent as launched. -/
abbrev Q0 (c : Dev nD) := queries (m ((c.tc : Thread nD τ).loc main_arg0))
abbrev K0 (c : Dev nD) := keys (m ((c.tc : Thread nD τ).loc main_arg1))
abbrev V0 (c : Dev nD) := vals (m ((c.tc : Thread nD τ).loc main_arg1))
abbrev G0 (c : Dev nD) := cot (m ((c.tc : Thread nD τ).loc main_arg2))

theorem dqOf_blk (i : Fin 1024) (y : Fin 512) : dqOf (iblk m c 0 t) (iblk m c 3 t) (iblk m c 1 t) (iblk m c 2 t) (ix2 i y) =
    ∑ j : Fin 256, grads (Q0 m c) (K0 m c) (V0 m c) (G0 m c) y (rowAt t i) j * K0 m c (ix2 j y) :=
  Finset.sum_congr rfl fun j _ => congrArg₂ (· * ·)
    (congrFun (grads_congr (fun y => blk0 m c t i y) (blk1 m c t) (blk2 m c t) (fun y => blk3 m c t i y) y) j) (blk1 m c t j y)

theorem dkOf_blk (j : Fin 256) (y : Fin 512) : dkOf (iblk m c 0 t) (iblk m c 3 t) (iblk m c 1 t) (iblk m c 2 t) (ix2 j y) =
    ∑ i : Fin 1024, grads (Q0 m c) (K0 m c) (V0 m c) (G0 m c) y (rowAt t i) j * Q0 m c (ix2 (rowAt t i) y) :=
  Finset.sum_congr rfl fun i _ => congrArg₂ (· * ·)
    (congrFun (grads_congr (fun y => blk0 m c t i y) (blk1 m c t) (blk2 m c t) (fun y => blk3 m c t i y) y) j) (blk0 m c t i y)

theorem dvOf_blk (j : Fin 256) (y : Fin 512) : dvOf (iblk m c 0 t) (iblk m c 3 t) (iblk m c 1 t) (ix2 j y) =
    ∑ i : Fin 1024, probs (Q0 m c) (K0 m c) y (rowAt t i) j * G0 m c (ix2 (rowAt t i) y) :=
  Finset.sum_congr rfl fun i _ => congrArg₂ (· * ·)
    (congrFun (probs_congr (fun y => blk0 m c t i y) (blk1 m c t) y) j) (blk3 m c t i y)

end blocks

/-- Where an entry of grid point `t`'s block of the queries' gradient lies. -/
theorem emb4 (t : Fin cfg0.N) (i : Fin 1024) (y : Fin 512) : ((cfg0.win 4).blk t).view.emb (ix2 i y) = (ix2 (rowAt t i) y : S16384x512.Idx) := by
  blk_ext [idx t, rowAt_val]

theorem final4 (c : Dev nD) : (dats m 0 c).arrAt 4 cfg0.N =
    dq (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  have key : (outsAt0 m c t.val t.isLt).1 y = dqOf (iblk m c 0 t) (iblk m c 3 t) (iblk m c 1 t) (iblk m c 2 t) y := by
    by_cases h : t.val % 16 = 0
    · exact dqA m c t h y
    · exact dqB m c t h y
  have ey : y = (ix2 (y 0) (y 1) : S1024x512.Idx) := by blk_ext
  refine key.trans ?_
  rw [ey]
  exact (dqOf_blk m c t (y 0) (y 1)).trans (congrArg (dq _ _ _) (emb4 t (y 0) (y 1))).symm

theorem final5 (c : Dev nD) : (dats m 0 c).arrAt 5 cfg0.N =
    dk (m ((c.tc : Thread nD τ).loc main_arg0)) (m ((c.tc : Thread nD τ).loc main_arg1)) (m ((c.tc : Thread nD τ).loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0)
    (fun p j => dkOf (iblk m c 0 p) (iblk m c 3 p) (iblk m c 1 p) (iblk m c 2 p) j)
    (fun t h j => (dkA m c t h j).trans (zero_add _).symm) (fun t h j => dkB m c t h j) (le_of_eq N_0) t0_15 rfl j, zero_add]
  have ey : j = (ix2 (j 0) (j 1) : S256x512.Idx) := by blk_ext
  rw [ey]
  refine (Finset.sum_congr rfl fun p _ => dkOf_blk m c p (j 0) (j 1)).trans ?_
  exact sum_rows fun i => grads (Q0 m c) (K0 m c) (V0 m c) (G0 m c) (j 1) i (j 0) * Q0 m c (ix2 i (j 1))

theorem final6 (c : Dev nD) : (dats m 0 c).arrAt 6 cfg0.N =
    dv (m ((c.tc : Thread nD τ).loc main_arg0)) (m ((c.tc : Thread nD τ).loc main_arg1)) (m ((c.tc : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun p j => dvOf (iblk m c 0 p) (iblk m c 3 p) (iblk m c 1 p) j)
    (fun t h j => (dvA m c t h j).trans (zero_add _).symm) (fun t h j => dvB m c t h j) (le_of_eq N_0) t0_15 rfl j, zero_add]
  have ey : j = (ix2 (j 0) (j 1) : S256x512.Idx) := by blk_ext
  rw [ey]
  refine (Finset.sum_congr rfl fun p _ => dvOf_blk m c p (j 0) (j 1)).trans ?_
  exact sum_rows fun i => probs (Q0 m c) (K0 m c) (j 1) i (j 0) * G0 m c (ix2 i (j 1))

end Cert.MemKernelIdeal.Value

end
-- ==== Proof.Softmax.lean ====
module

public import Idealize.ShloMosaic.PureOps
public import Idealize.ShloMosaic.Lib.IdealHost

@[expose] public section

noncomputable section

/-! The gradient of a softmax row whose scores are real numbers. -/

namespace Cert.Softmax

open Idealize.ShloMosaic

theorem ofBits_bot : Ideal.ofBits .f32 0xFF800000#32 = ⊥ := by
  simp [Ideal.ofBits, Ideal.ieee]

/-- The bits `0x7F800000` are plus infinity. -/
theorem ofBits_top : Ideal.ofBits .f32 0x7F800000#32 = ⊤ := by
  simp [Ideal.ofBits, Ideal.ieee]

/-- A sum of real numbers. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real strictly between the infinities is real. -/
theorem real_of_lt {x : EReal} (h : max x (-x) < ⊤) : ∃ r : ℝ, x = r := by
  induction x with
  | bot => simp at h
  | top => simp at h
  | coe r => exact ⟨r, rfl⟩

/-- A comparison with plus infinity that holds makes the number real. -/
theorem real_of_olt {x y : EReal} (hy : y = ⊤) (h : FloatOps.cmpf (F := Ideal) (φ := .f32) .olt (FloatOps.hostAbsf (F := Ideal) (φ := .f32) x) y = 1#1) : ∃ r : ℝ, x = r := by
  subst hy
  refine real_of_lt ?_
  by_contra hn
  exact absurd h (by
    rw [Ideal.hostAbsf_def, Ideal.cmpf_def, Ideal.absf_def]
    simp [Ideal.cmp, hn])

/-- The greatest of finitely many real numbers, at least one, is real. -/
theorem fold_real {n : ℕ} [NeZero n] (f : Fin n → ℝ) : ∃ M : ℝ, Finset.univ.fold max (⊥ : EReal) (fun i => (f i : EReal)) = M := by
  have ht : Finset.univ.fold max (⊥ : EReal) (fun i => (f i : EReal)) < ⊤ :=
    Finset.fold_max_lt _ |>.2 ⟨bot_lt_top, fun i _ => EReal.coe_lt_top _⟩
  have hb : (⊥ : EReal) < Finset.univ.fold max (⊥ : EReal) (fun i => (f i : EReal)) :=
    Finset.lt_fold_max _ |>.2 (Or.inr ⟨0, Finset.mem_univ _, EReal.bot_lt_coe _⟩)
  induction h : Finset.univ.fold max (⊥ : EReal) (fun i => (f i : EReal)) with
  | bot => exact absurd (h ▸ hb) (lt_irrefl _)
  | top => exact absurd (h ▸ ht) (lt_irrefl _)
  | coe r => exact ⟨r, rfl⟩

/-- The exponentials of real scores less their greatest are positive real numbers. -/
theorem weight_real {n : ℕ} [NeZero n] (s : Fin n → EReal) (hs : ∀ j, ∃ r : ℝ, s j = r) :
    ∃ w : Fin n → ℝ, (∀ j, 0 < w j) ∧ ∀ j, Ideal.exp (s j - Finset.univ.fold max (⊥ : EReal) s) = w j := by
  choose σ hσ using hs
  obtain rfl : s = fun j => (σ j : EReal) := funext hσ
  obtain ⟨M, hM⟩ := fold_real σ
  refine ⟨fun j => Real.exp (σ j - M), fun j => Real.exp_pos _, fun j => ?_⟩
  rw [hM, ← EReal.coe_sub, Ideal.exp_coe]

/-- The gradient of one entry of a row of weights over their sum: through the quotient, or from the probabilities. -/
theorem row_grad_of {n : ℕ} (w d : Fin n → ℝ) (hT : 0 < ∑ l, w l) (j : Fin n) :
    (Ideal.div (d j : EReal) (∑ l, (w l : EReal)) + -∑ l, (d l : EReal) * Ideal.div 1 ((∑ l, (w l : EReal)) * ∑ l, (w l : EReal)) * (w l : EReal)) * (w j : EReal) =
      Ideal.div (w j : EReal) (∑ l, (w l : EReal)) * ((d j : EReal) - ∑ l, Ideal.div (w l : EReal) (∑ l, (w l : EReal)) * (d l : EReal)) := by
  rw [coe_sum, ← EReal.coe_mul]
  simp only [Ideal.div_coe hT.ne', Ideal.div_coe (mul_pos hT hT).ne', one_mul, ← EReal.coe_mul, coe_sum, ← EReal.coe_neg, ← EReal.coe_add, ← EReal.coe_sub]
  congr 1
  generalize ∑ l, w l = T at hT ⊢
  have e1 : ∑ l, d l * (1 / (T * T)) * w l = (∑ l, w l * d l) * (1 / (T * T)) := by
    rw [Finset.sum_mul]
    exact Finset.sum_congr rfl fun l _ => by ring
  have e2 : ∑ l, w l * (1 / T) * d l = (∑ l, w l * d l) * (1 / T) := by
    rw [Finset.sum_mul]
    exact Finset.sum_congr rfl fun l _ => by ring
  rw [e1, e2]
  field_simp
  ring

/-- The same where every weight is positive. -/
theorem row_grad {n : ℕ} [NeZero n] (w d : Fin n → ℝ) (hw : ∀ j, 0 < w j) (j : Fin n) :
    (Ideal.div (d j : EReal) (∑ l, (w l : EReal)) + -∑ l, (d l : EReal) * Ideal.div 1 ((∑ l, (w l : EReal)) * ∑ l, (w l : EReal)) * (w l : EReal)) * (w j : EReal) =
      Ideal.div (w j : EReal) (∑ l, (w l : EReal)) * ((d j : EReal) - ∑ l, Ideal.div (w l : EReal) (∑ l, (w l : EReal)) * (d l : EReal)) :=
  row_grad_of w d (Finset.sum_pos (fun l _ => hw l) Finset.univ_nonempty) j

end Cert.Softmax

end
-- ==== Proof.MemReference.lean ====
module

public import proofs.«01_k».proof.Proof.Gen.MemReferenceIdeal.Read
public import proofs.«01_k».proof.Proof.MemPoint
public import proofs.«01_k».proof.Proof.Softmax

@[expose] public section

set_option maxRecDepth 16384

noncomputable section

/-! The plain reverse pass of the memory's attention, read entry by entry. -/

namespace Cert.MemReferenceIdeal.Read

open Cert.MemReferenceIdeal Cert.MemReferenceIdeal.Gen Idealize.ShloMosaic Idealize.ShloMosaic.TcCoe
open Cert.MemKernelIdeal.Value (scale score weight prob)

variable (x0 : FVec Ideal S16384x6680 .f32) (x1 : FVec Ideal S256x1024 .f32) (x2 : FVec Ideal S16384x512 .f32)

/-- A row of a head's queries, and of its cotangent; a head's keys and values. -/
def qrow (h : Fin 4) (r : Fin 16384) (d : Fin 128) : EReal := x0 (ix2 r ⟨3096 + (h * 128 + d), by omega⟩)
def grow (h : Fin 4) (r : Fin 16384) (d : Fin 128) : EReal := x2 (ix2 r ⟨h * 128 + d, by omega⟩)
def krow (h : Fin 4) (j : Fin 256) (d : Fin 128) : EReal := x1 (ix2 j ⟨h * 128 + d, by omega⟩)
def vrow (h : Fin 4) (j : Fin 256) (d : Fin 128) : EReal := x1 (ix2 j ⟨512 + (h * 128 + d), by omega⟩)

theorem v13 (h : Fin 4) (r : Fin 16384) (d : Fin 128) : val_main_v13 (F := Ideal) x0 (ix4 0 r h d) = qrow x0 h r d := by
  pointwise [val_main_v13, val_main_v9]
  rfl
theorem v14 (h : Fin 4) (j : Fin 256) (d : Fin 128) : val_main_v14 (F := Ideal) x1 (ix4 0 j h d) = krow x1 h j d := by
  pointwise [val_main_v14, val_main_v11]
  rfl
theorem v15 (h : Fin 4) (j : Fin 256) (d : Fin 128) : val_main_v15 (F := Ideal) x1 (ix4 0 j h d) = vrow x1 h j d := by
  pointwise [val_main_v15, val_main_v12]
  rfl
theorem v51 (h : Fin 4) (r : Fin 16384) (d : Fin 128) : val_main_v51 (F := Ideal) x2 (ix4 0 h d r) = grow x2 h r d := by
  pointwise [val_main_v51, val_main_v50]
  rfl

theorem v18 (h : Fin 4) (r : Fin 16384) (j : Fin 256) : val_main_v18 (F := Ideal) x0 x1 (ix4 0 h r j) = score (qrow x0 h r) (krow x1 h) j := by
  pointwise [val_main_v18, val_main_v17, val_main_v16, val_main_cst, v13, v14, score]
theorem v19 (h : Fin 4) (r : Fin 16384) : val_main_v19 (F := Ideal) x0 x1 (ix3 0 h r) = Finset.univ.fold max (Ideal.ofBits .f32 0xFF800000#32) (score (qrow x0 h r) (krow x1 h)) := by
  pointwise [val_main_v19, v18, val_main_cst_0]
/-- The greatest score, as the reference keeps it. -/
def top (s : Fin 256 → EReal) : EReal := max (Ideal.ofBits .f32 0xFF800000#32) (Finset.univ.fold max (Ideal.ofBits .f32 0xFF800000#32) s)

/-- The exponentials of the scores less it. -/
def ew (s : Fin 256 → EReal) (j : Fin 256) : EReal := Ideal.exp (s j - top s)

theorem v26 (h : Fin 4) (r : Fin 16384) : val_main_v26 (F := Ideal) x0 x1 (ix3 0 h r) = top (score (qrow x0 h r) (krow x1 h)) := by
  rw [val_main_v26_apply, v19]
  rfl
theorem v37 (h : Fin 4) (r : Fin 16384) (j : Fin 256) : val_main_v37 (F := Ideal) x0 x1 (ix4 0 h r j) = top (score (qrow x0 h r) (krow x1 h)) := by
  rw [val_main_v37_apply (F := Ideal), val_main_v36_apply (F := Ideal), show idx_main_v36 (idx_main_v37 (ix4 0 h r j)) = ix3 0 h r by blk_ext, v26]
theorem v39 (h : Fin 4) (r : Fin 16384) (j : Fin 256) : val_main_v39 (F := Ideal) x0 x1 (ix4 0 h r j) = ew (score (qrow x0 h r) (krow x1 h)) j := by
  rw [val_main_v39_apply (F := Ideal), val_main_v38_apply (F := Ideal), v37, v18]
  rfl

/-- The sum of a row's exponentials. -/
def total (s : Fin 256 → EReal) : EReal := ∑ l, ew s l

theorem v40 (h : Fin 4) (r : Fin 16384) : val_main_v40 (F := Ideal) x0 x1 (ix3 0 h r) = total (score (qrow x0 h r) (krow x1 h)) := by
  rw [val_main_v40_apply]
  exact (congrArg (· + _) (Ideal.ofBits_zero .f32)).trans ((zero_add _).trans (Finset.sum_congr rfl fun l _ =>
    (congrArg (val_main_v39 (F := Ideal) x0 x1) (by blk_ext)).trans (v39 x0 x1 h r l)))
theorem v41 (h : Fin 4) (r : Fin 16384) : val_main_v41 (F := Ideal) x0 x1 (ix4 0 h r 0) = total (score (qrow x0 h r) (krow x1 h)) := by
  rw [val_main_v41_apply (F := Ideal), show idx_main_v41 (ix4 0 h r 0) = ix3 0 h r by blk_ext, v40]
theorem v43 (h : Fin 4) (r : Fin 16384) (j : Fin 256) : val_main_v43 (F := Ideal) x0 x1 (ix4 0 h r j) =
    Ideal.div (ew (score (qrow x0 h r) (krow x1 h)) j) (total (score (qrow x0 h r) (krow x1 h))) := by
  rw [val_main_v43_apply (F := Ideal), val_main_v42_apply (F := Ideal), show idx_main_v42 (ix4 0 h r j) = ix4 0 h r 0 by blk_ext, v41, v39]
  rfl
/-- The cotangent of a head's probabilities: the row's cotangent with each of the values. -/
def dprob (h : Fin 4) (r : Fin 16384) (j : Fin 256) : EReal := ∑ d, grow x2 h r d * vrow x1 h j d

theorem v52 (h : Fin 4) (r : Fin 16384) (j : Fin 256) : val_main_v52 (F := Ideal) x1 x2 (ix4 0 h r j) = dprob x1 x2 h r j := by
  pointwise [val_main_v52, v51, v15, dprob]

/-- The reciprocal square of a row's sum. -/
def inv2 (s : Fin 256 → EReal) : EReal := Ideal.div 1 (total s * total s)

theorem v46 (h : Fin 4) (r : Fin 16384) : val_main_v46 (F := Ideal) x0 x1 (ix4 0 h r 0) = inv2 (score (qrow x0 h r) (krow x1 h)) := by
  rw [val_main_v46_apply (F := Ideal), val_main_v44_apply (F := Ideal), v41, val_main_v45_apply (F := Ideal), val_main_cst_9_apply]
  exact congrArg (Ideal.div · _) Ideal.ofBits_one_f32

/-- What a row's sum passes back. -/
def back (s dp : Fin 256 → EReal) : EReal := -∑ l, dp l * inv2 s * ew s l

theorem v57 (h : Fin 4) (r : Fin 16384) (j : Fin 256) : val_main_v57 (F := Ideal) x0 x1 x2 (ix4 0 h r j) =
    dprob x1 x2 h r j * inv2 (score (qrow x0 h r) (krow x1 h)) * ew (score (qrow x0 h r) (krow x1 h)) j := by
  rw [val_main_v57_apply (F := Ideal), val_main_v56_apply (F := Ideal), v39, v52, val_main_v55_apply (F := Ideal), show idx_main_v55 (ix4 0 h r j) = ix4 0 h r 0 by blk_ext, v46]
  rfl
theorem v58 (h : Fin 4) (r : Fin 16384) : val_main_v58 (F := Ideal) x0 x1 x2 (ix3 0 h r) =
    ∑ l, dprob x1 x2 h r l * inv2 (score (qrow x0 h r) (krow x1 h)) * ew (score (qrow x0 h r) (krow x1 h)) l := by
  rw [val_main_v58_apply]
  exact (congrArg (· + _) (Ideal.ofBits_zero .f32)).trans ((zero_add _).trans (Finset.sum_congr rfl fun l _ =>
    (congrArg (val_main_v57 (F := Ideal) x0 x1 x2) (by blk_ext)).trans (v57 x0 x1 x2 h r l)))
theorem v60 (h : Fin 4) (r : Fin 16384) : val_main_v60 (F := Ideal) x0 x1 x2 (ix4 0 h r 0) =
    back (score (qrow x0 h r) (krow x1 h)) (dprob x1 x2 h r) := by
  rw [val_main_v60_apply (F := Ideal), val_main_v59_apply (F := Ideal), show idx_main_v59 (ix4 0 h r 0) = ix3 0 h r by blk_ext, v58]
  rfl
theorem v63 (h : Fin 4) (r : Fin 16384) : val_main_v63 (F := Ideal) x0 x1 x2 (ix2 h r) =
    back (score (qrow x0 h r) (krow x1 h)) (dprob x1 x2 h r) := by
  unfold val_main_v63
  show Ideal.hostReduceAdd reducesTo_S1x4x16384x1_S4x16384_d0_3 (val_main_v60 (F := Ideal) x0 x1 x2) (val_main_cst_11 (F := Ideal) (Shape.Idx.first h_S_)) (ix2 h r) = _
  unfold Ideal.hostReduceAdd
  rw [Finset.sum_eq_single (ix4 0 h r 0)]
  · rw [v60, show val_main_cst_11 (F := Ideal) (Shape.Idx.first h_S_) = 0 from Ideal.ofBits_zero .f32, zero_add]
  · intro b hb hne
    refine absurd ?_ hne
    have e := (Finset.mem_filter.1 hb).2
    have e1 : b 1 = h := Fin.ext (congrArg (fun i => (i 0).val) e)
    have e2 : b 2 = r := Fin.ext (congrArg (fun i => (i 1).val) e)
    have e0 : b 0 = (0 : Fin 1) := Subsingleton.elim (α := Fin 1) _ _
    have e3 : b 3 = (0 : Fin 1) := Subsingleton.elim (α := Fin 1) _ _
    funext a
    match a with | ⟨0, _⟩ => exact e0 | ⟨1, _⟩ => exact e1 | ⟨2, _⟩ => exact e2 | ⟨3, _⟩ => exact e3
  · intro hb
    refine absurd (Finset.mem_filter.2 ⟨Finset.mem_univ _, ?_⟩) hb
    funext a
    match a with | ⟨0, _⟩ => rfl | ⟨1, _⟩ => rfl
theorem v65 (h : Fin 4) (r : Fin 16384) (j : Fin 256) : val_main_v65 (F := Ideal) x0 x1 x2 (ix4 0 h r j) =
    back (score (qrow x0 h r) (krow x1 h)) (dprob x1 x2 h r) := by
  rw [val_main_v65_apply (F := Ideal), val_main_v64_apply (F := Ideal), show idx_main_v64 (idx_main_v65 (ix4 0 h r j)) = ix2 h r by blk_ext, v63]

/-- The gradient of a row's scores, as the reverse pass forms it. -/
def dscore (s dp : Fin 256 → EReal) (j : Fin 256) : EReal := (Ideal.div (dp j) (total s) + back s dp) * ew s j * scale

theorem v69 (h : Fin 4) (r : Fin 16384) (j : Fin 256) : val_main_v69 (F := Ideal) x0 x1 x2 (ix4 0 h r j) =
    dscore (score (qrow x0 h r) (krow x1 h)) (dprob x1 x2 h r) j := by
  rw [val_main_v69_apply (F := Ideal), val_main_v67_apply (F := Ideal), val_main_v66_apply (F := Ideal), v65, v39, val_main_v62_apply (F := Ideal), v52, val_main_v61_apply (F := Ideal),
    show idx_main_v61 (ix4 0 h r j) = ix4 0 h r 0 by blk_ext, v41, val_main_v68_apply (F := Ideal), val_main_cst_12_apply]
  rfl

theorem v54 (h : Fin 4) (j : Fin 256) (d : Fin 128) : val_main_v54 (F := Ideal) x0 x1 x2 (ix4 0 j h d) =
    ∑ r, grow x2 h r d * Ideal.div (ew (score (qrow x0 h r) (krow x1 h)) j) (total (score (qrow x0 h r) (krow x1 h))) := by
  pointwise [val_main_v54, val_main_v53, v51, v43]
theorem v71 (h : Fin 4) (j : Fin 256) (d : Fin 128) : val_main_v71 (F := Ideal) x0 x1 x2 (ix4 0 j h d) =
    ∑ r, dscore (score (qrow x0 h r) (krow x1 h)) (dprob x1 x2 h r) j * qrow x0 h r d := by
  pointwise [val_main_v71, val_main_v70, v69, v13]
theorem v73 (h : Fin 4) (r : Fin 16384) (d : Fin 128) : val_main_v73 (F := Ideal) x0 x1 x2 (ix4 0 r h d) =
    ∑ j, dscore (score (qrow x0 h r) (krow x1 h)) (dprob x1 x2 h r) j * krow x1 h j d := by
  pointwise [val_main_v73, val_main_v72, v69, v14]

theorem v78 (h : Fin 4) (r : Fin 16384) (d : Fin 128) : val_main_v78 (F := Ideal) x0 x1 x2 (ix2 r ⟨h * 128 + d, by omega⟩) =
    ∑ j, dscore (score (qrow x0 h r) (krow x1 h)) (dprob x1 x2 h r) j * krow x1 h j d := by
  rw [← v73]
  pointwise [val_main_v78, val_main_v76]
theorem v79 (h : Fin 4) (j : Fin 256) (d : Fin 128) : val_main_v79 (F := Ideal) x0 x1 x2 (ix2 j ⟨h * 128 + d, by omega⟩) =
    ∑ r, dscore (score (qrow x0 h r) (krow x1 h)) (dprob x1 x2 h r) j * qrow x0 h r d := by
  rw [← v71]
  pointwise [val_main_v79, val_main_v77, val_main_v75]
  exact dif_pos (by omega)
theorem v80 (h : Fin 4) (j : Fin 256) (d : Fin 128) : val_main_v80 (F := Ideal) x0 x1 x2 (ix2 j ⟨h * 128 + d, by omega⟩) =
    ∑ r, grow x2 h r d * Ideal.div (ew (score (qrow x0 h r) (krow x1 h)) j) (total (score (qrow x0 h r) (krow x1 h))) := by
  rw [← v54]
  pointwise [val_main_v80, val_main_v77, val_main_v74]
end Cert.MemReferenceIdeal.Read

end
-- ==== Proof.MemEquation.lean ====
module

public import proofs.«01_k».proof.Proof.MemArray
public import proofs.«01_k».proof.Proof.MemReference
public import proofs.«01_k».proof.Pre_mem_finite
public import Idealize.ShloMosaic.Lib.ReduceAll

@[expose] public section

set_option maxRecDepth 16384

noncomputable section

/-! The kernel's gradients of the memory's attention are the plain reverse pass's, where the arguments are finite. -/

namespace Cert.MemReferenceIdeal.Read

open Cert.MemReferenceIdeal Cert.MemReferenceIdeal.Gen Idealize.ShloMosaic
open Cert.MemKernelIdeal.Value (scale score weight prob grad queries keys vals cot dq dk dv probs grads hd)

theorem top_eq (s : Fin 256 → EReal) : top s = Finset.univ.fold max (Ideal.ofBits .f32 0xFF800000#32) s := by
  unfold top
  rw [Softmax.ofBits_bot]
  exact max_eq_right bot_le

theorem ew_eq (s : Fin 256 → EReal) : ew s = weight s :=
  funext fun j => by rw [ew, top_eq]; rfl

theorem total_eq (s : Fin 256 → EReal) : total s = ∑ l, weight s l := by
  rw [total, ew_eq]

/-- The scale is a real number. -/
theorem scale_real : ∃ r : ℝ, scale = r := ⟨_, rfl⟩

theorem score_real (q : Fin 128 → EReal) (k : Fin 256 → Fin 128 → EReal) (hq : ∀ d, ∃ r : ℝ, q d = r) (hk : ∀ j d, ∃ r : ℝ, k j d = r) (j : Fin 256) :
    ∃ r : ℝ, score q k j = r := by
  choose a ha using hq
  choose b hb using hk j
  obtain ⟨s, hs⟩ := scale_real
  refine ⟨(∑ d, a d * b d) * s, ?_⟩
  rw [score, hs, EReal.coe_mul, ← Softmax.coe_sum]
  exact congrArg (· * (s : EReal)) (Finset.sum_congr rfl fun d _ => by rw [ha, hb, EReal.coe_mul])

/-- The reverse pass's gradient of a row's scores is the kernel's. -/
theorem dscore_eq (s dp : Fin 256 → EReal) (hs : ∀ j, ∃ r : ℝ, s j = r) (hd : ∀ j, ∃ r : ℝ, dp j = r) (j : Fin 256) :
    dscore s dp j = grad (prob s) dp j := by
  obtain ⟨w, hw, e⟩ := Softmax.weight_real s hs
  have e' : ∀ j, weight s j = w j := fun j => by rw [weight, Softmax.ofBits_bot, e]
  choose d hd using hd
  rw [dscore, back, inv2, total_eq, ew_eq, grad]
  simp only [prob, e', hd]
  exact congrArg (· * scale) (Softmax.row_grad w d hw j)

variable (P : FVec Ideal S16384x6680 .f32) (M : FVec Ideal S256x1024 .f32) (g : FVec Ideal S16384x512 .f32)

/-- The head of a column, and its place in the head. -/
def hof (y : Fin 512) : Fin 4 := ⟨y / 128, by omega⟩
def dof (y : Fin 512) : Fin 128 := ⟨y % 128, by omega⟩

theorem col_eq (y : Fin 512) (h : (hof y : ℕ) * 128 + (dof y : ℕ) < 512) : (⟨(hof y : ℕ) * 128 + (dof y : ℕ), h⟩ : Fin 512) = y :=
  Fin.ext (Nat.div_add_mod' _ _)

theorem probs_eq (y : Fin 512) (r : Fin 16384) : probs (queries P) (keys M) y r = prob (score (qrow P (hof y) r) (krow M (hof y))) := rfl

theorem grads_eq (y : Fin 512) (r : Fin 16384) : grads (queries P) (keys M) (vals M) (cot g) y r =
    grad (prob (score (qrow P (hof y) r) (krow M (hof y)))) (dprob M g (hof y) r) := rfl

theorem queries_col (y : Fin 512) (r : Fin 16384) : queries P (ix2 r y) = qrow P (hof y) r (dof y) :=
  congrArg (fun n : Fin 512 => queries P (ix2 r n)) (col_eq y (by omega)).symm
theorem keys_col (y : Fin 512) (j : Fin 256) : keys M (ix2 j y) = krow M (hof y) j (dof y) :=
  congrArg (fun n : Fin 512 => keys M (ix2 j n)) (col_eq y (by omega)).symm
theorem cot_col (y : Fin 512) (r : Fin 16384) : cot g (ix2 r y) = grow g (hof y) r (dof y) :=
  congrArg (fun n : Fin 512 => cot g (ix2 r n)) (col_eq y (by omega)).symm

/-- The finiteness the equations need. -/
structure Finite : Prop where
  q (r : Fin 16384) (y : Fin 512) : ∃ x : ℝ, P (ix2 r ⟨3096 + y, by omega⟩) = x
  kv (j : Fin 256) (y : Fin 1024) : ∃ x : ℝ, M (ix2 j y) = x
  g (r : Fin 16384) (y : Fin 512) : ∃ x : ℝ, g (ix2 r y) = x

variable {P M g}

theorem dscore_grads (f : Finite P M g) (y : Fin 512) (r : Fin 16384) (j : Fin 256) :
    dscore (score (qrow P (hof y) r) (krow M (hof y))) (dprob M g (hof y) r) j = grads (queries P) (keys M) (vals M) (cot g) y r j := by
  rw [grads_eq]
  refine dscore_eq _ _ (score_real _ _ (fun d => f.q r ⟨hof y * 128 + d, by omega⟩) fun j d => f.kv j ⟨hof y * 128 + d, by omega⟩) (fun j => ?_) j
  choose a ha using fun d : Fin 128 => f.g r ⟨hof y * 128 + d, by omega⟩
  choose b hb using fun d : Fin 128 => f.kv j ⟨512 + (hof y * 128 + d), by omega⟩
  refine ⟨∑ d, a d * b d, ?_⟩
  rw [← Softmax.coe_sum]
  exact Finset.sum_congr rfl fun d _ => by rw [grow, vrow, ha, hb, EReal.coe_mul]

/-- The queries' gradients agree. -/
theorem dq_eq (f : Finite P M g) : val_main_v78 (F := Ideal) P M g = dq P M g := by
  funext z
  obtain ⟨r, y, rfl⟩ : ∃ (r : Fin 16384) (y : Fin 512), z = ix2 r y := ⟨z 0, z 1, by funext a; match a with | ⟨0, _⟩ => rfl | ⟨1, _⟩ => rfl⟩
  have e := v78 P M g (hof y) r (dof y)
  rw [col_eq] at e
  refine e.trans (Finset.sum_congr rfl fun j _ => ?_)
  rw [dscore_grads f, ← keys_col]
  rfl

/-- The keys' gradients agree. -/
theorem dk_eq (f : Finite P M g) : val_main_v79 (F := Ideal) P M g = dk P M g := by
  funext z
  obtain ⟨j, y, rfl⟩ : ∃ (j : Fin 256) (y : Fin 512), z = ix2 j y := ⟨z 0, z 1, by funext a; match a with | ⟨0, _⟩ => rfl | ⟨1, _⟩ => rfl⟩
  have e := v79 P M g (hof y) j (dof y)
  rw [col_eq] at e
  refine e.trans (Finset.sum_congr rfl fun r _ => ?_)
  rw [dscore_grads f, ← queries_col]
  rfl

/-- The values' gradients agree. -/
theorem dv_eq : val_main_v80 (F := Ideal) P M g = dv P M g := by
  funext z
  obtain ⟨j, y, rfl⟩ : ∃ (j : Fin 256) (y : Fin 512), z = ix2 j y := ⟨z 0, z 1, by funext a; match a with | ⟨0, _⟩ => rfl | ⟨1, _⟩ => rfl⟩
  have e := v80 P M g (hof y) j (dof y)
  rw [col_eq] at e
  refine e.trans (Finset.sum_congr rfl fun r _ => ?_)
  rw [mul_comm, ← cot_col, ew_eq, total_eq]
  rfl

instance : Subsingleton Cert.Pre_mem_finite.S_.Idx := ⟨fun a b => funext fun i => i.elim0⟩

/-- The precondition read: the arrays the gradients use are finite. -/
theorem finite_of (hP : Cert.Pre_mem_finite.Facts) (h : Cert.Pre_mem_finite.fn (F := Ideal) P M g = fun _ => 1#1) : Finite P M g := by
  have e := congrFun h (fun a => a.elim0)
  dsimp only [Cert.Pre_mem_finite.fn] at e
  obtain ⟨e, e3⟩ := IntOp.andi_eq_one.1 e
  obtain ⟨e1, e2⟩ := IntOp.andi_eq_one.1 e
  refine ⟨fun r y => ?_, fun j y => ?_, fun r y => ?_⟩
  · obtain ⟨x, hx⟩ := Softmax.real_of_olt Softmax.ofBits_top (Host.reduce_andi_all _ _ _ _ _ e1 (ix2 r y))
    exact ⟨x, Eq.trans (congrArg P (funext fun a => Fin.ext (by match a with | ⟨0, _⟩ => exact (Nat.zero_add _).symm | ⟨1, _⟩ => rfl))) hx⟩
  · exact Softmax.real_of_olt Softmax.ofBits_top (Host.reduce_andi_all _ _ _ _ _ e2 (ix2 j y))
  · exact Softmax.real_of_olt Softmax.ofBits_top (Host.reduce_andi_all _ _ _ _ _ e3 (ix2 r y))

end Cert.MemReferenceIdeal.Read

end
-- ==== Proof.FoxPlain.lean ====
module

public import proofs.«01_k».proof.Proof.Gen.FoxKernel.Skeleton
public import proofs.«01_k».proof.Proof.Gen.FoxKernel.Loops
public import proofs.«01_k».proof.Proof.Gen.FoxKernel.Frame
public import Idealize.ShloMosaic.Lib.Claim

@[expose] public section

set_option maxRecDepth 16384

noncomputable section

/-! The forgetting attention's backward as printed, on words: it ends, its arguments end unchanged. Nothing is said here of
    what it computes; its outputs are handed on at some contents. -/

namespace Cert.FoxKernel.Plain

open Cert.FoxKernel Cert.FoxKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is the first key tile of its head. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 8 = 0 := by decide +kernel

set_option maxHeartbeats 1000000 in
/-- The body at a head's first key tile. -/
theorem run_first (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S64x16384 .bf16) (harg4 : arg4.IsWhole) (arg5 : Memref sig .tc .vmem S64x16384 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S64x2048 .bf16) (harg8 : arg8.IsWhole) (arg9 : Memref sig .tc .vmem S64x16384 .f32) (harg9 : arg9.IsWhole) (arg10 : Memref sig .tc .vmem S1x8x16384 .f32) (harg10 : arg10.IsWhole) (arg11 : Memref sig .tc .vmem S64x2048 .bf16) (harg11 : arg11.IsWhole) (arg12 : Memref sig .tc .vmem S64x2048 .bf16) (harg12 : arg12.IsWhole) (arg13 : Memref sig .tc .vmem S1x1x2048 .f32) (harg13 : arg13.IsWhole) (hc : first i) (x0 : Vec F S16384x128 .bf16) (x1 : Vec F S16384x128 .bf16) (x2 : Vec F S64x16384 .bf16) (x3 : Vec F S64x16384 .bf16) (x4 : Vec F S2048x128 .bf16) (x5 : Vec F S2048x128 .bf16) (x6 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

set_option maxHeartbeats 1000000 in
/-- The body at a head's later key tiles. -/
theorem run_later (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S64x16384 .bf16) (harg4 : arg4.IsWhole) (arg5 : Memref sig .tc .vmem S64x16384 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S64x2048 .bf16) (harg8 : arg8.IsWhole) (arg9 : Memref sig .tc .vmem S64x16384 .f32) (harg9 : arg9.IsWhole) (arg10 : Memref sig .tc .vmem S1x8x16384 .f32) (harg10 : arg10.IsWhole) (arg11 : Memref sig .tc .vmem S64x2048 .bf16) (harg11 : arg11.IsWhole) (arg12 : Memref sig .tc .vmem S64x2048 .bf16) (harg12 : arg12.IsWhole) (arg13 : Memref sig .tc .vmem S1x1x2048 .f32) (harg13 : arg13.IsWhole) (hc : ¬ first i) (x0 : Vec F S16384x128 .bf16) (x1 : Vec F S16384x128 .bf16) (x2 : Vec F S64x16384 .bf16) (x3 : Vec F S64x16384 .bf16) (x4 : Vec F S2048x128 .bf16) (x5 : Vec F S2048x128 .bf16) (x6 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
    simp only [cc0_fox_bwd_eq_skeleton]; unfold cc0_fox_bwd_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The output windows. -/
def outputs : Fin 12 → Bool := fun w => w.val == 7 || w.val == 8 || w.val == 9 || w.val == 10 || w.val == 11

/-- The arrays as the region finds them; after the body each input's block as it was, and the outputs at contents without a name. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid0.coords t) _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outputs := fun t => by
  rw [bigSep_W0, bigSep_W0, defs₀_row]
  exact triple_restated (sound_body m c t) rfl .rfl fun _ => .rfl

/-- The buffers that the lines after the region write. -/
def later : Finset (Ref sig .tc) := {main_v131, main_v132, main_v133}

theorem later_writes : ∀ ops ∈ ([hostOps1] : List (List (HloOp τ sig (Elt F)))), ∀ op ∈ ops, ∀ b : Ref sig .tc, Proc.devRef .tc b ∈ op.writes → b ∈ later := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.reshape_writes, Finset.mem_singleton] at hb
    cases Proc.devRef_injective _ hb
    decide

set_option backward.isDefEq.respectTransparency.types false in
set_option maxHeartbeats 3200000 in
/-- The run: inputs as launched, outputs forgotten, every counter at zero. -/
theorem run_quiescent : θ_run defs (onTc (τ := τ) (main (F := F))) (s₀ m ρ)
    (fun r => (Pipeline.RDat.FramePostR (cfgs 0) (fun c => (dats m 0 c).toRForget outputs) later (Gen.V m)) r ∧ r.2.sem = fun _ => 0) :=
  Pipeline.θ_run_frame_around_T_forget (Q' := _) cfgs (dats m) (0 : Fin 1) launch0 defs₀ Variants.none outputs later m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps) (hT := later_writes)
    (hmain := hmain m Variants.none) (hA := A_eq m) (hΦ := fun _ _ => rfl)

/-- The arguments end unchanged and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c)⟩, h.2⟩) (run_quiescent m ρ)

end Cert.FoxKernel.Plain
-- ==== Proof.FoxBlock.lean ====
module

public import proofs.«01_k».proof.Proof.Gen.FoxKernelIdeal.Skeleton
public import Idealize.ShloMosaic.Lib.Pipeline.ValueKit
public import Idealize.ShloMosaic.Lib.Pipeline.ReadBack

@[expose] public section

set_option maxRecDepth 16384

noncomputable section

/-! What the body of the attention's backward computes of one tile of queries. -/

namespace Cert.FoxKernelIdeal.Value

open Cert.FoxKernelIdeal Cert.FoxKernelIdeal.Gen Idealize.ShloMosaic Idealize.ShloMosaic.TcCoe Idealize.SL.Sem

/-- The masked score. -/
theorem named_mask : Named.named (F := Ideal) Cert.FoxKernelIdeal.κ "mask" (φ := .f32) 0xF149F2CA#32 = (⊥ : EReal) :=
  IdealRules.named_const.ideal_named_scalar _ _ _ _ rfl

/-- The probability of query `x` and key `l` of key tile `j`. -/
def Pm (j : ℕ) (X0 : FVec Ideal S16384x128 .bf16) (X4 : FVec Ideal S2048x128 .bf16) (x : Fin 16384) (l : Fin 2048) : EReal :=
  if 2048 * j + l ≤ x then Ideal.exp2 (∑ c : Fin 128, X0 (ix2 x c) * X4 (ix2 l c)) else 0

/-- The gradient of its score. -/
def Gm (j : ℕ) (X0 X1 : FVec Ideal S16384x128 .bf16) (X4 X5 : FVec Ideal S2048x128 .bf16) (x : Fin 16384) (l : Fin 2048) : EReal :=
  Pm j X0 X4 x l * ∑ c : Fin 128, X1 (ix2 x c) * X5 (ix2 l c)

/-- Sixty-four rows with a row of ones below them, filled up with zeros. -/
def aug {n : ℕ} (X : (⟨2, ![64, n]⟩ : Shape).Idx → EReal) (y : Fin 80) (x : Fin n) : EReal :=
  if h : (y : ℕ) < 64 then X (ix2 ⟨y, h⟩ x) else if (y : ℕ) = 64 then 1 else 0

/-- Query `i` of query tile `n`. -/
def trow (n : ℕ) (hn : n < 32) (i : Fin 512) : Fin 16384 := ⟨512 * n + i, by omega⟩

/-- What key tile `j` gives to the gradients of query `x`. -/
def dqT (j : ℕ) (X0 X1 : FVec Ideal S16384x128 .bf16) (X4 X5 : FVec Ideal S2048x128 .bf16) (X6 : FVec Ideal S64x2048 .bf16) (y : Fin 80)
    (x : Fin 16384) : EReal := ∑ l : Fin 2048, aug X6 y l * Gm j X0 X1 X4 X5 x l

/-- What query tile `n` gives to the gradients of the keys. -/
def dkT (j : ℕ) (X0 X1 : FVec Ideal S16384x128 .bf16) (X2 : FVec Ideal S64x16384 .bf16) (X4 X5 : FVec Ideal S2048x128 .bf16) (n : ℕ) (y : Fin 80)
    (l : Fin 2048) : EReal := if hn : n < 32 then ∑ i : Fin 512, aug X2 y (trow n hn i) * Gm j X0 X1 X4 X5 (trow n hn i) l else 0

/-- What query tile `n` gives to the gradients of the values. -/
def dvT (j : ℕ) (X0 : FVec Ideal S16384x128 .bf16) (X3 : FVec Ideal S64x16384 .bf16) (X4 : FVec Ideal S2048x128 .bf16) (n : ℕ) (y : Fin 64)
    (l : Fin 2048) : EReal := if hn : n < 32 then ∑ i : Fin 512, X3 (ix2 y (trow n hn i)) * Pm j X0 X4 (trow n hn i) l else 0

theorem sge_eq (i l : Fin 512) : IntOp.cmpi .sge (BitVec.ofNat 32 i.val) (BitVec.ofNat 32 l.val) = if l ≤ i then 1#1 else 0#1 := by
  have e : BitVec.sle (BitVec.ofNat 32 l.val) (BitVec.ofNat 32 i.val) = decide (l ≤ i) := by
    have key : ∀ k : Fin 512, (BitVec.ofNat 32 k.val).toInt = (k.val : ℤ) := by decide +kernel
    rw [BitVec.sle_eq_decide, key, key]
    exact decide_eq_decide.mpr (by rw [Fin.le_def]; omega)
  show BitVec.ofBool (BitVec.sle (BitVec.ofNat 32 l.val) (BitVec.ofNat 32 i.val)) = _
  rw [e]
  by_cases h : l ≤ i
  · rw [if_pos h, decide_eq_true h]; rfl
  · rw [if_neg h, decide_eq_false h]; rfl

theorem tri_apply (i l : Fin 512) : k0_pay23 (ix2 i l) = if l ≤ i then 1#1 else 0#1 := by
  pointwise [k0_pay23]
  exact sge_eq i l

theorem ones_apply (y : Fin 16) (l : Fin 2048) : k0_pay19 (F := Ideal) (ix2 y l) = if (y : ℕ) = 0 then 1 else 0 := by
  pointwise [k0_pay19]
  have key : ∀ y : Fin 16, IntOp.cmpi .eq (BitVec.ofNat 32 y.val) 0#32 = if (y : ℕ) = 0 then 1#1 else 0#1 := by decide +kernel
  rw [key]
  by_cases h : (y : ℕ) = 0
  · rw [if_pos h, if_pos h]
    show (((1 : ℤ) : ℝ) : EReal) = 1
    norm_num
  · rw [if_neg h, if_neg h]
    show (((0 : ℤ) : ℝ) : EReal) = 0
    norm_num

theorem zero80 (z : S80x2048.Idx) : k0_pay24 (F := Ideal) z = 0 := by pointwise [k0_pay24]
theorem zero64 (z : S64x2048.Idx) : k0_pay25 (F := Ideal) z = 0 := by pointwise [k0_pay25]

theorem exp2_select (p : Prop) [Decidable p] (a : EReal) :
    (FloatOps.exp2 (F := Ideal) (φ := .f32) (Scalar.select (if p then 1#1 else 0#1) a (Named.named (F := Ideal) Cert.FoxKernelIdeal.κ "mask" (φ := .f32) 0xF149F2CA#32)) : EReal)
      = if p then Ideal.exp2 a else 0 := by
  rw [named_mask]
  by_cases h : p
  · rw [if_pos h, if_pos h]; rfl
  · rw [if_neg h, if_neg h]; exact Ideal.exp2_bot

/-- The columns past which every summand is zero may be left out. -/
theorem sum_cut {w : ℕ} (hw : w ≤ 2048) (f : Fin 2048 → EReal) (h : ∀ l : Fin 2048, w ≤ (l : ℕ) → f l = 0) :
    ∑ l : Fin w, f ⟨l, by omega⟩ = ∑ l : Fin 2048, f l := by
  refine Finset.sum_of_injOn (fun l : Fin w => (⟨l, by omega⟩ : Fin 2048)) ?_ ?_ ?_ ?_
  · intro a _ b _ e; exact Fin.ext (Fin.mk.inj_iff.1 e)
  · intro a _; exact Finset.mem_coe.2 (Finset.mem_univ _)
  · intro l _ hl
    refine h l ?_
    by_contra hlt
    exact hl ⟨⟨l, by omega⟩, Finset.mem_coe.2 (Finset.mem_univ _), rfl⟩
  · intro a _; rfl

section
variable {j n : ℕ} {hn : n < 32} {X0 X1 : FVec Ideal S16384x128 .bf16} {X2 X3 : FVec Ideal S64x16384 .bf16} {X4 X5 : FVec Ideal S2048x128 .bf16} {X6 : FVec Ideal S64x2048 .bf16}
  {q g : FVec Ideal S512x128 .bf16} {qt gt : FVec Ideal S64x512 .bf16}

theorem Pm_zero {x : Fin 16384} {l : Fin 2048} (h : (x : ℕ) < 2048 * j + l) : Pm j X0 X4 x l = 0 := if_neg (by omega)
theorem Gm_zero {x : Fin 16384} {l : Fin 2048} (h : (x : ℕ) < 2048 * j + l) : Gm j X0 X1 X4 X5 x l = 0 := by
  rw [Gm, Pm_zero h, zero_mul]

theorem keys_apply (y : Fin 80) (l : Fin 2048) : k0_pay22 (F := Ideal) X6 (ix2 y l) = aug X6 y l := by
  pointwise [k0_pay22, ones_apply, aug]
  by_cases h : (y : ℕ) < 64
  · rw [dif_pos h, dif_pos h]
  · rw [dif_neg h, dif_neg h]
    exact if_congr (by omega) rfl rfl

end

section
variable {j n : ℕ} {hn : n < 32} {X0 X1 : FVec Ideal S16384x128 .bf16} {X4 X5 : FVec Ideal S2048x128 .bf16} {X6 : FVec Ideal S64x2048 .bf16}
  {q g : FVec Ideal S512x128 .bf16} (hq : ∀ i c, q (ix2 i c) = X0 (ix2 (trow n hn i) c)) (hg : ∀ i c, g (ix2 i c) = X1 (ix2 (trow n hn i) c))
include hq
theorem p0 (e : n = 4 * j) (i l : Fin 512) : k0_pay26 (F := Ideal) X4 q (ix2 i l) = Pm j X0 X4 (trow n hn i) ⟨l, by omega⟩ := by
  pointwise [k0_pay26, k0_pay20, tri_apply]
  rw [exp2_select]
  simp only [hq, Pm]
  exact if_congr (by simp only [trow, Fin.le_def]; omega) rfl rfl

theorem p1 (e : n = 4 * j + 1) (i : Fin 512) (l : Fin 1024) : k0_pay34 (F := Ideal) X4 k0_pay23 q (ix2 i l) = Pm j X0 X4 (trow n hn i) ⟨l, by omega⟩ := by
  pointwise [k0_pay34, tri_apply]
  simp only [hq, Pm, trow]
  by_cases h : (l : ℕ) < 512
  · rw [dif_pos h]; exact (if_pos (by omega)).symm
  · rw [dif_neg h, exp2_select]
    refine if_congr (by rw [Fin.le_def]; show (l : ℕ) - 512 ≤ i ↔ _; omega) ?_ rfl
    simp only [show 512 + ((l : ℕ) - 512) = l by omega]

theorem p2 (e : n = 4 * j + 2) (i : Fin 512) (l : Fin 1536) : k0_pay42 (F := Ideal) X4 k0_pay23 q (ix2 i l) = Pm j X0 X4 (trow n hn i) ⟨l, by omega⟩ := by
  pointwise [k0_pay42, tri_apply]
  simp only [hq, Pm, trow]
  by_cases h : (l : ℕ) < 1024
  · rw [dif_pos h]; exact (if_pos (by omega)).symm
  · rw [dif_neg h, exp2_select]
    refine if_congr (by rw [Fin.le_def]; show (l : ℕ) - 1024 ≤ i ↔ _; omega) ?_ rfl
    simp only [show 1024 + ((l : ℕ) - 1024) = l by omega]

theorem p3 (e : n = 4 * j + 3) (i : Fin 512) (l : Fin 2048) : k0_pay50 (F := Ideal) X4 k0_pay23 q (ix2 i l) = Pm j X0 X4 (trow n hn i) l := by
  pointwise [k0_pay50, tri_apply]
  simp only [hq, Pm, trow]
  by_cases h : (l : ℕ) < 1536
  · rw [dif_pos h]; exact (if_pos (by omega)).symm
  · rw [dif_neg h, exp2_select]
    refine if_congr (by rw [Fin.le_def]; show (l : ℕ) - 1536 ≤ i ↔ _; omega) ?_ rfl
    simp only [show 1536 + ((l : ℕ) - 1536) = l by omega]

theorem p4 (e : 4 * j + 4 ≤ n) (i : Fin 512) (l : Fin 2048) : k0_pay3 (F := Ideal) X4 q (ix2 i l) = Pm j X0 X4 (trow n hn i) l := by
  pointwise [k0_pay3]
  simp only [hq, Pm, trow]
  exact (if_pos (by omega)).symm

omit hq
include hg

theorem dq_sum {w : ℕ} (hw : w ≤ 2048) (e : 512 * n + 512 ≤ 2048 * j + w) (y : Fin 80) (i : Fin 512) (P : Fin w → EReal)
    (hP : ∀ l, P l = Pm j X0 X4 (trow n hn i) ⟨l, by omega⟩) :
    ∑ l : Fin w, aug X6 y ⟨l, by omega⟩ * (P l * ∑ c : Fin 128, g (ix2 i c) * X5 (ix2 ⟨l, by omega⟩ c)) = dqT j X0 X1 X4 X5 X6 y (trow n hn i) := by
  rw [dqT, ← sum_cut hw _ fun l hl => by rw [Gm_zero (by simp only [trow]; omega), mul_zero]]
  exact Finset.sum_congr rfl fun l _ => by rw [hP, Gm]; simp only [hg]

include hq

/-! The gradients of the queries: a tile's block with what the key tile gives. -/

theorem D0 (e : n = 4 * j) (y : Fin 80) (i : Fin 512) :
    k0_pay29 (F := Ideal) (k0_pay22 X6) (k0_pay26 X4 q) (k0_pay27 X5 g) (ix2 y i) = dqT j X0 X1 X4 X5 X6 y (trow n hn i) := by
  pointwise [k0_pay29, k0_pay28, k0_pay27, k0_pay21, keys_apply]
  exact dq_sum hg (by omega) (by omega) y i _ (p0 hq e i)

theorem D1 (e : n = 4 * j + 1) (y : Fin 80) (i : Fin 512) :
    k0_pay36 (F := Ideal) X4 X5 (k0_pay22 X6) k0_pay23 q g (ix2 y i) = dqT j X0 X1 X4 X5 X6 y (trow n hn i) := by
  pointwise [k0_pay36, k0_pay35, keys_apply]
  exact dq_sum hg (by omega) (by omega) y i _ (p1 hq e i)

theorem D2 (e : n = 4 * j + 2) (y : Fin 80) (i : Fin 512) :
    k0_pay44 (F := Ideal) X4 X5 (k0_pay22 X6) k0_pay23 q g (ix2 y i) = dqT j X0 X1 X4 X5 X6 y (trow n hn i) := by
  pointwise [k0_pay44, k0_pay43, keys_apply]
  exact dq_sum hg (by omega) (by omega) y i _ (p2 hq e i)

theorem D3 (e : n = 4 * j + 3) (y : Fin 80) (i : Fin 512) :
    k0_pay52 (F := Ideal) (k0_pay22 X6) (k0_pay51 X4 X5 k0_pay23 q g) (ix2 y i) = dqT j X0 X1 X4 X5 X6 y (trow n hn i) := by
  pointwise [k0_pay52, k0_pay51, keys_apply]
  exact dq_sum hg (by omega) (by omega) y i _ (p3 hq e i)

theorem D4 (e : 4 * j + 4 ≤ n) (y : Fin 80) (i : Fin 512) :
    k0_pay5 (F := Ideal) X4 X5 (k0_pay22 X6) q g (ix2 y i) = dqT j X0 X1 X4 X5 X6 y (trow n hn i) := by
  pointwise [k0_pay5, k0_pay4, keys_apply]
  refine (Finset.sum_congr rfl fun l _ => ?_)
  rw [p4 hq e, Gm]; simp only [hg]

end

section
variable {j n : ℕ} {hn : n < 32} {X0 X1 : FVec Ideal S16384x128 .bf16} {X2 X3 : FVec Ideal S64x16384 .bf16} {X4 X5 : FVec Ideal S2048x128 .bf16}
  {q g : FVec Ideal S512x128 .bf16} {qt gt : FVec Ideal S64x512 .bf16} (hq : ∀ i c, q (ix2 i c) = X0 (ix2 (trow n hn i) c))
  (hg : ∀ i c, g (ix2 i c) = X1 (ix2 (trow n hn i) c)) (hqt : ∀ y i, qt (ix2 y i) = X2 (ix2 y (trow n hn i)))
  (hgt : ∀ y i, gt (ix2 y i) = X3 (ix2 y (trow n hn i)))

include hqt in
theorem aug_tile (y : Fin 80) (i : Fin 512) :
    (if h : (y : ℕ) < 64 then qt (ix2 ⟨y, h⟩ i) else if (y : ℕ) - 64 = 0 then 1 else 0) = aug X2 y (trow n hn i) := by
  rw [aug]
  by_cases h : (y : ℕ) < 64
  · rw [dif_pos h, dif_pos h, hqt]
  · rw [dif_neg h, dif_neg h]
    exact if_congr (show (y : ℕ) - 64 = 0 ↔ _ by omega) rfl rfl

include hg hqt in
/-- A tile of queries against one key, where the tile's rows of probabilities are known. -/
theorem dk_tile (y : Fin 80) (l : Fin 2048) (P : Fin 512 → EReal) (hP : ∀ i, P i = Pm j X0 X4 (trow n hn i) l) :
    ∑ i : Fin 512, (if h : (y : ℕ) < 64 then qt (ix2 ⟨y, h⟩ i) else if (y : ℕ) - 64 = 0 then 1 else 0) *
      (P i * ∑ c : Fin 128, g (ix2 i c) * X5 (ix2 l c)) = dkT j X0 X1 X2 X4 X5 n y l := by
  rw [dkT, dif_pos hn]
  exact Finset.sum_congr rfl fun i _ =>
    congrArg₂ (· * ·) (aug_tile hqt y i) (congrArg₂ (· * ·) (hP i) (Finset.sum_congr rfl fun c _ => congrArg (· * _) (hg i c)))

include hgt in
theorem dv_tile (y : Fin 64) (l : Fin 2048) (P : Fin 512 → EReal) (hP : ∀ i, P i = Pm j X0 X4 (trow n hn i) l) :
    ∑ i : Fin 512, gt (ix2 y i) * P i = dvT j X0 X3 X4 n y l := by
  rw [dvT, dif_pos hn]
  exact Finset.sum_congr rfl fun i _ => congrArg₂ (· * ·) (hgt y i) (hP i)

/-- A key past every query of the tile has nothing from it. -/
theorem dk_none (y : Fin 80) {l : Fin 2048} (h : 512 * n + 512 ≤ 2048 * j + l) : dkT j X0 X1 X2 X4 X5 n y l = 0 := by
  rw [dkT]
  split_ifs with hn
  · exact Finset.sum_eq_zero fun i _ => by rw [Gm_zero (by simp only [trow]; omega), mul_zero]
  · rfl

theorem dv_none (y : Fin 64) {l : Fin 2048} (h : 512 * n + 512 ≤ 2048 * j + l) : dvT j X0 X3 X4 n y l = 0 := by
  rw [dvT]
  split_ifs with hn
  · exact Finset.sum_eq_zero fun i _ => by rw [Pm_zero (by simp only [trow]; omega), mul_zero]
  · rfl

/-- Columns past the width of a product keep what they held. -/
theorem wide_eq {w : ℕ} {l : Fin 2048} {a c : EReal} {S : (l : ℕ) < w → EReal} {B : ¬(l : ℕ) < w → EReal} (h1 : ∀ h, S h = a + c) (h2 : ∀ h, B h = a)
    (h3 : ¬(l : ℕ) < w → c = 0) : (if h : (l : ℕ) < w then S h else B h) = a + c := by
  by_cases h : (l : ℕ) < w
  · rw [dif_pos h, h1 h]
  · rw [dif_neg h, h2 h, h3 h, add_zero]

theorem col_eq {Y : ℕ} (a : (⟨2, ![Y, 2048]⟩ : Shape).Idx → EReal) (y : Fin Y) {w : ℕ} (l : Fin 2048) (h : w + ((l : ℕ) - w) < 2048) (hl : ¬(l : ℕ) < w) :
    a (ix2 y ⟨w + ((l : ℕ) - w), h⟩) = a (ix2 y l) := by
  simp only [show w + ((l : ℕ) - w) = l by omega]

section
include hq hg hqt

theorem C0 (e : n = 4 * j) (a : FVec Ideal S80x2048 .f32) (y : Fin 80) (l : Fin 2048) :
    k0_pay32 (F := Ideal) k0_pay19 a (k0_pay26 X4 q) (k0_pay27 X5 g) qt (ix2 y l) = a (ix2 y l) + dkT j X0 X1 X2 X4 X5 n y l := by
  pointwise [k0_pay32, k0_pay28, k0_pay27, k0_pay21, ones_apply]
  exact wide_eq (fun h => congrArg (a (ix2 y l) + ·) (dk_tile hg hqt y l _ fun i => p0 hq e i ⟨l, h⟩)) (fun h => col_eq a y l (by omega) h)
    fun h => dk_none y (by omega)

theorem C1 (e : n = 4 * j + 1) (a : FVec Ideal S80x2048 .f32) (y : Fin 80) (l : Fin 2048) :
    k0_pay40 (F := Ideal) a (k0_pay39 k0_pay19 X4 X5 k0_pay23 q g qt) (ix2 y l) = a (ix2 y l) + dkT j X0 X1 X2 X4 X5 n y l := by
  pointwise [k0_pay40, k0_pay39, k0_pay35, ones_apply]
  exact wide_eq (fun h => congrArg (a (ix2 y l) + ·) (dk_tile hg hqt y l _ fun i => p1 hq e i ⟨l, h⟩)) (fun h => col_eq a y l (by omega) h)
    fun h => dk_none y (by omega)

theorem C2 (e : n = 4 * j + 2) (a : FVec Ideal S80x2048 .f32) (y : Fin 80) (l : Fin 2048) :
    k0_pay48 (F := Ideal) k0_pay19 a (k0_pay43 X4 X5 k0_pay23 q g) qt (ix2 y l) = a (ix2 y l) + dkT j X0 X1 X2 X4 X5 n y l := by
  pointwise [k0_pay48, k0_pay43, ones_apply]
  exact wide_eq (fun h => congrArg (a (ix2 y l) + ·) (dk_tile hg hqt y l _ fun i => p2 hq e i ⟨l, h⟩)) (fun h => col_eq a y l (by omega) h)
    fun h => dk_none y (by omega)

theorem C3 (e : n = 4 * j + 3) (a : FVec Ideal S80x2048 .f32) (y : Fin 80) (l : Fin 2048) :
    k0_pay55 (F := Ideal) k0_pay19 a (k0_pay51 X4 X5 k0_pay23 q g) qt (ix2 y l) = a (ix2 y l) + dkT j X0 X1 X2 X4 X5 n y l := by
  pointwise [k0_pay55, k0_pay51, ones_apply]
  exact congrArg (a (ix2 y l) + ·) (dk_tile hg hqt y l _ fun i => p3 hq e i l)

theorem C4 (e : 4 * j + 4 ≤ n) (y : Fin 80) (l : Fin 2048) :
    k0_pay8 (F := Ideal) k0_pay19 X4 X5 q g qt (ix2 y l) = dkT j X0 X1 X2 X4 X5 n y l := by
  pointwise [k0_pay8, k0_pay4, ones_apply]
  exact dk_tile hg hqt y l _ fun i => p4 hq e i l

end

section
include hq hgt

theorem V0 (e : n = 4 * j) (a : FVec Ideal S64x2048 .f32) (y : Fin 64) (l : Fin 2048) :
    k0_pay33 (F := Ideal) a (k0_pay26 X4 q) gt (ix2 y l) = a (ix2 y l) + dvT j X0 X3 X4 n y l := by
  pointwise [k0_pay33]
  exact wide_eq (fun h => congrArg (a (ix2 y l) + ·) (dv_tile hgt y l _ fun i => p0 hq e i ⟨l, h⟩)) (fun h => col_eq a y l (by omega) h)
    fun h => dv_none y (by omega)

theorem V1 (e : n = 4 * j + 1) (a : FVec Ideal S64x2048 .f32) (y : Fin 64) (l : Fin 2048) :
    k0_pay41 (F := Ideal) a (k0_pay34 X4 k0_pay23 q) gt (ix2 y l) = a (ix2 y l) + dvT j X0 X3 X4 n y l := by
  pointwise [k0_pay41]
  exact wide_eq (fun h => congrArg (a (ix2 y l) + ·) (dv_tile hgt y l _ fun i => p1 hq e i ⟨l, h⟩)) (fun h => col_eq a y l (by omega) h)
    fun h => dv_none y (by omega)

theorem V2 (e : n = 4 * j + 2) (a : FVec Ideal S64x2048 .f32) (y : Fin 64) (l : Fin 2048) :
    k0_pay49 (F := Ideal) a (k0_pay42 X4 k0_pay23 q) gt (ix2 y l) = a (ix2 y l) + dvT j X0 X3 X4 n y l := by
  pointwise [k0_pay49]
  exact wide_eq (fun h => congrArg (a (ix2 y l) + ·) (dv_tile hgt y l _ fun i => p2 hq e i ⟨l, h⟩)) (fun h => col_eq a y l (by omega) h)
    fun h => dv_none y (by omega)

theorem V3 (e : n = 4 * j + 3) (a : FVec Ideal S64x2048 .f32) (y : Fin 64) (l : Fin 2048) :
    k0_pay56 (F := Ideal) a (k0_pay50 X4 k0_pay23 q) gt (ix2 y l) = a (ix2 y l) + dvT j X0 X3 X4 n y l := by
  pointwise [k0_pay56]
  exact congrArg (a (ix2 y l) + ·) (dv_tile hgt y l _ fun i => p3 hq e i l)

theorem V4 (e : 4 * j + 4 ≤ n) (y : Fin 64) (l : Fin 2048) : k0_pay9 (F := Ideal) X4 q gt (ix2 y l) = dvT j X0 X3 X4 n y l := by
  pointwise [k0_pay9]
  exact dv_tile hgt y l _ fun i => p4 hq e i l

end

end

/-! A tile's stored blocks. -/

theorem A0 (k : FVec Ideal S80x2048 .bf16) (P G : FVec Ideal S512x512 .f32) (a : FVec Ideal S64x512 .f32) (y : Fin 64) (i : Fin 512) :
    k0_pay30 (F := Ideal) k P G a (ix2 y i) = a (ix2 y i) + k0_pay29 k P G (ix2 ⟨y, by omega⟩ i) := by pointwise [k0_pay30]
theorem A1 (X4 X5 : FVec Ideal S2048x128 .bf16) (k : FVec Ideal S80x2048 .bf16) (T : IVec S512x512 1) (q g : FVec Ideal S512x128 .bf16)
    (a : FVec Ideal S64x512 .f32) (y : Fin 64) (i : Fin 512) :
    k0_pay37 (F := Ideal) X4 X5 k T q g a (ix2 y i) = a (ix2 y i) + k0_pay36 X4 X5 k T q g (ix2 ⟨y, by omega⟩ i) := by pointwise [k0_pay37]
theorem A2 (X4 X5 : FVec Ideal S2048x128 .bf16) (k : FVec Ideal S80x2048 .bf16) (T : IVec S512x512 1) (q g : FVec Ideal S512x128 .bf16)
    (a : FVec Ideal S64x512 .f32) (y : Fin 64) (i : Fin 512) :
    k0_pay45 (F := Ideal) X4 X5 k T q g a (ix2 y i) = a (ix2 y i) + k0_pay44 X4 X5 k T q g (ix2 ⟨y, by omega⟩ i) := by pointwise [k0_pay45]
theorem A3 (k : FVec Ideal S80x2048 .bf16) (G : FVec Ideal S512x2048 .bf16) (a : FVec Ideal S64x512 .f32) (y : Fin 64) (i : Fin 512) :
    k0_pay53 (F := Ideal) k G a (ix2 y i) = a (ix2 y i) + k0_pay52 k G (ix2 ⟨y, by omega⟩ i) := by pointwise [k0_pay53]
theorem A4 (X4 X5 : FVec Ideal S2048x128 .bf16) (k : FVec Ideal S80x2048 .bf16) (q g : FVec Ideal S512x128 .bf16) (a : FVec Ideal S64x512 .f32)
    (y : Fin 64) (i : Fin 512) :
    k0_pay6 (F := Ideal) X4 X5 k q g a (ix2 y i) = a (ix2 y i) + k0_pay5 X4 X5 k q g (ix2 ⟨y, by omega⟩ i) := by pointwise [k0_pay6]

theorem R0 (k : FVec Ideal S80x2048 .bf16) (P G : FVec Ideal S512x512 .f32) (a : FVec Ideal S1x8x512 .f32) (y : Fin 8) (i : Fin 512) :
    k0_pay31 (F := Ideal) k P G a (ix3 0 y i) = a (ix3 0 y i) + k0_pay29 k P G (ix2 ⟨64 + y, by omega⟩ i) := by pointwise [k0_pay31]
theorem R1 (X4 X5 : FVec Ideal S2048x128 .bf16) (k : FVec Ideal S80x2048 .bf16) (T : IVec S512x512 1) (q g : FVec Ideal S512x128 .bf16)
    (a : FVec Ideal S1x8x512 .f32) (y : Fin 8) (i : Fin 512) :
    k0_pay38 (F := Ideal) X4 X5 k T q g a (ix3 0 y i) = a (ix3 0 y i) + k0_pay36 X4 X5 k T q g (ix2 ⟨64 + y, by omega⟩ i) := by pointwise [k0_pay38]
theorem R2 (D : FVec Ideal S80x512 .f32) (a : FVec Ideal S1x8x512 .f32) (y : Fin 8) (i : Fin 512) :
    k0_pay47 (F := Ideal) D (k0_pay46 a) (ix3 0 y i) = a (ix3 0 y i) + D (ix2 ⟨64 + y, by omega⟩ i) := by pointwise [k0_pay47, k0_pay46]
theorem R3 (k : FVec Ideal S80x2048 .bf16) (G : FVec Ideal S512x2048 .bf16) (a : FVec Ideal S1x8x512 .f32) (y : Fin 8) (i : Fin 512) :
    k0_pay54 (F := Ideal) k G a (ix3 0 y i) = a (ix3 0 y i) + k0_pay52 k G (ix2 ⟨64 + y, by omega⟩ i) := by pointwise [k0_pay54]
theorem R4 (X4 X5 : FVec Ideal S2048x128 .bf16) (k : FVec Ideal S80x2048 .bf16) (q g : FVec Ideal S512x128 .bf16) (a : FVec Ideal S1x8x512 .f32)
    (y : Fin 8) (i : Fin 512) :
    k0_pay7 (F := Ideal) X4 X5 k q g a (ix3 0 y i) = a (ix3 0 y i) + k0_pay5 X4 X5 k q g (ix2 ⟨64 + y, by omega⟩ i) := by pointwise [k0_pay7]

end Cert.FoxKernelIdeal.Value
end
-- ==== Proof.FoxTrip.lean ====
module

public import proofs.«01_k».proof.Proof.FoxBlock
public import proofs.«01_k».proof.Proof.Gen.FoxKernelIdeal.Loops
public import Idealize.ShloMosaic.Lib.WritesUnit
public import Idealize.ShloMosaic.Lib.VecWindow

@[expose] public section

set_option maxRecDepth 16384

noncomputable section

/-! The loop over the query tiles after the diagonal ones: what it leaves in the two accumulated
    blocks and what it carries. -/

namespace Cert.FoxKernelIdeal.Value

open Cert.FoxKernelIdeal Cert.FoxKernelIdeal.Gen Idealize.ShloMosaic Idealize.ShloMosaic.TcCoe Idealize.SL.Sem

/-! Where the tiles lie. -/

theorem off1_eq (i : grid0.Coords) (r : Fin 4) : k0_off1 i (BitVec.ofNat 32 r.val) = ![512 * (4 * (i 1).val + r), 0] := by
  have key : ∀ (j : Fin 8) (r : Fin 4), (Scalar.indexCast (Scalar.muli (Scalar.addi (Scalar.muli (BitVec.ofNat 32 j.val) 4#32) (BitVec.ofNat 32 r.val)) 512#32)).toNat
      = 512 * (4 * j.val + r) := by decide +kernel
  exact congrArg (![·, 0]) (key (i 1) r)
theorem off2_eq (i : grid0.Coords) (r : Fin 4) : k0_off2 i (BitVec.ofNat 32 r.val) = ![0, 512 * (4 * (i 1).val + r)] :=
  congrArg (![0, ·]) (congrFun (off1_eq i r) 0)
theorem off3_eq (i : grid0.Coords) (r : Fin 4) : k0_off3 i (BitVec.ofNat 32 r.val) = ![0, 0, 512 * (4 * (i 1).val + r)] :=
  congrArg (![0, 0, ·]) (congrFun (off1_eq i r) 0)

theorem trips1 (i : grid0.Coords) : (k0_t1_loop i).trips = 28 - 4 * (i 1).val := by
  have key : ∀ j : Fin 8, Scf.trips (Scalar.muli (Scalar.addi (BitVec.ofNat 32 j.val) 1#32) 4#32)
      (Scalar.addi (Scalar.muli (Scalar.addi (BitVec.ofNat 32 j.val) 1#32) 4#32)
        (Scalar.muli (Scalar.divsi (Scalar.subi 32#32 (Scalar.muli (Scalar.addi (BitVec.ofNat 32 j.val) 1#32) 4#32)) 1#32) 1#32)) 1#32
      = 28 - 4 * j.val := by decide +kernel
  exact key (i 1)

theorem off4_eq (i : grid0.Coords) (k : Fin (k0_t1_loop i).trips) : k0_off4 i k = ![512 * (4 * (i 1).val + 4 + k.val), 0] := by
  have key : ∀ (j : Fin 8) (k : Fin 28), k.val < 28 - 4 * j.val → (Scalar.indexCast (Scalar.muli (Scf.iv (Scalar.muli (Scalar.addi (BitVec.ofNat 32 j.val) 1#32) 4#32) 1#32 k.val) 512#32)).toNat
      = 512 * (4 * j.val + 4 + k.val) := by decide +kernel
  have hk : k.val < 28 - 4 * (i 1).val := trips1 i ▸ k.isLt
  exact congrArg (![·, 0]) (key (i 1) ⟨k.val, by omega⟩ hk)
theorem off5_eq (i : grid0.Coords) (k : Fin (k0_t1_loop i).trips) : k0_off5 i k = ![0, 512 * (4 * (i 1).val + 4 + k.val)] :=
  congrArg (![0, ·]) (congrFun (off4_eq i k) 0)
theorem off6_eq (i : grid0.Coords) (k : Fin (k0_t1_loop i).trips) : k0_off6 i k = ![0, 0, 512 * (4 * (i 1).val + 4 + k.val)] :=
  congrArg (![0, 0, ·]) (congrFun (off4_eq i k) 0)

/-! A tile read. -/

section
variable {κ : Kind} {sp : Space} {φ : EltTy} {n : ℕ} (hn : n < 32)

theorem rows_read (v : View sig κ sp S16384x128 φ) (f : v.ty.Contents (Elt Ideal)) {off : Fin 2 → ℕ} (inb : ∀ a, off a + S512x128.size a ≤ S16384x128.size a)
    (e : off = ![512 * n, 0]) (i : Fin 512) (c : Fin 128) :
    v.readAt (Elt Ideal) (Rect.unit (s := S16384x128) off S512x128.size inb).toLoadRect f (ix2 i c) = v.read (Elt Ideal) f (ix2 (trow n hn i) c) := by
  subst e
  refine congrArg (v.read (Elt Ideal) f) (funext fun a => Fin.ext ?_)
  match a with
  | ⟨0, _⟩ => show 512 * n + 1 * i.val = 512 * n + i.val; omega
  | ⟨1, _⟩ => show 0 + 1 * c.val = c.val; omega
theorem cols_read (v : View sig κ sp S64x16384 φ) (f : v.ty.Contents (Elt Ideal)) {off : Fin 2 → ℕ} (inb : ∀ a, off a + S64x512.size a ≤ S64x16384.size a)
    (e : off = ![0, 512 * n]) (y : Fin 64) (i : Fin 512) :
    v.readAt (Elt Ideal) (Rect.unit (s := S64x16384) off S64x512.size inb).toLoadRect f (ix2 y i) = v.read (Elt Ideal) f (ix2 y (trow n hn i)) := by
  subst e
  refine congrArg (v.read (Elt Ideal) f) (funext fun a => Fin.ext ?_)
  match a with
  | ⟨0, _⟩ => show 0 + 1 * y.val = y.val; omega
  | ⟨1, _⟩ => show 512 * n + 1 * i.val = 512 * n + i.val; omega
theorem sums_read (v : View sig κ sp S1x8x16384 φ) (f : v.ty.Contents (Elt Ideal)) {off : Fin 3 → ℕ} (inb : ∀ a, off a + S1x8x512.size a ≤ S1x8x16384.size a)
    (e : off = ![0, 0, 512 * n]) (y : Fin 8) (i : Fin 512) :
    v.readAt (Elt Ideal) (Rect.unit (s := S1x8x16384) off S1x8x512.size inb).toLoadRect f (ix3 0 y i) = v.read (Elt Ideal) f (ix3 0 y (trow n hn i)) := by
  subst e
  refine congrArg (v.read (Elt Ideal) f) (funext fun a => Fin.ext ?_)
  match a with
  | ⟨0, _⟩ => show 0 + 1 * 0 = 0; omega
  | ⟨1, _⟩ => show 0 + 1 * y.val = y.val; omega
  | ⟨2, _⟩ => show 512 * n + 1 * i.val = 512 * n + i.val; omega
end

/-! The accumulated blocks, of whose columns those of the tiles from `m` to `n` have had their share. -/

def dqAt (m n : ℕ) (T : Fin 80 → Fin 16384 → EReal) (d : S64x16384.Idx → EReal) (y : Fin 64) (x : Fin 16384) : EReal :=
  if 512 * m ≤ (x : ℕ) ∧ (x : ℕ) < 512 * n then d (ix2 y x) + T ⟨y, by omega⟩ x else d (ix2 y x)
def rsAt (m n : ℕ) (T : Fin 80 → Fin 16384 → EReal) (d : S1x8x16384.Idx → EReal) (y : Fin 8) (x : Fin 16384) : EReal :=
  if 512 * m ≤ (x : ℕ) ∧ (x : ℕ) < 512 * n then d (ix3 0 y x) + T ⟨64 + y, by omega⟩ x else d (ix3 0 y x)

section
variable {κ : Kind} {sp : Space} {m n : ℕ} {hn : n < 32} {T : Fin 80 → Fin 16384 → EReal}

theorem dq_step (v : View sig κ sp S64x16384 .f32) (f : v.ty.Contents (Elt Ideal)) {L : List (View.Piece (Elt Ideal) S64x16384 .f32)} {d : S64x16384.Idx → EReal}
    {off : Fin 2 → ℕ} (inb : ∀ a, off a + S64x512.size a ≤ S64x16384.size a) (e : off = ![0, 512 * n]) (hm : m ≤ n) (w : S64x512.Idx → EReal)
    (hf : ∀ y x, v.read (Elt Ideal) (v.writes (Elt Ideal) f L) (ix2 y x) = dqAt m n T d y x)
    (hw : ∀ y i, w (ix2 y i) = d (ix2 y (trow n hn i)) + T ⟨y, by omega⟩ (trow n hn i)) (y : Fin 64) (x : Fin 16384) :
    v.read (Elt Ideal) (v.writes (Elt Ideal) f ((⟨Rect.unit (s := S64x16384) off S64x512.size inb, w⟩ : View.Piece (Elt Ideal) S64x16384 .f32) :: L)) (ix2 y x) = dqAt m (n + 1) T d y x := by
  by_cases h : 512 * n ≤ (x : ℕ) ∧ (x : ℕ) < 512 * n + 512
  · have hx : trow n hn ⟨(x : ℕ) - 512 * n, by omega⟩ = x := Fin.ext (by show 512 * n + ((x : ℕ) - 512 * n) = x; omega)
    refine (View.read_writes_cons_unit_of_mem v f inb w L (ix2 y x) (ix2 y ⟨(x : ℕ) - 512 * n, by omega⟩) e ?_).trans ?_
    · intro a
      match a with
      | ⟨0, _⟩ => exact (Nat.zero_add _).symm
      | ⟨1, _⟩ => show (x : ℕ) = 512 * n + ((x : ℕ) - 512 * n); omega
    · rw [hw, hx, dqAt, if_pos (by omega)]
  · refine (View.read_writes_cons_unit_of_not_mem v f inb w L (ix2 y x) e 1 ?_).trans ?_
    · show (x : ℕ) < 512 * n ∨ 512 * n + 512 ≤ (x : ℕ)
      omega
    · rw [hf, dqAt, dqAt]
      exact if_congr (by omega) rfl rfl

theorem rs_step (v : View sig κ sp S1x8x16384 .f32) (f : v.ty.Contents (Elt Ideal)) {L : List (View.Piece (Elt Ideal) S1x8x16384 .f32)} {d : S1x8x16384.Idx → EReal}
    {off : Fin 3 → ℕ} (inb : ∀ a, off a + S1x8x512.size a ≤ S1x8x16384.size a) (e : off = ![0, 0, 512 * n]) (hm : m ≤ n) (w : S1x8x512.Idx → EReal)
    (hf : ∀ y x, v.read (Elt Ideal) (v.writes (Elt Ideal) f L) (ix3 0 y x) = rsAt m n T d y x)
    (hw : ∀ y i, w (ix3 0 y i) = d (ix3 0 y (trow n hn i)) + T ⟨64 + y, by omega⟩ (trow n hn i)) (y : Fin 8) (x : Fin 16384) :
    v.read (Elt Ideal) (v.writes (Elt Ideal) f ((⟨Rect.unit (s := S1x8x16384) off S1x8x512.size inb, w⟩ : View.Piece (Elt Ideal) S1x8x16384 .f32) :: L)) (ix3 0 y x) = rsAt m (n + 1) T d y x := by
  by_cases h : 512 * n ≤ (x : ℕ) ∧ (x : ℕ) < 512 * n + 512
  · have hx : trow n hn ⟨(x : ℕ) - 512 * n, by omega⟩ = x := Fin.ext (by show 512 * n + ((x : ℕ) - 512 * n) = x; omega)
    refine (View.read_writes_cons_unit_of_mem v f inb w L (ix3 0 y x) (ix3 0 y ⟨(x : ℕ) - 512 * n, by omega⟩) e ?_).trans ?_
    · intro a
      match a with
      | ⟨0, _⟩ => rfl
      | ⟨1, _⟩ => exact (Nat.zero_add _).symm
      | ⟨2, _⟩ => show (x : ℕ) = 512 * n + ((x : ℕ) - 512 * n); omega
    · rw [hw, hx, rsAt, if_pos (by omega)]
  · refine (View.read_writes_cons_unit_of_not_mem v f inb w L (ix3 0 y x) e 2 ?_).trans ?_
    · show (x : ℕ) < 512 * n ∨ 512 * n + 512 ≤ (x : ℕ)
      omega
    · rw [hf, rsAt, rsAt]
      exact if_congr (by omega) rfl rfl

end

/-! One trip, and the loop. -/

section
variable (𝒱 : Variants) (c : Dev nD) (bd : Option 𝒱.V) (i : grid0.Coords)
  (arg2 : Memref sig .tc .vmem S16384x128 .bf16) (harg2 : arg2.IsWhole) (arg3 : Memref sig .tc .vmem S16384x128 .bf16) (harg3 : arg3.IsWhole)
  (arg4 : Memref sig .tc .vmem S64x16384 .bf16) (harg4 : arg4.IsWhole) (arg5 : Memref sig .tc .vmem S64x16384 .bf16) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S64x2048 .bf16) (harg8 : arg8.IsWhole) (arg9 : Memref sig .tc .vmem S64x16384 .f32) (harg9 : arg9.IsWhole)
  (arg10 : Memref sig .tc .vmem S1x8x16384 .f32) (harg10 : arg10.IsWhole) (arg11 : Memref sig .tc .vmem S64x2048 .bf16) (harg11 : arg11.IsWhole)
  (arg12 : Memref sig .tc .vmem S64x2048 .bf16) (harg12 : arg12.IsWhole) (arg13 : Memref sig .tc .vmem S1x1x2048 .f32) (harg13 : arg13.IsWhole)
  (arg1 : BitVec 32) (v8 : FVec Ideal S16x2048 .bf16) (v10 : FVec Ideal S2048x128 .bf16) (v12 : FVec Ideal S2048x128 .bf16)
  (v15 : FVec Ideal S80x2048 .bf16) (v190 : FVec Ideal S80x2048 .f32) (v194 : FVec Ideal S64x2048 .f32) (v198 : BitVec 32)
  (v208 : FVec Ideal S512x2048 .f32) (v214 : FVec Ideal S512x2048 .bf16) (v246 : BitVec 32)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)

/-- What a trip carries on. -/
theorem trip_carry (k : Fin (k0_t1_loop i).trips) (acc : FVec Ideal S80x2048 .f32 × FVec Ideal S64x2048 .f32) (f9 : BufTy.Contents (Elt Ideal) arg9.view.ty)
    (f10 : BufTy.Contents (Elt Ideal) arg10.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X_arg2 X_arg3 X_arg4 X_arg5 k acc f9 f10
      = (k0_pay57 acc.1 (k0_pay8 v8 v10 v12 (arg2.view.readAt (Elt Ideal) (Rect.unit (s := S16384x128) (k0_off4 i k) S512x128.size (k0_off4_inb i k)).toLoadRect X_arg2)
            (arg3.view.readAt (Elt Ideal) (Rect.unit (s := S16384x128) (k0_off4 i k) S512x128.size (k0_off4_inb i k)).toLoadRect X_arg3)
            (arg4.view.readAt (Elt Ideal) (Rect.unit (s := S64x16384) (k0_off5 i k) S64x512.size (k0_off5_inb i k)).toLoadRect X_arg4)),
          k0_pay58 acc.2 (k0_pay9 v10 (arg2.view.readAt (Elt Ideal) (Rect.unit (s := S16384x128) (k0_off4 i k) S512x128.size (k0_off4_inb i k)).toLoadRect X_arg2)
            (arg5.view.readAt (Elt Ideal) (Rect.unit (s := S64x16384) (k0_off5 i k) S64x512.size (k0_off5_inb i k)).toLoadRect X_arg5))) := by
  unfold tripR_k0_t1 trip_k0_t1; rfl

/-- What a trip stores. -/
theorem trip_store (k : Fin (k0_t1_loop i).trips) (acc : FVec Ideal S80x2048 .f32 × FVec Ideal S64x2048 .f32) (f9 : BufTy.Contents (Elt Ideal) arg9.view.ty)
    (f10 : BufTy.Contents (Elt Ideal) arg10.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X_arg2 X_arg3 X_arg4 X_arg5 k acc f9 f10
      = ([⟨Rect.unit (s := S64x16384) (k0_off5 i k) S64x512.size (k0_off5_inb i k), k0_pay6 v10 v12 v15
            (arg2.view.readAt (Elt Ideal) (Rect.unit (s := S16384x128) (k0_off4 i k) S512x128.size (k0_off4_inb i k)).toLoadRect X_arg2)
            (arg3.view.readAt (Elt Ideal) (Rect.unit (s := S16384x128) (k0_off4 i k) S512x128.size (k0_off4_inb i k)).toLoadRect X_arg3)
            (arg9.view.readAt (Elt Ideal) (Rect.unit (s := S64x16384) (k0_off5 i k) S64x512.size (k0_off5_inb i k)).toLoadRect f9)⟩],
         [⟨Rect.unit (s := S1x8x16384) (k0_off6 i k) S1x8x512.size (k0_off6_inb i k), k0_pay7 v10 v12 v15
            (arg2.view.readAt (Elt Ideal) (Rect.unit (s := S16384x128) (k0_off4 i k) S512x128.size (k0_off4_inb i k)).toLoadRect X_arg2)
            (arg3.view.readAt (Elt Ideal) (Rect.unit (s := S16384x128) (k0_off4 i k) S512x128.size (k0_off4_inb i k)).toLoadRect X_arg3)
            (arg10.view.readAt (Elt Ideal) (Rect.unit (s := S1x8x16384) (k0_off6 i k) S1x8x512.size (k0_off6_inb i k)).toLoadRect f10)⟩]) := by
  unfold tripL_k0_t1 trip_k0_t1; rfl

end

section
variable (𝒱 : Variants) (c : Dev nD) (bd : Option 𝒱.V) (i : grid0.Coords)
  (arg2 : Memref sig .tc .vmem S16384x128 .bf16) (harg2 : arg2.IsWhole) (arg3 : Memref sig .tc .vmem S16384x128 .bf16) (harg3 : arg3.IsWhole)
  (arg4 : Memref sig .tc .vmem S64x16384 .bf16) (harg4 : arg4.IsWhole) (arg5 : Memref sig .tc .vmem S64x16384 .bf16) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S64x2048 .bf16) (harg8 : arg8.IsWhole) (arg9 : Memref sig .tc .vmem S64x16384 .f32) (harg9 : arg9.IsWhole)
  (arg10 : Memref sig .tc .vmem S1x8x16384 .f32) (harg10 : arg10.IsWhole) (arg11 : Memref sig .tc .vmem S64x2048 .bf16) (harg11 : arg11.IsWhole)
  (arg12 : Memref sig .tc .vmem S64x2048 .bf16) (harg12 : arg12.IsWhole) (arg13 : Memref sig .tc .vmem S1x1x2048 .f32) (harg13 : arg13.IsWhole)
  (arg1 : BitVec 32) (v190 : FVec Ideal S80x2048 .f32) (v194 : FVec Ideal S64x2048 .f32) (v198 : BitVec 32) (v208 : FVec Ideal S512x2048 .f32)
  (v214 : FVec Ideal S512x2048 .bf16) (v246 : BitVec 32)
  (X4 X5 : FVec Ideal S2048x128 .bf16) (X6 : FVec Ideal S64x2048 .bf16)
  (X_arg2 : BufTy.Contents (Elt Ideal) arg2.view.ty) (X_arg3 : BufTy.Contents (Elt Ideal) arg3.view.ty)
  (X_arg4 : BufTy.Contents (Elt Ideal) arg4.view.ty) (X_arg5 : BufTy.Contents (Elt Ideal) arg5.view.ty)
  (G_arg9 : BufTy.Contents (Elt Ideal) arg9.view.ty) (G_arg10 : BufTy.Contents (Elt Ideal) arg10.view.ty)
  (init : FVec Ideal S80x2048 .f32 × FVec Ideal S64x2048 .f32)

/-- The loop before trip `k`. -/
theorem loop_at {X0 X1 : FVec Ideal S16384x128 .bf16} {X2 X3 : FVec Ideal S64x16384 .bf16} (d7 : S64x16384.Idx → EReal) (d8 : S1x8x16384.Idx → EReal)
    (h2 : arg2.view.read (Elt Ideal) X_arg2 = X0) (h3 : arg3.view.read (Elt Ideal) X_arg3 = X1)
    (h4 : arg4.view.read (Elt Ideal) X_arg4 = X2) (h5 : arg5.view.read (Elt Ideal) X_arg5 = X3)
    (h9 : ∀ y x, arg9.view.read (Elt Ideal) G_arg9 (ix2 y x) = dqAt (4 * (i 1).val) (4 * (i 1).val + 4) (dqT (i 1).val X0 X1 X4 X5 X6) d7 y x)
    (h10 : ∀ y x, arg10.view.read (Elt Ideal) G_arg10 (ix3 0 y x) = rsAt (4 * (i 1).val) (4 * (i 1).val + 4) (dqT (i 1).val X0 X1 X4 X5 X6) d8 y x)
    (k : ℕ) (hk : k ≤ 28 - 4 * (i 1).val) :
    let S := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 G_arg9 G_arg10 init k
    (∀ y x, arg9.view.read (Elt Ideal) (arg9.view.writes (Elt Ideal) G_arg9 S.2.1) (ix2 y x)
        = dqAt (4 * (i 1).val) (4 * (i 1).val + 4 + k) (dqT (i 1).val X0 X1 X4 X5 X6) d7 y x)
      ∧ (∀ y x, arg10.view.read (Elt Ideal) (arg10.view.writes (Elt Ideal) G_arg10 S.2.2) (ix3 0 y x)
        = rsAt (4 * (i 1).val) (4 * (i 1).val + 4 + k) (dqT (i 1).val X0 X1 X4 X5 X6) d8 y x)
      ∧ (∀ y l, S.1.1 (ix2 y l) = init.1 (ix2 y l) + ∑ p ∈ Finset.range k, dkT (i 1).val X0 X1 X2 X4 X5 (4 * (i 1).val + 4 + p) y l)
      ∧ (∀ y l, S.1.2 (ix2 y l) = init.2 (ix2 y l) + ∑ p ∈ Finset.range k, dvT (i 1).val X0 X3 X4 (4 * (i 1).val + 4 + p) y l) := by
  induction k with
  | zero =>
    refine ⟨h9, h10, fun y l => ?_, fun y l => ?_⟩
    · exact (add_zero _).symm
    · exact (add_zero _).symm
  | succ k ih =>
    obtain ⟨i9, i10, i1, i2⟩ := ih (by omega)
    have hn : 4 * (i 1).val + 4 + k < 32 := by omega
    have hkt : k < (k0_t1_loop i).trips := by rw [trips1]; omega
    have hge : 4 * (i 1).val + 4 ≤ 4 * (i 1).val + 4 + k := by omega
    intro S
    have eS := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 G_arg9 G_arg10 init ⟨k, hkt⟩
    rw [trip_carry, trip_store] at eS
    have hq := fun a b => (rows_read hn arg2.view X_arg2 (k0_off4_inb i ⟨k, hkt⟩) (off4_eq i ⟨k, hkt⟩) a b).trans (congrFun h2 _)
    have hg := fun a b => (rows_read hn arg3.view X_arg3 (k0_off4_inb i ⟨k, hkt⟩) (off4_eq i ⟨k, hkt⟩) a b).trans (congrFun h3 _)
    have hqt := fun a b => (cols_read hn arg4.view X_arg4 (k0_off5_inb i ⟨k, hkt⟩) (off5_eq i ⟨k, hkt⟩) a b).trans (congrFun h4 _)
    have hgt := fun a b => (cols_read hn arg5.view X_arg5 (k0_off5_inb i ⟨k, hkt⟩) (off5_eq i ⟨k, hkt⟩) a b).trans (congrFun h5 _)
    refine ⟨fun y x => ?_, fun y x => ?_, fun y l => ?_, fun y l => ?_⟩
    · refine (congrArg (fun s => arg9.view.read (Elt Ideal) (arg9.view.writes (Elt Ideal) G_arg9 s.2.1) (ix2 y x)) eS).trans ?_
      refine dq_step (hn := hn) arg9.view G_arg9 (k0_off5_inb i ⟨k, hkt⟩) (off5_eq i ⟨k, hkt⟩) (by omega) _ i9 (fun y i' => ?_) y x
      rw [A4, D4 hq hg hge]
      refine congrArg (· + _) ((cols_read hn arg9.view _ (k0_off5_inb i ⟨k, hkt⟩) (off5_eq i ⟨k, hkt⟩) y i').trans ?_)
      exact (i9 _ _).trans (if_neg (by simp only [trow]; omega))
    · refine (congrArg (fun s => arg10.view.read (Elt Ideal) (arg10.view.writes (Elt Ideal) G_arg10 s.2.2) (ix3 0 y x)) eS).trans ?_
      refine rs_step (hn := hn) arg10.view G_arg10 (k0_off6_inb i ⟨k, hkt⟩) (off6_eq i ⟨k, hkt⟩) (by omega) _ i10 (fun y i' => ?_) y x
      rw [R4, D4 hq hg hge]
      refine congrArg (· + _) ((sums_read hn arg10.view _ (k0_off6_inb i ⟨k, hkt⟩) (off6_eq i ⟨k, hkt⟩) y i').trans ?_)
      exact (i10 _ _).trans (if_neg (by simp only [trow]; omega))
    · refine (congrArg (fun s => s.1.1 (ix2 y l)) eS).trans ?_
      rw [Finset.sum_range_succ, ← add_assoc, ← i1]
      exact congrArg (_ + ·) (C4 hq hg hqt hge y l)
    · refine (congrArg (fun s => s.1.2 (ix2 y l)) eS).trans ?_
      rw [Finset.sum_range_succ, ← add_assoc, ← i2]
      exact congrArg (_ + ·) (V4 hq hgt hge y l)

end

end Cert.FoxKernelIdeal.Value
end
-- ==== Proof.FoxDiag.lean ====
module

public import proofs.«01_k».proof.Proof.FoxTrip

@[expose] public section

set_option maxRecDepth 16384

noncomputable section

/-! The four query tiles on the diagonal, and what the whole body leaves in its output blocks. -/

namespace Cert.FoxKernelIdeal.Value

open Cert.FoxKernelIdeal Cert.FoxKernelIdeal.Gen Idealize.ShloMosaic Idealize.ShloMosaic.TcCoe Idealize.SL.Sem

section
variable (j : ℕ) (X0 X1 : FVec Ideal S16384x128 .bf16) (X2 X3 : FVec Ideal S64x16384 .bf16) (X4 X5 : FVec Ideal S2048x128 .bf16) (X6 : FVec Ideal S64x2048 .bf16)

/-- The gradients of the queries, added to what was there. -/
def out7 (d7 : S64x16384.Idx → EReal) : S64x16384.Idx → EReal := fun z =>
  d7 z + dqT j X0 X1 X4 X5 X6 ⟨(z 0 : ℕ), Nat.lt_trans (show (z 0 : ℕ) < 64 from (z 0).isLt) (by decide)⟩ (z 1)
/-- The sums of the scores' gradients along the keys, added to what was there (row 0 of the eight). -/
def out8 (d8 : S1x8x16384.Idx → EReal) : S1x8x16384.Idx → EReal := fun z =>
  d8 z + dqT j X0 X1 X4 X5 X6 ⟨64 + (z 1 : ℕ), by have : (z 1 : ℕ) < 8 := (z 1).isLt; omega⟩ (z 2)
/-- The gradients of the keys. -/
def out9 : S64x2048.Idx → EReal := fun z =>
  ∑ n ∈ Finset.range 32, dkT j X0 X1 X2 X4 X5 n ⟨(z 0 : ℕ), Nat.lt_trans (show (z 0 : ℕ) < 64 from (z 0).isLt) (by decide)⟩ (z 1)
/-- The gradients of the values. -/
def out10 : S64x2048.Idx → EReal := fun z => ∑ n ∈ Finset.range 32, dvT j X0 X3 X4 n (z 0) (z 1)
/-- The sums of the scores' gradients along the queries. -/
def out11 : S1x1x2048.Idx → EReal := fun z => ∑ n ∈ Finset.range 32, dkT j X0 X1 X2 X4 X5 n 64 (z 2)
end

/-- A sum over all query tiles from those on the diagonal on, the earlier ones giving nothing. -/
theorem sum_tiles (j : Fin 8) (f : ℕ → EReal) (h : ∀ n, n < 4 * j.val → f n = 0) :
    0 + f (4 * j.val) + f (4 * j.val + 1) + f (4 * j.val + 2) + f (4 * j.val + 3) + ∑ p ∈ Finset.range (28 - 4 * j.val), f (4 * j.val + 4 + p)
      = ∑ n ∈ Finset.range 32, f n := by
  rw [show (32 : ℕ) = 4 * j.val + (4 + (28 - 4 * j.val)) by omega, Finset.sum_range_add, Finset.sum_eq_zero (fun n hn => h n (Finset.mem_range.1 hn)),
    Finset.sum_range_add, show (Finset.range 4) = {0, 1, 2, 3} by decide]
  simp only [Finset.sum_insert, Finset.mem_insert, Finset.mem_singleton, Finset.sum_singleton, Nat.add_zero, add_assoc, zero_add, Nat.reduceEqDiff, or_self, not_false_eq_true,
    OfNat.zero_ne_ofNat, OfNat.one_ne_ofNat, zero_ne_one, Nat.add_assoc]

section
variable (i : grid0.Coords)
  (arg2 : Memref sig .tc .vmem S16384x128 .bf16) (harg2 : arg2.IsWhole) (arg3 : Memref sig .tc .vmem S16384x128 .bf16) (harg3 : arg3.IsWhole)
  (arg4 : Memref sig .tc .vmem S64x16384 .bf16) (harg4 : arg4.IsWhole) (arg5 : Memref sig .tc .vmem S64x16384 .bf16) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S64x2048 .bf16) (harg8 : arg8.IsWhole) (arg9 : Memref sig .tc .vmem S64x16384 .f32) (harg9 : arg9.IsWhole)
  (arg10 : Memref sig .tc .vmem S1x8x16384 .f32) (harg10 : arg10.IsWhole) (arg11 : Memref sig .tc .vmem S64x2048 .bf16) (harg11 : arg11.IsWhole)
  (arg12 : Memref sig .tc .vmem S64x2048 .bf16) (harg12 : arg12.IsWhole) (arg13 : Memref sig .tc .vmem S1x1x2048 .f32) (harg13 : arg13.IsWhole)
  {X0 X1 : FVec Ideal S16384x128 .bf16} {X2 X3 : FVec Ideal S64x16384 .bf16} (X4 X5 : FVec Ideal S2048x128 .bf16) (X6 : FVec Ideal S64x2048 .bf16)
  {X_arg2 : BufTy.Contents (Elt Ideal) arg2.view.ty} {X_arg3 : BufTy.Contents (Elt Ideal) arg3.view.ty} {X_arg4 : BufTy.Contents (Elt Ideal) arg4.view.ty}
  {X_arg5 : BufTy.Contents (Elt Ideal) arg5.view.ty} (h2 : arg2.view.read (Elt Ideal) X_arg2 = X0) (h3 : arg3.view.read (Elt Ideal) X_arg3 = X1)
  (h4 : arg4.view.read (Elt Ideal) X_arg4 = X2) (h5 : arg5.view.read (Elt Ideal) X_arg5 = X3)

section
include h2 h3

theorem dq0 {v9 v11 : FVec Ideal S2048x128 .bf16} (e9 : v9 = X4) (e11 : v11 = X5) {f : BufTy.Contents (Elt Ideal) arg9.view.ty} {L : List (View.Piece (Elt Ideal) S64x16384 .f32)} {d : S64x16384.Idx → EReal} {fa : BufTy.Contents (Elt Ideal) arg9.view.ty}
    (hf : ∀ y x, arg9.view.read (Elt Ideal) (arg9.view.writes (Elt Ideal) f L) (ix2 y x) = dqAt (4 * (i 1).val) (4 * (i 1).val + 0) (dqT (i 1).val X0 X1 X4 X5 X6) d y x)
    (ha : ∀ y (x : Fin 16384), 512 * (4 * (i 1).val + 0) ≤ (x : ℕ) → arg9.view.read (Elt Ideal) fa (ix2 y x) = d (ix2 y x)) (y : Fin 64) (x : Fin 16384) :
    arg9.view.read (Elt Ideal) (arg9.view.writes (Elt Ideal) f ((⟨Rect.unit (s := S64x16384) (k0_off2 i 0#32) S64x512.size (k0_off2_inb i 0),
        k0_pay30 (k0_pay22 X6) (k0_pay26 v9 (arg2.view.readAt (Elt Ideal) (Rect.unit (s := S16384x128) (k0_off1 i 0#32) S512x128.size (k0_off1_inb i 0)).toLoadRect X_arg2)) (k0_pay27 v11 (arg3.view.readAt (Elt Ideal) (Rect.unit (s := S16384x128) (k0_off1 i 0#32) S512x128.size (k0_off1_inb i 0)).toLoadRect X_arg3))
          (arg9.view.readAt (Elt Ideal) (Rect.unit (s := S64x16384) (k0_off2 i 0#32) S64x512.size (k0_off2_inb i 0)).toLoadRect fa)⟩ : View.Piece (Elt Ideal) S64x16384 .f32) :: L)) (ix2 y x)
      = dqAt (4 * (i 1).val) (4 * (i 1).val + 1) (dqT (i 1).val X0 X1 X4 X5 X6) d y x := by
  subst e9 e11
  have hi : (i 1).val < 8 := (i 1).isLt
  have hn : 4 * (i 1).val + 0 < 32 := by omega
  refine dq_step (hn := hn) arg9.view f (k0_off2_inb i 0) (off2_eq i 0) (by omega) _ hf (fun y i' => ?_) y x
  rw [A0]
  refine congrArg₂ (· + ·) ((cols_read hn arg9.view fa (k0_off2_inb i 0) (off2_eq i 0) y i').trans (ha y _ (by simp only [trow]; omega)))
    (D0 (fun a b => (rows_read hn arg2.view X_arg2 (k0_off1_inb i 0) (off1_eq i 0) a b).trans (congrFun h2 _))
      (fun a b => (rows_read hn arg3.view X_arg3 (k0_off1_inb i 0) (off1_eq i 0) a b).trans (congrFun h3 _)) rfl _ i')

theorem rs0 {v9 v11 : FVec Ideal S2048x128 .bf16} (e9 : v9 = X4) (e11 : v11 = X5) {f : BufTy.Contents (Elt Ideal) arg10.view.ty} {L : List (View.Piece (Elt Ideal) S1x8x16384 .f32)} {d : S1x8x16384.Idx → EReal} {fa : BufTy.Contents (Elt Ideal) arg10.view.ty}
    (hf : ∀ y x, arg10.view.read (Elt Ideal) (arg10.view.writes (Elt Ideal) f L) (ix3 0 y x) = rsAt (4 * (i 1).val) (4 * (i 1).val + 0) (dqT (i 1).val X0 X1 X4 X5 X6) d y x)
    (ha : ∀ y (x : Fin 16384), 512 * (4 * (i 1).val + 0) ≤ (x : ℕ) → arg10.view.read (Elt Ideal) fa (ix3 0 y x) = d (ix3 0 y x)) (y : Fin 8) (x : Fin 16384) :
    arg10.view.read (Elt Ideal) (arg10.view.writes (Elt Ideal) f ((⟨Rect.unit (s := S1x8x16384) (k0_off3 i 0#32) S1x8x512.size (k0_off3_inb i 0),
        k0_pay31 (k0_pay22 X6) (k0_pay26 v9 (arg2.view.readAt (Elt Ideal) (Rect.unit (s := S16384x128) (k0_off1 i 0#32) S512x128.size (k0_off1_inb i 0)).toLoadRect X_arg2)) (k0_pay27 v11 (arg3.view.readAt (Elt Ideal) (Rect.unit (s := S16384x128) (k0_off1 i 0#32) S512x128.size (k0_off1_inb i 0)).toLoadRect X_arg3))
          (arg10.view.readAt (Elt Ideal) (Rect.unit (s := S1x8x16384) (k0_off3 i 0#32) S1x8x512.size (k0_off3_inb i 0)).toLoadRect fa)⟩ : View.Piece (Elt Ideal) S1x8x16384 .f32) :: L)) (ix3 0 y x)
      = rsAt (4 * (i 1).val) (4 * (i 1).val + 1) (dqT (i 1).val X0 X1 X4 X5 X6) d y x := by
  subst e9 e11
  have hi : (i 1).val < 8 := (i 1).isLt
  have hn : 4 * (i 1).val + 0 < 32 := by omega
  refine rs_step (hn := hn) arg10.view f (k0_off3_inb i 0) (off3_eq i 0) (by omega) _ hf (fun y i' => ?_) y x
  rw [R0]
  refine congrArg₂ (· + ·) ((sums_read hn arg10.view fa (k0_off3_inb i 0) (off3_eq i 0) y i').trans (ha y _ (by simp only [trow]; omega)))
    (D0 (fun a b => (rows_read hn arg2.view X_arg2 (k0_off1_inb i 0) (off1_eq i 0) a b).trans (congrFun h2 _))
      (fun a b => (rows_read hn arg3.view X_arg3 (k0_off1_inb i 0) (off1_eq i 0) a b).trans (congrFun h3 _)) rfl _ i')

end

section
include h2 h3

theorem dq1 {f : BufTy.Contents (Elt Ideal) arg9.view.ty} {L : List (View.Piece (Elt Ideal) S64x16384 .f32)} {d : S64x16384.Idx → EReal} {fa : BufTy.Contents (Elt Ideal) arg9.view.ty}
    (hf : ∀ y x, arg9.view.read (Elt Ideal) (arg9.view.writes (Elt Ideal) f L) (ix2 y x) = dqAt (4 * (i 1).val) (4 * (i 1).val + 1) (dqT (i 1).val X0 X1 X4 X5 X6) d y x)
    (ha : ∀ y (x : Fin 16384), 512 * (4 * (i 1).val + 1) ≤ (x : ℕ) → arg9.view.read (Elt Ideal) fa (ix2 y x) = d (ix2 y x)) (y : Fin 64) (x : Fin 16384) :
    arg9.view.read (Elt Ideal) (arg9.view.writes (Elt Ideal) f ((⟨Rect.unit (s := S64x16384) (k0_off2 i 1#32) S64x512.size (k0_off2_inb i 1),
        k0_pay37 X4 X5 (k0_pay22 X6) k0_pay23 (arg2.view.readAt (Elt Ideal) (Rect.unit (s := S16384x128) (k0_off1 i 1#32) S512x128.size (k0_off1_inb i 1)).toLoadRect X_arg2) (arg3.view.readAt (Elt Ideal) (Rect.unit (s := S16384x128) (k0_off1 i 1#32) S512x128.size (k0_off1_inb i 1)).toLoadRect X_arg3)
          (arg9.view.readAt (Elt Ideal) (Rect.unit (s := S64x16384) (k0_off2 i 1#32) S64x512.size (k0_off2_inb i 1)).toLoadRect fa)⟩ : View.Piece (Elt Ideal) S64x16384 .f32) :: L)) (ix2 y x)
      = dqAt (4 * (i 1).val) (4 * (i 1).val + 2) (dqT (i 1).val X0 X1 X4 X5 X6) d y x := by
  have hi : (i 1).val < 8 := (i 1).isLt
  have hn : 4 * (i 1).val + 1 < 32 := by omega
  refine dq_step (hn := hn) arg9.view f (k0_off2_inb i 1) (off2_eq i 1) (by omega) _ hf (fun y i' => ?_) y x
  rw [A1]
  refine congrArg₂ (· + ·) ((cols_read hn arg9.view fa (k0_off2_inb i 1) (off2_eq i 1) y i').trans (ha y _ (by simp only [trow]; omega)))
    (D1 (fun a b => (rows_read hn arg2.view X_arg2 (k0_off1_inb i 1) (off1_eq i 1) a b).trans (congrFun h2 _))
      (fun a b => (rows_read hn arg3.view X_arg3 (k0_off1_inb i 1) (off1_eq i 1) a b).trans (congrFun h3 _)) rfl _ i')

theorem rs1 {f : BufTy.Contents (Elt Ideal) arg10.view.ty} {L : List (View.Piece (Elt Ideal) S1x8x16384 .f32)} {d : S1x8x16384.Idx → EReal} {fa : BufTy.Contents (Elt Ideal) arg10.view.ty}
    (hf : ∀ y x, arg10.view.read (Elt Ideal) (arg10.view.writes (Elt Ideal) f L) (ix3 0 y x) = rsAt (4 * (i 1).val) (4 * (i 1).val + 1) (dqT (i 1).val X0 X1 X4 X5 X6) d y x)
    (ha : ∀ y (x : Fin 16384), 512 * (4 * (i 1).val + 1) ≤ (x : ℕ) → arg10.view.read (Elt Ideal) fa (ix3 0 y x) = d (ix3 0 y x)) (y : Fin 8) (x : Fin 16384) :
    arg10.view.read (Elt Ideal) (arg10.view.writes (Elt Ideal) f ((⟨Rect.unit (s := S1x8x16384) (k0_off3 i 1#32) S1x8x512.size (k0_off3_inb i 1),
        k0_pay38 X4 X5 (k0_pay22 X6) k0_pay23 (arg2.view.readAt (Elt Ideal) (Rect.unit (s := S16384x128) (k0_off1 i 1#32) S512x128.size (k0_off1_inb i 1)).toLoadRect X_arg2) (arg3.view.readAt (Elt Ideal) (Rect.unit (s := S16384x128) (k0_off1 i 1#32) S512x128.size (k0_off1_inb i 1)).toLoadRect X_arg3)
          (arg10.view.readAt (Elt Ideal) (Rect.unit (s := S1x8x16384) (k0_off3 i 1#32) S1x8x512.size (k0_off3_inb i 1)).toLoadRect fa)⟩ : View.Piece (Elt Ideal) S1x8x16384 .f32) :: L)) (ix3 0 y x)
      = rsAt (4 * (i 1).val) (4 * (i 1).val + 2) (dqT (i 1).val X0 X1 X4 X5 X6) d y x := by
  have hi : (i 1).val < 8 := (i 1).isLt
  have hn : 4 * (i 1).val + 1 < 32 := by omega
  refine rs_step (hn := hn) arg10.view f (k0_off3_inb i 1) (off3_eq i 1) (by omega) _ hf (fun y i' => ?_) y x
  rw [R1]
  refine congrArg₂ (· + ·) ((sums_read hn arg10.view fa (k0_off3_inb i 1) (off3_eq i 1) y i').trans (ha y _ (by simp only [trow]; omega)))
    (D1 (fun a b => (rows_read hn arg2.view X_arg2 (k0_off1_inb i 1) (off1_eq i 1) a b).trans (congrFun h2 _))
      (fun a b => (rows_read hn arg3.view X_arg3 (k0_off1_inb i 1) (off1_eq i 1) a b).trans (congrFun h3 _)) rfl _ i')

end

section
include h2 h3

theorem dq2 {f : BufTy.Contents (Elt Ideal) arg9.view.ty} {L : List (View.Piece (Elt Ideal) S64x16384 .f32)} {d : S64x16384.Idx → EReal} {fa : BufTy.Contents (Elt Ideal) arg9.view.ty}
    (hf : ∀ y x, arg9.view.read (Elt Ideal) (arg9.view.writes (Elt Ideal) f L) (ix2 y x) = dqAt (4 * (i 1).val) (4 * (i 1).val + 2) (dqT (i 1).val X0 X1 X4 X5 X6) d y x)
    (ha : ∀ y (x : Fin 16384), 512 * (4 * (i 1).val + 2) ≤ (x : ℕ) → arg9.view.read (Elt Ideal) fa (ix2 y x) = d (ix2 y x)) (y : Fin 64) (x : Fin 16384) :
    arg9.view.read (Elt Ideal) (arg9.view.writes (Elt Ideal) f ((⟨Rect.unit (s := S64x16384) (k0_off2 i 2#32) S64x512.size (k0_off2_inb i 2),
        k0_pay45 X4 X5 (k0_pay22 X6) k0_pay23 (arg2.view.readAt (Elt Ideal) (Rect.unit (s := S16384x128) (k0_off1 i 2#32) S512x128.size (k0_off1_inb i 2)).toLoadRect X_arg2) (arg3.view.readAt (Elt Ideal) (Rect.unit (s := S16384x128) (k0_off1 i 2#32) S512x128.size (k0_off1_inb i 2)).toLoadRect X_arg3)
          (arg9.view.readAt (Elt Ideal) (Rect.unit (s := S64x16384) (k0_off2 i 2#32) S64x512.size (k0_off2_inb i 2)).toLoadRect fa)⟩ : View.Piece (Elt Ideal) S64x16384 .f32) :: L)) (ix2 y x)
      = dqAt (4 * (i 1).val) (4 * (i 1).val + 3) (dqT (i 1).val X0 X1 X4 X5 X6) d y x := by
  have hi : (i 1).val < 8 := (i 1).isLt
  have hn : 4 * (i 1).val + 2 < 32 := by omega
  refine dq_step (hn := hn) arg9.view f (k0_off2_inb i 2) (off2_eq i 2) (by omega) _ hf (fun y i' => ?_) y x
  rw [A2]
  refine congrArg₂ (· + ·) ((cols_read hn arg9.view fa (k0_off2_inb i 2) (off2_eq i 2) y i').trans (ha y _ (by simp only [trow]; omega)))
    (D2 (fun a b => (rows_read hn arg2.view X_arg2 (k0_off1_inb i 2) (off1_eq i 2) a b).trans (congrFun h2 _))
      (fun a b => (rows_read hn arg3.view X_arg3 (k0_off1_inb i 2) (off1_eq i 2) a b).trans (congrFun h3 _)) rfl _ i')

theorem rs2 {f : BufTy.Contents (Elt Ideal) arg10.view.ty} {L : List (View.Piece (Elt Ideal) S1x8x16384 .f32)} {d : S1x8x16384.Idx → EReal} {fa : BufTy.Contents (Elt Ideal) arg10.view.ty}
    (hf : ∀ y x, arg10.view.read (Elt Ideal) (arg10.view.writes (Elt Ideal) f L) (ix3 0 y x) = rsAt (4 * (i 1).val) (4 * (i 1).val + 2) (dqT (i 1).val X0 X1 X4 X5 X6) d y x)
    (ha : ∀ y (x : Fin 16384), 512 * (4 * (i 1).val + 2) ≤ (x : ℕ) → arg10.view.read (Elt Ideal) fa (ix3 0 y x) = d (ix3 0 y x)) (y : Fin 8) (x : Fin 16384) :
    arg10.view.read (Elt Ideal) (arg10.view.writes (Elt Ideal) f ((⟨Rect.unit (s := S1x8x16384) (k0_off3 i 2#32) S1x8x512.size (k0_off3_inb i 2),
        k0_pay47 (k0_pay44 X4 X5 (k0_pay22 X6) k0_pay23 (arg2.view.readAt (Elt Ideal) (Rect.unit (s := S16384x128) (k0_off1 i 2#32) S512x128.size (k0_off1_inb i 2)).toLoadRect X_arg2) (arg3.view.readAt (Elt Ideal) (Rect.unit (s := S16384x128) (k0_off1 i 2#32) S512x128.size (k0_off1_inb i 2)).toLoadRect X_arg3))
          (k0_pay46 (arg10.view.readAt (Elt Ideal) (Rect.unit (s := S1x8x16384) (k0_off3 i 2#32) S1x8x512.size (k0_off3_inb i 2)).toLoadRect fa))⟩ : View.Piece (Elt Ideal) S1x8x16384 .f32) :: L)) (ix3 0 y x)
      = rsAt (4 * (i 1).val) (4 * (i 1).val + 3) (dqT (i 1).val X0 X1 X4 X5 X6) d y x := by
  have hi : (i 1).val < 8 := (i 1).isLt
  have hn : 4 * (i 1).val + 2 < 32 := by omega
  refine rs_step (hn := hn) arg10.view f (k0_off3_inb i 2) (off3_eq i 2) (by omega) _ hf (fun y i' => ?_) y x
  rw [R2]
  refine congrArg₂ (· + ·) ((sums_read hn arg10.view fa (k0_off3_inb i 2) (off3_eq i 2) y i').trans (ha y _ (by simp only [trow]; omega)))
    (D2 (fun a b => (rows_read hn arg2.view X_arg2 (k0_off1_inb i 2) (off1_eq i 2) a b).trans (congrFun h2 _))
      (fun a b => (rows_read hn arg3.view X_arg3 (k0_off1_inb i 2) (off1_eq i 2) a b).trans (congrFun h3 _)) rfl _ i')

end

section
include h2 h3

theorem dq3 {f : BufTy.Contents (Elt Ideal) arg9.view.ty} {L : List (View.Piece (Elt Ideal) S64x16384 .f32)} {d : S64x16384.Idx → EReal} {fa : BufTy.Contents (Elt Ideal) arg9.view.ty}
    (hf : ∀ y x, arg9.view.read (Elt Ideal) (arg9.view.writes (Elt Ideal) f L) (ix2 y x) = dqAt (4 * (i 1).val) (4 * (i 1).val + 3) (dqT (i 1).val X0 X1 X4 X5 X6) d y x)
    (ha : ∀ y (x : Fin 16384), 512 * (4 * (i 1).val + 3) ≤ (x : ℕ) → arg9.view.read (Elt Ideal) fa (ix2 y x) = d (ix2 y x)) (y : Fin 64) (x : Fin 16384) :
    arg9.view.read (Elt Ideal) (arg9.view.writes (Elt Ideal) f ((⟨Rect.unit (s := S64x16384) (k0_off2 i 3#32) S64x512.size (k0_off2_inb i 3),
        k0_pay53 (k0_pay22 X6) (k0_pay51 X4 X5 k0_pay23 (arg2.view.readAt (Elt Ideal) (Rect.unit (s := S16384x128) (k0_off1 i 3#32) S512x128.size (k0_off1_inb i 3)).toLoadRect X_arg2) (arg3.view.readAt (Elt Ideal) (Rect.unit (s := S16384x128) (k0_off1 i 3#32) S512x128.size (k0_off1_inb i 3)).toLoadRect X_arg3))
          (arg9.view.readAt (Elt Ideal) (Rect.unit (s := S64x16384) (k0_off2 i 3#32) S64x512.size (k0_off2_inb i 3)).toLoadRect fa)⟩ : View.Piece (Elt Ideal) S64x16384 .f32) :: L)) (ix2 y x)
      = dqAt (4 * (i 1).val) (4 * (i 1).val + 4) (dqT (i 1).val X0 X1 X4 X5 X6) d y x := by
  have hi : (i 1).val < 8 := (i 1).isLt
  have hn : 4 * (i 1).val + 3 < 32 := by omega
  refine dq_step (hn := hn) arg9.view f (k0_off2_inb i 3) (off2_eq i 3) (by omega) _ hf (fun y i' => ?_) y x
  rw [A3]
  refine congrArg₂ (· + ·) ((cols_read hn arg9.view fa (k0_off2_inb i 3) (off2_eq i 3) y i').trans (ha y _ (by simp only [trow]; omega)))
    (D3 (fun a b => (rows_read hn arg2.view X_arg2 (k0_off1_inb i 3) (off1_eq i 3) a b).trans (congrFun h2 _))
      (fun a b => (rows_read hn arg3.view X_arg3 (k0_off1_inb i 3) (off1_eq i 3) a b).trans (congrFun h3 _)) rfl _ i')

theorem rs3 {f : BufTy.Contents (Elt Ideal) arg10.view.ty} {L : List (View.Piece (Elt Ideal) S1x8x16384 .f32)} {d : S1x8x16384.Idx → EReal} {fa : BufTy.Contents (Elt Ideal) arg10.view.ty}
    (hf : ∀ y x, arg10.view.read (Elt Ideal) (arg10.view.writes (Elt Ideal) f L) (ix3 0 y x) = rsAt (4 * (i 1).val) (4 * (i 1).val + 3) (dqT (i 1).val X0 X1 X4 X5 X6) d y x)
    (ha : ∀ y (x : Fin 16384), 512 * (4 * (i 1).val + 3) ≤ (x : ℕ) → arg10.view.read (Elt Ideal) fa (ix3 0 y x) = d (ix3 0 y x)) (y : Fin 8) (x : Fin 16384) :
    arg10.view.read (Elt Ideal) (arg10.view.writes (Elt Ideal) f ((⟨Rect.unit (s := S1x8x16384) (k0_off3 i 3#32) S1x8x512.size (k0_off3_inb i 3),
        k0_pay54 (k0_pay22 X6) (k0_pay51 X4 X5 k0_pay23 (arg2.view.readAt (Elt Ideal) (Rect.unit (s := S16384x128) (k0_off1 i 3#32) S512x128.size (k0_off1_inb i 3)).toLoadRect X_arg2) (arg3.view.readAt (Elt Ideal) (Rect.unit (s := S16384x128) (k0_off1 i 3#32) S512x128.size (k0_off1_inb i 3)).toLoadRect X_arg3))
          (arg10.view.readAt (Elt Ideal) (Rect.unit (s := S1x8x16384) (k0_off3 i 3#32) S1x8x512.size (k0_off3_inb i 3)).toLoadRect fa)⟩ : View.Piece (Elt Ideal) S1x8x16384 .f32) :: L)) (ix3 0 y x)
      = rsAt (4 * (i 1).val) (4 * (i 1).val + 4) (dqT (i 1).val X0 X1 X4 X5 X6) d y x := by
  have hi : (i 1).val < 8 := (i 1).isLt
  have hn : 4 * (i 1).val + 3 < 32 := by omega
  refine rs_step (hn := hn) arg10.view f (k0_off3_inb i 3) (off3_eq i 3) (by omega) _ hf (fun y i' => ?_) y x
  rw [R3]
  refine congrArg₂ (· + ·) ((sums_read hn arg10.view fa (k0_off3_inb i 3) (off3_eq i 3) y i').trans (ha y _ (by simp only [trow]; omega)))
    (D3 (fun a b => (rows_read hn arg2.view X_arg2 (k0_off1_inb i 3) (off1_eq i 3) a b).trans (congrFun h2 _))
      (fun a b => (rows_read hn arg3.view X_arg3 (k0_off1_inb i 3) (off1_eq i 3) a b).trans (congrFun h3 _)) rfl _ i')

end

include h2 h3 h4 in
/-- The keys' carry after the diagonal. -/
theorem dk_diag {v9 v11 : FVec Ideal S2048x128 .bf16} (e9 : v9 = X4) (e11 : v11 = X5) (y : Fin 80) (l : Fin 2048) :
    k0_pay55 k0_pay19 (k0_pay48 k0_pay19 (k0_pay40 (k0_pay32 (F := Ideal) k0_pay19 k0_pay24 (k0_pay26 v9 (arg2.view.readAt (Elt Ideal) (Rect.unit (s := S16384x128) (k0_off1 i 0#32) S512x128.size (k0_off1_inb i 0)).toLoadRect X_arg2)) (k0_pay27 v11 (arg3.view.readAt (Elt Ideal) (Rect.unit (s := S16384x128) (k0_off1 i 0#32) S512x128.size (k0_off1_inb i 0)).toLoadRect X_arg3)) (arg4.view.readAt (Elt Ideal) (Rect.unit (s := S64x16384) (k0_off2 i 0#32) S64x512.size (k0_off2_inb i 0)).toLoadRect X_arg4)) (k0_pay39 k0_pay19 X4 X5 k0_pay23 (arg2.view.readAt (Elt Ideal) (Rect.unit (s := S16384x128) (k0_off1 i 1#32) S512x128.size (k0_off1_inb i 1)).toLoadRect X_arg2) (arg3.view.readAt (Elt Ideal) (Rect.unit (s := S16384x128) (k0_off1 i 1#32) S512x128.size (k0_off1_inb i 1)).toLoadRect X_arg3) (arg4.view.readAt (Elt Ideal) (Rect.unit (s := S64x16384) (k0_off2 i 1#32) S64x512.size (k0_off2_inb i 1)).toLoadRect X_arg4))) (k0_pay43 X4 X5 k0_pay23 (arg2.view.readAt (Elt Ideal) (Rect.unit (s := S16384x128) (k0_off1 i 2#32) S512x128.size (k0_off1_inb i 2)).toLoadRect X_arg2) (arg3.view.readAt (Elt Ideal) (Rect.unit (s := S16384x128) (k0_off1 i 2#32) S512x128.size (k0_off1_inb i 2)).toLoadRect X_arg3)) (arg4.view.readAt (Elt Ideal) (Rect.unit (s := S64x16384) (k0_off2 i 2#32) S64x512.size (k0_off2_inb i 2)).toLoadRect X_arg4)) (k0_pay51 X4 X5 k0_pay23 (arg2.view.readAt (Elt Ideal) (Rect.unit (s := S16384x128) (k0_off1 i 3#32) S512x128.size (k0_off1_inb i 3)).toLoadRect X_arg2) (arg3.view.readAt (Elt Ideal) (Rect.unit (s := S16384x128) (k0_off1 i 3#32) S512x128.size (k0_off1_inb i 3)).toLoadRect X_arg3)) (arg4.view.readAt (Elt Ideal) (Rect.unit (s := S64x16384) (k0_off2 i 3#32) S64x512.size (k0_off2_inb i 3)).toLoadRect X_arg4) (ix2 y l)
      = 0 + dkT (i 1).val X0 X1 X2 X4 X5 (4 * (i 1).val) y l + dkT (i 1).val X0 X1 X2 X4 X5 (4 * (i 1).val + 1) y l
        + dkT (i 1).val X0 X1 X2 X4 X5 (4 * (i 1).val + 2) y l + dkT (i 1).val X0 X1 X2 X4 X5 (4 * (i 1).val + 3) y l := by
  subst e9 e11
  have hn : ∀ r : Fin 4, 4 * (i 1).val + r.val < 32 := fun r => by have hi : (i 1).val < 8 := (i 1).isLt; omega
  refine (C3 (fun a b => (rows_read (hn 3) arg2.view X_arg2 (k0_off1_inb i 3) (off1_eq i 3) a b).trans (congrFun h2 _)) (fun a b => (rows_read (hn 3) arg3.view X_arg3 (k0_off1_inb i 3) (off1_eq i 3) a b).trans (congrFun h3 _)) (fun a b => (cols_read (hn 3) arg4.view X_arg4 (k0_off2_inb i 3) (off2_eq i 3) a b).trans (congrFun h4 _)) rfl _ y l).trans (congrArg (· + _) ?_)
  refine (C2 (fun a b => (rows_read (hn 2) arg2.view X_arg2 (k0_off1_inb i 2) (off1_eq i 2) a b).trans (congrFun h2 _)) (fun a b => (rows_read (hn 2) arg3.view X_arg3 (k0_off1_inb i 2) (off1_eq i 2) a b).trans (congrFun h3 _)) (fun a b => (cols_read (hn 2) arg4.view X_arg4 (k0_off2_inb i 2) (off2_eq i 2) a b).trans (congrFun h4 _)) rfl _ y l).trans (congrArg (· + _) ?_)
  refine (C1 (fun a b => (rows_read (hn 1) arg2.view X_arg2 (k0_off1_inb i 1) (off1_eq i 1) a b).trans (congrFun h2 _)) (fun a b => (rows_read (hn 1) arg3.view X_arg3 (k0_off1_inb i 1) (off1_eq i 1) a b).trans (congrFun h3 _)) (fun a b => (cols_read (hn 1) arg4.view X_arg4 (k0_off2_inb i 1) (off2_eq i 1) a b).trans (congrFun h4 _)) rfl _ y l).trans (congrArg (· + _) ?_)
  refine (C0 (fun a b => (rows_read (hn 0) arg2.view X_arg2 (k0_off1_inb i 0) (off1_eq i 0) a b).trans (congrFun h2 _)) (fun a b => (rows_read (hn 0) arg3.view X_arg3 (k0_off1_inb i 0) (off1_eq i 0) a b).trans (congrFun h3 _)) (fun a b => (cols_read (hn 0) arg4.view X_arg4 (k0_off2_inb i 0) (off2_eq i 0) a b).trans (congrFun h4 _)) rfl _ y l).trans ?_
  rw [zero80]; rfl

include h2 h5 in
/-- The values' carry after the diagonal. -/
theorem dv_diag {v9 v11 : FVec Ideal S2048x128 .bf16} (e9 : v9 = X4) (e11 : v11 = X5) (y : Fin 64) (l : Fin 2048) :
    k0_pay56 (k0_pay49 (k0_pay41 (k0_pay33 (F := Ideal) k0_pay25 (k0_pay26 v9 (arg2.view.readAt (Elt Ideal) (Rect.unit (s := S16384x128) (k0_off1 i 0#32) S512x128.size (k0_off1_inb i 0)).toLoadRect X_arg2)) (arg5.view.readAt (Elt Ideal) (Rect.unit (s := S64x16384) (k0_off2 i 0#32) S64x512.size (k0_off2_inb i 0)).toLoadRect X_arg5)) (k0_pay34 X4 k0_pay23 (arg2.view.readAt (Elt Ideal) (Rect.unit (s := S16384x128) (k0_off1 i 1#32) S512x128.size (k0_off1_inb i 1)).toLoadRect X_arg2)) (arg5.view.readAt (Elt Ideal) (Rect.unit (s := S64x16384) (k0_off2 i 1#32) S64x512.size (k0_off2_inb i 1)).toLoadRect X_arg5)) (k0_pay42 X4 k0_pay23 (arg2.view.readAt (Elt Ideal) (Rect.unit (s := S16384x128) (k0_off1 i 2#32) S512x128.size (k0_off1_inb i 2)).toLoadRect X_arg2)) (arg5.view.readAt (Elt Ideal) (Rect.unit (s := S64x16384) (k0_off2 i 2#32) S64x512.size (k0_off2_inb i 2)).toLoadRect X_arg5)) (k0_pay50 X4 k0_pay23 (arg2.view.readAt (Elt Ideal) (Rect.unit (s := S16384x128) (k0_off1 i 3#32) S512x128.size (k0_off1_inb i 3)).toLoadRect X_arg2)) (arg5.view.readAt (Elt Ideal) (Rect.unit (s := S64x16384) (k0_off2 i 3#32) S64x512.size (k0_off2_inb i 3)).toLoadRect X_arg5) (ix2 y l)
      = 0 + dvT (i 1).val X0 X3 X4 (4 * (i 1).val) y l + dvT (i 1).val X0 X3 X4 (4 * (i 1).val + 1) y l
        + dvT (i 1).val X0 X3 X4 (4 * (i 1).val + 2) y l + dvT (i 1).val X0 X3 X4 (4 * (i 1).val + 3) y l := by
  subst e9 e11
  have hn : ∀ r : Fin 4, 4 * (i 1).val + r.val < 32 := fun r => by have hi : (i 1).val < 8 := (i 1).isLt; omega
  refine (V3 (fun a b => (rows_read (hn 3) arg2.view X_arg2 (k0_off1_inb i 3) (off1_eq i 3) a b).trans (congrFun h2 _)) (fun a b => (cols_read (hn 3) arg5.view X_arg5 (k0_off2_inb i 3) (off2_eq i 3) a b).trans (congrFun h5 _)) rfl _ y l).trans (congrArg (· + _) ?_)
  refine (V2 (fun a b => (rows_read (hn 2) arg2.view X_arg2 (k0_off1_inb i 2) (off1_eq i 2) a b).trans (congrFun h2 _)) (fun a b => (cols_read (hn 2) arg5.view X_arg5 (k0_off2_inb i 2) (off2_eq i 2) a b).trans (congrFun h5 _)) rfl _ y l).trans (congrArg (· + _) ?_)
  refine (V1 (fun a b => (rows_read (hn 1) arg2.view X_arg2 (k0_off1_inb i 1) (off1_eq i 1) a b).trans (congrFun h2 _)) (fun a b => (cols_read (hn 1) arg5.view X_arg5 (k0_off2_inb i 1) (off2_eq i 1) a b).trans (congrFun h5 _)) rfl _ y l).trans (congrArg (· + _) ?_)
  refine (V0 (fun a b => (rows_read (hn 0) arg2.view X_arg2 (k0_off1_inb i 0) (off1_eq i 0) a b).trans (congrFun h2 _)) (fun a b => (cols_read (hn 0) arg5.view X_arg5 (k0_off2_inb i 0) (off2_eq i 0) a b).trans (congrFun h5 _)) rfl _ y l).trans ?_
  rw [zero64]; rfl

end

theorem k61_apply (a : FVec Ideal S80x2048 .f32) (y : Fin 64) (l : Fin 2048) : k0_pay61 (F := Ideal) a (ix2 y l) = a (ix2 ⟨y, by omega⟩ l) := by pointwise [k0_pay61]
theorem k1_apply (a : FVec Ideal S64x2048 .f32) (y : Fin 64) (l : Fin 2048) : k0_pay1 (F := Ideal) a (ix2 y l) = a (ix2 y l) := by pointwise [k0_pay1]
theorem k2_apply (a : FVec Ideal S80x2048 .f32) (l : Fin 2048) : k0_pay2 (F := Ideal) a (ix3 0 0 l) = a (ix2 64 l) := by pointwise [k0_pay2]
theorem zero17 (z : S64x16384.Idx) : k0_pay17 (F := Ideal) z = 0 := by pointwise [k0_pay17]
theorem zero18 (z : S1x8x16384.Idx) : k0_pay18 (F := Ideal) z = 0 := by pointwise [k0_pay18]
theorem k20_eq (a : FVec Ideal S2048x128 .bf16) : k0_pay20 (F := Ideal) a = a := by
  funext z; rw [eq_ix2 z]; pointwise [k0_pay20]
theorem k21_eq (a : FVec Ideal S2048x128 .bf16) : k0_pay21 (F := Ideal) a = a := by
  funext z; rw [eq_ix2 z]; pointwise [k0_pay21]

end Cert.FoxKernelIdeal.Value
end
-- ==== Proof.FoxLeft.lean ====
module

public import proofs.«01_k».proof.Proof.FoxDiag

@[expose] public section

set_option maxRecDepth 16384

noncomputable section

/-! What the whole body leaves: the diagonal's four query tiles, then the loop over the later ones. -/

namespace Cert.FoxKernelIdeal.Value

open Cert.FoxKernelIdeal Cert.FoxKernelIdeal.Gen Idealize.ShloMosaic Idealize.ShloMosaic.TcCoe Idealize.SL.Sem

/-- The second loop makes no trip. -/
theorem trips2 (i : grid0.Coords) : (k0_t2_loop i).trips = 0 := by
  have key : ∀ j : Fin 8, Scf.trips (Scalar.addi (Scalar.muli (Scalar.addi (BitVec.ofNat 32 j.val) 1#32) 4#32)
        (Scalar.muli (Scalar.divsi (Scalar.subi 32#32 (Scalar.muli (Scalar.addi (BitVec.ofNat 32 j.val) 1#32) 4#32)) 1#32) 1#32))
      (Scalar.addi (Scalar.muli (Scalar.addi (BitVec.ofNat 32 j.val) 1#32) 4#32)
        (Scalar.subi 32#32 (Scalar.muli (Scalar.addi (BitVec.ofNat 32 j.val) 1#32) 4#32))) 1#32 = 0 := by decide +kernel
  exact key (i 1)

section
variable {j : ℕ} {X0 X1 : FVec Ideal S16384x128 .bf16} {X4 X5 : FVec Ideal S2048x128 .bf16} {X6 : FVec Ideal S64x2048 .bf16}

/-- Before the key tile a query's gradient is zero. -/
theorem dqT_none (y : Fin 80) {x : Fin 16384} (h : (x : ℕ) < 2048 * j) : dqT j X0 X1 X4 X5 X6 y x = 0 :=
  Finset.sum_eq_zero fun l _ => by rw [Gm_zero (by omega), mul_zero]

theorem dqAt_all (d : S64x16384.Idx → EReal) (y : Fin 64) (x : Fin 16384) :
    dqAt (4 * j) 32 (dqT j X0 X1 X4 X5 X6) d y x = d (ix2 y x) + dqT j X0 X1 X4 X5 X6 ⟨y, by omega⟩ x := by
  rw [dqAt]
  split_ifs with h
  · rfl
  · rw [dqT_none _ (by omega), add_zero]
theorem rsAt_all (d : S1x8x16384.Idx → EReal) (y : Fin 8) (x : Fin 16384) :
    rsAt (4 * j) 32 (dqT j X0 X1 X4 X5 X6) d y x = d (ix3 0 y x) + dqT j X0 X1 X4 X5 X6 ⟨64 + y, by omega⟩ x := by
  rw [rsAt]
  split_ifs with h
  · rfl
  · rw [dqT_none _ (by omega), add_zero]
end

section
variable (𝒱 : Variants) (c : Dev nD) (bd : Option 𝒱.V) (i : grid0.Coords)
  (arg2 : Memref sig .tc .vmem S16384x128 .bf16) (harg2 : arg2.IsWhole) (arg3 : Memref sig .tc .vmem S16384x128 .bf16) (harg3 : arg3.IsWhole)
  (arg4 : Memref sig .tc .vmem S64x16384 .bf16) (harg4 : arg4.IsWhole) (arg5 : Memref sig .tc .vmem S64x16384 .bf16) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S64x2048 .bf16) (harg8 : arg8.IsWhole) (arg9 : Memref sig .tc .vmem S64x16384 .f32) (harg9 : arg9.IsWhole)
  (arg10 : Memref sig .tc .vmem S1x8x16384 .f32) (harg10 : arg10.IsWhole) (arg11 : Memref sig .tc .vmem S64x2048 .bf16) (harg11 : arg11.IsWhole)
  (arg12 : Memref sig .tc .vmem S64x2048 .bf16) (harg12 : arg12.IsWhole) (arg13 : Memref sig .tc .vmem S1x1x2048 .f32) (harg13 : arg13.IsWhole)
  (arg1 : BitVec 32) (v190 : FVec Ideal S80x2048 .f32) (v194 : FVec Ideal S64x2048 .f32) (v198 : BitVec 32) (v208 : FVec Ideal S512x2048 .f32)
  (v214 : FVec Ideal S512x2048 .bf16) (v246 : BitVec 32)
  (w1 : BitVec 32) (w8 : FVec Ideal S16x2048 .bf16) (w10 w12 : FVec Ideal S2048x128 .bf16) (w15 : FVec Ideal S80x2048 .bf16)
  (w190 : FVec Ideal S80x2048 .f32) (w194 : FVec Ideal S64x2048 .f32) (w198 : BitVec 32) (w208 : FVec Ideal S512x2048 .f32)
  (w214 : FVec Ideal S512x2048 .bf16) (w251 : BitVec 32) (g9 : BufTy.Contents (Elt Ideal) arg9.view.ty) (g10 : BufTy.Contents (Elt Ideal) arg10.view.ty)
  {X0 X1 : FVec Ideal S16384x128 .bf16} {X2 X3 : FVec Ideal S64x16384 .bf16} (X4 X5 : FVec Ideal S2048x128 .bf16) (X6 : FVec Ideal S64x2048 .bf16)
  {X_arg2 : BufTy.Contents (Elt Ideal) arg2.view.ty} {X_arg3 : BufTy.Contents (Elt Ideal) arg3.view.ty} {X_arg4 : BufTy.Contents (Elt Ideal) arg4.view.ty}
  {X_arg5 : BufTy.Contents (Elt Ideal) arg5.view.ty} (h2 : arg2.view.read (Elt Ideal) X_arg2 = X0) (h3 : arg3.view.read (Elt Ideal) X_arg3 = X1)
  (h4 : arg4.view.read (Elt Ideal) X_arg4 = X2) (h5 : arg5.view.read (Elt Ideal) X_arg5 = X3)
  {f9 : BufTy.Contents (Elt Ideal) arg9.view.ty} {L9 : List (View.Piece (Elt Ideal) S64x16384 .f32)}
  {f10 : BufTy.Contents (Elt Ideal) arg10.view.ty} {L10 : List (View.Piece (Elt Ideal) S1x8x16384 .f32)}
  {init : FVec Ideal S80x2048 .f32 × FVec Ideal S64x2048 .f32} {d7 : S64x16384.Idx → EReal} {d8 : S1x8x16384.Idx → EReal}
  (h9 : ∀ y x, arg9.view.read (Elt Ideal) (arg9.view.writes (Elt Ideal) f9 L9) (ix2 y x) = dqAt (4 * (i 1).val) (4 * (i 1).val + 4) (dqT (i 1).val X0 X1 X4 X5 X6) d7 y x)
  (h10 : ∀ y x, arg10.view.read (Elt Ideal) (arg10.view.writes (Elt Ideal) f10 L10) (ix3 0 y x) = rsAt (4 * (i 1).val) (4 * (i 1).val + 4) (dqT (i 1).val X0 X1 X4 X5 X6) d8 y x)
  (hk : ∀ y l, init.1 (ix2 y l) = 0 + dkT (i 1).val X0 X1 X2 X4 X5 (4 * (i 1).val) y l + dkT (i 1).val X0 X1 X2 X4 X5 (4 * (i 1).val + 1) y l
        + dkT (i 1).val X0 X1 X2 X4 X5 (4 * (i 1).val + 2) y l + dkT (i 1).val X0 X1 X2 X4 X5 (4 * (i 1).val + 3) y l)
  (hv : ∀ y l, init.2 (ix2 y l) = 0 + dvT (i 1).val X0 X3 X4 (4 * (i 1).val) y l + dvT (i 1).val X0 X3 X4 (4 * (i 1).val + 1) y l
        + dvT (i 1).val X0 X3 X4 (4 * (i 1).val + 2) y l + dvT (i 1).val X0 X3 X4 (4 * (i 1).val + 3) y l)

include h2 h3 h4 h5 h9 h10 hk hv

/-- What the body leaves in its five output blocks. -/
theorem left :
    arg9.view.read (Elt Ideal) (arg9.view.writes (Elt Ideal) f9 ((st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).1 (k0_t2_loop i).trips).2.1 ++ ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).2.1 ++ L9))) = out7 (i 1).val X0 X1 X4 X5 X6 d7
      ∧ arg10.view.read (Elt Ideal) (arg10.view.writes (Elt Ideal) f10 ((st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).1 (k0_t2_loop i).trips).2.2 ++ ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).2.2 ++ L10))) = out8 (i 1).val X0 X1 X4 X5 X6 d8
      ∧ k0_pay61 (st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).1 (k0_t2_loop i).trips).1.1 = out9 (i 1).val X0 X1 X2 X4 X5
      ∧ k0_pay1 (st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).1 (k0_t2_loop i).trips).1.2 = out10 (i 1).val X0 X3 X4
      ∧ k0_pay2 (st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips).1 (k0_t2_loop i).trips).1.1 = out11 (i 1).val X0 X1 X2 X4 X5 := by
  have hi : (i 1).val < 8 := (i 1).isLt
  obtain ⟨i9, i10, i1, i2⟩ := loop_at 𝒱 c bd i arg2 harg2 arg3 harg3 arg4 harg4 arg5 harg5 arg6 harg6 arg7 harg7 arg8 harg8 arg9 harg9 arg10 harg10 arg11 harg11 arg12 harg12 arg13 harg13 arg1 v190 v194 v198 v208 v214 v246 X4 X5 X6 X_arg2 X_arg3 X_arg4 X_arg5
    (arg9.view.writes (Elt Ideal) f9 L9) (arg10.view.writes (Elt Ideal) f10 L10) init d7 d8 h2 h3 h4 h5 h9 h10 (k0_t1_loop i).trips (trips1 i).le
  generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 k0_pay19 X4 X5 (k0_pay22 X6) v190 v194 v198 v208 v214 v246 X_arg2 X_arg3 X_arg4 X_arg5 (arg9.view.writes (Elt Ideal) f9 L9) (arg10.view.writes (Elt Ideal) f10 L10) init (k0_t1_loop i).trips = S at i9 i10 i1 i2 ⊢
  have e2 : st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 S.1 (k0_t2_loop i).trips = (S.1, [], []) :=
    (congrArg (fun k => st_k0_t2 (F := Ideal) 𝒱 c bd i arg2 harg2 arg3 harg3 arg4 harg4 arg5 harg5 arg6 harg6 arg7 harg7 arg8 harg8 arg9 harg9 arg10 harg10 arg11 harg11 arg12 harg12 arg13 harg13 w1 w8 w10 w12 w15 w190 w194 w198 w208 w214 w251 X_arg2 X_arg3 X_arg4 X_arg5 g9 g10 S.1 k) (trips2 i)).trans rfl
  rw [e2]
  rw [trips1 i] at i9 i10 i1 i2
  rw [show 4 * (i 1).val + 4 + (28 - 4 * (i 1).val) = 32 by omega] at i9 i10
  have ek : ∀ y l, S.1.1 (ix2 y l) = ∑ n ∈ Finset.range 32, dkT (i 1).val X0 X1 X2 X4 X5 n y l := fun y l => by
    rw [i1, hk]; exact sum_tiles (i 1) (fun n => dkT (i 1).val X0 X1 X2 X4 X5 n y l) fun n hn => dk_none y (by omega)
  have ev : ∀ y l, S.1.2 (ix2 y l) = ∑ n ∈ Finset.range 32, dvT (i 1).val X0 X3 X4 n y l := fun y l => by
    rw [i2, hv]; exact sum_tiles (i 1) (fun n => dvT (i 1).val X0 X3 X4 n y l) fun n hn => dv_none y (by omega)
  rw [← View.writes_append] at i9 i10
  refine ⟨?_, ?_, ?_, ?_, ?_⟩
  · funext z
    have ez : z = ix2 (z 0) (z 1) := eq_ix2 z
    refine (congrArg _ ez).trans ((i9 (z 0) (z 1)).trans ((dqAt_all d7 (z 0) (z 1)).trans ?_))
    exact congrArg (d7 · + _) ez.symm
  · funext z
    have ez : z = ix3 0 (z 1) (z 2) := by blk_ext
    refine (congrArg _ ez).trans ((i10 (z 1) (z 2)).trans ((rsAt_all d8 (z 1) (z 2)).trans ?_))
    exact congrArg (d8 · + _) ez.symm
  · funext z
    refine (congrArg _ (eq_ix2 z)).trans ((k61_apply _ (z 0) (z 1)).trans (ek _ _))
  · funext z
    refine (congrArg _ (eq_ix2 z)).trans ((k1_apply _ (z 0) (z 1)).trans (ev _ _))
  · funext z
    have ez : z = ix3 0 0 (z 2) := by blk_ext
    exact (congrArg _ ez).trans ((k2_apply _ (z 2)).trans (ek _ _))

end

end Cert.FoxKernelIdeal.Value
end
-- ==== Proof.FoxPoint.lean ====
module

public import proofs.«01_k».proof.Proof.FoxLeft
public import proofs.«01_k».proof.Proof.Gen.FoxKernelIdeal.Frame

@[expose] public section

set_option maxRecDepth 16384

noncomputable section

/-! Small facts for the body's runs. -/

namespace Cert.FoxKernelIdeal.Value

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The point is the first key tile of its head. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 8 = 0 := by decide +kernel

section
variable {m n : ℕ} {T : Fin 80 → Fin 16384 → EReal}
theorem dqAt_same (d : S64x16384.Idx → EReal) (y : Fin 64) (x : Fin 16384) : dqAt m m T d y x = d (ix2 y x) := by
  rw [dqAt]; exact if_neg (by omega)
theorem rsAt_same (d : S1x8x16384.Idx → EReal) (y : Fin 8) (x : Fin 16384) : rsAt m m T d y x = d (ix3 0 y x) := by
  rw [rsAt]; exact if_neg (by omega)
theorem dqAt_later (d : S64x16384.Idx → EReal) (y : Fin 64) (x : Fin 16384) (h : 512 * n ≤ (x : ℕ)) : dqAt m n T d y x = d (ix2 y x) := by
  rw [dqAt]; exact if_neg (by omega)
theorem rsAt_later (d : S1x8x16384.Idx → EReal) (y : Fin 8) (x : Fin 16384) (h : 512 * n ≤ (x : ℕ)) : rsAt m n T d y x = d (ix3 0 y x) := by
  rw [rsAt]; exact if_neg (by omega)
end

theorem fill9 (v : Memref sig .tc .vmem S64x16384 .f32) (z : S64x16384.Idx) : v.view.read (Elt Ideal) (v.view.writes (Elt Ideal) v.view.junk
    [(⟨Rect.unit (s := S64x16384) ![0, 0] S64x16384.size inb_S64x16384_S64x16384_0_0, k0_pay17 (F := Ideal)⟩ : View.Piece (Elt Ideal) S64x16384 .f32)]) z = 0 := by
  rw [View.read_writes_full]; exact zero17 z
theorem fill10 (v : Memref sig .tc .vmem S1x8x16384 .f32) (z : S1x8x16384.Idx) : v.view.read (Elt Ideal) (v.view.writes (Elt Ideal) v.view.junk
    [(⟨Rect.unit (s := S1x8x16384) ![0, 0, 0] S1x8x16384.size inb_S1x8x16384_S1x8x16384_0_0_0, k0_pay18 (F := Ideal)⟩ : View.Piece (Elt Ideal) S1x8x16384 .f32)]) z = 0 := by
  rw [View.read_writes_full]; exact zero18 z

end Cert.FoxKernelIdeal.Value
end
-- ==== Proof.FoxRunA.lean ====
module

public import proofs.«01_k».proof.Proof.FoxPoint

@[expose] public section

set_option maxRecDepth 16384

noncomputable section

/-! The body at one grid point, read over the reals: at a head's first key tile it first zeroes the two accumulated blocks, later it adds to them. -/

namespace Cert.FoxKernelIdeal.Value

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
theorem runA (c : Dev nD) (i : grid0.Coords)
    (arg2 : Memref sig .tc .vmem S16384x128 .bf16) (harg2 : arg2.IsWhole)
    (arg3 : Memref sig .tc .vmem S16384x128 .bf16) (harg3 : arg3.IsWhole)
    (arg4 : Memref sig .tc .vmem S64x16384 .bf16) (harg4 : arg4.IsWhole)
    (arg5 : Memref sig .tc .vmem S64x16384 .bf16) (harg5 : arg5.IsWhole)
    (arg6 : Memref sig .tc .vmem S2048x128 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (hc : first i)
    (x0 : S16384x128.Idx → Elt Ideal .bf16) (x1 : S16384x128.Idx → Elt Ideal .bf16) (x2 : S64x16384.Idx → Elt Ideal .bf16) (x3 : S64x16384.Idx → Elt Ideal .bf16) (x4 : S2048x128.Idx → Elt Ideal .bf16) (x5 : S2048x128.Idx → Elt Ideal .bf16) (x6 : S64x2048.Idx → Elt Ideal .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
      ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare (out7 (i 1).val x0 x1 x4 x5 x6 (fun _ => 0)) ∗ owns (c : Thread nD τ) arg10 fullShare (out8 (i 1).val x0 x1 x4 x5 x6 (fun _ => 0)) ∗ owns (c : Thread nD τ) arg11 fullShare (out9 (i 1).val x0 x1 x2 x4 x5) ∗ owns (c : Thread nD τ) arg12 fullShare (out10 (i 1).val x0 x3 x4) ∗ owns (c : Thread nD τ) arg13 fullShare (out11 (i 1).val x0 x1 x2 x4 x5)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact hc)
  sl_step
  iapply Hk
  have e0 := harg2.read_unread (Val := Elt Ideal) x0
  have e1 := harg3.read_unread (Val := Elt Ideal) x1
  have e2 := harg4.read_unread (Val := Elt Ideal) x2
  have e3 := harg5.read_unread (Val := Elt Ideal) x3
  have w4 : k0_pay20 (F := Ideal) (arg6.view.readAt (Elt Ideal) (Rect.unit (s := S2048x128) ![0, 0] S2048x128.size inb_S2048x128_S2048x128_0_0).toLoadRect (harg6.unread x4)) = x4 := (k20_eq _).trans ((View.readAt_full ..).trans (harg6.read_unread _))
  have w5 : k0_pay21 (F := Ideal) (arg7.view.readAt (Elt Ideal) (Rect.unit (s := S2048x128) ![0, 0] S2048x128.size inb_S2048x128_S2048x128_0_0).toLoadRect (harg7.unread x5)) = x5 := (k21_eq _).trans ((View.readAt_full ..).trans (harg7.read_unread _))
  have w6 : (arg8.view.readAt (Elt Ideal) (Rect.unit (s := S64x2048) ![0, 0] S64x2048.size inb_S64x2048_S64x2048_0_0).toLoadRect (harg8.unread x6)) = x6 := (View.readAt_full ..).trans (harg8.read_unread _)
  have e9 := (k20_eq (arg6.view.readAt (Elt Ideal) (Rect.unit (s := S2048x128) ![0, 0] S2048x128.size inb_S2048x128_S2048x128_0_0).toLoadRect (harg6.unread x4))).symm
  have e11 := (k21_eq (arg7.view.readAt (Elt Ideal) (Rect.unit (s := S2048x128) ![0, 0] S2048x128.size inb_S2048x128_S2048x128_0_0).toLoadRect (harg7.unread x5))).symm
  have b90 : ∀ y x, arg9.view.read (Elt Ideal) (arg9.view.writes (Elt Ideal) arg9.view.junk [(⟨Rect.unit (s := S64x16384) ![0, 0] S64x16384.size inb_S64x16384_S64x16384_0_0, k0_pay17 (F := Ideal)⟩ : View.Piece (Elt Ideal) S64x16384 .f32)]) (ix2 y x) = dqAt (4 * (i 1).val) (4 * (i 1).val)
      (dqT (i 1).val x0 x1 (k0_pay20 (F := Ideal) (arg6.view.readAt (Elt Ideal) (Rect.unit (s := S2048x128) ![0, 0] S2048x128.size inb_S2048x128_S2048x128_0_0).toLoadRect (harg6.unread x4))) (k0_pay21 (F := Ideal) (arg7.view.readAt (Elt Ideal) (Rect.unit (s := S2048x128) ![0, 0] S2048x128.size inb_S2048x128_S2048x128_0_0).toLoadRect (harg7.unread x5))) (arg8.view.readAt (Elt Ideal) (Rect.unit (s := S64x2048) ![0, 0] S64x2048.size inb_S64x2048_S64x2048_0_0).toLoadRect (harg8.unread x6))) (fun _ => 0) y x := fun y x =>
    (fill9 arg9 _).trans (dqAt_same (fun _ => 0) y x).symm
  have b91 := dq0 (h2 := e0) (h3 := e1) (hf := b90) (ha := fun y x h => (b90 y x).trans (dqAt_later _ y x h)) (e9 := e9) (e11 := e11)
  have b92 := dq1 (h2 := e0) (h3 := e1) (hf := b91) (ha := fun y x h => (b91 y x).trans (dqAt_later _ y x h))
  have b93 := dq2 (h2 := e0) (h3 := e1) (hf := b92) (ha := fun y x h => (b92 y x).trans (dqAt_later _ y x h))
  have b94 := dq3 (h2 := e0) (h3 := e1) (hf := b93) (ha := fun y x h => (b93 y x).trans (dqAt_later _ y x h))
  have b100 : ∀ y x, arg10.view.read (Elt Ideal) (arg10.view.writes (Elt Ideal) arg10.view.junk [(⟨Rect.unit (s := S1x8x16384) ![0, 0, 0] S1x8x16384.size inb_S1x8x16384_S1x8x16384_0_0_0, k0_pay18 (F := Ideal)⟩ : View.Piece (Elt Ideal) S1x8x16384 .f32)]) (ix3 0 y x) = rsAt (4 * (i 1).val) (4 * (i 1).val)
      (dqT (i 1).val x0 x1 (k0_pay20 (F := Ideal) (arg6.view.readAt (Elt Ideal) (Rect.unit (s := S2048x128) ![0, 0] S2048x128.size inb_S2048x128_S2048x128_0_0).toLoadRect (harg6.unread x4))) (k0_pay21 (F := Ideal) (arg7.view.readAt (Elt Ideal) (Rect.unit (s := S2048x128) ![0, 0] S2048x128.size inb_S2048x128_S2048x128_0_0).toLoadRect (harg7.unread x5))) (arg8.view.readAt (Elt Ideal) (Rect.unit (s := S64x2048) ![0, 0] S64x2048.size inb_S64x2048_S64x2048_0_0).toLoadRect (harg8.unread x6))) (fun _ => 0) y x := fun y x =>
    (fill10 arg10 _).trans (rsAt_same (fun _ => 0) y x).symm
  have b101 := rs0 (h2 := e0) (h3 := e1) (hf := b100) (ha := fun y x h => (b100 y x).trans (rsAt_later _ y x h)) (e9 := e9) (e11 := e11)
  have b102 := rs1 (h2 := e0) (h3 := e1) (hf := b101) (ha := fun y x h => (b101 y x).trans (rsAt_later _ y x h))
  have b103 := rs2 (h2 := e0) (h3 := e1) (hf := b102) (ha := fun y x h => (b102 y x).trans (rsAt_later _ y x h))
  have b104 := rs3 (h2 := e0) (h3 := e1) (hf := b103) (ha := fun y x h => (b103 y x).trans (rsAt_later _ y x h))
  have hdk := dk_diag (i := i) (h2 := e0) (h3 := e1) (h4 := e2) (e9 := e9) (e11 := e11)
  have hdv := dv_diag (i := i) (X5 := k0_pay21 (F := Ideal) (arg7.view.readAt (Elt Ideal) (Rect.unit (s := S2048x128) ![0, 0] S2048x128.size inb_S2048x128_S2048x128_0_0).toLoadRect (harg7.unread x5))) (h2 := e0) (h5 := e3) (e9 := e9) (e11 := e11)
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).1.trans ?_
    rw [w4, w5, w6]
  isplitl [H8]
  · iexists _; isplitr; swap; · iexact H8
    ipureintro
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.1.trans ?_
    rw [w4, w5, w6]
  isplitl [H9]
  · iexists _; isplitr; swap; · iexact H9
    ipureintro
    refine (View.read_writes_full ..).trans ?_
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.2.1.trans ?_
    rw [w4, w5]
  isplitl [H10]
  · iexists _; isplitr; swap; · iexact H10
    ipureintro
    refine (View.read_writes_full ..).trans ?_
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.2.2.1.trans ?_
    rw [w4]
  iexists _; isplitr; swap; · iexact H11
  ipureintro
  refine (View.read_writes_full ..).trans ?_
  refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
        (init := (_, _)) (h2 := e0) (h3 := e1) (h4 := e2) (h5 := e3) (h9 := b94) (h10 := b104)
        (hk := hdk)
        (hv := hdv)).2.2.2.2.trans ?_
  rw [w4, w5]

end Cert.FoxKernelIdeal.Value
end
-- ==== Proof.FoxRunB.lean ====
module

public import proofs.«01_k».proof.Proof.FoxPoint

@[expose] public section

set_option maxRecDepth 16384

noncomputable section

/-! The body at one grid point, read over the reals: at a head's first key tile it first zeroes the two accumulated blocks, later it adds to them. -/

namespace Cert.FoxKernelIdeal.Value

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
theorem runB (c : Dev nD) (i : grid0.Coords)
    (arg2 : Memref sig .tc .vmem S16384x128 .bf16) (harg2 : arg2.IsWhole)
    (arg3 : Memref sig .tc .vmem S16384x128 .bf16) (harg3 : arg3.IsWhole)
    (arg4 : Memref sig .tc .vmem S64x16384 .bf16) (harg4 : arg4.IsWhole)
    (arg5 : Memref sig .tc .vmem S64x16384 .bf16) (harg5 : arg5.IsWhole)
    (arg6 : Memref sig .tc .vmem S2048x128 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (hc : ¬ first i)
    (x0 : S16384x128.Idx → Elt Ideal .bf16) (x1 : S16384x128.Idx → Elt Ideal .bf16) (x2 : S64x16384.Idx → Elt Ideal .bf16) (x3 : S64x16384.Idx → Elt Ideal .bf16) (x4 : S2048x128.Idx → Elt Ideal .bf16) (x5 : S2048x128.Idx → Elt Ideal .bf16) (x6 : S64x2048.Idx → Elt Ideal .bf16)
    (d7 : S64x16384.Idx → Elt Ideal .f32) (d8 : S1x8x16384.Idx → Elt Ideal .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
      ∗ owns (c : Thread nD τ) arg9 fullShare d7 ∗ owns (c : Thread nD τ) arg10 fullShare d8
      ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare (out7 (i 1).val x0 x1 x4 x5 x6 d7) ∗ owns (c : Thread nD τ) arg10 fullShare (out8 (i 1).val x0 x1 x4 x5 x6 d8) ∗ owns (c : Thread nD τ) arg11 fullShare (out9 (i 1).val x0 x1 x2 x4 x5) ∗ owns (c : Thread nD τ) arg12 fullShare (out10 (i 1).val x0 x3 x4) ∗ owns (c : Thread nD τ) arg13 fullShare (out11 (i 1).val x0 x1 x2 x4 x5)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg9.eq_unread hf7; obtain rfl := harg10.eq_unread hf8
  sl_exec (disch := first | sl_exact hc)
  sl_step
  iapply Hk
  have e0 := harg2.read_unread (Val := Elt Ideal) x0
  have e1 := harg3.read_unread (Val := Elt Ideal) x1
  have e2 := harg4.read_unread (Val := Elt Ideal) x2
  have e3 := harg5.read_unread (Val := Elt Ideal) x3
  have w4 : k0_pay20 (F := Ideal) (arg6.view.readAt (Elt Ideal) (Rect.unit (s := S2048x128) ![0, 0] S2048x128.size inb_S2048x128_S2048x128_0_0).toLoadRect (harg6.unread x4)) = x4 := (k20_eq _).trans ((View.readAt_full ..).trans (harg6.read_unread _))
  have w5 : k0_pay21 (F := Ideal) (arg7.view.readAt (Elt Ideal) (Rect.unit (s := S2048x128) ![0, 0] S2048x128.size inb_S2048x128_S2048x128_0_0).toLoadRect (harg7.unread x5)) = x5 := (k21_eq _).trans ((View.readAt_full ..).trans (harg7.read_unread _))
  have w6 : (arg8.view.readAt (Elt Ideal) (Rect.unit (s := S64x2048) ![0, 0] S64x2048.size inb_S64x2048_S64x2048_0_0).toLoadRect (harg8.unread x6)) = x6 := (View.readAt_full ..).trans (harg8.read_unread _)
  have e9 := (k20_eq (arg6.view.readAt (Elt Ideal) (Rect.unit (s := S2048x128) ![0, 0] S2048x128.size inb_S2048x128_S2048x128_0_0).toLoadRect (harg6.unread x4))).symm
  have e11 := (k21_eq (arg7.view.readAt (Elt Ideal) (Rect.unit (s := S2048x128) ![0, 0] S2048x128.size inb_S2048x128_S2048x128_0_0).toLoadRect (harg7.unread x5))).symm
  have b90 : ∀ y x, arg9.view.read (Elt Ideal) (arg9.view.writes (Elt Ideal) (harg9.unread d7) []) (ix2 y x) = dqAt (4 * (i 1).val) (4 * (i 1).val)
      (dqT (i 1).val x0 x1 (k0_pay20 (F := Ideal) (arg6.view.readAt (Elt Ideal) (Rect.unit (s := S2048x128) ![0, 0] S2048x128.size inb_S2048x128_S2048x128_0_0).toLoadRect (harg6.unread x4))) (k0_pay21 (F := Ideal) (arg7.view.readAt (Elt Ideal) (Rect.unit (s := S2048x128) ![0, 0] S2048x128.size inb_S2048x128_S2048x128_0_0).toLoadRect (harg7.unread x5))) (arg8.view.readAt (Elt Ideal) (Rect.unit (s := S64x2048) ![0, 0] S64x2048.size inb_S64x2048_S64x2048_0_0).toLoadRect (harg8.unread x6))) d7 y x := fun y x =>
    (congrFun (harg9.read_unread d7) _).trans (dqAt_same d7 y x).symm
  have b91 := dq0 (h2 := e0) (h3 := e1) (hf := b90) (ha := fun y x _ => congrFun (harg9.read_unread d7) _) (e9 := e9) (e11 := e11)
  have b92 := dq1 (h2 := e0) (h3 := e1) (hf := b91) (ha := fun y x _ => congrFun (harg9.read_unread d7) _)
  have b93 := dq2 (h2 := e0) (h3 := e1) (hf := b92) (ha := fun y x _ => congrFun (harg9.read_unread d7) _)
  have b94 := dq3 (h2 := e0) (h3 := e1) (hf := b93) (ha := fun y x _ => congrFun (harg9.read_unread d7) _)
  have b100 : ∀ y x, arg10.view.read (Elt Ideal) (arg10.view.writes (Elt Ideal) (harg10.unread d8) []) (ix3 0 y x) = rsAt (4 * (i 1).val) (4 * (i 1).val)
      (dqT (i 1).val x0 x1 (k0_pay20 (F := Ideal) (arg6.view.readAt (Elt Ideal) (Rect.unit (s := S2048x128) ![0, 0] S2048x128.size inb_S2048x128_S2048x128_0_0).toLoadRect (harg6.unread x4))) (k0_pay21 (F := Ideal) (arg7.view.readAt (Elt Ideal) (Rect.unit (s := S2048x128) ![0, 0] S2048x128.size inb_S2048x128_S2048x128_0_0).toLoadRect (harg7.unread x5))) (arg8.view.readAt (Elt Ideal) (Rect.unit (s := S64x2048) ![0, 0] S64x2048.size inb_S64x2048_S64x2048_0_0).toLoadRect (harg8.unread x6))) d8 y x := fun y x =>
    (congrFun (harg10.read_unread d8) _).trans (rsAt_same d8 y x).symm
  have b101 := rs0 (h2 := e0) (h3 := e1) (hf := b100) (ha := fun y x _ => congrFun (harg10.read_unread d8) _) (e9 := e9) (e11 := e11)
  have b102 := rs1 (h2 := e0) (h3 := e1) (hf := b101) (ha := fun y x _ => congrFun (harg10.read_unread d8) _)
  have b103 := rs2 (h2 := e0) (h3 := e1) (hf := b102) (ha := fun y x _ => congrFun (harg10.read_unread d8) _)
  have b104 := rs3 (h2 := e0) (h3 := e1) (hf := b103) (ha := fun y x _ => congrFun (harg10.read_unread d8) _)
  have hdk := dk_diag (i := i) (h2 := e0) (h3 := e1) (h4 := e2) (e9 := e9) (e11 := e11)
  have hdv := dv_diag (i := i) (X5 := k0_pay21 (F := Ideal) (arg7.view.readAt (Elt Ideal) (Rect.unit (s := S2048x128) ![0, 0] S2048x128.size inb_S2048x128_S2048x128_0_0).toLoadRect (harg7.unread x5))) (h2 := e0) (h5 := e3) (e9 := e9) (e11 := e11)
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).1.trans ?_
    rw [w4, w5, w6]
  isplitl [H8]
  · iexists _; isplitr; swap; · iexact H8
    ipureintro
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.1.trans ?_
    rw [w4, w5, w6]
  isplitl [H9]
  · iexists _; isplitr; swap; · iexact H9
    ipureintro
    refine (View.read_writes_full ..).trans ?_
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.2.1.trans ?_
    rw [w4, w5]
  isplitl [H10]
  · iexists _; isplitr; swap; · iexact H10
    ipureintro
    refine (View.read_writes_full ..).trans ?_
    refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
          (init := (_, _)) (h2 := e0) (h3 := e1) (h4 := e2) (h5 := e3) (h9 := b94) (h10 := b104)
          (hk := hdk)
          (hv := hdv)).2.2.2.1.trans ?_
    rw [w4]
  iexists _; isplitr; swap; · iexact H11
  ipureintro
  refine (View.read_writes_full ..).trans ?_
  refine (left (𝒱 := _) (c := _) (bd := _) (i := _) (arg2 := _) (harg2 := _) (arg3 := _) (harg3 := _) (arg4 := _) (harg4 := _) (arg5 := _) (harg5 := _) (arg6 := _) (harg6 := _) (arg7 := _) (harg7 := _) (arg8 := _) (harg8 := _) (arg9 := _) (harg9 := _) (arg10 := _) (harg10 := _) (arg11 := _) (harg11 := _) (arg12 := _) (harg12 := _) (arg13 := _) (harg13 := _) (arg1 := _) (v190 := _) (v194 := _) (v198 := _) (v208 := _) (v214 := _) (v246 := _) (w1 := _) (w8 := _) (w10 := _) (w12 := _) (w15 := _) (w190 := _) (w194 := _) (w198 := _) (w208 := _) (w214 := _) (w251 := _) (g9 := _) (g10 := _) (X4 := _) (X5 := _) (X6 := _)
        (init := (_, _)) (h2 := e0) (h3 := e1) (h4 := e2) (h5 := e3) (h9 := b94) (h10 := b104)
        (hk := hdk)
        (hv := hdv)).2.2.2.2.trans ?_
  rw [w4, w5]

end Cert.FoxKernelIdeal.Value
end
-- ==== Proof.FoxLaunch.lean ====
module

public import proofs.«01_k».proof.Proof.FoxRunA
public import proofs.«01_k».proof.Proof.FoxRunB
public import Idealize.ShloMosaic.Lib.Claim

@[expose] public section

set_option maxRecDepth 16384

noncomputable section

/-! The attention's backward launched: what the body leaves at each grid point. -/

namespace Cert.FoxKernelIdeal.Value

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The key tile of a grid point. -/
abbrev tile (t : Fin cfg0.N) : ℕ := (grid0.coords t 1).val

/-- The queries' gradients so far: the sum over the head's key tiles up to this one. -/
def acc7 (c : Dev nD) : (n : ℕ) → n < cfg0.N → S64x16384.Idx → EReal
  | 0, h => out7 (tile ⟨0, h⟩) (iblk m c 0 ⟨0, h⟩) (iblk m c 1 ⟨0, h⟩) (iblk m c 4 ⟨0, h⟩) (iblk m c 5 ⟨0, h⟩) (iblk m c 6 ⟨0, h⟩) (fun _ => 0)
  | n + 1, h => out7 (tile ⟨n + 1, h⟩) (iblk m c 0 ⟨n + 1, h⟩) (iblk m c 1 ⟨n + 1, h⟩) (iblk m c 4 ⟨n + 1, h⟩) (iblk m c 5 ⟨n + 1, h⟩) (iblk m c 6 ⟨n + 1, h⟩)
      (if (n + 1) % 8 = 0 then fun _ => 0 else acc7 c n (Nat.lt_of_succ_lt h))

/-- The sums along the keys so far. -/
def acc8 (c : Dev nD) : (n : ℕ) → n < cfg0.N → S1x8x16384.Idx → EReal
  | 0, h => out8 (tile ⟨0, h⟩) (iblk m c 0 ⟨0, h⟩) (iblk m c 1 ⟨0, h⟩) (iblk m c 4 ⟨0, h⟩) (iblk m c 5 ⟨0, h⟩) (iblk m c 6 ⟨0, h⟩) (fun _ => 0)
  | n + 1, h => out8 (tile ⟨n + 1, h⟩) (iblk m c 0 ⟨n + 1, h⟩) (iblk m c 1 ⟨n + 1, h⟩) (iblk m c 4 ⟨n + 1, h⟩) (iblk m c 5 ⟨n + 1, h⟩) (iblk m c 6 ⟨n + 1, h⟩)
      (if (n + 1) % 8 = 0 then fun _ => 0 else acc8 c n (Nat.lt_of_succ_lt h))

theorem acc7_first (c : Dev nD) (t : Fin cfg0.N) (h0 : t.val % 8 = 0) :
    acc7 m c t.val t.isLt = out7 (tile t) (iblk m c 0 t) (iblk m c 1 t) (iblk m c 4 t) (iblk m c 5 t) (iblk m c 6 t) (fun _ => 0) := by
  obtain ⟨n, h⟩ := t
  cases n with
  | zero => rfl
  | succ n => show out7 _ _ _ _ _ _ (if (n + 1) % 8 = 0 then _ else _) = _; rw [if_pos h0]

theorem acc7_next (c : Dev nD) (t : Fin cfg0.N) (h0 : ¬ t.val % 8 = 0) :
    acc7 m c t.val t.isLt = out7 (tile t) (iblk m c 0 t) (iblk m c 1 t) (iblk m c 4 t) (iblk m c 5 t) (iblk m c 6 t)
      (acc7 m c (t.val - 1) (Nat.lt_of_le_of_lt (Nat.sub_le _ _) t.isLt)) := by
  obtain ⟨n, h⟩ := t
  cases n with
  | zero => exact absurd rfl h0
  | succ n => show out7 _ _ _ _ _ _ (if (n + 1) % 8 = 0 then _ else _) = _; rw [if_neg h0]; rfl

theorem acc8_first (c : Dev nD) (t : Fin cfg0.N) (h0 : t.val % 8 = 0) :
    acc8 m c t.val t.isLt = out8 (tile t) (iblk m c 0 t) (iblk m c 1 t) (iblk m c 4 t) (iblk m c 5 t) (iblk m c 6 t) (fun _ => 0) := by
  obtain ⟨n, h⟩ := t
  cases n with
  | zero => rfl
  | succ n => show out8 _ _ _ _ _ _ (if (n + 1) % 8 = 0 then _ else _) = _; rw [if_pos h0]

theorem acc8_next (c : Dev nD) (t : Fin cfg0.N) (h0 : ¬ t.val % 8 = 0) :
    acc8 m c t.val t.isLt = out8 (tile t) (iblk m c 0 t) (iblk m c 1 t) (iblk m c 4 t) (iblk m c 5 t) (iblk m c 6 t)
      (acc8 m c (t.val - 1) (Nat.lt_of_le_of_lt (Nat.sub_le _ _) t.isLt)) := by
  obtain ⟨n, h⟩ := t
  cases n with
  | zero => exact absurd rfl h0
  | succ n => show out8 _ _ _ _ _ _ (if (n + 1) % 8 = 0 then _ else _) = _; rw [if_neg h0]; rfl

/-- What the pipeline holds at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc7 m c t.val t.isLt
    | ⟨8, _⟩ => acc8 m c t.val t.isLt
    | ⟨9, _⟩ => out9 (tile t) (iblk m c 0 t) (iblk m c 1 t) (iblk m c 2 t) (iblk m c 4 t) (iblk m c 5 t)
    | ⟨10, _⟩ => out10 (tile t) (iblk m c 0 t) (iblk m c 3 t) (iblk m c 4 t)
    | ⟨11, _⟩ => out11 (tile t) (iblk m c 0 t) (iblk m c 1 t) (iblk m c 2 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = acc7 m c t.val t.isLt := by dsimp only [dats]
theorem after8 (c : Dev nD) (t : Fin cfg0.N) : (dats m 0 c).after 8 t = acc8 m c t.val t.isLt := by dsimp only [dats]
theorem after9 (c : Dev nD) (t : Fin cfg0.N) : (dats m 0 c).after 9 t = out9 (tile t) (iblk m c 0 t) (iblk m c 1 t) (iblk m c 2 t) (iblk m c 4 t) (iblk m c 5 t) := by dsimp only [dats]
theorem after10 (c : Dev nD) (t : Fin cfg0.N) : (dats m 0 c).after 10 t = out10 (tile t) (iblk m c 0 t) (iblk m c 3 t) (iblk m c 4 t) := by dsimp only [dats]
theorem after11 (c : Dev nD) (t : Fin cfg0.N) : (dats m 0 c).after 11 t = out11 (tile t) (iblk m c 0 t) (iblk m c 1 t) (iblk m c 2 t) (iblk m c 4 t) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem before7_next (c : Dev nD) (t : Fin cfg0.N) (h0 : ¬ t.val % 8 = 0) (d) :
    (dats m 0 c).before 7 t d = acc7 m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

theorem before8_next (c : Dev nD) (t : Fin cfg0.N) (h0 : ¬ t.val % 8 = 0) (d) :
    (dats m 0 c).before 8 t d = acc8 m c (t.val - 1) (Nat.lt_of_le_of_lt (Nat.sub_le _ _) t.isLt) := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

set_option maxHeartbeats 2400000 in
/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  by_cases h0 : t.val % 8 = 0
  · rw [acc7_first m c t h0, acc8_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [acc7_next m c t h0, acc8_next m c t h0]
    simp only [before7_next m c t h0, before8_next m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

end Cert.FoxKernelIdeal.Value
end
-- ==== Proof.FoxRun.lean ====
module

public import proofs.«01_k».proof.Proof.FoxLaunch
public import Idealize.ShloMosaic.Lib.Claim

@[expose] public section

set_option maxRecDepth 16384

noncomputable section

/-! The run of the whole program. -/

namespace Cert.FoxKernelIdeal.Value

open Cert.FoxKernelIdeal Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
set_option maxHeartbeats 3200000 in
/-- The run: every array of the call ends at what the grid's points leave there, and no semaphore is left counting. -/
theorem run_quiescent : θ_run defs (onTc (τ := τ) (main (F := Ideal))) (s₀ m ρ)
    (fun r => (Pipeline.FramePost cfgs (dats m) 0 (Pipeline.afterTail₀ cfgs (dats m) 0 (Gen.V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps)
    (hmain := hmain m Variants.none) (hA := A_eq m) (hΦ := fun _ _ => rfl)

/-- The arguments end unchanged and no semaphore is left counting. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FoxKernelIdeal.Value
end
-- ==== Proof.FoxArray.lean ====
module

public import proofs.«01_k».proof.Proof.FoxRun
public import Idealize.ShloMosaic.Lib.Pipeline.ValueKit
public import Idealize.ShloMosaic.Lib.Pipeline.ReadBack

@[expose] public section

set_option maxRecDepth 16384

noncomputable section

/-! The arrays that the attention's backward leaves, as functions of the seven arrays it reads. -/

namespace Cert.FoxKernelIdeal.Value

open Cert.FoxKernelIdeal Cert.FoxKernelIdeal.Gen Idealize.ShloMosaic Idealize.ShloMosaic.TcCoe Idealize.SL.Sem
open Idealize.ShloMosaic.Pipeline (Dat)
open Idealize.ShloMosaic.Tactic

/-- Column `c` of head `h`'s 128 packed columns. -/
def lane (h : Fin 8) (c : Fin 128) : Fin 1024 := ⟨h.val * 128 + c, by omega⟩
/-- Column `y` of head `h`'s 64. -/
def hcol (h : Fin 8) (y : Fin 64) : Fin 512 := ⟨h.val * 64 + y, by omega⟩
/-- Key `l` of key tile `j`. -/
def krow (j : Fin 8) (l : Fin 2048) : Fin 16384 := ⟨j.val * 2048 + l, by omega⟩

theorem lane_val (h : Fin 8) (c : Fin 128) : (lane h c : ℕ) = h.val * 128 + c := rfl
theorem hcol_val (h : Fin 8) (y : Fin 64) : (hcol h y : ℕ) = h.val * 64 + y := rfl
theorem krow_val (j : Fin 8) (l : Fin 2048) : (krow j l : ℕ) = j.val * 2048 + l := rfl

section pure
variable (Q O K W : FVec Ideal S16384x1024 .bf16)

/-- The probability of query `x` and key `y` in head `h`. -/
def wt (h : Fin 8) (x y : Fin 16384) : EReal :=
  if (y : ℕ) ≤ x then Ideal.exp2 (∑ c : Fin 128, Q (ix2 x (lane h c)) * K (ix2 y (lane h c))) else 0

/-- The gradient of its score. -/
def gr (h : Fin 8) (x y : Fin 16384) : EReal := wt Q K h x y * ∑ c : Fin 128, O (ix2 x (lane h c)) * W (ix2 y (lane h c))
end pure

variable (m : (ℓ : Loc nD τ sig) → Buf (Elt Ideal) ℓ) (ρ : Dev nD → PrngReg)

/-- The head and the key tile of a grid point. -/
def hd (t : Fin cfg0.N) : Fin 8 := ⟨t.val / 8, by have := lt_of_lt_of_eq t.isLt N_0; omega⟩
def kt (t : Fin cfg0.N) : Fin 8 := ⟨t.val % 8, by omega⟩
theorem hd_val (t : Fin cfg0.N) : (hd t : ℕ) = t.val / 8 := rfl
theorem kt_val (t : Fin cfg0.N) : (kt t : ℕ) = t.val % 8 := rfl

theorem tile_eq : ∀ t : Fin cfg0.N, tile t = t.val % 8 := (by decide +kernel : ∀ t : Fin grid0.N, (grid0.coords t 1).val = t.val % 8)

theorem idx : ∀ t : Fin cfg0.N, win0_0.index t = ![0, t.val / 8] ∧ win0_1.index t = ![0, t.val / 8] ∧ win0_2.index t = ![t.val / 8, 0] ∧ win0_3.index t = ![t.val / 8, 0] ∧
    win0_4.index t = ![t.val % 8, t.val / 8] ∧ win0_5.index t = ![t.val % 8, t.val / 8] ∧ win0_6.index t = ![t.val / 8, t.val % 8] ∧ win0_7.index t = ![t.val / 8, 0] ∧
    win0_8.index t = ![t.val / 8, 0, 0] ∧ win0_9.index t = ![t.val / 8, t.val % 8] ∧ win0_10.index t = ![t.val / 8, t.val % 8] ∧
    win0_11.index t = ![t.val / 8, 0, t.val % 8] := (by decide +kernel : ∀ t : Fin grid0.N, _)

section blocks
variable (c : Dev nD) (t : Fin cfg0.N)

/-- The arrays that the region reads. -/
abbrev aQ : FVec Ideal S16384x1024 .bf16 := V m c main_v79
abbrev aO : FVec Ideal S16384x1024 .bf16 := V m c main_v119
abbrev aK : FVec Ideal S16384x1024 .bf16 := V m c main_v97
abbrev aW : FVec Ideal S16384x1024 .bf16 := V m c main_v102
abbrev aq : FVec Ideal S512x16384 .bf16 := V m c main_v123
abbrev ag : FVec Ideal S512x16384 .bf16 := V m c main_v125
abbrev ak : FVec Ideal S512x16384 .bf16 := V m c main_v129

theorem blk0 (x : Fin 16384) (y : Fin 128) : (iblk m c 0 t : FVec Ideal S16384x128 .bf16) (ix2 x y) = aQ m c (ix2 x (lane (hd t) y)) := by
  have e : iblk m c 0 t = fun x => aQ m c (((cfg0.win 0).blk t).view.emb x) := rfl
  exact (congrFun e _).trans (congrArg _ (by blk_ext [idx t, lane_val, hd_val]))
theorem blk1 (x : Fin 16384) (y : Fin 128) : (iblk m c 1 t : FVec Ideal S16384x128 .bf16) (ix2 x y) = aO m c (ix2 x (lane (hd t) y)) := by
  have e : iblk m c 1 t = fun x => aO m c (((cfg0.win 1).blk t).view.emb x) := rfl
  exact (congrFun e _).trans (congrArg _ (by blk_ext [idx t, lane_val, hd_val]))
theorem blk2 (y : Fin 64) (x : Fin 16384) : (iblk m c 2 t : FVec Ideal S64x16384 .bf16) (ix2 y x) = aq m c (ix2 (hcol (hd t) y) x) := by
  have e : iblk m c 2 t = fun x => aq m c (((cfg0.win 2).blk t).view.emb x) := rfl
  exact (congrFun e _).trans (congrArg _ (by blk_ext [idx t, hcol_val, hd_val]))
theorem blk3 (y : Fin 64) (x : Fin 16384) : (iblk m c 3 t : FVec Ideal S64x16384 .bf16) (ix2 y x) = ag m c (ix2 (hcol (hd t) y) x) := by
  have e : iblk m c 3 t = fun x => ag m c (((cfg0.win 3).blk t).view.emb x) := rfl
  exact (congrFun e _).trans (congrArg _ (by blk_ext [idx t, hcol_val, hd_val]))
theorem blk4 (l : Fin 2048) (y : Fin 128) : (iblk m c 4 t : FVec Ideal S2048x128 .bf16) (ix2 l y) = aK m c (ix2 (krow (kt t) l) (lane (hd t) y)) := by
  have e : iblk m c 4 t = fun x => aK m c (((cfg0.win 4).blk t).view.emb x) := rfl
  exact (congrFun e _).trans (congrArg _ (by blk_ext [idx t, lane_val, hd_val, krow_val, kt_val]))
theorem blk5 (l : Fin 2048) (y : Fin 128) : (iblk m c 5 t : FVec Ideal S2048x128 .bf16) (ix2 l y) = aW m c (ix2 (krow (kt t) l) (lane (hd t) y)) := by
  have e : iblk m c 5 t = fun x => aW m c (((cfg0.win 5).blk t).view.emb x) := rfl
  exact (congrFun e _).trans (congrArg _ (by blk_ext [idx t, lane_val, hd_val, krow_val, kt_val]))
theorem blk6 (y : Fin 64) (l : Fin 2048) : (iblk m c 6 t : FVec Ideal S64x2048 .bf16) (ix2 y l) = ak m c (ix2 (hcol (hd t) y) (krow (kt t) l)) := by
  have e : iblk m c 6 t = fun x => ak m c (((cfg0.win 6).blk t).view.emb x) := rfl
  exact (congrFun e _).trans (congrArg _ (by blk_ext [idx t, hcol_val, hd_val, krow_val, kt_val]))

/-- The launched arrays' probabilities and score gradients. -/
abbrev aP (h : Fin 8) (x y : Fin 16384) : EReal := wt (aQ m c) (aK m c) h x y
abbrev aG (h : Fin 8) (x y : Fin 16384) : EReal := gr (aQ m c) (aO m c) (aK m c) (aW m c) h x y

theorem P_blk (x : Fin 16384) (l : Fin 2048) : Pm (tile t) (iblk m c 0 t) (iblk m c 4 t) x l = aP m c (hd t) x (krow (kt t) l) := by
  unfold Pm aP wt
  simp only [blk0, blk4]
  rw [tile_eq, krow_val, kt_val, Nat.mul_comm 2048]

theorem G_blk (x : Fin 16384) (l : Fin 2048) :
    Gm (tile t) (iblk m c 0 t) (iblk m c 1 t) (iblk m c 4 t) (iblk m c 5 t) x l = aG m c (hd t) x (krow (kt t) l) := by
  unfold Gm aG gr
  rw [P_blk]
  simp only [blk1, blk5]

theorem dq_blk (y : Fin 64) (hy : (y : ℕ) < 80) (x : Fin 16384) :
    dqT (tile t) (iblk m c 0 t) (iblk m c 1 t) (iblk m c 4 t) (iblk m c 5 t) (iblk m c 6 t) ⟨y, hy⟩ x =
      ∑ l : Fin 2048, ak m c (ix2 (hcol (hd t) y) (krow (kt t) l)) * aG m c (hd t) x (krow (kt t) l) := by
  unfold dqT
  refine Finset.sum_congr rfl fun l _ => ?_
  rw [G_blk, ← blk6]
  unfold aug
  rw [dif_pos y.isLt]

theorem rs_blk (y : Fin 80) (hy : (y : ℕ) = 64) (x : Fin 16384) :
    dqT (tile t) (iblk m c 0 t) (iblk m c 1 t) (iblk m c 4 t) (iblk m c 5 t) (iblk m c 6 t) y x =
      ∑ l : Fin 2048, aG m c (hd t) x (krow (kt t) l) := by
  unfold dqT
  refine Finset.sum_congr rfl fun l _ => ?_
  rw [G_blk]
  unfold aug
  rw [dif_neg (by omega), if_pos hy, one_mul]

theorem zero_blk (y : Fin 80) (hy : 64 < (y : ℕ)) (x : Fin 16384) :
    dqT (tile t) (iblk m c 0 t) (iblk m c 1 t) (iblk m c 4 t) (iblk m c 5 t) (iblk m c 6 t) y x = 0 := by
  unfold dqT
  refine Finset.sum_eq_zero fun l _ => ?_
  unfold aug
  rw [dif_neg (by omega), if_neg (by omega), zero_mul]

/-- The rows of all query tiles are all rows. -/
theorem sum_trow (f : Fin 16384 → EReal) : ∑ n ∈ Finset.range 32, (if hn : n < 32 then ∑ i : Fin 512, f (trow n hn i) else 0) = ∑ x, f x := by
  rw [Finset.sum_range]
  refine (Finset.sum_congr rfl fun n _ => dif_pos n.isLt).trans ?_
  exact Fin.sum_mul_add_congr fun n i h => congrArg f (Fin.ext (by show 512 * n.val + i.val = n.val * 512 + i.val; omega))

theorem dk_blk (y : Fin 64) (hy : (y : ℕ) < 80) (l : Fin 2048) :
    ∑ n ∈ Finset.range 32, dkT (tile t) (iblk m c 0 t) (iblk m c 1 t) (iblk m c 2 t) (iblk m c 4 t) (iblk m c 5 t) n ⟨y, hy⟩ l =
      ∑ x : Fin 16384, aq m c (ix2 (hcol (hd t) y) x) * aG m c (hd t) x (krow (kt t) l) := by
  rw [← sum_trow]
  refine Finset.sum_congr rfl fun n _ => ?_
  unfold dkT
  split
  · refine Finset.sum_congr rfl fun i _ => ?_
    rw [G_blk, ← blk2]
    unfold aug
    rw [dif_pos y.isLt]
  · rfl

theorem cs_blk (l : Fin 2048) :
    ∑ n ∈ Finset.range 32, dkT (tile t) (iblk m c 0 t) (iblk m c 1 t) (iblk m c 2 t) (iblk m c 4 t) (iblk m c 5 t) n 64 l =
      ∑ x : Fin 16384, aG m c (hd t) x (krow (kt t) l) := by
  rw [← sum_trow]
  refine Finset.sum_congr rfl fun n _ => ?_
  unfold dkT
  split
  · refine Finset.sum_congr rfl fun i _ => ?_
    rw [G_blk]
    unfold aug
    rw [dif_neg (by decide), if_pos (by decide), one_mul]
  · rfl

theorem dv_blk (y : Fin 64) (l : Fin 2048) :
    ∑ n ∈ Finset.range 32, dvT (tile t) (iblk m c 0 t) (iblk m c 3 t) (iblk m c 4 t) n y l =
      ∑ x : Fin 16384, ag m c (ix2 (hcol (hd t) y) x) * aP m c (hd t) x (krow (kt t) l) := by
  rw [← sum_trow]
  refine Finset.sum_congr rfl fun n _ => ?_
  unfold dvT
  split
  · refine Finset.sum_congr rfl fun i _ => ?_
    rw [P_blk, ← blk3]
  · rfl

end blocks

/-- The grid point of a head and a key tile. -/
theorem point_lt (t : Fin cfg0.N) (s : Fin 8) : 8 * (t.val / 8) + s.val < cfg0.N := by
  have := lt_of_lt_of_eq t.isLt N_0
  exact lt_of_lt_of_eq (by omega) N_0.symm
def point (t : Fin cfg0.N) (s : Fin 8) : Fin cfg0.N := ⟨8 * (t.val / 8) + s.val, point_lt t s⟩
theorem hd_point (t : Fin cfg0.N) (s : Fin 8) : hd (point t s) = hd t := Fin.ext (by show (8 * (t.val / 8) + s.val) / 8 = t.val / 8; omega)
theorem kt_point (t : Fin cfg0.N) (s : Fin 8) : kt (point t s) = s := Fin.ext (by show (8 * (t.val / 8) + s.val) % 8 = s; omega)

/-- The keys of all key tiles are all keys. -/
theorem sum_keys (f : Fin 16384 → EReal) : ∑ s : Fin 8, ∑ l : Fin 2048, f (krow s l) = ∑ y, f y :=
  Fin.sum_mul_add_congr fun s l h => rfl

section acc
variable (c : Dev nD) (t : Fin cfg0.N) (ht : t.val % 8 = 7)
include ht

theorem acc7_all (y : Fin 64) (x : Fin 16384) :
    acc7 m c t.val t.isLt (ix2 y x) = ∑ k : Fin 16384, ak m c (ix2 (hcol (hd t) y) k) * aG m c (hd t) x k := by
  rw [Pipeline.eq_sum_fin_of_reset_step_apply_of_flush (fun n h => acc7 m c n h) 8 (fun _ => 0)
    (fun p z => dqT (tile p) (iblk m c 0 p) (iblk m c 1 p) (iblk m c 4 p) (iblk m c 5 p) (iblk m c 6 p) ⟨(z 0 : ℕ), Nat.lt_trans (show (z 0 : ℕ) < 64 from (z 0).isLt) (by decide)⟩ (z 1))
    (fun p h z => by rw [acc7_first m c p h]; rfl) (fun p h z => by rw [acc7_next m c p h]; rfl) t ht (ix2 y x)]
  rw [zero_add, ← sum_keys]
  refine Finset.sum_congr rfl fun s _ => ?_
  refine (dq_blk m c (point t s) y _ x).trans ?_
  rw [hd_point, kt_point]

theorem acc8_all (x : Fin 16384) : acc8 m c t.val t.isLt (ix3 0 0 x) = ∑ k : Fin 16384, aG m c (hd t) x k := by
  rw [Pipeline.eq_sum_fin_of_reset_step_apply_of_flush (fun n h => acc8 m c n h) 8 (fun _ => 0)
    (fun p z => dqT (tile p) (iblk m c 0 p) (iblk m c 1 p) (iblk m c 4 p) (iblk m c 5 p) (iblk m c 6 p) ⟨64 + (z 1 : ℕ), by have : (z 1 : ℕ) < 8 := (z 1).isLt; omega⟩ (z 2))
    (fun p h z => by rw [acc8_first m c p h]; rfl) (fun p h z => by rw [acc8_next m c p h]; rfl) t ht (ix3 0 0 x)]
  rw [zero_add, ← sum_keys]
  refine Finset.sum_congr rfl fun s _ => ?_
  refine (rs_blk m c (point t s) _ rfl x).trans ?_
  rw [hd_point, kt_point]

theorem acc8_other (i : Fin 8) (hi : i ≠ 0) (x : Fin 16384) : acc8 m c t.val t.isLt (ix3 0 i x) = 0 := by
  rw [Pipeline.eq_sum_fin_of_reset_step_apply_of_flush (fun n h => acc8 m c n h) 8 (fun _ => 0)
    (fun p z => dqT (tile p) (iblk m c 0 p) (iblk m c 1 p) (iblk m c 4 p) (iblk m c 5 p) (iblk m c 6 p) ⟨64 + (z 1 : ℕ), by have : (z 1 : ℕ) < 8 := (z 1).isLt; omega⟩ (z 2))
    (fun p h z => by rw [acc8_first m c p h]; rfl) (fun p h z => by rw [acc8_next m c p h]; rfl) t ht (ix3 0 i x)]
  rw [zero_add]
  refine Finset.sum_eq_zero fun s _ => zero_blk m c (point t s) _ ?_ x
  have : (i : ℕ) ≠ 0 := fun h => hi (Fin.ext h)
  show 64 < 64 + (i : ℕ)
  omega

end acc

end Cert.FoxKernelIdeal.Value
-- ==== Proof.FoxFinal.lean ====
module

public import proofs.«01_k».proof.Proof.FoxArray
public import Idealize.ShloMosaic.Lib.StableHlo.RunRead

@[expose] public section

set_option maxRecDepth 16384

noncomputable section

/-! The arrays of the attention's backward after the whole grid, and after the host lines that follow it. -/

namespace Cert.FoxKernelIdeal.Value

open Cert.FoxKernelIdeal Cert.FoxKernelIdeal.Gen Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The head of a row of the transposed arrays. -/
def rowh (r : Fin 512) : Fin 8 := ⟨r.val / 64, by omega⟩
theorem rowh_hcol (h : Fin 8) (y : Fin 64) : rowh (hcol h y) = h := Fin.ext (by show (h.val * 64 + y.val) / 64 = h.val; omega)

section final
variable (c : Dev nD)

def fin7 : FVec Ideal S512x16384 .f32 := fun z => ∑ k : Fin 16384, ak m c (ix2 (z 0) k) * aG m c (rowh (z 0)) (z 1) k
def fin8 : FVec Ideal S8x8x16384 .f32 := fun z => if (z 1 : ℕ) = 0 then ∑ k : Fin 16384, aG m c (z 0) (z 2) k else 0
def fin9 : FVec Ideal S512x16384 .bf16 := fun z => ∑ x : Fin 16384, aq m c (ix2 (z 0) x) * aG m c (rowh (z 0)) x (z 1)
def fin10 : FVec Ideal S512x16384 .bf16 := fun z => ∑ x : Fin 16384, ag m c (ix2 (z 0) x) * aP m c (rowh (z 0)) x (z 1)
def fin11 : FVec Ideal S8x1x16384 .f32 := fun z => ∑ x : Fin 16384, aG m c (z 0) x (z 2)

theorem fin7_at (h : Fin 8) (y : Fin 64) (x : Fin 16384) :
    fin7 m c (ix2 (hcol h y) x) = ∑ k : Fin 16384, ak m c (ix2 (hcol h y) k) * aG m c h x k := by
  show ∑ k : Fin 16384, ak m c (ix2 (hcol h y) k) * aG m c (rowh (hcol h y)) x k = _
  rw [rowh_hcol]
theorem fin9_at (h : Fin 8) (y : Fin 64) (x : Fin 16384) :
    fin9 m c (ix2 (hcol h y) x) = ∑ k : Fin 16384, aq m c (ix2 (hcol h y) k) * aG m c h k x := by
  show ∑ k : Fin 16384, aq m c (ix2 (hcol h y) k) * aG m c (rowh (hcol h y)) k x = _
  rw [rowh_hcol]
theorem fin10_at (h : Fin 8) (y : Fin 64) (x : Fin 16384) :
    fin10 m c (ix2 (hcol h y) x) = ∑ k : Fin 16384, ag m c (ix2 (hcol h y) k) * aP m c h k x := by
  show ∑ k : Fin 16384, ag m c (ix2 (hcol h y) k) * aP m c (rowh (hcol h y)) k x = _
  rw [rowh_hcol]
theorem acc8_at (t : Fin cfg0.N) (ht : t.val % 8 = 7) (i : Fin 8) (x : Fin 16384) :
    acc8 m c t.val t.isLt (ix3 0 i x) = fin8 m c (ix3 (hd t) i x) := by
  show _ = if (i : ℕ) = 0 then ∑ k : Fin 16384, aG m c (hd t) x k else 0
  split
  · rename_i h
    have : i = 0 := Fin.ext h
    subst this
    exact acc8_all m c t ht x
  · exact acc8_other m c t ht i (fun e => by subst e; exact absurd rfl ‹_›) x

theorem emb7 (t : Fin cfg0.N) (y : Fin 64) (x : Fin 16384) : ((cfg0.win 7).blk t).view.emb (ix2 y x) = (ix2 (hcol (hd t) y) x : S512x16384.Idx) := by
  blk_ext [idx t, hcol_val, hd_val]
theorem emb8 (t : Fin cfg0.N) (i : Fin 8) (x : Fin 16384) : ((cfg0.win 8).blk t).view.emb (ix3 0 i x) = (ix3 (hd t) i x : S8x8x16384.Idx) := by
  blk_ext [idx t, hd_val]
theorem emb9 (t : Fin cfg0.N) (y : Fin 64) (l : Fin 2048) : ((cfg0.win 9).blk t).view.emb (ix2 y l) = (ix2 (hcol (hd t) y) (krow (kt t) l) : S512x16384.Idx) := by
  blk_ext [idx t, hcol_val, hd_val, krow_val, kt_val]
theorem emb10 (t : Fin cfg0.N) (y : Fin 64) (l : Fin 2048) : ((cfg0.win 10).blk t).view.emb (ix2 y l) = (ix2 (hcol (hd t) y) (krow (kt t) l) : S512x16384.Idx) := by
  blk_ext [idx t, hcol_val, hd_val, krow_val, kt_val]
theorem emb11 (t : Fin cfg0.N) (l : Fin 2048) : ((cfg0.win 11).blk t).view.emb (ix3 0 0 l) = (ix3 (hd t) 0 (krow (kt t) l) : S8x1x16384.Idx) := by
  blk_ext [idx t, hd_val, krow_val, kt_val]

theorem final7 : (dats m 0 c).arrAt 7 cfg0.N = fin7 m c := by
  refine (dats m 0 c).arrAt_eq_of_covers 7 _ (by decide +kernel) fun t hf y => ?_
  blk_simp
  rw [after7]
  have ey : y = (ix2 (y 0) (y 1) : S64x16384.Idx) := by blk_ext
  rw [ey]
  exact (acc7_all m c t ((flush0_7 t).mp hf) (y 0) (y 1)).trans ((congrArg (fin7 m c) (emb7 t (y 0) (y 1))).trans (fin7_at m c (hd t) (y 0) (y 1))).symm

theorem final8 : (dats m 0 c).arrAt 8 cfg0.N = fin8 m c := by
  refine (dats m 0 c).arrAt_eq_of_covers 8 _ (by decide +kernel) fun t hf y => ?_
  blk_simp
  rw [after8]
  have ey : y = (ix3 0 (y 1) (y 2) : S1x8x16384.Idx) := by blk_ext
  rw [ey]
  refine Eq.trans ?_ (congrArg (fin8 m c) (emb8 t (y 1) (y 2))).symm
  exact acc8_at m c t ((flush0_8 t).mp hf) (y 1) (y 2)

theorem final9 : (dats m 0 c).arrAt 9 cfg0.N = fin9 m c := by
  refine (dats m 0 c).arrAt_eq_of_covers 9 _ (by decide +kernel) fun t _ y => ?_
  blk_simp
  rw [after9]
  have ey : y = (ix2 (y 0) (y 1) : S64x2048.Idx) := by blk_ext
  rw [ey]
  exact (dk_blk m c t (y 0) _ (y 1)).trans ((congrArg (fin9 m c) (emb9 t (y 0) (y 1))).trans (fin9_at m c (hd t) (y 0) (krow (kt t) (y 1)))).symm

theorem final10 : (dats m 0 c).arrAt 10 cfg0.N = fin10 m c := by
  refine (dats m 0 c).arrAt_eq_of_covers 10 _ (by decide +kernel) fun t _ y => ?_
  blk_simp
  rw [after10]
  have ey : y = (ix2 (y 0) (y 1) : S64x2048.Idx) := by blk_ext
  rw [ey]
  exact (dv_blk m c t (y 0) (y 1)).trans ((congrArg (fin10 m c) (emb10 t (y 0) (y 1))).trans (fin10_at m c (hd t) (y 0) (krow (kt t) (y 1)))).symm

theorem final11 : (dats m 0 c).arrAt 11 cfg0.N = fin11 m c := by
  refine (dats m 0 c).arrAt_eq_of_covers 11 _ (by decide +kernel) fun t _ y => ?_
  blk_simp
  rw [after11]
  have ey : y = (ix3 0 0 (y 2) : S1x1x2048.Idx) := by blk_ext
  rw [ey]
  exact (cs_blk m c t (y 2)).trans (congrArg (fin11 m c) (emb11 t (y 2))).symm

/-- What the lines after the call leave: the first row of the row sums, and the column sums. -/
theorem tail132 : Pipeline.afterTail₀ cfgs (dats m) 0 (Gen.V0 m) [hostOps1] c main_v132 =
    (shapeCast S8x16384 (extractStridedSlice S8x1x16384 ![0, 0, 0] (fin8 m c) slices_S8x8x16384_S8x1x16384_0_0_0) shapeCasts_S8x1x16384_S8x16384 : FVec Ideal S8x16384 .f32) := by
  have e := Pipeline.withArrays_arr (cfgs 0).spec launch0.win.arr_inj c (Gen.V0 m c) (fun w => (dats m 0 c).arrAt w (cfgs 0).N) 8
  unfold Pipeline.afterTail₀
  show StableHlo.after (List.flatten [hostOps1]) _ (Proc.devRef .tc main_v132) = _
  simp only [List.flatten_cons, List.flatten_nil, List.append_nil, hostOps1]
  after_reads_simp
  exact congrArg (fun x : FVec Ideal S8x8x16384 .f32 => (shapeCast S8x16384 (extractStridedSlice S8x1x16384 ![0, 0, 0] x slices_S8x8x16384_S8x1x16384_0_0_0) shapeCasts_S8x1x16384_S8x16384 : FVec Ideal S8x16384 .f32)) (e.trans (final8 m c))

theorem tail133 : Pipeline.afterTail₀ cfgs (dats m) 0 (Gen.V0 m) [hostOps1] c main_v133 =
    (shapeCast S8x16384 (fin11 m c) shapeCasts_S8x1x16384_S8x16384 : FVec Ideal S8x16384 .f32) := by
  have e := Pipeline.withArrays_arr (cfgs 0).spec launch0.win.arr_inj c (Gen.V0 m c) (fun w => (dats m 0 c).arrAt w (cfgs 0).N) 11
  unfold Pipeline.afterTail₀
  show StableHlo.after (List.flatten [hostOps1]) _ (Proc.devRef .tc main_v133) = _
  simp only [List.flatten_cons, List.flatten_nil, List.append_nil, hostOps1]
  after_reads_simp
  exact congrArg (fun x : FVec Ideal S8x1x16384 .f32 => (shapeCast S8x16384 x shapeCasts_S8x1x16384_S8x16384 : FVec Ideal S8x16384 .f32)) (e.trans (final11 m c))

theorem row_sums (h : Fin 8) (x : Fin 16384) :
    (shapeCast S8x16384 (extractStridedSlice S8x1x16384 ![0, 0, 0] (fin8 m c) slices_S8x8x16384_S8x1x16384_0_0_0) shapeCasts_S8x1x16384_S8x16384 : FVec Ideal S8x16384 .f32) (ix2 h x) =
      ∑ k : Fin 16384, aG m c h x k := by
  pointwise
  exact (congrArg (fin8 m c) (by blk_ext)).trans (if_pos rfl : fin8 m c (ix3 h 0 x) = _)

theorem col_sums (h : Fin 8) (x : Fin 16384) :
    (shapeCast S8x16384 (fin11 m c) shapeCasts_S8x1x16384_S8x16384 : FVec Ideal S8x16384 .f32) (ix2 h x) = ∑ k : Fin 16384, aG m c h k x := by
  pointwise
  show fin11 m c _ = fin11 m c (ix3 h 0 x)
  exact congrArg (fin11 m c) (by blk_ext)

/-- The five results of the run. -/
theorem run_results (ρ : Dev nD → PrngReg) : θ_run defs (onTc (τ := τ) (main (F := Ideal))) ⟨m, fun _ => 0, ρ⟩ (fun r => ∀ c : Dev nD,
      r.2.mem ((c.tc : Thread nD τ).loc main_v130_0) = fin7 m c
      ∧ r.2.mem ((c.tc : Thread nD τ).loc main_v130_2) = fin9 m c
      ∧ r.2.mem ((c.tc : Thread nD τ).loc main_v130_3) = fin10 m c
      ∧ r.2.mem ((c.tc : Thread nD τ).loc main_v132) = (shapeCast S8x16384 (extractStridedSlice S8x1x16384 ![0, 0, 0] (fin8 m c) slices_S8x8x16384_S8x1x16384_0_0_0) shapeCasts_S8x1x16384_S8x16384 : FVec Ideal S8x16384 .f32)
      ∧ r.2.mem ((c.tc : Thread nD τ).loc main_v133) = (shapeCast S8x16384 (fin11 m c) shapeCasts_S8x1x16384_S8x16384 : FVec Ideal S8x16384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h1 := run_quiescent m ρ
  have h2 := frame m ρ
  refine (θ_run defs _ _).mono (fun r h c => ?_) (θ_run_and h1 h2)
  obtain ⟨⟨hp, -⟩, hf, -⟩ := h
  obtain ⟨hw, hr⟩ := hp c
  exact ⟨(hw 7).trans (final7 m c), (hw 9).trans (final9 m c), (hw 10).trans (final10 m c),
    (hr main_v132 (by decide)).trans (tail132 m c), (hr main_v133 (by decide)).trans (tail133 m c), hf c⟩

end final

end Cert.FoxKernelIdeal.Value
-- ==== Proof.FoxHost.lean ====
module

public import proofs.«01_k».proof.Proof.FoxPoint
public import Idealize.ShloMosaic.Lib.Pipeline.ValueKit
public import Idealize.ShloMosaic.Lib.Pipeline.ReadBack

@[expose] public section

set_option maxRecDepth 16384

noncomputable section

/-! What the forgetting attention's host lines hand to the backward kernel: the forward pass up to the
    output and the logarithm of each row's sum, and the packed operands. All of it is a function of the queries,
    keys, values and cotangents by head, the masked scores and the gates' running sums. -/

namespace Cert.FoxKernelIdeal.Value

open Cert.FoxKernelIdeal Cert.FoxKernelIdeal.Gen Idealize.ShloMosaic Idealize.ShloMosaic.TcCoe Idealize.SL.Sem

variable (s : FVec Ideal S8x16384x16384 .f32) (f : FVec Ideal S16384x8 .f32) (q k v g : FVec Ideal S16384x8x64 .f32)

/-- Each row's largest score. -/
def hTop : FVec Ideal S8x16384x1 .f32 := broadcastInDim S8x16384x1 ![0, 1] bcast_S8x16384_S8x16384x1_0_1 (Host.reduce FloatOps.maximumf s (constant S_ .f32 0xFF800000#32) reducesTo_S8x16384x16384_S8x16384_d2 h_S_)

/-- The exponentials of the scores. -/
def hExp : FVec Ideal S8x16384x16384 .f32 :=
  Host.exp (subf s (broadcastInDim S8x16384x16384 ![0, 1, 2] bcast_S8x16384x1_S8x16384x16384_0_1_2 (hTop s)))

/-- Their sums over the keys. -/
def hSum : FVec Ideal S8x16384x1 .f32 :=
  broadcastInDim S8x16384x1 ![0, 1] bcast_S8x16384_S8x16384x1_0_1 (Host.reduceAdd (hExp s) (constant S_ .f32 0x00000000#32) reducesTo_S8x16384x16384_S8x16384_d2 h_S_)

/-- The probabilities. -/
def hProb : FVec Ideal S8x16384x16384 .f32 := Host.divf (hExp s) (broadcastInDim S8x16384x16384 ![0, 1, 2] bcast_S8x16384x1_S8x16384x16384_0_1_2 (hSum s))

/-- The forward pass's output. -/
def hOut : FVec Ideal S16384x8x64 .f32 :=
  transpose S16384x8x64 [2, 0, 1] (Host.dotGeneral (φ₁ := .f32) (φ₂ := .f32) dot_S16384x8x64_S8x16384x16384_S8x64x16384_0_2_2_1_1_0 none v (hProb s)) transposes_S8x64x16384_S16384x8x64_2_0_1

/-- One over the natural logarithm of two. -/
def hC : FVec Ideal S_ .f32 := Host.divf (constant S_ .f32 0x3F800000#32) (Host.log (constant S_ .f32 0x40000000#32))

/-- The logarithm of each row's sum, to base two. -/
def hLse : FVec Ideal S16384x8 .f32 :=
  transpose S16384x8 [1, 0] (mulf (shapeCast S8x16384 (addf (hTop s) (Host.log (hSum s))) shapeCasts_S8x16384x1_S8x16384) (broadcastInDim S8x16384 ![] bcast_S_S8x16384 hC)) transposes_S8x16384_S16384x8_1_0

/-- The running sums of the gates' logarithms, to base two. -/
def hGate : FVec Ideal S16384x8 .f32 := mulf f (broadcastInDim S16384x8 ![] bcast_S_S16384x8 hC)

/-- Columns of ones. -/
def hOnes : FVec Ideal S16384x8x3 .bf16 := broadcastInDim S16384x8x3 ![] bcast_S_S16384x8x3 (constant S_ .bf16 0x3F80#16)

/-- What is left of a value after its rounding. -/
def rest (x : FVec Ideal S16384x8 .f32) : FVec Ideal S16384x8 .f32 := subf x (extf .f32 (truncf .bf16 x bitsLt_bf16_f32) bitsLt_bf16_f32)

/-- A value as one of three columns. -/
def col (x : FVec Ideal S16384x8 .f32) : FVec Ideal S16384x8x1 .bf16 := broadcastInDim S16384x8x1 ![0, 1] bcast_S16384x8_S16384x8x1_0_1 (truncf .bf16 x bitsLt_bf16_f32)

/-- A value split into three roundings. -/
def parts (x : FVec Ideal S16384x8 .f32) : FVec Ideal S16384x8x3 .bf16 :=
  concatenate S16384x8x3 2 [⟨S16384x8x1, col x⟩, ⟨S16384x8x1, col (rest x)⟩, ⟨S16384x8x1, col (rest (rest x))⟩] concatenates_S16384x8x1_S16384x8x1_S16384x8x1_S16384x8x3_d2

/-- Zero columns. -/
def zeros58 : FVec Ideal S16384x8x58 .bf16 := broadcastInDim S16384x8x58 ![] bcast_S_S16384x8x58 (constant S_ .bf16 0x0000#16)
def zeros61 : FVec Ideal S16384x8x61 .bf16 := broadcastInDim S16384x8x61 ![] bcast_S_S16384x8x61 (constant S_ .bf16 0x0000#16)

/-- Two groups of three columns beside sixty-four. -/
def wide2 (x : FVec Ideal S16384x8x64 .bf16) (y z : FVec Ideal S16384x8x3 .bf16) : FVec Ideal S16384x1024 .bf16 :=
  shapeCast S16384x1024 (concatenate S16384x8x128 2 [⟨S16384x8x64, x⟩, ⟨S16384x8x3, y⟩, ⟨S16384x8x3, z⟩, ⟨S16384x8x58, zeros58⟩]
    concatenates_S16384x8x64_S16384x8x3_S16384x8x3_S16384x8x58_S16384x8x128_d2) shapeCasts_S16384x8x128_S16384x1024

/-- One group of three columns beside sixty-four. -/
def wide1 (x : FVec Ideal S16384x8x64 .bf16) (y : FVec Ideal S16384x8x3 .bf16) : FVec Ideal S16384x1024 .bf16 :=
  shapeCast S16384x1024 (concatenate S16384x8x128 2 [⟨S16384x8x64, x⟩, ⟨S16384x8x3, y⟩, ⟨S16384x8x61, zeros61⟩]
    concatenates_S16384x8x64_S16384x8x3_S16384x8x61_S16384x8x128_d2) shapeCasts_S16384x8x128_S16384x1024

/-- The queries, scaled. -/
def hScaled : FVec Ideal S16384x8x64 .f32 :=
  mulf q (broadcastInDim S16384x8x64 ![] bcast_S_S16384x8x64 (mulf (constant S_ .f32 0x3E000000#32) hC))

/-- Each row's sum of the cotangent times the output. -/
def hDelta : FVec Ideal S16384x8 .f32 := Host.reduceAdd (mulf g (hOut s v)) (constant S_ .f32 0x00000000#32) reducesTo_S16384x8x64_S16384x8_d2 h_S_

/-- The packed queries, keys, values and cotangents. -/
def qAug : FVec Ideal S16384x1024 .bf16 := wide2 (truncf .bf16 (hScaled q) bitsLt_bf16_f32) (parts (subf (hGate f) (hLse s))) hOnes
def kAug : FVec Ideal S16384x1024 .bf16 := wide2 (truncf .bf16 k bitsLt_bf16_f32) hOnes (Host.negf (parts (hGate f)))
def vAug : FVec Ideal S16384x1024 .bf16 := wide1 (truncf .bf16 v bitsLt_bf16_f32) (Host.negf hOnes)
def oAug : FVec Ideal S16384x1024 .bf16 := wide1 (truncf .bf16 g bitsLt_bf16_f32) (parts (hDelta s v g))

/-- Scaled columns, transposed. -/
def turned (x : FVec Ideal S16384x512 .f32) : FVec Ideal S512x16384 .bf16 := transpose S512x16384 [1, 0] (truncf .bf16 x bitsLt_bf16_f32) transposes_S16384x512_S512x16384_1_0
def eighth (x : FVec Ideal S16384x512 .f32) : FVec Ideal S16384x512 .f32 := mulf x (broadcastInDim S16384x512 ![] bcast_S_S16384x512 (constant S_ .f32 0x3E000000#32))

end Cert.FoxKernelIdeal.Value
-- ==== Proof.FoxEntry.lean ====
module

public import proofs.«01_k».proof.Proof.FoxHost
public import proofs.«01_k».proof.Proof.Gen.FoxReferenceIdeal.Read
public import Idealize.ShloMosaic.Lib.StableHlo.RunRead

@[expose] public section

set_option maxRecDepth 16384

noncomputable section

/-! The arrays that the backward kernel finds: each host line's buffer read at its last writer. -/

namespace Cert.FoxKernelIdeal.Value

open Cert.FoxKernelIdeal Cert.FoxKernelIdeal.Gen Idealize.ShloMosaic Idealize.ShloMosaic.TcCoe Idealize.SL.Sem
open Cert.FoxReferenceIdeal.Read (val_main_v5 val_main_v6 val_main_v7 val_main_v15 val_main_v16 val_main_v17 val_main_v18 val_main_v37_0 val_main_v38 val_main_v69)

variable (m : (ℓ : Loc nD τ sig) → Buf (Elt Ideal) ℓ) (c : Dev nD)

/-! The last host lines before the region, from any contents. -/
section last
variable (U : Valuation τ sig (Elt Ideal))
theorem qt_of : StableHlo.after hostOps0_5 U (Proc.devRef .tc main_v123) = turned (eighth (U (Proc.devRef .tc main_v5))) := by
  simp only [hostOps0_5, List.cons_append, List.nil_append]
  after_reads_simp
  rfl
theorem dot_of : StableHlo.after hostOps0_5 U (Proc.devRef .tc main_v125) = turned (U (Proc.devRef .tc main_arg2)) := by
  simp only [hostOps0_5, List.cons_append, List.nil_append]
  after_reads_simp
  rfl
theorem kt_of : StableHlo.after hostOps0_5 U (Proc.devRef .tc main_v129) = turned (eighth (U (Proc.devRef .tc main_v6))) := by
  simp only [hostOps0_5, List.cons_append, List.nil_append]
  after_reads_simp
  rfl
theorem vAug_of : StableHlo.after hostOps0_5 U (Proc.devRef .tc main_v102) = vAug (U (Proc.devRef .tc main_v13)) := by
  simp only [hostOps0_5, List.cons_append, List.nil_append]
  after_reads_simp
  rfl
theorem kAug_of : StableHlo.after hostOps0_5 U (Proc.devRef .tc main_v97) = kAug (U (Proc.devRef .tc main_v19)) (U (Proc.devRef .tc main_v12)) := by
  simp only [hostOps0_5, List.cons_append, List.nil_append]
  after_reads_simp
  rfl
theorem q72 : StableHlo.upto hostOps0_5 U 42 (Proc.devRef .tc main_v72) = col (subf (hGate (U (Proc.devRef .tc main_v19))) (hLse (U (Proc.devRef .tc main_v38)))) := by
  simp only [hostOps0_5, List.cons_append, List.nil_append]
  after_reads_simp
  rfl
theorem q73 : StableHlo.upto hostOps0_5 U 42 (Proc.devRef .tc main_v73) = col (rest (subf (hGate (U (Proc.devRef .tc main_v19))) (hLse (U (Proc.devRef .tc main_v38))))) := by
  simp only [hostOps0_5, List.cons_append, List.nil_append]
  after_reads_simp
  rfl
theorem q74 : StableHlo.upto hostOps0_5 U 42 (Proc.devRef .tc main_v74) = col (rest (rest (subf (hGate (U (Proc.devRef .tc main_v19))) (hLse (U (Proc.devRef .tc main_v38)))))) := by
  simp only [hostOps0_5, List.cons_append, List.nil_append]
  after_reads_simp
  rfl
theorem qparts : StableHlo.upto hostOps0_5 U 46 (Proc.devRef .tc main_v75) = parts (subf (hGate (U (Proc.devRef .tc main_v19))) (hLse (U (Proc.devRef .tc main_v38)))) := by
  have e : StableHlo.upto hostOps0_5 U 46 (Proc.devRef .tc main_v75) = concatenate S16384x8x3 2 [⟨S16384x8x1, ((StableHlo.upto hostOps0_5 U 42 (Proc.devRef .tc main_v72)) : FVec Ideal S16384x8x1 .bf16)⟩, ⟨S16384x8x1, ((StableHlo.upto hostOps0_5 U 42 (Proc.devRef .tc main_v73)) : FVec Ideal S16384x8x1 .bf16)⟩, ⟨S16384x8x1, ((StableHlo.upto hostOps0_5 U 42 (Proc.devRef .tc main_v74)) : FVec Ideal S16384x8x1 .bf16)⟩] concatenates_S16384x8x1_S16384x8x1_S16384x8x1_S16384x8x3_d2 := by
    simp only [hostOps0_5, List.cons_append, List.nil_append]
    after_reads_simp
    rfl
  rw [e, q72, q73, q74]
  rfl
theorem q76 : StableHlo.upto hostOps0_5 U 46 (Proc.devRef .tc main_v76) = truncf .bf16 (hScaled (U (Proc.devRef .tc main_v11))) bitsLt_bf16_f32 := by
  simp only [hostOps0_5, List.cons_append, List.nil_append]
  after_reads_simp
  rfl
theorem q58 : StableHlo.upto hostOps0_5 U 46 (Proc.devRef .tc main_v58) = hOnes := by
  simp only [hostOps0_5, List.cons_append, List.nil_append]
  after_reads_simp
  rfl
theorem qAug_of : StableHlo.after hostOps0_5 U (Proc.devRef .tc main_v79) = qAug (U (Proc.devRef .tc main_v38)) (U (Proc.devRef .tc main_v19)) (U (Proc.devRef .tc main_v11)) := by
  have e : StableHlo.after hostOps0_5 U (Proc.devRef .tc main_v79) = wide2 (StableHlo.upto hostOps0_5 U 46 (Proc.devRef .tc main_v76)) (StableHlo.upto hostOps0_5 U 46 (Proc.devRef .tc main_v75)) (StableHlo.upto hostOps0_5 U 46 (Proc.devRef .tc main_v58)) := by
    simp only [hostOps0_5, List.cons_append, List.nil_append]
    after_reads_simp
    rfl
  rw [e, qparts, q76, q58]
  rfl
theorem o112 : StableHlo.upto hostOps0_5 U 86 (Proc.devRef .tc main_v112) = col (hDelta (U (Proc.devRef .tc main_v38)) (U (Proc.devRef .tc main_v13)) (U (Proc.devRef .tc main_v14))) := by
  simp only [hostOps0_5, List.cons_append, List.nil_append]
  after_reads_simp
  rfl
theorem o113 : StableHlo.upto hostOps0_5 U 86 (Proc.devRef .tc main_v113) = col (rest (hDelta (U (Proc.devRef .tc main_v38)) (U (Proc.devRef .tc main_v13)) (U (Proc.devRef .tc main_v14)))) := by
  simp only [hostOps0_5, List.cons_append, List.nil_append]
  after_reads_simp
  rfl
theorem o114 : StableHlo.upto hostOps0_5 U 86 (Proc.devRef .tc main_v114) = col (rest (rest (hDelta (U (Proc.devRef .tc main_v38)) (U (Proc.devRef .tc main_v13)) (U (Proc.devRef .tc main_v14))))) := by
  simp only [hostOps0_5, List.cons_append, List.nil_append]
  after_reads_simp
  rfl
theorem oparts : StableHlo.upto hostOps0_5 U 90 (Proc.devRef .tc main_v115) = parts (hDelta (U (Proc.devRef .tc main_v38)) (U (Proc.devRef .tc main_v13)) (U (Proc.devRef .tc main_v14))) := by
  have e : StableHlo.upto hostOps0_5 U 90 (Proc.devRef .tc main_v115) = concatenate S16384x8x3 2 [⟨S16384x8x1, ((StableHlo.upto hostOps0_5 U 86 (Proc.devRef .tc main_v112)) : FVec Ideal S16384x8x1 .bf16)⟩, ⟨S16384x8x1, ((StableHlo.upto hostOps0_5 U 86 (Proc.devRef .tc main_v113)) : FVec Ideal S16384x8x1 .bf16)⟩, ⟨S16384x8x1, ((StableHlo.upto hostOps0_5 U 86 (Proc.devRef .tc main_v114)) : FVec Ideal S16384x8x1 .bf16)⟩] concatenates_S16384x8x1_S16384x8x1_S16384x8x1_S16384x8x3_d2 := by
    simp only [hostOps0_5, List.cons_append, List.nil_append]
    after_reads_simp
    rfl
  rw [e, o112, o113, o114]
  rfl
theorem o116 : StableHlo.upto hostOps0_5 U 90 (Proc.devRef .tc main_v116) = (truncf .bf16 (U (Proc.devRef .tc main_v14) : FVec Ideal S16384x8x64 .f32) bitsLt_bf16_f32 : FVec Ideal S16384x8x64 .bf16) := by
  simp only [hostOps0_5, List.cons_append, List.nil_append]
  after_reads_simp
set_option maxHeartbeats 1600000 in
theorem oAug_of : StableHlo.after hostOps0_5 U (Proc.devRef .tc main_v119) = oAug (U (Proc.devRef .tc main_v38)) (U (Proc.devRef .tc main_v13)) (U (Proc.devRef .tc main_v14)) := by
  have e : StableHlo.after hostOps0_5 U (Proc.devRef .tc main_v119) = wide1 (StableHlo.upto hostOps0_5 U 90 (Proc.devRef .tc main_v116)) (StableHlo.upto hostOps0_5 U 90 (Proc.devRef .tc main_v115)) := by
    simp only [hostOps0_5, List.cons_append, List.nil_append]
    after_reads_simp
    rfl
  rw [e, oparts, o116]
  rfl
end last

/-- The three arguments as launched. -/
abbrev PA (m : (ℓ : Loc nD τ sig) → Buf (Elt Ideal) ℓ) (c : Dev nD) : FVec Ideal S16384x6680 .f32 := m ((c.tc : Thread nD τ).loc main_arg0)
abbrev PB (m : (ℓ : Loc nD τ sig) → Buf (Elt Ideal) ℓ) (c : Dev nD) : FVec Ideal S8 .f32 := m ((c.tc : Thread nD τ).loc main_arg1)
abbrev PG (m : (ℓ : Loc nD τ sig) → Buf (Elt Ideal) ℓ) (c : Dev nD) : FVec Ideal S16384x512 .f32 := m ((c.tc : Thread nD τ).loc main_arg2)

/-- The contents before those last lines. -/
def V5 (c : Dev nD) : Valuation τ sig (Elt Ideal) := StableHlo.after (List.flatten [hostOps0, hostOps0_1, hostOps0_2, hostOps0_3, hostOps0_4]) (fun b => m (c, b))

theorem V_split (b : Ref sig .tc) : V m c b = StableHlo.after hostOps0_5 (V5 m c) (Proc.devRef .tc b) := by
  unfold V5
  rw [← StableHlo.after_append]
  rfl

theorem at_g : V5 m c (Proc.devRef .tc main_arg2) = (PG m c) := by
  unfold V5
  simp only [List.flatten_cons, List.flatten_nil, List.append_nil, List.cons_append, List.nil_append, hostOps0, hostOps0_1, hostOps0_2, hostOps0_3, hostOps0_4]
  after_reads_simp
theorem at_v5 : V5 m c (Proc.devRef .tc main_v5) = val_main_v5 (F := Ideal) (PA m c) := by
  unfold V5
  simp only [List.flatten_cons, List.flatten_nil, List.append_nil, List.cons_append, List.nil_append, hostOps0, hostOps0_1, hostOps0_2, hostOps0_3, hostOps0_4]
  after_reads_simp
  rfl
theorem at_v6 : V5 m c (Proc.devRef .tc main_v6) = val_main_v6 (F := Ideal) (PA m c) := by
  unfold V5
  simp only [List.flatten_cons, List.flatten_nil, List.append_nil, List.cons_append, List.nil_append, hostOps0, hostOps0_1, hostOps0_2, hostOps0_3, hostOps0_4]
  after_reads_simp
  rfl
theorem at_v11 : V5 m c (Proc.devRef .tc main_v11) = val_main_v16 (F := Ideal) (PA m c) := by
  unfold V5
  simp only [List.flatten_cons, List.flatten_nil, List.append_nil, List.cons_append, List.nil_append, hostOps0, hostOps0_1, hostOps0_2, hostOps0_3, hostOps0_4]
  after_reads_simp
  rfl
theorem at_v12 : V5 m c (Proc.devRef .tc main_v12) = val_main_v17 (F := Ideal) (PA m c) := by
  unfold V5
  simp only [List.flatten_cons, List.flatten_nil, List.append_nil, List.cons_append, List.nil_append, hostOps0, hostOps0_1, hostOps0_2, hostOps0_3, hostOps0_4]
  after_reads_simp
  rfl
theorem at_v13 : V5 m c (Proc.devRef .tc main_v13) = val_main_v18 (F := Ideal) (PA m c) := by
  unfold V5
  simp only [List.flatten_cons, List.flatten_nil, List.append_nil, List.cons_append, List.nil_append, hostOps0, hostOps0_1, hostOps0_2, hostOps0_3, hostOps0_4]
  after_reads_simp
  rfl
theorem at_v14 : V5 m c (Proc.devRef .tc main_v14) = val_main_v69 (F := Ideal) (PG m c) := by
  unfold V5
  simp only [List.flatten_cons, List.flatten_nil, List.append_nil, List.cons_append, List.nil_append, hostOps0, hostOps0_1, hostOps0_2, hostOps0_3, hostOps0_4]
  after_reads_simp
  rfl
theorem at_v19 : V5 m c (Proc.devRef .tc main_v19) = val_main_v15 (F := Ideal) (PA m c) (PB m c) := by
  unfold V5
  simp only [List.flatten_cons, List.flatten_nil, List.append_nil, List.cons_append, List.nil_append, hostOps0, hostOps0_1, hostOps0_2, hostOps0_3, hostOps0_4]
  after_reads_simp
  rfl
theorem at_v38 : V5 m c (Proc.devRef .tc main_v38) = val_main_v37_0 (F := Ideal) (PA m c) (PB m c) := by
  unfold V5
  simp only [List.flatten_cons, List.flatten_nil, List.append_nil, List.cons_append, List.nil_append, hostOps0, hostOps0_1, hostOps0_2, hostOps0_3, hostOps0_4]
  after_reads_simp
  rfl

/-! The seven arrays that the region reads. -/

theorem V_qAug (c : Dev nD) : V m c main_v79 = qAug (val_main_v37_0 (F := Ideal) (PA m c) (PB m c)) (val_main_v15 (F := Ideal) (PA m c) (PB m c)) (val_main_v16 (F := Ideal) (PA m c)) := by
  rw [V_split, qAug_of, at_v38, at_v19, at_v11]
theorem V_oAug (c : Dev nD) : V m c main_v119 = oAug (val_main_v37_0 (F := Ideal) (PA m c) (PB m c)) (val_main_v18 (F := Ideal) (PA m c)) (val_main_v69 (F := Ideal) (PG m c)) := by
  rw [V_split, oAug_of, at_v38, at_v13, at_v14]
theorem V_kAug (c : Dev nD) : V m c main_v97 = kAug (val_main_v15 (F := Ideal) (PA m c) (PB m c)) (val_main_v17 (F := Ideal) (PA m c)) := by
  rw [V_split, kAug_of, at_v19, at_v12]
theorem V_vAug (c : Dev nD) : V m c main_v102 = vAug (val_main_v18 (F := Ideal) (PA m c)) := by
  rw [V_split, vAug_of, at_v13]
theorem V_qt (c : Dev nD) : V m c main_v123 = turned (eighth (val_main_v5 (F := Ideal) (PA m c))) := by
  rw [V_split, qt_of, at_v5]
theorem V_kt (c : Dev nD) : V m c main_v129 = turned (eighth (val_main_v6 (F := Ideal) (PA m c))) := by
  rw [V_split, kt_of, at_v6]
theorem V_dot (c : Dev nD) : V m c main_v125 = turned (PG m c) := by
  rw [V_split, dot_of, at_g]

end Cert.FoxKernelIdeal.Value
-- ==== Proof.FoxPacked.lean ====
module

public import proofs.«01_k».proof.Proof.FoxHost
public import proofs.«01_k».proof.Proof.FoxArray
public import proofs.«01_k».proof.Proof.Softmax

@[expose] public section

set_option maxRecDepth 16384

noncomputable section

/-! The packed operands of the attention's backward, entry by entry, and the products of their rows. -/

namespace Cert.FoxKernelIdeal.Value

open Cert.FoxKernelIdeal Cert.FoxKernelIdeal.Gen Idealize.ShloMosaic Idealize.ShloMosaic.TcCoe Idealize.SL.Sem

/-- A sum over a head's 128 packed columns of which the last fifty-eight give nothing. -/
theorem sum_wide (f : Fin 128 → EReal) (hf : ∀ c : Fin 58, f ⟨70 + c, by omega⟩ = 0) :
    ∑ c, f c = ∑ c : Fin 64, f ⟨c, by omega⟩ + (f 64 + f 65 + f 66 + f 67 + f 68 + f 69) := by
  have e1 : ∑ c, f c = ∑ c : Fin 64, f ⟨c, by omega⟩ + ∑ c : Fin 64, f ⟨64 + c, by omega⟩ := Fin.sum_univ_add (a := 64) (b := 64) (f : Fin (64 + 64) → EReal)
  have e2 : ∑ c : Fin 64, f ⟨64 + c, by omega⟩ = ∑ c : Fin 6, f ⟨64 + c, by omega⟩ + ∑ c : Fin 58, f ⟨64 + (6 + c), by omega⟩ :=
    Fin.sum_univ_add (a := 6) (b := 58) fun c : Fin (6 + 58) => f ⟨64 + c, by omega⟩
  rw [e1, e2, Finset.sum_eq_zero (s := Finset.univ) (f := fun c : Fin 58 => f ⟨64 + (6 + c), by omega⟩)
    (fun c _ => Eq.trans (congrArg f (Fin.ext (by show 64 + (6 + c.val) = 70 + c.val; omega))) (hf c)), add_zero, Fin.sum_univ_six]
  rfl

section entries
variable (x : FVec Ideal S16384x8x64 .bf16) (y z : FVec Ideal S16384x8x3 .bf16) (r : Fin 16384) (h : Fin 8)

theorem wide2_lo (c : Fin 64) : wide2 x y z (ix2 r (lane h ⟨c, by omega⟩)) = x (ix3 r h c) := by
  show wide2 x y z (ix2 r ⟨h.val * 128 + c.val, _⟩) = _
  pointwise [wide2]
  rw [dif_pos (by omega)]
  exact congrArg x (by blk_ext)
theorem wide2_mid (c : Fin 3) : wide2 x y z (ix2 r (lane h ⟨64 + c, by omega⟩)) = y (ix3 r h c) := by
  show wide2 x y z (ix2 r ⟨h.val * 128 + (64 + c.val), _⟩) = _
  pointwise [wide2]
  rw [dif_neg (by omega), dif_pos (by omega)]
  exact congrArg y (by blk_ext)
theorem wide2_hi (c : Fin 3) : wide2 x y z (ix2 r (lane h ⟨67 + c, by omega⟩)) = z (ix3 r h c) := by
  show wide2 x y z (ix2 r ⟨h.val * 128 + (67 + c.val), _⟩) = _
  pointwise [wide2]
  rw [dif_neg (by omega), dif_neg (by omega), dif_pos (by omega)]
  exact congrArg z (by blk_ext)
theorem wide2_zero (c : Fin 58) : wide2 x y z (ix2 r (lane h ⟨70 + c, by omega⟩)) = 0 := by
  show wide2 x y z (ix2 r ⟨h.val * 128 + (70 + c.val), _⟩) = _
  pointwise [wide2]
  rw [dif_neg (by omega), dif_neg (by omega), dif_neg (by omega)]
  exact Ideal.ofBits_zero .bf16
theorem wide1_lo (c : Fin 64) : wide1 x y (ix2 r (lane h ⟨c, by omega⟩)) = x (ix3 r h c) := by
  show wide1 x y (ix2 r ⟨h.val * 128 + c.val, _⟩) = _
  pointwise [wide1]
  rw [dif_pos (by omega)]
  exact congrArg x (by blk_ext)
theorem wide1_mid (c : Fin 3) : wide1 x y (ix2 r (lane h ⟨64 + c, by omega⟩)) = y (ix3 r h c) := by
  show wide1 x y (ix2 r ⟨h.val * 128 + (64 + c.val), _⟩) = _
  pointwise [wide1]
  rw [dif_neg (by omega), dif_pos (by omega)]
  exact congrArg y (by blk_ext)
theorem wide1_zero (c : Fin 61) : wide1 x y (ix2 r (lane h ⟨67 + c, by omega⟩)) = 0 := by
  show wide1 x y (ix2 r ⟨h.val * 128 + (67 + c.val), _⟩) = _
  pointwise [wide1]
  rw [dif_neg (by omega), dif_neg (by omega)]
  exact Ideal.ofBits_zero .bf16
end entries

section columns
variable (x : FVec Ideal S16384x8 .f32) (r : Fin 16384) (h : Fin 8)
theorem rest_at : rest x (ix2 r h) = x (ix2 r h) - x (ix2 r h) := rfl
theorem col_at : col x (ix3 r h 0) = x (ix2 r h) := by
  unfold col
  pointwise
theorem parts_0 : parts x (ix3 r h 0) = x (ix2 r h) := by
  pointwise [parts, col]
theorem parts_1 : parts x (ix3 r h 1) = rest x (ix2 r h) := by
  pointwise [parts, col]
theorem parts_2 : parts x (ix3 r h 2) = rest (rest x) (ix2 r h) := by
  pointwise [parts, col]
end columns

theorem hC_eq : hC (fun a => a.elim0) = ((1 / Real.log 2 : ℝ) : EReal) := by
  have e2 : Ideal.ofBits .f32 0x40000000#32 = ((2 : ℝ) : EReal) := by
    simp [Ideal.ofBits, Ideal.ieee]
    norm_num [← EReal.coe_mul]
  show Ideal.div (Ideal.ofBits .f32 0x3F800000#32) (Ideal.log (Ideal.ofBits .f32 0x40000000#32)) = _
  rw [e2, Ideal.ofBits_one_f32, Ideal.log_coe, if_neg (by norm_num), Ideal.div_coe (Real.log_pos (by norm_num)).ne', one_mul]

section dots
variable (s : FVec Ideal S8x16384x16384 .f32) (f : FVec Ideal S16384x8 .f32) (q k v g : FVec Ideal S16384x8x64 .f32) (x y : Fin 16384) (h : Fin 8)

/-- What is left of a real number after its rounding: nothing, twice. -/
theorem rest_real {u : FVec Ideal S16384x8 .f32} {r : Fin 16384} {a : ℝ} (hu : u (ix2 r h) = (a : EReal)) : rest u (ix2 r h) = 0 := by
  rw [rest_at, hu, ← EReal.coe_sub, sub_self, EReal.coe_zero]
theorem rest_rest_real {u : FVec Ideal S16384x8 .f32} {r : Fin 16384} {a : ℝ} (hu : u (ix2 r h) = (a : EReal)) : rest (rest u) (ix2 r h) = 0 := by
  rw [rest_at, rest_real h hu]
  exact (congrArg (fun t : EReal => 0 + t) neg_zero).trans (add_zero _)

theorem ones_at (c : Fin 3) : hOnes (ix3 x h c) = 1 := by
  show Ideal.ofBits .bf16 0x3F80#16 = 1
  simp [Ideal.ofBits, Ideal.ieee]
  norm_num [← EReal.coe_mul]

theorem neg_at (u : FVec Ideal S16384x8x3 .bf16) (c : Fin 3) : Host.negf u (ix3 x h c) = -u (ix3 x h c) := rfl

/-- The product of a packed query with a packed key. -/
theorem qk_dot {a b : ℝ} (ha : subf (hGate f) (hLse s) (ix2 x h) = (a : EReal)) (hb : hGate f (ix2 y h) = (b : EReal)) :
    ∑ c : Fin 128, qAug s f q (ix2 x (lane h c)) * kAug f k (ix2 y (lane h c)) =
      ∑ c : Fin 64, hScaled q (ix3 x h c) * k (ix3 y h c) + ((a - b : ℝ) : EReal) := by
  rw [sum_wide _ fun c => by rw [qAug, wide2_zero, zero_mul]]
  refine congrArg₂ (· + ·) (Finset.sum_congr rfl fun c _ => ?_) ?_
  · rw [qAug, kAug, wide2_lo, wide2_lo]
    rfl
  · have q0 : qAug s f q (ix2 x (lane h 64)) = a := (wide2_mid _ _ _ x h 0).trans ((parts_0 _ x h).trans ha)
    have q1 : qAug s f q (ix2 x (lane h 65)) = 0 := (wide2_mid _ _ _ x h 1).trans ((parts_1 _ x h).trans (rest_real h ha))
    have q2 : qAug s f q (ix2 x (lane h 66)) = 0 := (wide2_mid _ _ _ x h 2).trans ((parts_2 _ x h).trans (rest_rest_real h ha))
    have q3 : qAug s f q (ix2 x (lane h 67)) = 1 := (wide2_hi _ _ _ x h 0).trans (ones_at x h 0)
    have k0 : kAug f k (ix2 y (lane h 64)) = 1 := (wide2_mid _ _ _ y h 0).trans (ones_at y h 0)
    have k3 : kAug f k (ix2 y (lane h 67)) = -(b : EReal) := (wide2_hi _ _ _ y h 0).trans ((neg_at y h _ 0).trans (congrArg Neg.neg ((parts_0 _ y h).trans hb)))
    have k4 : kAug f k (ix2 y (lane h 68)) = 0 := (wide2_hi _ _ _ y h 1).trans ((neg_at y h _ 1).trans ((congrArg Neg.neg ((parts_1 _ y h).trans (rest_real h hb))).trans neg_zero))
    have k5 : kAug f k (ix2 y (lane h 69)) = 0 := (wide2_hi _ _ _ y h 2).trans ((neg_at y h _ 2).trans ((congrArg Neg.neg ((parts_2 _ y h).trans (rest_rest_real h hb))).trans neg_zero))
    rw [q0, q1, q2, q3, k0, k3, k4, k5]
    simp only [zero_mul, mul_zero, add_zero, mul_one, one_mul]
    exact (EReal.coe_sub a b).symm

/-- The product of a packed cotangent with a packed value. -/
theorem ov_dot {D : ℝ} (hD : hDelta s v g (ix2 x h) = (D : EReal)) :
    ∑ c : Fin 128, oAug s v g (ix2 x (lane h c)) * vAug v (ix2 y (lane h c)) =
      ∑ c : Fin 64, g (ix3 x h c) * v (ix3 y h c) + ((-D : ℝ) : EReal) := by
  rw [sum_wide _ fun c => by rw [oAug, show (⟨70 + c.val, by omega⟩ : Fin 128) = ⟨67 + (⟨3 + c.val, by omega⟩ : Fin 61).val, by show 67 + (3 + c.val) < 128; omega⟩ from Fin.ext (by show 70 + c.val = 67 + (3 + c.val); omega), wide1_zero, zero_mul]]
  refine congrArg₂ (· + ·) (Finset.sum_congr rfl fun c _ => ?_) ?_
  · rw [oAug, vAug, wide1_lo, wide1_lo]
    rfl
  · have o0 : oAug s v g (ix2 x (lane h 64)) = D := (wide1_mid _ _ x h 0).trans ((parts_0 _ x h).trans hD)
    have o1 : oAug s v g (ix2 x (lane h 65)) = 0 := (wide1_mid _ _ x h 1).trans ((parts_1 _ x h).trans (rest_real h hD))
    have o2 : oAug s v g (ix2 x (lane h 66)) = 0 := (wide1_mid _ _ x h 2).trans ((parts_2 _ x h).trans (rest_rest_real h hD))
    have o3 : oAug s v g (ix2 x (lane h 67)) = 0 := wide1_zero _ _ x h 0
    have o4 : oAug s v g (ix2 x (lane h 68)) = 0 := wide1_zero _ _ x h 1
    have o5 : oAug s v g (ix2 x (lane h 69)) = 0 := wide1_zero _ _ x h 2
    have v0 : vAug v (ix2 y (lane h 64)) = -1 := (wide1_mid _ _ y h 0).trans ((neg_at y h _ 0).trans (congrArg Neg.neg (ones_at y h 0)))
    rw [o0, o1, o2, o3, o4, o5, v0]
    simp only [zero_mul, add_zero, mul_neg, mul_one]
    exact (EReal.coe_neg D).symm
end dots

end Cert.FoxKernelIdeal.Value
-- ==== Proof.FoxForward.lean ====
module

public import proofs.«01_k».proof.Proof.FoxHost
public import proofs.«01_k».proof.Proof.Softmax

@[expose] public section

set_option maxRecDepth 16384

noncomputable section

/-! The forward pass that the attention's backward is handed, entry by entry. -/

namespace Cert.FoxKernelIdeal.Value

open Cert.FoxKernelIdeal Cert.FoxKernelIdeal.Gen Idealize.ShloMosaic Idealize.ShloMosaic.TcCoe Idealize.SL.Sem

/-- A row's greatest score, the exponentials of its scores less it, and their sum. -/
def rtop (u : Fin 16384 → EReal) : EReal := Finset.univ.fold max ⊥ u
def rexp (u : Fin 16384 → EReal) (j : Fin 16384) : EReal := Ideal.exp (u j - rtop u)
def rsum (u : Fin 16384 → EReal) : EReal := ∑ j, rexp u j

variable (s : FVec Ideal S8x16384x16384 .f32) (f : FVec Ideal S16384x8 .f32) (q k v g : FVec Ideal S16384x8x64 .f32) (r : Fin 16384) (h : Fin 8)

/-- A row of scores. -/
abbrev srow : Fin 16384 → EReal := fun j => s (ix3 h r j)

theorem hTop_at : hTop s (ix3 h r 0) = rtop (srow s r h) := by
  unfold rtop
  rw [← Softmax.ofBits_bot]
  pointwise [hTop]
theorem hExp_at (j : Fin 16384) : hExp s (ix3 h r j) = rexp (srow s r h) j := by
  unfold rexp
  rw [← hTop_at]
  pointwise [hExp]
theorem hSum_at : hSum s (ix3 h r 0) = rsum (srow s r h) := by
  pointwise [hSum, hExp_at, rsum]
theorem hProb_at (j : Fin 16384) : hProb s (ix3 h r j) = Ideal.div (rexp (srow s r h) j) (rsum (srow s r h)) := by
  rw [← hSum_at, ← hExp_at]
  pointwise [hProb]
theorem hOut_at (c : Fin 64) : hOut s v (ix3 r h c) = ∑ j : Fin 16384, v (ix3 j h c) * Ideal.div (rexp (srow s r h) j) (rsum (srow s r h)) := by
  pointwise [hOut, hProb_at]
theorem hDelta_at : hDelta s v g (ix2 r h) = ∑ c : Fin 64, g (ix3 r h c) * ∑ j : Fin 16384, v (ix3 j h c) * Ideal.div (rexp (srow s r h) j) (rsum (srow s r h)) := by
  pointwise [hDelta, hOut_at]
/-- A scaled column, transposed. -/
theorem scaled_at (w : FVec Ideal S8x16384x1 .f32) (z : FVec Ideal S_ .f32) :
    transpose S16384x8 [1, 0] (mulf (shapeCast S8x16384 w shapeCasts_S8x16384x1_S8x16384) (broadcastInDim S8x16384 ![] bcast_S_S8x16384 z)) transposes_S8x16384_S16384x8_1_0 (ix2 r h) =
      w (ix3 h r 0) * z (fun a => a.elim0) := by
  pointwise
  exact congrArg₂ (· * ·) (congrArg w (by blk_ext)) (congrArg z (funext fun a => a.elim0))
theorem scaled_log (a b : FVec Ideal S8x16384x1 .f32) (z : FVec Ideal S_ .f32) :
    transpose S16384x8 [1, 0] (mulf (shapeCast S8x16384 (addf a (Host.log b)) shapeCasts_S8x16384x1_S8x16384) (broadcastInDim S8x16384 ![] bcast_S_S8x16384 z)) transposes_S8x16384_S16384x8_1_0 (ix2 r h) =
      (a (ix3 h r 0) + Ideal.log (b (ix3 h r 0))) * z (fun a => a.elim0) := scaled_at r h _ z
theorem hLse_at : hLse s (ix2 r h) = (rtop (srow s r h) + Ideal.log (rsum (srow s r h))) * hC (fun a => a.elim0) := by
  unfold hLse
  rw [scaled_log, hTop_at, hSum_at]
theorem hGate_at : hGate f (ix2 r h) = f (ix2 r h) * hC (fun a => a.elim0) := by
  pointwise [hGate]
  exact congrArg (fun i => f (ix2 r h) * hC i) (funext fun a => a.elim0)
theorem hScaled_at (c : Fin 64) : hScaled q (ix3 r h c) = q (ix3 r h c) * (Ideal.ofBits .f32 0x3E000000#32 * hC (fun a => a.elim0)) := by
  pointwise [hScaled]
  exact congrArg (fun i => q (ix3 r h c) * (Ideal.ofBits .f32 0x3E000000#32 * hC i)) (funext fun a => a.elim0)

end Cert.FoxKernelIdeal.Value
-- ==== Proof.FoxRow.lean ====
module

public import proofs.«01_k».proof.Proof.FoxForward

@[expose] public section

set_option maxRecDepth 16384

noncomputable section

/-! A row of scores that are real numbers where the mask lets them be seen and minus infinity elsewhere. -/

namespace Cert.FoxRow

open Idealize.ShloMosaic
open Cert.FoxKernelIdeal.Value (rtop rexp rsum)

/-- The greatest score of the row is a real number, and so are the exponentials and their sum, which is positive. -/
theorem row_real (u : Fin 16384 → EReal) (ht : ∀ j, u j < ⊤) (i : Fin 16384) (hi : ⊥ < u i) :
    ∃ (M : ℝ) (w : Fin 16384 → ℝ), rtop u = M ∧ (∀ j, rexp u j = w j) ∧ rsum u = ((∑ j, w j : ℝ) : EReal) ∧ 0 < ∑ j, w j ∧
      ∀ (j : Fin 16384) (x : ℝ), u j = x → w j = Real.exp (x - M) := by
  obtain ⟨M, hM⟩ : ∃ M : ℝ, rtop u = M := by
    have h1 : rtop u < ⊤ := Finset.fold_max_lt _ |>.2 ⟨bot_lt_top, fun j _ => ht j⟩
    have h2 : ⊥ < rtop u := Finset.lt_fold_max _ |>.2 (Or.inr ⟨i, Finset.mem_univ _, hi⟩)
    exact ⟨(rtop u).toReal, (EReal.coe_toReal h1.ne h2.ne').symm⟩
  have hw : ∀ j, ∃ w : ℝ, rexp u j = w ∧ 0 ≤ w ∧ ∀ x : ℝ, u j = x → w = Real.exp (x - M) := by
    intro j
    rw [rexp, hM]
    have hj := ht j
    generalize u j = y at hj ⊢
    induction y with
    | bot => exact ⟨0, by rw [EReal.bot_sub]; rfl, le_rfl, fun x hx => absurd hx (EReal.bot_ne_coe x)⟩
    | top => exact absurd hj (lt_irrefl _)
    | coe y => exact ⟨Real.exp (y - M), by rw [← EReal.coe_sub, Ideal.exp_coe], (Real.exp_pos _).le, fun x hx => by rw [EReal.coe_eq_coe_iff.1 hx]⟩
  choose w hw hpos hx using hw
  refine ⟨M, w, hM, hw, ?_, ?_, hx⟩
  · rw [rsum, ← Softmax.coe_sum]
    exact Finset.sum_congr rfl fun j _ => hw j
  · refine Finset.sum_pos' (fun j _ => hpos j) ⟨i, Finset.mem_univ _, ?_⟩
    have e := hx i (u i).toReal (EReal.coe_toReal (ht i).ne hi.ne').symm
    rw [e]
    exact Real.exp_pos _

/-- A power of two of a score, less the row's log-sum, in units of the logarithm of two: the row's weight over the sum. -/
theorem exp2_row (S M T : ℝ) (hT : 0 < T) :
    Ideal.exp2 ((1 / Real.log 2 * (S - (M + Real.log T)) : ℝ) : EReal) = Ideal.div ((Real.exp (S - M) : ℝ) : EReal) (T : EReal) := by
  rw [Ideal.exp2_coe, Ideal.div_coe hT.ne', ← EReal.coe_mul]
  refine congrArg Real.toEReal ?_
  have h2 : Real.log 2 ≠ 0 := (Real.log_pos (by norm_num)).ne'
  show Real.rpow 2 _ = _
  have e : Real.rpow 2 (1 / Real.log 2 * (S - (M + Real.log T))) = Real.exp (Real.log 2 * (1 / Real.log 2 * (S - (M + Real.log T)))) := Real.rpow_def_of_pos (by norm_num) _
  rw [e, ← mul_assoc, mul_one_div_cancel h2, one_mul, show S - (M + Real.log T) = (S - M) - Real.log T by ring, Real.exp_sub, Real.exp_log hT]
  ring

end Cert.FoxRow

end
-- ==== Proof.FoxReference.lean ====
module

public import proofs.«01_k».proof.Proof.Gen.FoxReferenceIdeal.Read
public import proofs.«01_k».proof.Proof.FoxForward
public import proofs.«01_k».proof.Proof.FoxArray

@[expose] public section

set_option maxRecDepth 16384

noncomputable section

/-! The plain reverse pass of the forgetting attention, read entry by entry. -/

namespace Cert.FoxReferenceIdeal.Read

open Cert.FoxReferenceIdeal Cert.FoxReferenceIdeal.Gen Idealize.ShloMosaic Idealize.ShloMosaic.TcCoe
open Cert.FoxKernelIdeal.Value (rtop rexp rsum srow hcol hcol_val)

variable (x0 : FVec Ideal S16384x6680 .f32) (x1 : FVec Ideal S8 .f32) (x2 : FVec Ideal S16384x512 .f32)

/-- The masked scores, and a row of them. -/
abbrev sc : FVec Ideal S8x16384x16384 .f32 := val_main_v37_0 (F := Ideal) x0 x1
abbrev row (h : Fin 8) (r : Fin 16384) : Fin 16384 → EReal := srow (sc x0 x1) r h
/-- The queries, keys, values and cotangents by row, head and column. -/
abbrev q3 : FVec Ideal S16384x8x64 .f32 := val_main_v16 (F := Ideal) x0
abbrev k3 : FVec Ideal S16384x8x64 .f32 := val_main_v17 (F := Ideal) x0
abbrev v3 : FVec Ideal S16384x8x64 .f32 := val_main_v18 (F := Ideal) x0
abbrev g3 : FVec Ideal S16384x8x64 .f32 := val_main_v69 (F := Ideal) x2

variable (h : Fin 8) (r j : Fin 16384) (d : Fin 64)

theorem v38 : val_main_v38 (F := Ideal) x0 x1 (ix2 h r) = rtop (row x0 x1 h r) := by
  unfold rtop
  rw [← Softmax.ofBits_bot]
  pointwise [val_main_v38, val_main_cst_1]
theorem v45 : val_main_v45 (F := Ideal) x0 x1 (ix2 h r) = rtop (row x0 x1 h r) := by
  rw [val_main_v45_apply (F := Ideal), v38, val_main_v44_apply (F := Ideal), val_main_cst_3_apply]
  show max (Ideal.ofBits .f32 0xFF800000#32) _ = _
  rw [Softmax.ofBits_bot]
  exact max_eq_right bot_le
theorem v58 : val_main_v58 (F := Ideal) x0 x1 (ix3 h r j) = rexp (row x0 x1 h r) j := by
  rw [val_main_v58_apply (F := Ideal), val_main_v57_apply (F := Ideal), val_main_v56_apply (F := Ideal), val_main_v55_apply (F := Ideal),
    show idx_main_v55 (idx_main_v56 (ix3 h r j)) = ix2 h r by blk_ext, v45]
  rfl
theorem v59 : val_main_v59 (F := Ideal) x0 x1 (ix2 h r) = rsum (row x0 x1 h r) := by
  rw [val_main_v59_apply]
  exact (congrArg (· + _) (Ideal.ofBits_zero .f32)).trans ((zero_add _).trans (Finset.sum_congr rfl fun l _ =>
    (congrArg (val_main_v58 (F := Ideal) x0 x1) (by blk_ext)).trans (v58 x0 x1 h r l)))
theorem v60 : val_main_v60 (F := Ideal) x0 x1 (ix3 h r 0) = rsum (row x0 x1 h r) := by
  rw [val_main_v60_apply (F := Ideal), show idx_main_v60 (ix3 h r 0) = ix2 h r by blk_ext, v59]
theorem v62 : val_main_v62 (F := Ideal) x0 x1 (ix3 h r j) = Ideal.div (rexp (row x0 x1 h r) j) (rsum (row x0 x1 h r)) := by
  rw [val_main_v62_apply (F := Ideal), val_main_v61_apply (F := Ideal), show idx_main_v61 (ix3 h r j) = ix3 h r 0 by blk_ext, v60, v58]
  rfl

/-- The reciprocal square of a row's sum. -/
def inv2 (u : Fin 16384 → EReal) : EReal := Ideal.div 1 (rsum u * rsum u)

theorem v65 : val_main_v65 (F := Ideal) x0 x1 (ix3 h r 0) = inv2 (row x0 x1 h r) := by
  rw [val_main_v65_apply (F := Ideal), val_main_v63_apply (F := Ideal), v60, val_main_v64_apply (F := Ideal), val_main_cst_10_apply, inv2]
  generalize rsum (row x0 x1 h r) = T
  exact congrArg (fun a => Ideal.div a (T * T)) Ideal.ofBits_one_f32

/-- The cotangent of a row's probabilities. -/
def dprob (h : Fin 8) (r j : Fin 16384) : EReal := ∑ d : Fin 64, g3 x2 (ix3 r h d) * v3 x0 (ix3 j h d)

theorem v70 : val_main_v70 (F := Ideal) x2 (ix3 h d r) = g3 x2 (ix3 r h d) := by
  pointwise [val_main_v70]
theorem v71 : val_main_v71 (F := Ideal) x0 x2 (ix3 h r j) = dprob x0 x2 h r j := by
  pointwise [val_main_v71, v70, dprob]
theorem v72 : val_main_v72 (F := Ideal) x0 x1 x2 (ix3 h d j) =
    ∑ r : Fin 16384, g3 x2 (ix3 r h d) * Ideal.div (rexp (row x0 x1 h r) j) (rsum (row x0 x1 h r)) := by
  pointwise [val_main_v72, v70, v62]

/-- What a row's sum passes back. -/
def back (u dp : Fin 16384 → EReal) : EReal := -∑ l, dp l * inv2 u * rexp u l

theorem v76 : val_main_v76 (F := Ideal) x0 x1 x2 (ix3 h r j) = dprob x0 x2 h r j * inv2 (row x0 x1 h r) * rexp (row x0 x1 h r) j := by
  rw [val_main_v76_apply (F := Ideal), val_main_v75_apply (F := Ideal), v58, v71, val_main_v74_apply (F := Ideal), show idx_main_v74 (ix3 h r j) = ix3 h r 0 by blk_ext, v65]
  rfl
theorem v77 : val_main_v77 (F := Ideal) x0 x1 x2 (ix2 h r) = ∑ l, dprob x0 x2 h r l * inv2 (row x0 x1 h r) * rexp (row x0 x1 h r) l := by
  rw [val_main_v77_apply]
  exact (congrArg (· + _) (Ideal.ofBits_zero .f32)).trans ((zero_add _).trans (Finset.sum_congr rfl fun l _ =>
    (congrArg (val_main_v76 (F := Ideal) x0 x1 x2) (by blk_ext)).trans (v76 x0 x1 x2 h r l)))
theorem v79 : val_main_v79 (F := Ideal) x0 x1 x2 (ix3 h r 0) = back (row x0 x1 h r) (dprob x0 x2 h r) := by
  rw [val_main_v79_apply (F := Ideal), val_main_v78_apply (F := Ideal), show idx_main_v78 (ix3 h r 0) = ix2 h r by blk_ext, v77, back]
  generalize ∑ l, dprob x0 x2 h r l * inv2 (row x0 x1 h r) * rexp (row x0 x1 h r) l = T
  rfl
theorem v82 : val_main_v82 (F := Ideal) x0 x1 x2 (ix2 h r) = back (row x0 x1 h r) (dprob x0 x2 h r) := by
  rw [val_main_v82_apply, Fin.sum_univ_one, show idx_main_v82 (ix2 h r) 0 = ix3 h r 0 by blk_ext, v79]
  generalize back (row x0 x1 h r) (dprob x0 x2 h r) = t
  exact (congrArg (· + t) (Ideal.ofBits_zero .f32)).trans (zero_add t)

/-- The gradient of a row's scores before the mask, as the reverse pass forms it. -/
def dscore (u dp : Fin 16384 → EReal) (j : Fin 16384) : EReal := (Ideal.div (dp j) (rsum u) + back u dp) * rexp u j

theorem v85 : val_main_v85 (F := Ideal) x0 x1 x2 (ix3 h r j) = dscore (row x0 x1 h r) (dprob x0 x2 h r) j := by
  rw [val_main_v85_apply (F := Ideal), val_main_v84_apply (F := Ideal), v58, val_main_v83_apply (F := Ideal), show idx_main_v83 (ix3 h r j) = ix2 h r by blk_ext, v82,
    val_main_v81_apply (F := Ideal), v71, val_main_v80_apply (F := Ideal), show idx_main_v80 (ix3 h r j) = ix3 h r 0 by blk_ext, v60]
  rfl

theorem toInt_row (n : Fin 16384) : (BitVec.ofNat 32 n.val).toInt = (n.val : ℤ) := by
  have hn := n.isLt
  have e : (BitVec.ofNat 32 n.val).toNat = n.val := by
    rw [BitVec.toNat_ofNat]
    exact Nat.mod_eq_of_lt (by omega)
  rw [BitVec.toInt_eq_toNat_of_lt (by rw [e]; omega), e]

theorem sle_eq (a b : Fin 16384) : IntOp.cmpi .sle (BitVec.ofNat 32 a.val) (BitVec.ofNat 32 b.val) = if (a : ℕ) ≤ b then 1#1 else 0#1 := by
  show BitVec.ofBool (BitVec.sle (BitVec.ofNat 32 a.val) (BitVec.ofNat 32 b.val)) = _
  rw [BitVec.sle_eq_decide, toInt_row, toInt_row]
  by_cases e : (a : ℕ) ≤ b
  · rw [if_pos e, decide_eq_true (by exact_mod_cast e)]
    rfl
  · rw [if_neg e, decide_eq_false (by exact_mod_cast e)]
    rfl

/-- The mask: a query sees the keys up to its own row. -/
theorem mask : val_main_v37_1 (F := Ideal) (ix3 h r j) = if (j : ℕ) ≤ r then 1#1 else 0#1 := by
  rw [val_main_v37_1_apply (F := Ideal), show idx_main_v37_1 (ix3 h r j) = ix2 r j by blk_ext, val_main_v36_apply (F := Ideal), val_main_v34_apply (F := Ideal),
    val_main_v31_apply (F := Ideal), val_main_v30_apply (F := Ideal), val_main_v35_apply (F := Ideal), val_main_v33_apply (F := Ideal), val_main_v32_apply (F := Ideal)]
  exact sle_eq j r

/-- The gradient of a score. -/
def ds (h : Fin 8) (r j : Fin 16384) : EReal := if (j : ℕ) ≤ r then dscore (row x0 x1 h r) (dprob x0 x2 h r) j else 0

theorem v86 : val_main_v86 (F := Ideal) x0 x1 x2 (ix3 h r j) = ds x0 x1 x2 h r j := by
  rw [val_main_v86_apply (F := Ideal), mask, v85, ds]
  split
  · rfl
  · rw [val_main_call3_v0_apply (F := Ideal)]
    exact Ideal.ofBits_zero .f32

/-- The scale of the scores. -/
def scale : EReal := Ideal.ofBits .f32 0x3E000000#32

theorem v97 : val_main_v97 (F := Ideal) x0 x1 x2 (ix3 h r j) = ds x0 x1 x2 h r j * scale := by
  rw [val_main_v97_apply (F := Ideal), v86, val_main_v96_apply (F := Ideal), val_main_cst_17_apply]
  rfl
theorem v98 : val_main_v98 (F := Ideal) x0 x1 x2 (ix3 h j d) = ∑ r : Fin 16384, ds x0 x1 x2 h r j * scale * q3 x0 (ix3 r h d) := by
  pointwise [val_main_v98, v97]
theorem v100 : val_main_v100 (F := Ideal) x0 x1 x2 (ix3 h r d) = ∑ j : Fin 16384, ds x0 x1 x2 h r j * scale * k3 x0 (ix3 j h d) := by
  pointwise [val_main_v100, v97]

/-- The queries' gradients. -/
theorem v105 : val_main_v105 (F := Ideal) x0 x1 x2 (ix2 (hcol h d) r) = ∑ j : Fin 16384, ds x0 x1 x2 h r j * scale * k3 x0 (ix3 j h d) := by
  rw [← v100]
  show val_main_v105 (F := Ideal) x0 x1 x2 (ix2 ⟨h.val * 64 + d.val, _⟩ r) = _
  pointwise [val_main_v105, val_main_v104, val_main_v101]
/-- The keys' gradients. -/
theorem v107 : val_main_v107 (F := Ideal) x0 x1 x2 (ix2 (hcol h d) j) = ∑ r : Fin 16384, ds x0 x1 x2 h r j * scale * q3 x0 (ix3 r h d) := by
  rw [← v98]
  show val_main_v107 (F := Ideal) x0 x1 x2 (ix2 ⟨h.val * 64 + d.val, _⟩ j) = _
  pointwise [val_main_v107, val_main_v106, val_main_v103, val_main_v99]
/-- The values' gradients. -/
theorem v109 : val_main_v109 (F := Ideal) x0 x1 x2 (ix2 (hcol h d) j) =
    ∑ r : Fin 16384, g3 x2 (ix3 r h d) * Ideal.div (rexp (row x0 x1 h r) j) (rsum (row x0 x1 h r)) := by
  rw [← v72]
  show val_main_v109 (F := Ideal) x0 x1 x2 (ix2 ⟨h.val * 64 + d.val, _⟩ j) = _
  pointwise [val_main_v109, val_main_v108, val_main_v102, val_main_v73]

theorem v92 : val_main_v92 (F := Ideal) x0 x1 x2 (ix2 h r) = ∑ j : Fin 16384, ds x0 x1 x2 h r j := by
  rw [val_main_v92_apply]
  exact (congrArg (· + _) (Ideal.ofBits_zero .f32)).trans ((zero_add _).trans (Finset.sum_congr rfl fun l _ =>
    (congrArg (val_main_v86 (F := Ideal) x0 x1 x2) (by blk_ext)).trans (v86 x0 x1 x2 h r l)))
theorem v94 : val_main_v94 (F := Ideal) x0 x1 x2 (ix2 h r) = ∑ j : Fin 16384, ds x0 x1 x2 h r j := by
  rw [val_main_v94_apply, Fin.sum_univ_one, ← v92]
  refine (congrArg (· + _) (Ideal.ofBits_zero .f32)).trans ((zero_add _).trans ?_)
  rw [val_main_v93_apply (F := Ideal)]
  exact congrArg (val_main_v92 (F := Ideal) x0 x1 x2) (by blk_ext)
/-- The row sums. -/
theorem v110 : val_main_v110 (F := Ideal) x0 x1 x2 (ix2 h r) = ∑ j : Fin 16384, ds x0 x1 x2 h r j := by
  rw [← v94]
  pointwise [val_main_v110, val_main_v95]

theorem v88 : val_main_v88 (F := Ideal) x0 x1 x2 (ix2 h j) = ∑ r : Fin 16384, -ds x0 x1 x2 h r j := by
  rw [val_main_v88_apply]
  exact (congrArg (· + _) (Ideal.ofBits_zero .f32)).trans ((zero_add _).trans (Finset.sum_congr rfl fun l _ =>
    congrArg Neg.neg ((congrArg (val_main_v86 (F := Ideal) x0 x1 x2) (by blk_ext)).trans (v86 x0 x1 x2 h l j))))
theorem v90 : val_main_v90 (F := Ideal) x0 x1 x2 (ix2 h j) = ∑ r : Fin 16384, -ds x0 x1 x2 h r j := by
  rw [val_main_v90_apply, Fin.sum_univ_one, ← v88]
  refine (congrArg (· + _) (Ideal.ofBits_zero .f32)).trans ((zero_add _).trans ?_)
  rw [val_main_v89_apply (F := Ideal)]
  exact congrArg (val_main_v88 (F := Ideal) x0 x1 x2) (by blk_ext)
/-- The column sums. -/
theorem v112 : val_main_v112 (F := Ideal) x0 x1 x2 (ix2 h j) = -∑ r : Fin 16384, -ds x0 x1 x2 h r j := by
  rw [← v90, val_main_v112_apply (F := Ideal)]
  refine congrArg Neg.neg ?_
  pointwise [val_main_v111, val_main_v91]

/-- The scores a query sees. -/
theorem score_seen (f : FVec Ideal S16384x8 .f32) (hf : val_main_v15 (F := Ideal) x0 x1 = f) (e : (j : ℕ) ≤ r) : sc x0 x1 (ix3 h r j) =
    (∑ d : Fin 64, q3 x0 (ix3 r h d) * k3 x0 (ix3 j h d)) * scale + f (ix2 r h) - f (ix2 j h) := by
  have e19 : val_main_v19 (F := Ideal) x0 (ix3 h r j) = ∑ d : Fin 64, q3 x0 (ix3 r h d) * k3 x0 (ix3 j h d) := by
    pointwise [val_main_v19]
  have e24 : val_main_v24 (F := Ideal) x0 x1 (ix3 h r j) = f (ix2 r h) := by
    rw [← hf]
    pointwise [val_main_v24, val_main_v23, val_main_v22]
  have e28 : val_main_v28 (F := Ideal) x0 x1 (ix3 h r j) = f (ix2 j h) := by
    rw [← hf]
    pointwise [val_main_v28, val_main_v27, val_main_v26]
  rw [sc, val_main_v37_0_apply (F := Ideal), mask, if_pos e, val_main_v29_apply (F := Ideal), val_main_v25_apply (F := Ideal), val_main_v21_apply (F := Ideal), e19, e24, e28,
    val_main_v20_apply (F := Ideal), val_main_cst_apply]
  rfl
theorem score_unseen (e : ¬(j : ℕ) ≤ r) : sc x0 x1 (ix3 h r j) = ⊥ := by
  rw [sc, val_main_v37_0_apply (F := Ideal), mask, if_neg e, val_main_call2_v2_apply (F := Ideal), val_main_call2_v0_apply (F := Ideal), val_main_cst_0_apply]
  exact Softmax.ofBits_bot

end Cert.FoxReferenceIdeal.Read
-- ==== Proof.FoxGate.lean ====
module

public import proofs.«01_k».proof.Proof.FoxReference

@[expose] public section

set_option maxRecDepth 16384

noncomputable section

/-! The running sum of the gates' logarithms is real where the gates' arguments are. -/

namespace Cert.FoxReferenceIdeal.Read

open Cert.FoxReferenceIdeal Cert.FoxReferenceIdeal.Gen Idealize.ShloMosaic

/-- The softplus of a real number, as it is spelled, is a real number. -/
theorem softplus_real (t : ℝ) (x y : EReal) (hx : x = t) :
    ∃ b : ℝ, Scalar.select (Ideal.cmp .une x x) y (max (t : EReal) 0 + Ideal.log1p (Ideal.exp (-max x (-x)))) = b := by
  subst hx
  obtain ⟨m, hm⟩ : ∃ m : ℝ, max (t : EReal) 0 = m := ⟨max t 0, (EReal.coe_strictMono.monotone.map_max (a := t) (b := 0)).symm⟩
  obtain ⟨n, hn⟩ : ∃ n : ℝ, max (t : EReal) (-t) = n := ⟨max t (-t), (EReal.coe_strictMono.monotone.map_max (a := t) (b := -t)).symm⟩
  have e : Ideal.cmp .une (t : EReal) t = 0#1 := by simp [Ideal.cmp]
  refine ⟨m + Real.log (1 + Real.exp (-n)), ?_⟩
  have hp : ¬ 1 + Real.exp (-n) ≤ 0 := not_le.2 (by positivity)
  rw [e, hm, hn, ← EReal.coe_neg, Ideal.exp_coe, Ideal.log1p, ← EReal.coe_one, ← EReal.coe_add, Ideal.log_coe, if_neg hp, EReal.coe_add]
  rfl

theorem foldl_real {α : Type} (l : List α) (f : EReal → α → EReal) (hf : ∀ (r : EReal) (n : α), (∃ a : ℝ, r = a) → ∃ b : ℝ, f r n = b) :
    ∀ v : EReal, (∃ a : ℝ, v = a) → ∃ b : ℝ, l.foldl f v = b := by
  induction l with
  | nil => exact fun v h => h
  | cons n l ih => exact fun v h => ih _ (hf v n h)

variable (x0 : FVec Ideal S16384x6680 .f32) (x1 : FVec Ideal S8 .f32)

theorem v13 (r : Fin 16384) (h : Fin 8) : val_main_v13 (F := Ideal) x0 x1 (ix2 r h) = x0 (ix2 r ⟨3088 + h, by omega⟩) + x1 (ix1 h) := by
  pointwise [val_main_v13, val_main_v12, val_main_v11, val_main_v8]

theorem zero_at (i : S16384x8.Idx) : val_main_call0_call0_v0 (F := Ideal) i = (0 : EReal) := by
  rw [val_main_call0_call0_v0_apply (F := Ideal), val_main_call0_call0_cst_apply]
  exact Ideal.ofBits_zero .f32
theorem zero_at' (i : S16384x8.Idx) : val_main_call0_call0_v2 (F := Ideal) i = (0 : EReal) := zero_at i

theorem v14_real (i : S16384x8.Idx) (a : ℝ) (ha : val_main_v13 (F := Ideal) x0 x1 i = (a : EReal)) : ∃ b : ℝ, val_main_v14 (F := Ideal) x0 x1 i = (b : EReal) := by
  have e0 : val_main_call0_v0 (F := Ideal) x0 x1 i = ((-a : ℝ) : EReal) := by
    rw [val_main_call0_v0_apply (F := Ideal), ha]
    rfl
  have e3 : val_main_call0_call0_v3 (F := Ideal) x0 x1 i = ((-a : ℝ) : EReal) := by
    rw [val_main_call0_call0_v3_apply (F := Ideal), e0, zero_at']
    exact sub_zero _
  obtain ⟨b, hb⟩ := softplus_real (-a) _ (val_main_call0_call0_v6 (F := Ideal) x0 x1 i) e3
  have e1 : val_main_call0_call0_v1 (F := Ideal) x0 x1 i = max ((-a : ℝ) : EReal) 0 := by
    rw [val_main_call0_call0_v1_apply (F := Ideal), e0, zero_at]
    rfl
  refine ⟨-b, ?_⟩
  rw [val_main_v14_apply (F := Ideal), val_main_call0_v1_apply (F := Ideal), val_main_call0_call0_v4_apply (F := Ideal), val_main_call0_call0_v11_apply (F := Ideal), e1,
    val_main_call0_call0_v10_apply (F := Ideal), val_main_call0_call0_v9_apply (F := Ideal), val_main_call0_call0_v8_apply (F := Ideal), val_main_call0_call0_v7_apply (F := Ideal), EReal.coe_neg b, ← hb]
  rfl

theorem add_real (a : ℝ) {z : EReal} (hz : ∃ b : ℝ, z = b) : ∃ b : ℝ, (a : EReal) + z = b := by
  obtain ⟨b, rfl⟩ := hz
  exact ⟨a + b, rfl⟩

/-- The running sum of real numbers is real. -/
theorem v15_real (hv : ∀ i, ∃ a : ℝ, val_main_v14 (F := Ideal) x0 x1 i = (a : EReal)) (j : S16384x8.Idx) : ∃ b : ℝ, val_main_v15 (F := Ideal) x0 x1 j = (b : EReal) := by
  unfold val_main_v15
  generalize val_main_v14 (F := Ideal) x0 x1 = y at hv ⊢
  rw [Host.reduceWindowAdd, Ideal.hostReduceWindowAdd_def]
  unfold Ideal.hostReduceWindowAdd Host.reduceWindow
  refine foldl_real _ _ ?_ _ ⟨0, ?_⟩
  · rintro r n ⟨a, rfl⟩
    dsimp only
    split
    · exact add_real a (hv _)
    · exact add_real a ⟨0, Ideal.ofBits_zero .f32⟩
  · exact Ideal.ofBits_zero .f32

end Cert.FoxReferenceIdeal.Read

end
-- ==== Proof.FoxEquation.lean ====
module

public import proofs.«01_k».proof.Proof.FoxPacked
public import proofs.«01_k».proof.Proof.FoxRow
public import proofs.«01_k».proof.Proof.FoxGate

@[expose] public section

set_option maxRecDepth 16384

noncomputable section

/-! The kernel's weights and gradients of the scores are the plain reverse pass's, where the arguments are real numbers. -/

namespace Cert.FoxReferenceIdeal.Read

open Cert.FoxReferenceIdeal Cert.FoxReferenceIdeal.Gen Idealize.ShloMosaic
open Cert.FoxKernelIdeal.Value (rtop rexp rsum srow hcol lane qAug kAug oAug vAug hGate hLse hDelta hScaled hC wt gr)

variable (P : FVec Ideal S16384x6680 .f32) (B : FVec Ideal S8 .f32) (G : FVec Ideal S16384x512 .f32)

/-- The finiteness the equations need: of the queries, keys, values and gates, of the gates' bias and of the cotangent. -/
structure Finite : Prop where
  p (r : Fin 16384) (y : Fin 1544) : ∃ x : ℝ, P (ix2 r ⟨1552 + y, by omega⟩) = x
  b (h : Fin 8) : ∃ x : ℝ, B (ix1 h) = x
  g (r : Fin 16384) (y : Fin 512) : ∃ x : ℝ, G (ix2 r y) = x

variable {P B G}

theorem q3_real (f : Finite P B G) (r : Fin 16384) (h : Fin 8) (d : Fin 64) : ∃ x : ℝ, q3 P (ix3 r h d) = x := by
  have e : q3 P (ix3 r h d) = P (ix2 r ⟨1552 + (h.val * 64 + d.val), by omega⟩) := by
    pointwise [q3, val_main_v16, val_main_v5]
  rw [e]
  exact f.p r ⟨h.val * 64 + d.val, by omega⟩
theorem k3_real (f : Finite P B G) (r : Fin 16384) (h : Fin 8) (d : Fin 64) : ∃ x : ℝ, k3 P (ix3 r h d) = x := by
  have e : k3 P (ix3 r h d) = P (ix2 r ⟨1552 + (512 + (h.val * 64 + d.val)), by omega⟩) := by
    pointwise [k3, val_main_v17, val_main_v6]
    exact congrArg (fun n : Fin 6680 => P (ix2 r n)) (Fin.ext (by show 2064 + _ = 1552 + (512 + _); omega))
  rw [e]
  exact f.p r ⟨512 + (h.val * 64 + d.val), by omega⟩
theorem v3_real (f : Finite P B G) (r : Fin 16384) (h : Fin 8) (d : Fin 64) : ∃ x : ℝ, v3 P (ix3 r h d) = x := by
  have e : v3 P (ix3 r h d) = P (ix2 r ⟨1552 + (1024 + (h.val * 64 + d.val)), by omega⟩) := by
    pointwise [v3, val_main_v18, val_main_v7]
    exact congrArg (fun n : Fin 6680 => P (ix2 r n)) (Fin.ext (by show 2576 + _ = 1552 + (1024 + _); omega))
  rw [e]
  exact f.p r ⟨1024 + (h.val * 64 + d.val), by omega⟩
theorem g3_real (f : Finite P B G) (r : Fin 16384) (h : Fin 8) (d : Fin 64) : ∃ x : ℝ, g3 G (ix3 r h d) = x := by
  have e : g3 G (ix3 r h d) = G (ix2 r ⟨h.val * 64 + d.val, by omega⟩) := by
    pointwise [g3, val_main_v69]
  rw [e]
  exact f.g r ⟨h.val * 64 + d.val, by omega⟩

theorem gate_real (f : Finite P B G) (r : Fin 16384) (h : Fin 8) : ∃ x : ℝ, val_main_v15 (F := Ideal) P B (ix2 r h) = (x : EReal) := by
  refine v15_real P B (fun i => ?_) _
  obtain ⟨r, h, rfl⟩ : ∃ (r : Fin 16384) (h : Fin 8), i = ix2 r h := ⟨i 0, i 1, by funext a; match a with | ⟨0, _⟩ => rfl | ⟨1, _⟩ => rfl⟩
  obtain ⟨a, ha⟩ := f.p r ⟨1536 + h, by omega⟩
  obtain ⟨b, hb⟩ := f.b h
  refine v14_real P B _ (a + b) ?_
  rw [v13, hb, EReal.coe_add, ← ha]
  exact congrArg (fun n : Fin 6680 => P (ix2 r n) + (b : EReal)) (Fin.ext (by show 3088 + (h : ℕ) = 1552 + (1536 + h); omega))

/-- A sum of products of real numbers. -/
theorem dot_real {n : ℕ} (u v : Fin n → EReal) (hu : ∀ d, ∃ x : ℝ, u d = x) (hv : ∀ d, ∃ x : ℝ, v d = x) : ∃ x : ℝ, ∑ d, u d * v d = x := by
  choose a ha using hu
  choose b hb using hv
  refine ⟨∑ d, a d * b d, ?_⟩
  rw [← Softmax.coe_sum]
  exact Finset.sum_congr rfl fun d _ => by rw [ha, hb, EReal.coe_mul]

theorem scale_real : ∃ x : ℝ, scale = x := ⟨_, rfl⟩

theorem dprob_real (f : Finite P B G) (h : Fin 8) (r j : Fin 16384) : ∃ x : ℝ, dprob P G h r j = x :=
  dot_real _ _ (fun d => g3_real f r h d) fun d => v3_real f j h d

/-- One row's real numbers: the gates, the scores, the greatest of them, their weights and the weights' sum. -/
structure Row (P : FVec Ideal S16384x6680 .f32) (B : FVec Ideal S8 .f32) (h : Fin 8) (r : Fin 16384) (φ : Fin 16384 → ℝ) (σ : Fin 16384 → ℝ) (M : ℝ) (w : Fin 16384 → ℝ) : Prop where
  gate (j : Fin 16384) : val_main_v15 (F := Ideal) P B (ix2 j h) = (φ j : EReal)
  dot (j : Fin 16384) : (∑ d : Fin 64, q3 P (ix3 r h d) * k3 P (ix3 j h d)) * scale = (σ j : EReal)
  top : rtop (row P B h r) = M
  exp (j : Fin 16384) : rexp (row P B h r) j = w j
  sum : rsum (row P B h r) = ((∑ j, w j : ℝ) : EReal)
  pos : 0 < ∑ j, w j
  seen (j : Fin 16384) (e : (j : ℕ) ≤ r) : w j = Real.exp (σ j + φ r - φ j - M)

theorem exists_row (f : Finite P B G) (h : Fin 8) (r : Fin 16384) : ∃ φ σ M w, Row P B h r φ σ M w := by
  obtain ⟨s, hs⟩ := scale_real
  choose φ hφ using fun j => gate_real f j h
  choose a ha using fun j => dot_real (fun d => q3 P (ix3 r h d)) (fun d => k3 P (ix3 j h d)) (fun d => q3_real f r h d) fun d => k3_real f j h d
  have hσ : ∀ j : Fin 16384, (∑ d : Fin 64, q3 P (ix3 r h d) * k3 P (ix3 j h d)) * scale = ((a j * s : ℝ) : EReal) := fun j => by
    rw [ha, hs, EReal.coe_mul]
  have hu : ∀ j : Fin 16384, (j : ℕ) ≤ r → row P B h r j = ((a j * s + φ r - φ j : ℝ) : EReal) := fun j e => by
    show sc P B (ix3 h r j) = _
    rw [score_seen P B h r j _ rfl e, hσ, hφ, hφ, EReal.coe_sub, EReal.coe_add]
  have hn : ∀ j : Fin 16384, ¬(j : ℕ) ≤ r → row P B h r j = ⊥ := fun j e => score_unseen P B h r j e
  obtain ⟨M, w, hM, hw, hT, h0, hx⟩ := FoxRow.row_real (row P B h r)
    (fun j => by
      by_cases e : (j : ℕ) ≤ r
      · rw [hu j e]; exact EReal.coe_lt_top _
      · rw [hn j e]; exact bot_lt_top) r (by rw [hu r le_rfl]; exact EReal.bot_lt_coe _)
  exact ⟨φ, fun j => a j * s, M, w, hφ, hσ, hM, hw, hT, h0, fun j e => hx j _ (hu j e)⟩

theorem unseen_exp {h : Fin 8} {r : Fin 16384} {M : ℝ} (hM : rtop (row P B h r) = M) (j : Fin 16384) (e : ¬(j : ℕ) ≤ r) : rexp (row P B h r) j = 0 := by
  have hj : row P B h r j = ⊥ := score_unseen P B h r j e
  rw [rexp, hM, hj, EReal.bot_sub]
  rfl

/-- The kernel's weight of a key is the softmax's. -/
theorem prob_eq (f : Finite P B G) (h : Fin 8) (r j : Fin 16384) :
    wt (qAug (sc P B) (val_main_v15 (F := Ideal) P B) (q3 P)) (kAug (val_main_v15 (F := Ideal) P B) (k3 P)) h r j =
      Ideal.div (rexp (row P B h r) j) (rsum (row P B h r)) := by
  obtain ⟨φ, σ, M, w, R⟩ := exists_row f h r
  obtain ⟨q, hq⟩ : ∃ q : Fin 64 → ℝ, ∀ d, q3 P (ix3 r h d) = q d := ⟨_, fun d => (q3_real f r h d).choose_spec⟩
  obtain ⟨k, hk⟩ : ∃ k : Fin 64 → ℝ, ∀ d, k3 P (ix3 j h d) = k d := ⟨_, fun d => (k3_real f j h d).choose_spec⟩
  obtain ⟨s, hs⟩ := scale_real
  unfold wt
  split
  · next e =>
    have hg : ∀ i, hGate (val_main_v15 (F := Ideal) P B) (ix2 i h) = ((φ i * (1 / Real.log 2) : ℝ) : EReal) := fun i => by
      rw [Cert.FoxKernelIdeal.Value.hGate_at, R.gate, Cert.FoxKernelIdeal.Value.hC_eq, EReal.coe_mul]
    have hl : hLse (sc P B) (ix2 r h) = (((M + Real.log (∑ l, w l)) * (1 / Real.log 2) : ℝ) : EReal) := by
      rw [Cert.FoxKernelIdeal.Value.hLse_at, R.top, R.sum, Ideal.log_coe, if_neg (not_le.2 R.pos), Cert.FoxKernelIdeal.Value.hC_eq, EReal.coe_mul, EReal.coe_add]
    have ha : subf (hGate (val_main_v15 (F := Ideal) P B)) (hLse (sc P B)) (ix2 r h) =
        ((φ r * (1 / Real.log 2) - (M + Real.log (∑ l, w l)) * (1 / Real.log 2) : ℝ) : EReal) := by
      rw [EReal.coe_sub, ← hg, ← hl]
      rfl
    have hd : ∑ c : Fin 64, hScaled (q3 P) (ix3 r h c) * k3 P (ix3 j h c) = ((σ j * (1 / Real.log 2) : ℝ) : EReal) := by
      have e1 : (∑ d, q d * k d) * s = σ j := by
        have e2 := R.dot j
        simp only [hq, hk, hs, ← EReal.coe_mul, Softmax.coe_sum] at e2
        exact EReal.coe_eq_coe_iff.1 e2
      rw [← e1, Finset.sum_mul, Finset.sum_mul, ← Softmax.coe_sum]
      refine Finset.sum_congr rfl fun d _ => ?_
      rw [Cert.FoxKernelIdeal.Value.hScaled_at, hq, hk, Cert.FoxKernelIdeal.Value.hC_eq, show Ideal.ofBits .f32 0x3E000000#32 = (s : EReal) from hs, ← EReal.coe_mul, ← EReal.coe_mul, ← EReal.coe_mul]
      exact congrArg Real.toEReal (by ring)
    rw [Cert.FoxKernelIdeal.Value.qk_dot _ _ _ _ _ _ _ ha (hg j), hd, R.exp, R.sum, R.seen j e, ← EReal.coe_add, ← FoxRow.exp2_row _ _ _ R.pos]
    exact congrArg (fun t : ℝ => Ideal.exp2 (t : EReal)) (by ring)
  · next e =>
    rw [unseen_exp R.top j e, R.sum, Ideal.div_coe R.pos.ne', zero_mul]

/-- A row's sum of the cotangent times the output: of the weights times their own gradients. -/
theorem delta_eq (f : Finite P B G) (h : Fin 8) (r : Fin 16384) (w D : Fin 16384 → ℝ) (T : ℝ) (hT : 0 < T)
    (hw : ∀ j, rexp (row P B h r) j = w j) (hs : rsum (row P B h r) = (T : EReal)) (hD : ∀ j, dprob P G h r j = D j) :
    hDelta (sc P B) (v3 P) (g3 G) (ix2 r h) = ((∑ j, w j * (1 / T) * D j : ℝ) : EReal) := by
  choose g hg using fun d => g3_real f r h d
  choose v hv using fun (j : Fin 16384) d => v3_real f j h d
  have e : ∀ j, ∑ d, g d * v j d = D j := fun j => by
    have e2 := hD j
    unfold dprob at e2
    simp only [hg, hv, ← EReal.coe_mul, Softmax.coe_sum] at e2
    exact EReal.coe_eq_coe_iff.1 e2
  rw [Cert.FoxKernelIdeal.Value.hDelta_at]
  simp only [hg, hv, hw, hs, Ideal.div_coe hT.ne', ← EReal.coe_mul, Softmax.coe_sum]
  refine congrArg Real.toEReal ?_
  simp only [Finset.mul_sum]
  rw [Finset.sum_comm]
  refine Finset.sum_congr rfl fun j _ => ?_
  rw [← e, Finset.mul_sum]
  exact Finset.sum_congr rfl fun d _ => by ring

/-- The kernel's gradient of a score is the reverse pass's. -/
theorem grad_eq (f : Finite P B G) (h : Fin 8) (r j : Fin 16384) :
    gr (qAug (sc P B) (val_main_v15 (F := Ideal) P B) (q3 P)) (oAug (sc P B) (v3 P) (g3 G)) (kAug (val_main_v15 (F := Ideal) P B) (k3 P)) (vAug (v3 P)) h r j =
      ds P B G h r j := by
  obtain ⟨φ, σ, M, w, R⟩ := exists_row f h r
  choose D hD using fun l => dprob_real f h r l
  unfold gr
  rw [prob_eq f, ds]
  split
  · next e =>
    rw [Cert.FoxKernelIdeal.Value.ov_dot _ _ _ _ _ _ (delta_eq f h r w D _ R.pos R.exp R.sum hD), dscore, back, inv2]
    have e1 : ∑ c : Fin 64, g3 G (ix3 r h c) * v3 P (ix3 j h c) = (D j : EReal) := hD j
    rw [e1]
    simp only [R.exp, R.sum, hD]
    have e2 := Softmax.row_grad_of w D R.pos j
    rw [Softmax.coe_sum] at e2
    rw [e2]
    refine congrArg (Ideal.div (w j : EReal) ((∑ l, w l : ℝ) : EReal) * ·) ?_
    simp only [Ideal.div_coe R.pos.ne', ← EReal.coe_mul, Softmax.coe_sum, EReal.coe_neg]
    rfl
  · next e =>
    rw [unseen_exp R.top j e, R.sum, Ideal.div_coe R.pos.ne', zero_mul, zero_mul]

/-- The gradient of a score is a real number. -/
theorem ds_real (f : Finite P B G) (h : Fin 8) (r j : Fin 16384) : ∃ x : ℝ, ds P B G h r j = x := by
  obtain ⟨φ, σ, M, w, R⟩ := exists_row f h r
  choose D hD using fun l => dprob_real f h r l
  rw [ds]
  split
  · rw [dscore, back, inv2]
    simp only [R.exp, R.sum, hD]
    rw [← EReal.coe_mul]
    simp only [← EReal.coe_one, Ideal.div_coe R.pos.ne', Ideal.div_coe (mul_pos R.pos R.pos).ne', ← EReal.coe_mul, Softmax.coe_sum, ← EReal.coe_neg, ← EReal.coe_add]
    exact ⟨_, rfl⟩
  · exact ⟨0, rfl⟩

end Cert.FoxReferenceIdeal.Read

end
-- ==== Proof.FoxGrads.lean ====
module

public import proofs.«01_k».proof.Proof.FoxFinal
public import proofs.«01_k».proof.Proof.FoxEntry
public import proofs.«01_k».proof.Proof.FoxEquation
public import proofs.«01_k».proof.Pre_fox_finite
public import Idealize.ShloMosaic.Lib.ReduceAll

@[expose] public section

set_option maxRecDepth 16384

noncomputable section

/-! The kernel's five gradients of the forgetting attention are the plain reverse pass's. -/

namespace Cert.FoxReferenceIdeal.Read

open Cert.FoxReferenceIdeal Cert.FoxReferenceIdeal.Gen Idealize.ShloMosaic
open Cert.FoxKernelIdeal.Value (rexp rsum hcol wt gr turned eighth PA PB PG ak aq ag aP aG fin7 fin8 fin9 fin10 fin11 V_qAug V_kAug V_oAug V_vAug V_qt V_kt V_dot)

theorem turned_at (x : FVec Ideal S16384x512 .f32) (y : Fin 512) (r : Fin 16384) : turned x (ix2 y r) = x (ix2 r y) := by
  pointwise [turned]
theorem eighth_at (x : FVec Ideal S16384x512 .f32) (y : Fin 512) (r : Fin 16384) : eighth x (ix2 r y) = x (ix2 r y) * scale := by
  pointwise [eighth, scale]

/-- A column of a head, in the flat array and in the array by heads. -/
theorem split_at (x : FVec Ideal S16384x512 .f32) (h : Fin 8) (d : Fin 64) (r : Fin 16384) :
    x (ix2 r (hcol h d)) = (shapeCast S16384x8x64 x shapeCasts_S16384x512_S16384x8x64 : FVec Ideal S16384x8x64 .f32) (ix3 r h d) := by
  show x (ix2 r ⟨h.val * 64 + d.val, _⟩) = _
  pointwise

variable (m : (ℓ : Loc Cert.FoxKernelIdeal.nD Cert.FoxKernelIdeal.τ Cert.FoxKernelIdeal.sig) → Buf (Elt Ideal) ℓ) (c : Dev Cert.FoxKernelIdeal.nD)
variable (f : Finite (PA m c) (PB m c) (PG m c)) (h : Fin 8) (d : Fin 64) (r j : Fin 16384)

theorem ak_at : ak m c (ix2 (hcol h d) r) = k3 (PA m c) (ix3 r h d) * scale := by
  show Cert.FoxKernelIdeal.Gen.V m c Cert.FoxKernelIdeal.main_v129 (ix2 (hcol h d) r) = _
  rw [V_kt, turned_at, eighth_at]
  exact congrArg (· * scale) (split_at _ h d r)
theorem aq_at : aq m c (ix2 (hcol h d) r) = q3 (PA m c) (ix3 r h d) * scale := by
  show Cert.FoxKernelIdeal.Gen.V m c Cert.FoxKernelIdeal.main_v123 (ix2 (hcol h d) r) = _
  rw [V_qt, turned_at, eighth_at]
  exact congrArg (· * scale) (split_at _ h d r)
theorem ag_at : ag m c (ix2 (hcol h d) r) = g3 (PG m c) (ix3 r h d) := by
  show Cert.FoxKernelIdeal.Gen.V m c Cert.FoxKernelIdeal.main_v125 (ix2 (hcol h d) r) = _
  rw [V_dot, turned_at]
  exact split_at _ h d r

include f in
theorem aP_eq : aP m c h r j = Ideal.div (rexp (row (PA m c) (PB m c) h r) j) (rsum (row (PA m c) (PB m c) h r)) := by
  show wt (Cert.FoxKernelIdeal.Gen.V m c Cert.FoxKernelIdeal.main_v79) (Cert.FoxKernelIdeal.Gen.V m c Cert.FoxKernelIdeal.main_v97) h r j = _
  rw [V_qAug, V_kAug]
  exact prob_eq f h r j
include f in
theorem aG_eq : aG m c h r j = ds (PA m c) (PB m c) (PG m c) h r j := by
  show gr (Cert.FoxKernelIdeal.Gen.V m c Cert.FoxKernelIdeal.main_v79) (Cert.FoxKernelIdeal.Gen.V m c Cert.FoxKernelIdeal.main_v119) (Cert.FoxKernelIdeal.Gen.V m c Cert.FoxKernelIdeal.main_v97) (Cert.FoxKernelIdeal.Gen.V m c Cert.FoxKernelIdeal.main_v102) h r j = _
  rw [V_qAug, V_kAug, V_oAug, V_vAug]
  exact grad_eq f h r j

/-- Every entry of a flat array of gradients lies in one head's column. -/
theorem exists_col (z : S512x16384.Idx) : ∃ (h : Fin 8) (d : Fin 64) (r : Fin 16384), z = ix2 (hcol h d) r := by
  have hz : (z 0).val < 512 := (z 0).isLt
  refine ⟨⟨(z 0).val / 64, by omega⟩, ⟨(z 0).val % 64, by omega⟩, z 1, ?_⟩
  funext a
  match a with
  | ⟨0, _⟩ => exact Fin.ext (Nat.div_add_mod' (z 0).val 64).symm
  | ⟨1, _⟩ => rfl

include f in
/-- The queries' gradients agree. -/
theorem dq_eq : val_main_v105 (F := Ideal) (PA m c) (PB m c) (PG m c) = fin7 m c := by
  funext z
  obtain ⟨h, d, r, rfl⟩ := exists_col z
  rw [v105]
  refine Eq.trans ?_ (Cert.FoxKernelIdeal.Value.fin7_at m c h d r).symm
  refine Finset.sum_congr rfl fun j _ => ?_
  rw [ak_at, aG_eq m c f, mul_assoc, mul_comm, mul_comm scale]

include f in
/-- The keys' gradients agree. -/
theorem dk_eq : val_main_v107 (F := Ideal) (PA m c) (PB m c) (PG m c) = fin9 m c := by
  funext z
  obtain ⟨h, d, j, rfl⟩ := exists_col z
  rw [v107]
  refine Eq.trans ?_ (Cert.FoxKernelIdeal.Value.fin9_at m c h d j).symm
  refine Finset.sum_congr rfl fun r _ => ?_
  rw [aq_at, aG_eq m c f, mul_assoc, mul_comm, mul_comm scale]

include f in
/-- The values' gradients agree. -/
theorem dv_eq : val_main_v109 (F := Ideal) (PA m c) (PB m c) (PG m c) = fin10 m c := by
  funext z
  obtain ⟨h, d, j, rfl⟩ := exists_col z
  rw [v109]
  refine Eq.trans ?_ (Cert.FoxKernelIdeal.Value.fin10_at m c h d j).symm
  refine Finset.sum_congr rfl fun r _ => ?_
  rw [ag_at, aP_eq m c f]

theorem exists_row_col (z : S8x16384.Idx) : ∃ (h : Fin 8) (r : Fin 16384), z = ix2 h r :=
  ⟨z 0, z 1, by funext a; match a with | ⟨0, _⟩ => rfl | ⟨1, _⟩ => rfl⟩

include f in
/-- The rows' sums, the gates' gradients through the queries, agree. -/
theorem rows_eq : val_main_v110 (F := Ideal) (PA m c) (PB m c) (PG m c) =
    (shapeCast Cert.FoxKernelIdeal.S8x16384 (extractStridedSlice Cert.FoxKernelIdeal.S8x1x16384 ![0, 0, 0] (fin8 m c) Cert.FoxKernelIdeal.Gen.slices_S8x8x16384_S8x1x16384_0_0_0) Cert.FoxKernelIdeal.Gen.shapeCasts_S8x1x16384_S8x16384 : FVec Ideal S8x16384 .f32) := by
  funext z
  obtain ⟨h, r, rfl⟩ := exists_row_col z
  rw [v110]
  refine Eq.trans ?_ (Cert.FoxKernelIdeal.Value.row_sums m c h r).symm
  exact Finset.sum_congr rfl fun j _ => (aG_eq m c f h r j).symm

include f in
/-- The columns' sums, the gates' gradients through the keys, agree. -/
theorem cols_eq : val_main_v112 (F := Ideal) (PA m c) (PB m c) (PG m c) =
    (shapeCast Cert.FoxKernelIdeal.S8x16384 (fin11 m c) Cert.FoxKernelIdeal.Gen.shapeCasts_S8x1x16384_S8x16384 : FVec Ideal S8x16384 .f32) := by
  funext z
  obtain ⟨h, j, rfl⟩ := exists_row_col z
  rw [v112]
  refine Eq.trans ?_ (Cert.FoxKernelIdeal.Value.col_sums m c h j).symm
  choose x hx using fun r => ds_real f h r j
  have e : ∀ r, aG m c h r j = (x r : EReal) := fun r => (aG_eq m c f h r j).trans (hx r)
  simp only [hx, e]
  simp only [← EReal.coe_neg, Softmax.coe_sum, Finset.sum_neg_distrib, neg_neg]

instance : Subsingleton Cert.Pre_fox_finite.S_.Idx := ⟨fun a b => funext fun i => i.elim0⟩

/-- The precondition read: the arrays the gradients use are finite. -/
theorem finite_of {P : FVec Ideal S16384x6680 .f32} {B : FVec Ideal S8 .f32} {G : FVec Ideal S16384x512 .f32}
    (hP : Cert.Pre_fox_finite.Facts) (h : Cert.Pre_fox_finite.fn (F := Ideal) P B G = fun _ => 1#1) : Finite P B G := by
  have e := congrFun h (fun a => a.elim0)
  dsimp only [Cert.Pre_fox_finite.fn] at e
  obtain ⟨e, e3⟩ := IntOp.andi_eq_one.1 e
  obtain ⟨e1, e2⟩ := IntOp.andi_eq_one.1 e
  refine ⟨fun r y => ?_, fun j => ?_, fun r y => ?_⟩
  · obtain ⟨x, hx⟩ := Softmax.real_of_olt Softmax.ofBits_top (Host.reduce_andi_all _ _ _ _ _ e1 (ix2 r y))
    exact ⟨x, Eq.trans (congrArg P (funext fun a => Fin.ext (by match a with | ⟨0, _⟩ => exact (Nat.zero_add _).symm | ⟨1, _⟩ => rfl))) hx⟩
  · exact Softmax.real_of_olt Softmax.ofBits_top (Host.reduce_andi_all _ _ _ _ _ e2 (ix1 j))
  · exact Softmax.real_of_olt Softmax.ofBits_top (Host.reduce_andi_all _ _ _ _ _ e3 (ix2 r y))

end Cert.FoxReferenceIdeal.Read

end
-- ==== Proof.Act.lean ====
module

public import proofs.«01_k».proof.Proof.Gen.ActKernelIdeal.Value
public import Idealize.ShloMosaic.Lib.Pipeline.ValueKit
public import Idealize.ShloMosaic.Lib.Pipeline.ReadBack

@[expose] public section

set_option maxRecDepth 16384

noncomputable section

/-! The squared relu's gradient: what a grid point leaves in its block, and the whole array. -/

namespace Cert.ActKernelIdeal.Value

open Cert.ActKernelIdeal Cert.ActKernelIdeal.Gen Idealize.ShloMosaic Idealize.ShloMosaic.TcCoe Idealize.SL.Sem
open Idealize.ShloMosaic.Pipeline (Dat)

/-- The constant two of the program. -/
abbrev two : EReal := Ideal.ofBits .f32 0x40000000#32

/-- The gradient at one entry, from a row of the cotangent, a row of the weight and the entry. -/
def slope (g w : Fin 1024 → EReal) (a : EReal) : EReal := (∑ k : Fin 1024, g k * w k) * (two * max a 0)

/-- The gradient of the squared relu, entry by entry. -/
def act (a : FVec Ideal S16384x4096 .f32) (w : FVec Ideal S4096x1024 .f32) (g : FVec Ideal S16384x1024 .f32) : FVec Ideal S16384x4096 .bf16 :=
  fun z => slope (fun k => g (ix2 (z 0) k)) (fun k => w (ix2 (z 1) k)) (a z)

theorem act_at (a : FVec Ideal S16384x4096 .f32) (w : FVec Ideal S4096x1024 .f32) (g : FVec Ideal S16384x1024 .f32) (r : Fin 16384) (j : Fin 4096) :
    act a w g (ix2 r j) = slope (fun k => g (ix2 r k)) (fun k => w (ix2 j k)) (a (ix2 r j)) := rfl

theorem pay1_apply (g w a : FVec Ideal S1024x1024 .bf16) (i j : Fin 1024) :
    k0_pay1 (F := Ideal) g w a (ix2 i j) = slope (fun k => g (ix2 i k)) (fun k => w (ix2 k j)) (a (ix2 i j)) := by
  pointwise [k0_pay1, slope]

variable (m : (ℓ : Loc nD τ sig) → Buf (Elt Ideal) ℓ) (ρ : Dev nD → PrngReg)

theorem idx : ∀ t : Fin cfg0.N, win0_0.index t = ![t.val / 4, 0] ∧ win0_1.index t = ![0, t.val % 4] ∧ win0_2.index t = ![t.val / 4, t.val % 4] ∧
    win0_3.index t = ![t.val / 4, t.val % 4] := (by decide +kernel : ∀ t : Fin grid0.N, _)

/-- Row `i` and column `j` of grid point `t`'s block. -/
def rowAt (t : Fin cfg0.N) (i : Fin 1024) : Fin 16384 := ⟨t.val / 4 * 1024 + i, by have := lt_of_lt_of_eq t.isLt N_0; omega⟩
def colAt (t : Fin cfg0.N) (j : Fin 1024) : Fin 4096 := ⟨t.val % 4 * 1024 + j, by omega⟩

theorem rowAt_val (t : Fin cfg0.N) (i : Fin 1024) : (rowAt t i : ℕ) = t.val / 4 * 1024 + i := rfl
theorem colAt_val (t : Fin cfg0.N) (j : Fin 1024) : (colAt t j : ℕ) = t.val % 4 * 1024 + j := rfl

section blocks
variable (c : Dev nD) (t : Fin cfg0.N)

theorem blk0 (i k : Fin 1024) : (iblk m c 0 t : FVec Ideal S1024x1024 .bf16) (ix2 i k) = m ((c.tc : Thread nD τ).loc main_arg2) (ix2 (rowAt t i) k) := by
  blk_point [iblk, V, idx t, rowAt_val]
theorem blk1 (k j : Fin 1024) : (iblk m c 1 t : FVec Ideal S1024x1024 .bf16) (ix2 k j) = m ((c.tc : Thread nD τ).loc main_arg1) (ix2 (colAt t j) k) := by
  blk_point [iblk, V, idx t, colAt_val]
theorem blk2 (i j : Fin 1024) : (iblk m c 2 t : FVec Ideal S1024x1024 .bf16) (ix2 i j) = m ((c.tc : Thread nD τ).loc main_arg0) (ix2 (rowAt t i) (colAt t j)) := by
  blk_point [iblk, V, idx t, rowAt_val, colAt_val]

theorem emb3 (i j : Fin 1024) : ((cfg0.win 3).blk t).view.emb (ix2 i j) = (ix2 (rowAt t i) (colAt t j) : S16384x4096.Idx) := by
  blk_ext [idx t, rowAt_val, colAt_val]

end blocks

theorem final3 (c : Dev nD) : (dats m 0 c).arrAt 3 cfg0.N =
    act (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  have ey : y = (ix2 (y 0) (y 1) : S1024x1024.Idx) := by blk_ext
  rw [ey]
  refine Eq.trans ?_ ((congrArg (act _ _ _) (emb3 t (y 0) (y 1))).trans (act_at _ _ _ _ _)).symm
  refine (pay1_apply _ _ _ _ _).trans ?_
  exact (congrArg₂ (fun g w => slope g w _) (funext fun k => blk0 m c t (y 0) k) (funext fun k => blk1 m c t k (y 1))).trans
    (congrArg (slope _ _) (blk2 m c t (y 0) (y 1)))

end Cert.ActKernelIdeal.Value

end
-- ==== Proof.ActReference.lean ====
module

public import proofs.«01_k».proof.Proof.Act
public import proofs.«01_k».proof.Proof.Gen.ActReferenceIdeal.Read

@[expose] public section

set_option maxRecDepth 16384

noncomputable section

/-! The reference's gradient of the squared relu. -/

namespace Cert.ActReferenceIdeal.Read

open Cert.ActReferenceIdeal Cert.ActReferenceIdeal.Gen Idealize.ShloMosaic Idealize.ShloMosaic.TcCoe Idealize.SL.Sem

/-- The reference keeps the product where the entry is positive; elsewhere the relu, and so the slope, is zero. -/
theorem act_apply (a : FVec Ideal S16384x4096 .f32) (w : FVec Ideal S4096x1024 .f32) (g : FVec Ideal S16384x1024 .f32) (r : Fin 16384) (j : Fin 4096) :
    (val_main_v12 (F := Ideal) a w g : FVec Ideal S16384x4096 .bf16) (ix2 r j) =
      Cert.ActKernelIdeal.Value.slope (fun k => g (ix2 r k)) (fun k => w (ix2 j k)) (a (ix2 r j)) := by
  pointwise [val_main_v12, val_main_v11, val_main_v10, val_main_v9, val_main_v8, val_main_v6, val_main_v5, val_main_v3, val_main_v2, val_main_v1,
    val_main_v0, val_main_call0_v0, val_main_call0_cst, val_main_cst, val_main_cst_0, val_main_cst_1, val_main_cst_2, Cert.ActKernelIdeal.Value.slope]
  split
  · rfl
  · rename_i h
    rw [max_eq_right (not_lt.mp h), mul_zero, mul_zero]

theorem act_eq (a : FVec Ideal S16384x4096 .f32) (w : FVec Ideal S4096x1024 .f32) (g : FVec Ideal S16384x1024 .f32) :
    val_main_v12 (F := Ideal) a w g = Cert.ActKernelIdeal.Value.act a w g := by
  funext z
  rw [show z = ix2 (z 0) (z 1) by blk_ext]
  exact (act_apply a w g _ _).trans (Cert.ActKernelIdeal.Value.act_at a w g _ _).symm

end Cert.ActReferenceIdeal.Read

end
-- ==== Proof.RowNorm.lean ====
module

public import proofs.«01_k».proof.Proof.Softmax

@[expose] public section

noncomputable section

/-! The gradient of a row's root-mean-square norm, as the kernel writes it and as the reverse pass forms it. -/

namespace Cert.RowNorm

open Idealize.ShloMosaic

/-- The row's length and the small number under the root, as the programs hold them. -/
abbrev len : EReal := Ideal.ofBits .f32 0x44800000#32
abbrev eps : EReal := Ideal.ofBits .f32 0x358637BD#32
abbrev minusHalf : EReal := Ideal.ofBits .f32 0xBF000000#32

theorem len_eq : len = ((1024 : ℝ) : EReal) := by
  simp [Ideal.ofBits, Ideal.ieee]
  rw [← EReal.coe_mul]; norm_num
theorem minusHalf_eq : minusHalf = ((-(1 / 2) : ℝ) : EReal) := by
  simp [Ideal.ofBits, Ideal.ieee]
  rw [← EReal.coe_mul]; norm_num
theorem eps_eq : ∃ e : ℝ, 0 < e ∧ eps = e := by
  refine ⟨_, ?_, by simp [Ideal.ofBits, Ideal.ieee]; norm_num; rfl⟩
  norm_num

/-- The mean square of a row and the small number. -/
def meanSq (x : Fin 1024 → EReal) : EReal := Ideal.div (∑ k, x k * x k) len + eps

/-- The reciprocal root of the mean square. -/
def scale (x : Fin 1024 → EReal) : EReal := Ideal.rsqrt (meanSq x)

/-- What the normed row's cotangent `d` passes to the row, as the kernel writes it. -/
def back (x d : Fin 1024 → EReal) (j : Fin 1024) : EReal :=
  scale x * (d j - x j * scale x * Ideal.div (∑ k, d k * (x k * scale x)) len)

/-- What passes through the mean square, as the reverse pass forms it. -/
def through (x d : Fin 1024 → EReal) : EReal :=
  Ideal.div ((∑ k, x k * d k) * (minusHalf * Ideal.div (scale x) (meanSq x))) len

/-- A product with a non-negative real distributes over a sum of any extended reals. -/
theorem mul_sum {ι : Type*} (s : Finset ι) {r : ℝ} (hr : 0 ≤ r) (f : ι → EReal) : (r : EReal) * ∑ i ∈ s, f i = ∑ i ∈ s, (r : EReal) * f i := by
  classical
  induction s using Finset.induction_on with
  | empty => simp
  | insert i s hi ih =>
    rw [Finset.sum_insert hi, Finset.sum_insert hi, EReal.left_distrib_of_nonneg_of_ne_top (EReal.coe_nonneg.2 hr) (EReal.coe_ne_top r), ih]

/-- A real row's mean square is a positive number, and its scale squared is that number's reciprocal. -/
theorem scale_real (x : Fin 1024 → ℝ) : ∃ r s : ℝ, 0 < s ∧ 0 ≤ r ∧ r * r = 1 / s ∧ meanSq (fun k => (x k : EReal)) = s ∧ scale (fun k => (x k : EReal)) = r := by
  obtain ⟨e, he, hE⟩ := eps_eq
  have hs : meanSq (fun k => (x k : EReal)) = (((∑ k, x k * x k) * (1 / 1024) + e : ℝ) : EReal) := by
    unfold meanSq
    rw [hE, len_eq, Ideal.div_coe (by norm_num)]
    simp only [← EReal.coe_mul, Softmax.coe_sum, ← EReal.coe_add]
  have hp : 0 < (∑ k, x k * x k) * (1 / 1024) + e :=
    add_pos_of_nonneg_of_pos (mul_nonneg (Finset.sum_nonneg fun k _ => mul_self_nonneg _) (by norm_num)) he
  refine ⟨(Real.sqrt ((∑ k, x k * x k) * (1 / 1024) + e))⁻¹, _, hp, by positivity, ?_, hs, ?_⟩
  · rw [← mul_inv, Real.mul_self_sqrt hp.le]; exact (one_div _).symm
  · unfold scale
    rw [hs, Ideal.rsqrt_coe, if_neg (not_lt.mpr hp.le), if_neg hp.ne']

/-- A row with an infinite entry has the mean square infinity and the scale zero. -/
theorem meanSq_top {x : Fin 1024 → EReal} {k : Fin 1024} (h : x k * x k = ⊤) : meanSq x = ⊤ := by
  obtain ⟨e, -, hE⟩ := eps_eq
  have hs : ∑ k, x k * x k = ⊤ := by
    refine top_le_iff.1 (h ▸ Finset.single_le_sum (f := fun k => x k * x k) (fun i _ => ?_) (Finset.mem_univ k))
    rcases le_total 0 (x i) with hi | hi
    · exact EReal.mul_nonneg hi hi
    · exact EReal.mul_nonneg_iff.2 (Or.inr ⟨hi, hi⟩)
  unfold meanSq
  rw [hs, hE, len_eq, Ideal.div_coe (by norm_num), EReal.top_mul_coe_of_pos (by norm_num), EReal.top_add_coe]

/-- Twice a real multiple. -/
theorem twice (b : EReal) : b + b = ((2 : ℝ) : EReal) * b := by
  have e : ((2 : ℝ) : EReal) = 1 + 1 := by rw [← EReal.coe_one, ← EReal.coe_add]; norm_num
  rw [e, EReal.right_distrib_of_nonneg zero_le_one zero_le_one, one_mul]

/-- Both give the same for every row and every cotangent, whatever the cotangent `a` that reaches the row beside the norm. -/
theorem back_eq (x d : Fin 1024 → EReal) (j : Fin 1024) (a : EReal) :
    a + d j * scale x + x j * through x d + through x d * x j = a + back x d j := by
  rw [add_assoc, add_assoc]
  refine congrArg (a + ·) ?_
  by_cases hx : ∀ k, ∃ r : ℝ, x k = r
  · choose y hy using hx
    obtain rfl : x = fun k => (y k : EReal) := funext hy
    obtain ⟨r, s, hs, hn, hr, hm, hc⟩ := scale_real y
    unfold through back
    rw [hm, hc, len_eq, minusHalf_eq, Ideal.div_coe hs.ne', Ideal.div_coe (by norm_num), Ideal.div_coe (by norm_num)]
    have e : ∑ k, d k * (y k * r : EReal) = (r : EReal) * ∑ k, (y k : EReal) * d k := by
      rw [mul_sum _ hn]; exact Finset.sum_congr rfl fun k _ => by ac_rfl
    rw [e]
    generalize ∑ k, (y k : EReal) * d k = S
    rw [sub_eq_add_neg, EReal.left_distrib_of_nonneg_of_ne_top (EReal.coe_nonneg.2 hn) (EReal.coe_ne_top r), mul_comm (d j), mul_comm (S * _ * _) (y j : EReal), twice]
    refine congrArg ((r : EReal) * d j + ·) ?_
    have e1 : (2 : ℝ) * (y j * (-(1 / 2) * (r * (1 / s)) * (1 / 1024))) = -1 * (r * (y j * (r * (r * (1 / 1024))))) := by
      rw [← hr]; ring
    have e2 := congrArg (fun v : ℝ => (v : EReal) * S) e1
    simp only [EReal.coe_mul] at e2 ⊢
    have e3 : ((-1 : ℝ) : EReal) = -1 := by rw [EReal.coe_neg, EReal.coe_one]
    rw [neg_eq_neg_one_mul ((y j : EReal) * r * _), ← e3]
    refine Eq.trans ?_ (e2.trans ?_) <;> ac_rfl
  · obtain ⟨k, hk⟩ := not_forall.1 hx
    have hm : meanSq x = ⊤ := by
      refine meanSq_top (k := k) ?_
      induction h : x k with
      | bot => rfl
      | top => rfl
      | coe r => exact absurd ⟨r, h⟩ hk
    have hc : scale x = 0 := by unfold scale; rw [hm]; rfl
    unfold through back
    rw [hc, hm]
    simp [Ideal.div, len_eq]

end Cert.RowNorm

end
-- ==== Proof.RowLoss.lean ====
module

public import proofs.«01_k».proof.Proof.RowNorm
public import Idealize.ShloMosaic.Lib.Pipeline.ValueKit

@[expose] public section

noncomputable section

/-! A row of the stream after the second product of the feed-forward, its error against the target, and the error's gradients. -/

namespace Cert.RowLoss

open Idealize.ShloMosaic

/-- The constants of the programs. -/
abbrev inv : EReal := Ideal.ofBits .f32 0x3A800000#32
abbrev half : EReal := Ideal.ofBits .f32 0x3F000000#32
abbrev two : EReal := Ideal.ofBits .f32 0x40000000#32
abbrev one : EReal := Ideal.ofBits .f32 0x3F800000#32

theorem inv_eq : inv = ((1 / 1024 : ℝ) : EReal) := by
  simp [Ideal.ofBits, Ideal.ieee]
  rw [← EReal.coe_mul]; norm_num
theorem half_eq : half = ((1 / 2 : ℝ) : EReal) := by
  simp [Ideal.ofBits, Ideal.ieee]
  rw [← EReal.coe_mul]; norm_num
theorem two_eq : two = ((2 : ℝ) : EReal) := by
  simp [Ideal.ofBits, Ideal.ieee]
  rw [← EReal.coe_mul]; norm_num

/-- The row after the product: the squared relu of the activations times the weight, added to the stream. -/
def out (a : Fin 4096 → EReal) (w : Fin 4096 → Fin 1024 → EReal) (h : Fin 1024 → EReal) (j : Fin 1024) : EReal :=
  h j + ∑ k : Fin 4096, max (a k) 0 * max (a k) 0 * w k j

/-- The normed row's error. -/
def err (x g t : Fin 1024 → EReal) (j : Fin 1024) : EReal := x j * RowNorm.scale x * g j - t j

/-- The error's cotangent as the kernel writes it, and its product with the gain. -/
def dy (x g t : Fin 1024 → EReal) (j : Fin 1024) : EReal := err x g t j * inv
def dn (x g t : Fin 1024 → EReal) (j : Fin 1024) : EReal := dy x g t j * g j

/-- The reverse pass's halves and twos cancel. -/
theorem dy_eq (e : EReal) : Ideal.div (half * one) RowNorm.len * (two * e) = e * inv := by
  rw [show one = 1 from Ideal.ofBits_one_f32, mul_one, RowNorm.len_eq, Ideal.div_coe (by norm_num), half_eq, two_eq, inv_eq, ← EReal.coe_mul, ← mul_assoc, ← EReal.coe_mul, mul_comm]
  norm_num

/-- What the reverse pass forms without a cotangent beside the norm. -/
theorem back_eq (x d : Fin 1024 → EReal) (j : Fin 1024) :
    d j * RowNorm.scale x + x j * RowNorm.through x d + RowNorm.through x d * x j = RowNorm.back x d j := by
  simpa only [zero_add] using RowNorm.back_eq x d j 0

/-- The mean taken row by row or at the end. -/
theorem loss_eq (f : Fin 16384 → EReal) : half * ∑ r, Ideal.div (f r) RowNorm.len = Ideal.div (half * ∑ r, f r) RowNorm.len := by
  rw [RowNorm.len_eq, Ideal.div_coe (by norm_num)]
  simp only [Ideal.div_coe (show (1024 : ℝ) ≠ 0 by norm_num)]
  rw [mul_assoc, mul_comm (∑ r, f r), RowNorm.mul_sum _ (by norm_num)]
  exact congrArg (half * ·) (Finset.sum_congr rfl fun r _ => mul_comm _ _)

end Cert.RowLoss

end
-- ==== Proof.LossPoint.lean ====
module

public import proofs.«01_k».proof.Proof.Gen.LossKernelIdeal.Frame
public import proofs.«01_k».proof.Proof.RowLoss
public import Idealize.ShloMosaic.Lib.Pipeline.ValueKit
public import Idealize.ShloMosaic.Lib.Pipeline.ReadBack

@[expose] public section

set_option maxRecDepth 16384

noncomputable section

/-! What a grid point of the loss's backward leaves in its blocks. -/

namespace Cert.LossKernelIdeal.Value

open Cert.LossKernelIdeal Cert.LossKernelIdeal.Gen Idealize.ShloMosaic Idealize.ShloMosaic.TcCoe Idealize.SL.Sem
open Idealize.ShloMosaic.Pipeline (Dat)

section pays
variable (A : FVec Ideal S512x4096 .bf16) (W : FVec Ideal S4096x1024 .bf16) (H : FVec Ideal S512x1024 .f32) (G : FVec Ideal S1x1024 .f32) (T : FVec Ideal S512x1024 .f32)

/-- A row of the block after the product. -/
def xr (i : Fin 512) : Fin 1024 → EReal := RowLoss.out (fun k => A (ix2 i k)) (fun k j => W (ix2 k j)) (fun k => H (ix2 i k))

/-- The gain's row, and a row of the target. -/
def gr (k : Fin 1024) : EReal := G (ix2 0 k)
def tr (i : Fin 512) (k : Fin 1024) : EReal := T (ix2 i k)

/-- A row's error. -/
def er (i : Fin 512) : Fin 1024 → EReal := RowLoss.err (xr A W H i) (gr G) (tr T i)

/-- A grid point's block of the stream's gradient. -/
def dhOf (i : Fin 512) (j : Fin 1024) : EReal := RowNorm.back (xr A W H i) (RowLoss.dn (xr A W H i) (gr G) (tr T i)) j

/-- What a grid point adds to the gain's gradient: every eighth row's product. -/
def dgOf (i : Fin 8) (j : Fin 1024) : EReal :=
  ∑ k : Fin 64, RowLoss.dy (xr A W H ⟨k * 8 + i, by omega⟩) (gr G) (tr T ⟨k * 8 + i, by omega⟩) j
    * (xr A W H ⟨k * 8 + i, by omega⟩ j * RowNorm.scale (xr A W H ⟨k * 8 + i, by omega⟩))

/-- The squared errors of every eighth row, and what a grid point adds to the loss: of every eighth row, eight columns. -/
def sqOf (i : Fin 8) (j : Fin 1024) : EReal := ∑ k : Fin 64, er A W H G T ⟨k * 8 + i, by omega⟩ j * er A W H G T ⟨k * 8 + i, by omega⟩ j
def lossOf (i : Fin 8) (l : Fin 128) : EReal := ∑ q : Fin 8, sqOf A W H G T i ⟨q * 128 + l, by omega⟩

theorem pay8_apply (i : Fin 512) (j : Fin 1024) : k0_pay8 (F := Ideal) H A W (ix2 i j) = xr A W H i j := by
  pointwise [k0_pay8, xr, RowLoss.out]
theorem pay9_apply (i : Fin 512) : k0_pay9 (F := Ideal) H A W (ix2 i 0) = RowNorm.scale (xr A W H i) := by
  pointwise [k0_pay9, pay8_apply, RowNorm.scale, RowNorm.meanSq]
theorem pay10_apply (i : Fin 512) (j : Fin 1024) : k0_pay10 (F := Ideal) H A W (ix2 i j) = xr A W H i j * RowNorm.scale (xr A W H i) := by
  pointwise [k0_pay10, pay8_apply, pay9_apply]
theorem pay11_apply (j : Fin 1024) : k0_pay11 (F := Ideal) G (ix2 0 j) = gr G j := by pointwise [k0_pay11, gr]
theorem pay12_apply (i : Fin 512) (j : Fin 1024) : k0_pay12 (F := Ideal) H A W G T (ix2 i j) = er A W H G T i j := by
  pointwise [k0_pay12, pay10_apply, pay11_apply, er, RowLoss.err, tr]
theorem pay2_apply (i : Fin 512) (j : Fin 1024) : k0_pay2 (F := Ideal) (k0_pay12 H A W G T) (ix2 i j) = RowLoss.dy (xr A W H i) (gr G) (tr T i) j := by
  pointwise [k0_pay2, pay12_apply, RowLoss.dy, er]
theorem pay13_apply (i : Fin 8) (j : Fin 1024) : k0_pay13 (F := Ideal) H A W G T (ix2 i j) = sqOf A W H G T i j := by
  pointwise [k0_pay13, pay12_apply, sqOf]
theorem pay14_apply (i : Fin 8) (l : Fin 128) : k0_pay14 (F := Ideal) H A W G T (ix2 i l) =
    sqOf A W H G T i ⟨0 * 128 + l, by omega⟩ + sqOf A W H G T i ⟨1 * 128 + l, by omega⟩ + sqOf A W H G T i ⟨2 * 128 + l, by omega⟩ := by
  pointwise [k0_pay14, pay13_apply]
theorem pay15_apply (i : Fin 8) (l : Fin 128) : k0_pay15 (F := Ideal) H A W G T (ix2 i l) = sqOf A W H G T i ⟨3 * 128 + l, by omega⟩ := by
  pointwise [k0_pay15, pay13_apply]
theorem pay6_apply (y : S8x128.Idx) : k0_pay6 (F := Ideal) y = 0 := by pointwise [k0_pay6]
theorem pay7_apply (y : S8x1024.Idx) : k0_pay7 (F := Ideal) y = 0 := by pointwise [k0_pay7]
theorem pay1_apply (a : FVec Ideal S8x128 .f32) (i : Fin 8) (l : Fin 128) :
    k0_pay1 (F := Ideal) (k0_pay13 H A W G T) (k0_pay14 H A W G T) (k0_pay15 H A W G T) a (ix2 i l) = a (ix2 i l) + lossOf A W H G T i l := by
  rw [lossOf, Fin.sum_univ_eight]
  pointwise [k0_pay1, pay13_apply, pay14_apply, pay15_apply]
theorem pay3_apply (a : FVec Ideal S8x1024 .f32) (i : Fin 8) (j : Fin 1024) :
    k0_pay3 (F := Ideal) (k0_pay10 H A W) (k0_pay12 H A W G T) a (ix2 i j) = a (ix2 i j) + dgOf A W H G T i j := by
  pointwise [k0_pay3, pay2_apply, pay10_apply, dgOf]
theorem pay4_apply (i : Fin 512) (j : Fin 1024) :
    k0_pay4 (F := Ideal) (k0_pay9 H A W) (k0_pay10 H A W) (k0_pay11 G) (k0_pay12 H A W G T) (ix2 i j) = dhOf A W H G T i j := by
  pointwise [k0_pay4, pay2_apply, pay9_apply, pay10_apply, pay11_apply, dhOf, RowNorm.back, RowLoss.dn]
theorem pay5_apply (i : Fin 512) (j : Fin 1024) :
    k0_pay5 (F := Ideal) (k0_pay9 H A W) (k0_pay10 H A W) (k0_pay11 G) (k0_pay12 H A W G T) (ix2 i j) = dhOf A W H G T i j :=
  pay4_apply A W H G T i j
end pays

variable (m : (ℓ : Loc nD τ sig) → Buf (Elt Ideal) ℓ)

section points
variable (c : Dev nD) (t : Fin cfg0.N)

theorem dhA (h : t.val % 32 = 0) (i : Fin 512) (j : Fin 1024) :
    (outsAt0 m c t.val t.isLt).1 (ix2 i j) = dhOf (iblk m c 0 t) (iblk m c 1 t) (iblk m c 2 t) (iblk m c 3 t) (iblk m c 4 t) i j := by
  rw [outsAt0_A m c t h]
  frame_open
  simp (disch := decide) only [↓ View.readCov_skip, ↓ View.readCov_cons_toLoadRect, ↓ View.readCov_fill]
  frame_out
  exact pay4_apply _ _ _ _ _ _ _

theorem dhB (h : ¬ t.val % 32 = 0) (i : Fin 512) (j : Fin 1024) :
    (outsAt0 m c t.val t.isLt).1 (ix2 i j) = dhOf (iblk m c 0 t) (iblk m c 1 t) (iblk m c 2 t) (iblk m c 3 t) (iblk m c 4 t) i j := by
  rw [outsAt0_B m c t h]
  frame_open
  simp (disch := decide) only [↓ View.readCov_skip, ↓ View.readCov_cons_toLoadRect, ↓ View.readCov_fill]
  frame_out
  exact pay4_apply _ _ _ _ _ _ _

theorem dhbA (h : t.val % 32 = 0) (i : Fin 512) (j : Fin 1024) :
    (outsAt0 m c t.val t.isLt).2.1 (ix2 i j) = dhOf (iblk m c 0 t) (iblk m c 1 t) (iblk m c 2 t) (iblk m c 3 t) (iblk m c 4 t) i j := by
  rw [outsAt0_A m c t h]
  frame_open
  simp (disch := decide) only [↓ View.readCov_skip, ↓ View.readCov_cons_toLoadRect, ↓ View.readCov_fill]
  frame_out
  exact pay5_apply _ _ _ _ _ _ _

theorem dhbB (h : ¬ t.val % 32 = 0) (i : Fin 512) (j : Fin 1024) :
    (outsAt0 m c t.val t.isLt).2.1 (ix2 i j) = dhOf (iblk m c 0 t) (iblk m c 1 t) (iblk m c 2 t) (iblk m c 3 t) (iblk m c 4 t) i j := by
  rw [outsAt0_B m c t h]
  frame_open
  simp (disch := decide) only [↓ View.readCov_skip, ↓ View.readCov_cons_toLoadRect, ↓ View.readCov_fill]
  frame_out
  exact pay5_apply _ _ _ _ _ _ _

theorem lossA (h : t.val % 32 = 0) (i : Fin 8) (l : Fin 128) :
    (outsAt0 m c t.val t.isLt).2.2.1 (ix2 i l) = lossOf (iblk m c 0 t) (iblk m c 1 t) (iblk m c 2 t) (iblk m c 3 t) (iblk m c 4 t) i l := by
  rw [outsAt0_A m c t h]
  frame_open
  simp (disch := decide) only [↓ View.readCov_skip, ↓ View.readCov_cons_toLoadRect, ↓ View.readCov_fill]
  frame_out
  exact (pay1_apply _ _ _ _ _ _ _ _).trans ((congrArg (· + _) (pay6_apply _)).trans (zero_add _))

theorem lossB (h : ¬ t.val % 32 = 0) (i : Fin 8) (l : Fin 128) :
    (outsAt0 m c t.val t.isLt).2.2.1 (ix2 i l) = (outsAt0 m c (t.val - 1) (by omega)).2.2.1 (ix2 i l) +
      lossOf (iblk m c 0 t) (iblk m c 1 t) (iblk m c 2 t) (iblk m c 3 t) (iblk m c 4 t) i l := by
  rw [outsAt0_B m c t h]
  frame_open
  simp (disch := decide) only [↓ View.readCov_skip, ↓ View.readCov_cons_toLoadRect, ↓ View.readCov_fill]
  frame_out
  exact pay1_apply _ _ _ _ _ _ _ _

theorem dgA (h : t.val % 32 = 0) (i : Fin 8) (j : Fin 1024) :
    (outsAt0 m c t.val t.isLt).2.2.2 (ix2 i j) = dgOf (iblk m c 0 t) (iblk m c 1 t) (iblk m c 2 t) (iblk m c 3 t) (iblk m c 4 t) i j := by
  rw [outsAt0_A m c t h]
  frame_open
  simp (disch := decide) only [↓ View.readCov_skip, ↓ View.readCov_cons_toLoadRect, ↓ View.readCov_fill]
  frame_out
  exact (pay3_apply _ _ _ _ _ _ _ _).trans ((congrArg (· + _) (pay7_apply _)).trans (zero_add _))

theorem dgB (h : ¬ t.val % 32 = 0) (i : Fin 8) (j : Fin 1024) :
    (outsAt0 m c t.val t.isLt).2.2.2 (ix2 i j) = (outsAt0 m c (t.val - 1) (by omega)).2.2.2 (ix2 i j) +
      dgOf (iblk m c 0 t) (iblk m c 1 t) (iblk m c 2 t) (iblk m c 3 t) (iblk m c 4 t) i j := by
  rw [outsAt0_B m c t h]
  frame_open
  simp (disch := decide) only [↓ View.readCov_skip, ↓ View.readCov_cons_toLoadRect, ↓ View.readCov_fill]
  frame_out
  exact pay3_apply _ _ _ _ _ _ _ _
end points

end Cert.LossKernelIdeal.Value

end
-- ==== Proof.LossArray.lean ====
module

public import proofs.«01_k».proof.Proof.LossPoint
public import Idealize.ShloMosaic.Lib.StableHlo.RunRead

@[expose] public section

set_option maxRecDepth 16384

noncomputable section

/-! The arrays that the loss's backward leaves, and the loss and the gain's gradient after the host's last lines. -/

namespace Cert.LossKernelIdeal.Value

open Cert.LossKernelIdeal Cert.LossKernelIdeal.Gen Idealize.ShloMosaic Idealize.ShloMosaic.TcCoe Idealize.SL.Sem
open Idealize.ShloMosaic.Tactic
open Idealize.ShloMosaic.Pipeline (Dat)

section rows
variable (a : FVec Ideal S16384x4096 .f32) (w : FVec Ideal S4096x1024 .f32) (h : FVec Ideal S16384x1024 .f32) (g : FVec Ideal S1024 .f32) (t : FVec Ideal S16384x1024 .f32)

/-- Row `r` of the stream after the product, the gain, and row `r` of the target. -/
def xrow (r : Fin 16384) : Fin 1024 → EReal := RowLoss.out (fun k => a (ix2 r k)) (fun k j => w (ix2 k j)) (fun k => h (ix2 r k))
def grow (k : Fin 1024) : EReal := g (ix1 k)
def trow (r : Fin 16384) (k : Fin 1024) : EReal := t (ix2 r k)

/-- A row's error, its part of the stream's gradient, and its part of the gain's. -/
def erow (r : Fin 16384) : Fin 1024 → EReal := RowLoss.err (xrow a w h r) (grow g) (trow t r)
def dh (r : Fin 16384) (j : Fin 1024) : EReal := RowNorm.back (xrow a w h r) (RowLoss.dn (xrow a w h r) (grow g) (trow t r)) j
def part (j : Fin 1024) (r : Fin 16384) : EReal := RowLoss.dy (xrow a w h r) (grow g) (trow t r) j * (xrow a w h r j * RowNorm.scale (xrow a w h r))
end rows

variable (m : (ℓ : Loc nD τ sig) → Buf (Elt Ideal) ℓ)

/-- The arguments as launched. -/
abbrev A0 (c : Dev nD) : FVec Ideal S16384x4096 .f32 := m ((c.tc : Thread nD τ).loc main_arg0)
abbrev W0 (c : Dev nD) : FVec Ideal S4096x1024 .f32 := m ((c.tc : Thread nD τ).loc main_arg1)
abbrev H0 (c : Dev nD) : FVec Ideal S16384x1024 .f32 := m ((c.tc : Thread nD τ).loc main_arg2)
abbrev G0 (c : Dev nD) : FVec Ideal S1024 .f32 := m ((c.tc : Thread nD τ).loc main_arg3)
abbrev T0 (c : Dev nD) : FVec Ideal S16384x1024 .f32 := m ((c.tc : Thread nD τ).loc main_arg4)

theorem idx : ∀ t : Fin cfg0.N, win0_0.index t = ![t.val, 0] ∧ win0_1.index t = ![0, 0] ∧ win0_2.index t = ![t.val, 0] ∧ win0_3.index t = ![0, 0] ∧
    win0_4.index t = ![t.val, 0] ∧ win0_5.index t = ![t.val, 0] ∧ win0_6.index t = ![t.val, 0] := (by decide +kernel : ∀ t : Fin grid0.N, _)

/-- Row `i` of grid point `t`. -/
def rowAt (t : Fin cfg0.N) (i : Fin 512) : Fin 16384 := ⟨t.val * 512 + i, by have := lt_of_lt_of_eq t.isLt N_0; omega⟩

theorem rowAt_val (t : Fin cfg0.N) (i : Fin 512) : (rowAt t i : ℕ) = t.val * 512 + i := rfl

/-- The grid's rows are all rows. -/
theorem sum_rows (f : Fin 16384 → EReal) : ∑ t : Fin cfg0.N, ∑ i : Fin 512, f (rowAt t i) = ∑ i : Fin 16384, f i :=
  Fin.sum_mul_add_congr fun t i h => rfl

/-- The eight classes of a grid point's rows are all its rows. -/
theorem sum_classes (f : Fin 16384 → EReal) : ∑ i : Fin 8, ∑ t : Fin cfg0.N, ∑ k : Fin 64, f (rowAt t ⟨k * 8 + i, by omega⟩) = ∑ r : Fin 16384, f r := by
  rw [← sum_rows, Finset.sum_comm]
  refine Finset.sum_congr rfl fun t _ => ?_
  rw [Finset.sum_comm]
  exact Fin.sum_mul_add_congr fun k i h => rfl

theorem V_gain (c : Dev nD) : V m c main_v2 = (shapeCast S1x1024 (G0 m c) shapeCasts_S1024_S1x1024 : FVec Ideal S1x1024 .f32) := by rfl
theorem laid (g : FVec Ideal S1024 .f32) (j : Fin 1024) : (shapeCast S1x1024 g shapeCasts_S1024_S1x1024 : FVec Ideal S1x1024 .f32) (ix2 0 j) = grow g j := by
  pointwise [grow]

section blocks
variable (c : Dev nD) (t : Fin cfg0.N)

theorem blk0 (i : Fin 512) (k : Fin 4096) : (iblk m c 0 t : FVec Ideal S512x4096 .bf16) (ix2 i k) = A0 m c (ix2 (rowAt t i) k) := by
  have e : iblk m c 0 t = fun x => A0 m c (((cfg0.win 0).blk t).view.emb x) := rfl
  refine (congrFun e _).trans (congrArg _ ?_)
  blk_ext [idx t, rowAt_val]
theorem blk1 (k : Fin 4096) (j : Fin 1024) : (iblk m c 1 t : FVec Ideal S4096x1024 .bf16) (ix2 k j) = W0 m c (ix2 k j) := by
  have e : iblk m c 1 t = fun x => W0 m c (((cfg0.win 1).blk t).view.emb x) := rfl
  refine (congrFun e _).trans (congrArg _ ?_)
  blk_ext [idx t]
theorem blk2 (i : Fin 512) (j : Fin 1024) : (iblk m c 2 t : FVec Ideal S512x1024 .f32) (ix2 i j) = H0 m c (ix2 (rowAt t i) j) := by
  have e : iblk m c 2 t = fun x => H0 m c (((cfg0.win 2).blk t).view.emb x) := rfl
  refine (congrFun e _).trans (congrArg _ ?_)
  blk_ext [idx t, rowAt_val]
theorem blk3 : gr (iblk m c 3 t) = grow (G0 m c) := funext fun j => by
  rw [← laid]
  have e : iblk m c 3 t = fun x => V m c main_v2 (((cfg0.win 3).blk t).view.emb x) := rfl
  refine (congrFun e _).trans ?_
  rw [V_gain]
  refine congrArg _ ?_
  blk_ext [idx t]
theorem blk4 (i : Fin 512) : tr (iblk m c 4 t) i = trow (T0 m c) (rowAt t i) := funext fun j => by
  have e : iblk m c 4 t = fun x => T0 m c (((cfg0.win 4).blk t).view.emb x) := rfl
  refine (congrFun e _).trans (congrArg (T0 m c) ?_)
  blk_ext [idx t, rowAt_val]

theorem xr_blk (i : Fin 512) : xr (iblk m c 0 t) (iblk m c 1 t) (iblk m c 2 t) i = xrow (A0 m c) (W0 m c) (H0 m c) (rowAt t i) := by
  unfold xr xrow
  rw [funext fun k => blk0 m c t i k, funext fun k => blk2 m c t i k, (funext fun k => funext fun j => blk1 m c t k j :
    (fun k j => (iblk m c 1 t : FVec Ideal S4096x1024 .bf16) (ix2 k j)) = fun k j => W0 m c (ix2 k j))]

theorem dh_blk (i : Fin 512) (j : Fin 1024) : dhOf (iblk m c 0 t) (iblk m c 1 t) (iblk m c 2 t) (iblk m c 3 t) (iblk m c 4 t) i j =
    dh (A0 m c) (W0 m c) (H0 m c) (G0 m c) (T0 m c) (rowAt t i) j := by
  unfold dhOf dh
  rw [xr_blk, blk3, blk4]

theorem dg_blk (i : Fin 8) (j : Fin 1024) : dgOf (iblk m c 0 t) (iblk m c 1 t) (iblk m c 2 t) (iblk m c 3 t) (iblk m c 4 t) i j =
    ∑ k : Fin 64, part (A0 m c) (W0 m c) (H0 m c) (G0 m c) (T0 m c) j (rowAt t ⟨k * 8 + i, by omega⟩) :=
  Finset.sum_congr rfl fun k _ => by rw [xr_blk, blk3, blk4]; rfl

theorem loss_blk (i : Fin 8) (l : Fin 128) : lossOf (iblk m c 0 t) (iblk m c 1 t) (iblk m c 2 t) (iblk m c 3 t) (iblk m c 4 t) i l =
    ∑ q : Fin 8, ∑ k : Fin 64, erow (A0 m c) (W0 m c) (H0 m c) (G0 m c) (T0 m c) (rowAt t ⟨k * 8 + i, by omega⟩) ⟨q * 128 + l, by omega⟩
      * erow (A0 m c) (W0 m c) (H0 m c) (G0 m c) (T0 m c) (rowAt t ⟨k * 8 + i, by omega⟩) ⟨q * 128 + l, by omega⟩ :=
  Finset.sum_congr rfl fun q _ => Finset.sum_congr rfl fun k _ => by
    unfold er
    rw [xr_blk, blk3, blk4]
    rfl

theorem emb5 (i : Fin 512) (j : Fin 1024) : ((cfg0.win 5).blk t).view.emb (ix2 i j) = (ix2 (rowAt t i) j : S16384x1024.Idx) := by
  blk_ext [idx t, rowAt_val]
theorem emb6 (i : Fin 512) (j : Fin 1024) : ((cfg0.win 6).blk t).view.emb (ix2 i j) = (ix2 (rowAt t i) j : S16384x1024.Idx) := by
  blk_ext [idx t, rowAt_val]

theorem dh_at (i : Fin 512) (j : Fin 1024) : (outsAt0 m c t.val t.isLt).1 (ix2 i j) = dh (A0 m c) (W0 m c) (H0 m c) (G0 m c) (T0 m c) (rowAt t i) j := by
  refine Eq.trans ?_ (dh_blk m c t i j)
  by_cases h : t.val % 32 = 0
  · exact dhA m c t h i j
  · exact dhB m c t h i j

theorem dhb_at (i : Fin 512) (j : Fin 1024) : (outsAt0 m c t.val t.isLt).2.1 (ix2 i j) = dh (A0 m c) (W0 m c) (H0 m c) (G0 m c) (T0 m c) (rowAt t i) j := by
  refine Eq.trans ?_ (dh_blk m c t i j)
  by_cases h : t.val % 32 = 0
  · exact dhbA m c t h i j
  · exact dhbB m c t h i j
end blocks

section final
variable (c : Dev nD)

/-- The arrays after the grid. -/
def fin5 : FVec Ideal S16384x1024 .f32 := fun z => dh (A0 m c) (W0 m c) (H0 m c) (G0 m c) (T0 m c) (z 0) (z 1)
def fin6 : FVec Ideal S16384x1024 .bf16 := fun z => dh (A0 m c) (W0 m c) (H0 m c) (G0 m c) (T0 m c) (z 0) (z 1)
def fin7 : FVec Ideal S8x128 .f32 := fun z => ∑ t : Fin cfg0.N, lossOf (iblk m c 0 t) (iblk m c 1 t) (iblk m c 2 t) (iblk m c 3 t) (iblk m c 4 t) (z 0) (z 1)
def fin8 : FVec Ideal S8x1024 .f32 := fun z => ∑ t : Fin cfg0.N, dgOf (iblk m c 0 t) (iblk m c 1 t) (iblk m c 2 t) (iblk m c 3 t) (iblk m c 4 t) (z 0) (z 1)

/-- The last grid point. -/
def tlast : Fin cfg0.N := ⟨31, (lt_of_lt_of_eq (by norm_num) N_0.symm : 31 < grid0.N)⟩

theorem final5 : (dats m 0 c).arrAt 5 cfg0.N = fin5 m c := by
  refine (dats m 0 c).arrAt_eq_of_covers 5 _ (by decide +kernel) fun t _ y => ?_
  blk_simp
  rw [after0_5]
  have ey : y = (ix2 (y 0) (y 1) : S512x1024.Idx) := by blk_ext
  rw [ey]
  exact (dh_at m c t (y 0) (y 1)).trans (congrArg (fin5 m c) (emb5 t (y 0) (y 1))).symm

theorem final6 : (dats m 0 c).arrAt 6 cfg0.N = fin6 m c := by
  refine (dats m 0 c).arrAt_eq_of_covers 6 _ (by decide +kernel) fun t _ y => ?_
  blk_simp
  rw [after0_6]
  have ey : y = (ix2 (y 0) (y 1) : S512x1024.Idx) := by blk_ext
  rw [ey]
  exact (dhb_at m c t (y 0) (y 1)).trans (congrArg (fin6 m c) (emb6 t (y 0) (y 1))).symm

theorem final7 : (dats m 0 c).arrAt 7 cfg0.N = fin7 m c := by
  refine (dats m 0 c).arrAt_eq_of_after_last 7 tlast (by decide +kernel) _ fun j => ?_
  blk_simp
  have e2 : ∀ j : S8x128.Idx, j = ix2 (j 0) (j 1) := fun j => by blk_ext
  rw [after0_7, Pipeline.eq_sum_fin_of_reset_step_apply_last (fun n h => (outsAt0 m c n h).2.2.1) 32 (fun _ => 0)
    (fun p j => lossOf (iblk m c 0 p) (iblk m c 1 p) (iblk m c 2 p) (iblk m c 3 p) (iblk m c 4 p) (j 0) (j 1))
    (fun t h j => by rw [e2 j]; exact (lossA m c t h (j 0) (j 1)).trans (zero_add _).symm)
    (fun t h j => by rw [e2 j]; exact lossB m c t h (j 0) (j 1)) (le_of_eq N_0) tlast rfl j, zero_add]
  rfl

theorem final8 : (dats m 0 c).arrAt 8 cfg0.N = fin8 m c := by
  refine (dats m 0 c).arrAt_eq_of_after_last 8 tlast (by decide +kernel) _ fun j => ?_
  blk_simp
  have e2 : ∀ j : S8x1024.Idx, j = ix2 (j 0) (j 1) := fun j => by blk_ext
  rw [after0_8, Pipeline.eq_sum_fin_of_reset_step_apply_last (fun n h => (outsAt0 m c n h).2.2.2) 32 (fun _ => 0)
    (fun p j => dgOf (iblk m c 0 p) (iblk m c 1 p) (iblk m c 2 p) (iblk m c 3 p) (iblk m c 4 p) (j 0) (j 1))
    (fun t h j => by rw [e2 j]; exact (dgA m c t h (j 0) (j 1)).trans (zero_add _).symm)
    (fun t h j => by rw [e2 j]; exact dgB m c t h (j 0) (j 1)) (le_of_eq N_0) tlast rfl j, zero_add]
  rfl

/-- The gain's gradient after the host's sum over the eight rows. -/
def gain : FVec Ideal S1024 .f32 := Host.reduceAdd (fin8 m c) (constant S_ .f32 0x00000000#32 : FVec Ideal S_ .f32) reducesTo_S8x1024_S1024_d0 h_S_

theorem gain_apply (j : Fin 1024) : gain m c (ix1 j) = ∑ r : Fin 16384, part (A0 m c) (W0 m c) (H0 m c) (G0 m c) (T0 m c) j r := by
  have e : gain m c (ix1 j) = ∑ i : Fin 8, fin8 m c (ix2 i j) := by pointwise [gain]
  rw [e, ← sum_classes]
  exact Finset.sum_congr rfl fun i _ => Finset.sum_congr rfl fun t _ => dg_blk m c t i j

/-- The loss after the host's last lines. -/
def loss : FVec Ideal S_ .f32 :=
  Host.divf (mulf (constant S_ .f32 0x3F000000#32 : FVec Ideal S_ .f32) (Host.reduceAdd (fin7 m c) (constant S_ .f32 0x00000000#32 : FVec Ideal S_ .f32) reducesTo_S8x128_S_d0_1 h_S_ : FVec Ideal S_ .f32))
    (constant S_ .f32 0x44800000#32 : FVec Ideal S_ .f32)

/-- The kernel's blocks hold all the squared errors. -/
theorem sum_fin7 : ∑ i : Fin 8, ∑ l : Fin 128, fin7 m c (ix2 i l) =
    ∑ r : Fin 16384, ∑ j : Fin 1024, erow (A0 m c) (W0 m c) (H0 m c) (G0 m c) (T0 m c) r j * erow (A0 m c) (W0 m c) (H0 m c) (G0 m c) (T0 m c) r j := by
  rw [← sum_classes]
  refine Finset.sum_congr rfl fun i _ => ?_
  show ∑ l : Fin 128, ∑ t : Fin cfg0.N, lossOf (iblk m c 0 t) (iblk m c 1 t) (iblk m c 2 t) (iblk m c 3 t) (iblk m c 4 t) i l = _
  rw [Finset.sum_comm]
  refine Finset.sum_congr rfl fun t _ => ?_
  simp only [loss_blk]
  rw [Finset.sum_comm]
  refine (Fin.sum_mul_add_congr (f := fun j : Fin 1024 => ∑ k : Fin 64, erow (A0 m c) (W0 m c) (H0 m c) (G0 m c) (T0 m c) (rowAt t ⟨k * 8 + i, by omega⟩) j
    * erow (A0 m c) (W0 m c) (H0 m c) (G0 m c) (T0 m c) (rowAt t ⟨k * 8 + i, by omega⟩) j) fun q l h => rfl).trans ?_
  exact Finset.sum_comm

theorem loss_apply (z : S_.Idx) : loss m c z = Ideal.div (RowLoss.half *
    ∑ r : Fin 16384, ∑ j : Fin 1024, erow (A0 m c) (W0 m c) (H0 m c) (G0 m c) (T0 m c) r j * erow (A0 m c) (W0 m c) (H0 m c) (G0 m c) (T0 m c) r j) RowNorm.len := by
  have e : (Host.reduceAdd (fin7 m c) (constant S_ .f32 0x00000000#32 : FVec Ideal S_ .f32) reducesTo_S8x128_S_d0_1 h_S_ : FVec Ideal S_ .f32) z =
      ∑ i : Fin 8, ∑ l : Fin 128, fin7 m c (ix2 i l) := by
    simp only [Host.reduceAdd, Ideal.hostReduceAdd_def]
    refine (Ideal.hostReduceAdd_total reducesTo_S8x128_S_d0_1 (fun b => b.elim0) (fin7 m c) _ z).trans ?_
    refine (congrArg (· + _) (Ideal.ofBits_zero .f32)).trans ((zero_add _).trans ?_)
    exact sum_idx2 _
  exact congrArg (fun x => Ideal.div (RowLoss.half * x) RowNorm.len) (e.trans (sum_fin7 m c))

theorem tail7 : Pipeline.afterTail₀ cfgs (dats m) 0 (Gen.V0 m) [hostOps1] c main_v7 = gain m c := by
  have e := Pipeline.withArrays_arr (cfgs 0).spec launch0.win.arr_inj c (Gen.V0 m c) (fun w => (dats m 0 c).arrAt w (cfgs 0).N) 8
  unfold Pipeline.afterTail₀
  show StableHlo.after (List.flatten [hostOps1]) _ (Proc.devRef .tc main_v7) = _
  simp only [List.flatten_cons, List.flatten_nil, List.append_nil, hostOps1]
  after_reads_simp
  exact congrArg (fun x : FVec Ideal S8x1024 .f32 => (Host.reduceAdd x (constant S_ .f32 0x00000000#32 : FVec Ideal S_ .f32) reducesTo_S8x1024_S1024_d0 h_S_ : FVec Ideal S1024 .f32)) (e.trans (final8 m c))

theorem tail6 : Pipeline.afterTail₀ cfgs (dats m) 0 (Gen.V0 m) [hostOps1] c main_v6 = loss m c := by
  have e := Pipeline.withArrays_arr (cfgs 0).spec launch0.win.arr_inj c (Gen.V0 m c) (fun w => (dats m 0 c).arrAt w (cfgs 0).N) 7
  unfold Pipeline.afterTail₀
  show StableHlo.after (List.flatten [hostOps1]) _ (Proc.devRef .tc main_v6) = _
  simp only [List.flatten_cons, List.flatten_nil, List.append_nil, hostOps1]
  after_reads_simp
  exact congrArg (fun x : FVec Ideal S8x128 .f32 => (Host.divf (mulf (constant S_ .f32 0x3F000000#32 : FVec Ideal S_ .f32) (Host.reduceAdd x (constant S_ .f32 0x00000000#32 : FVec Ideal S_ .f32) reducesTo_S8x128_S_d0_1 h_S_ : FVec Ideal S_ .f32))
    (constant S_ .f32 0x44800000#32 : FVec Ideal S_ .f32) : FVec Ideal S_ .f32)) (e.trans (final7 m c))

/-- The four results of the run. -/
theorem run_results (ρ : Dev nD → PrngReg) : θ_run defs (onTc (τ := τ) (main (F := Ideal))) ⟨m, fun _ => 0, ρ⟩ (fun r => ∀ c : Dev nD,
      r.2.mem ((c.tc : Thread nD τ).loc main_v6) = loss m c
      ∧ r.2.mem ((c.tc : Thread nD τ).loc main_v3_0) = fin5 m c
      ∧ r.2.mem ((c.tc : Thread nD τ).loc main_v3_1) = fin6 m c
      ∧ r.2.mem ((c.tc : Thread nD τ).loc main_v7) = gain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 := run_main_quiescent m ρ
  have h2 := frame m ρ
  refine (θ_run defs _ _).mono (fun r h c => ?_) (θ_run_and h1 h2)
  obtain ⟨⟨hp, -⟩, hf, -⟩ := h
  obtain ⟨hw, hr⟩ := hp c
  exact ⟨(hr main_v6 (by decide)).trans (tail6 m c), (hw 5).trans (final5 m c), (hw 6).trans (final6 m c), (hr main_v7 (by decide)).trans (tail7 m c), hf c⟩

end final

end Cert.LossKernelIdeal.Value

end
-- ==== Proof.LossReference.lean ====
module

public import proofs.«01_k».proof.Proof.Gen.LossReferenceIdeal.Read
public import proofs.«01_k».proof.Proof.LossArray

@[expose] public section

set_option maxRecDepth 16384

noncomputable section

/-! The plain forward and reverse pass of the loss, read entry by entry, and its equality with the kernel's results. -/

namespace Cert.LossReferenceIdeal.Read

open Cert.LossReferenceIdeal Cert.LossReferenceIdeal.Gen Idealize.ShloMosaic Idealize.ShloMosaic.TcCoe
open Cert.LossKernelIdeal.Value (xrow grow trow erow part dh)

variable (x0 : FVec Ideal S16384x4096 .f32) (x1 : FVec Ideal S4096x1024 .f32) (x2 : FVec Ideal S16384x1024 .f32) (x3 : FVec Ideal S1024 .f32) (x4 : FVec Ideal S16384x1024 .f32)

/-- The cotangent of a normed row. -/
def d (r : Fin 16384) : Fin 1024 → EReal := RowLoss.dn (xrow x0 x1 x2 r) (grow x3) (trow x4 r)

theorem v1 (r : Fin 16384) (k : Fin 4096) : val_main_v1 (F := Ideal) x0 (ix2 r k) = max (x0 (ix2 r k)) 0 * max (x0 (ix2 r k)) 0 := by
  pointwise [val_main_v1, val_main_v0, val_main_call0_v0, val_main_call0_cst]
theorem v3 (r : Fin 16384) (j : Fin 1024) : val_main_v3 (F := Ideal) x0 x1 x2 (ix2 r j) = xrow x0 x1 x2 r j := by
  pointwise [val_main_v3, val_main_v2, v1, xrow, RowLoss.out]
theorem v10 (r : Fin 16384) : val_main_v10 (F := Ideal) x0 x1 x2 (ix2 r 0) = RowNorm.meanSq (xrow x0 x1 x2 r) := by
  pointwise [val_main_v10, val_main_v8, val_main_v6, val_main_v5, val_main_v4, v3, val_main_cst, val_main_v7, val_main_cst_0, val_main_v9, val_main_cst_1, RowNorm.meanSq]
theorem v11 (r : Fin 16384) : val_main_v11 (F := Ideal) x0 x1 x2 (ix2 r 0) = RowNorm.scale (xrow x0 x1 x2 r) := by
  rw [val_main_v11_apply (F := Ideal), v10]
  rfl
theorem v14 (r : Fin 16384) : val_main_v14 (F := Ideal) x0 x1 x2 (ix2 r 0) =
    RowNorm.minusHalf * Ideal.div (RowNorm.scale (xrow x0 x1 x2 r)) (RowNorm.meanSq (xrow x0 x1 x2 r)) := by
  rw [val_main_v14_apply (F := Ideal), val_main_v12_apply (F := Ideal), v11, v10, val_main_v13_apply (F := Ideal)]
  rfl
theorem v16 (r : Fin 16384) (j : Fin 1024) : val_main_v16 (F := Ideal) x0 x1 x2 (ix2 r j) = xrow x0 x1 x2 r j * RowNorm.scale (xrow x0 x1 x2 r) := by
  rw [val_main_v16_apply (F := Ideal), val_main_v15_apply (F := Ideal), show idx_main_v15 (ix2 r j) = ix2 r 0 by blk_ext, v11, v3]
  rfl
theorem v18 (r : Fin 16384) (j : Fin 1024) : val_main_v18 (F := Ideal) x3 (ix2 r j) = grow x3 j := by pointwise [val_main_v18, val_main_v17, grow]
theorem v38 (r : Fin 16384) (j : Fin 1024) : val_main_v38 (F := Ideal) x3 (ix2 r j) = grow x3 j := by pointwise [val_main_v38, val_main_v17, grow]
theorem v20 (r : Fin 16384) (j : Fin 1024) : val_main_v20 (F := Ideal) x0 x1 x2 x3 x4 (ix2 r j) = erow x0 x1 x2 x3 x4 r j := by
  rw [val_main_v20_apply (F := Ideal), val_main_v19_apply (F := Ideal), v16, v18]
  rfl
theorem v26 (r : Fin 16384) : val_main_v26 (F := Ideal) x0 x1 x2 x3 x4 (ix1 r) =
    Ideal.div (∑ j : Fin 1024, erow x0 x1 x2 x3 x4 r j * erow x0 x1 x2 x3 x4 r j) RowNorm.len := by
  pointwise [val_main_v26, val_main_v24, val_main_v21, v20, val_main_cst_4, val_main_v25, val_main_cst_5]

/-- The loss as the forward takes it: half the sum of the rows' means. -/
theorem v28 (z : S_.Idx) : val_main_v28 (F := Ideal) x0 x1 x2 x3 x4 z =
    RowLoss.half * ∑ r : Fin 16384, Ideal.div (∑ j : Fin 1024, erow x0 x1 x2 x3 x4 r j * erow x0 x1 x2 x3 x4 r j) RowNorm.len := by
  rw [val_main_v28_apply (F := Ideal), val_main_v27_apply]
  refine congrArg (RowLoss.half * ·) ((congrArg (· + _) (Ideal.ofBits_zero .f32)).trans ((zero_add _).trans ?_))
  refine (sum_idx1 (val_main_v26 (F := Ideal) x0 x1 x2 x3 x4)).trans (Finset.sum_congr rfl fun r _ => v26 x0 x1 x2 x3 x4 r)

/-- The error's cotangent. -/
theorem v34 (r : Fin 16384) (j : Fin 1024) : val_main_v34 (F := Ideal) x0 x1 x2 x3 x4 (ix2 r j) = RowLoss.dy (xrow x0 x1 x2 r) (grow x3) (trow x4 r) j := by
  rw [val_main_v34_apply (F := Ideal), val_main_v23_apply (F := Ideal), v20, val_main_v33_apply (F := Ideal), val_main_v32_apply (F := Ideal),
    val_main_v30_apply (F := Ideal), val_main_v29_apply (F := Ideal)]
  exact RowLoss.dy_eq _
theorem v36 (j : Fin 1024) : val_main_v36 (F := Ideal) x0 x1 x2 x3 x4 (ix1 j) = ∑ r : Fin 16384, part x0 x1 x2 x3 x4 j r := by
  rw [val_main_v36_apply]
  refine (congrArg (· + _) (Ideal.ofBits_zero .f32)).trans ((zero_add _).trans (Finset.sum_congr rfl fun r _ => ?_))
  rw [show idx_main_v36 (ix1 j) r = ix2 r j by blk_ext, val_main_v35_apply (F := Ideal), v16, v34]
  exact mul_comm _ _

/-- The gain's gradient. -/
theorem v40 (j : Fin 1024) : val_main_v40 (F := Ideal) x0 x1 x2 x3 x4 (ix1 j) = ∑ r : Fin 16384, part x0 x1 x2 x3 x4 j r := by
  rw [val_main_v40_apply]
  refine (congrArg (· + _) (Ideal.ofBits_zero .f32)).trans ((zero_add _).trans ?_)
  rw [Fin.sum_univ_one, val_main_v37_apply (F := Ideal), show idx_main_v37 (idx_main_v40 (ix1 j) 0) = ix1 j by blk_ext, v36]

theorem v39 (r : Fin 16384) (j : Fin 1024) : val_main_v39 (F := Ideal) x0 x1 x2 x3 x4 (ix2 r j) = d x0 x1 x2 x3 x4 r j := by
  rw [val_main_v39_apply (F := Ideal), v34, v38]
  rfl
theorem v43 (r : Fin 16384) : val_main_v43 (F := Ideal) x0 x1 x2 x3 x4 (ix2 r 0) = ∑ k : Fin 1024, xrow x0 x1 x2 r k * d x0 x1 x2 x3 x4 r k := by
  rw [val_main_v43_apply (F := Ideal), show idx_main_v43 (ix2 r 0) = ix1 r by blk_ext, val_main_v42_apply]
  refine (congrArg (· + _) (Ideal.ofBits_zero .f32)).trans ((zero_add _).trans (Finset.sum_congr rfl fun k _ => ?_))
  rw [show idx_main_v42 (ix1 r) k = ix2 r k by blk_ext, val_main_v41_apply (F := Ideal), v3, v39]
  rfl
theorem v48 (r : Fin 16384) : val_main_v48 (F := Ideal) x0 x1 x2 x3 x4 (ix2 r 0) = RowNorm.through (xrow x0 x1 x2 r) (d x0 x1 x2 x3 x4 r) := by
  rw [val_main_v48_apply (F := Ideal), val_main_v46_apply (F := Ideal), v43, v14, val_main_v47_apply (F := Ideal)]
  rfl
theorem v50 (r : Fin 16384) (j : Fin 1024) : val_main_v50 (F := Ideal) x0 x1 x2 x3 x4 (ix2 r j) = RowNorm.through (xrow x0 x1 x2 r) (d x0 x1 x2 x3 x4 r) := by
  rw [val_main_v50_apply (F := Ideal), show idx_main_v50 (ix2 r j) = ix1 r by blk_ext, val_main_v49_apply]
  refine (congrArg (· + _) (Ideal.ofBits_zero .f32)).trans ((zero_add _).trans ?_)
  rw [Fin.sum_univ_one, show idx_main_v49 (ix1 r) 0 = ix2 r 0 by blk_ext, v48]
theorem v45 (r : Fin 16384) (j : Fin 1024) : val_main_v45 (F := Ideal) x0 x1 x2 x3 x4 (ix2 r j) = d x0 x1 x2 x3 x4 r j * RowNorm.scale (xrow x0 x1 x2 r) := by
  rw [val_main_v45_apply (F := Ideal), val_main_v44_apply (F := Ideal), show idx_main_v44 (ix2 r j) = ix2 r 0 by blk_ext, v39, v11]
  rfl

/-- The stream's gradient as the reverse pass forms it. -/
theorem v54 (r : Fin 16384) (j : Fin 1024) : val_main_v54 (F := Ideal) x0 x1 x2 x3 x4 (ix2 r j) =
    d x0 x1 x2 x3 x4 r j * RowNorm.scale (xrow x0 x1 x2 r) + xrow x0 x1 x2 r j * RowNorm.through (xrow x0 x1 x2 r) (d x0 x1 x2 x3 x4 r)
      + RowNorm.through (xrow x0 x1 x2 r) (d x0 x1 x2 x3 x4 r) * xrow x0 x1 x2 r j := by
  rw [val_main_v54_apply (F := Ideal), val_main_v52_apply (F := Ideal), val_main_v53_apply (F := Ideal), val_main_v51_apply (F := Ideal), v50, v45, v3]
  rfl

variable {x0 x1 x2 x3 x4}

theorem dh_at (r : Fin 16384) (j : Fin 1024) : val_main_v54 (F := Ideal) x0 x1 x2 x3 x4 (ix2 r j) = dh x0 x1 x2 x3 x4 r j :=
  (v54 x0 x1 x2 x3 x4 r j).trans (RowLoss.back_eq (xrow x0 x1 x2 r) (d x0 x1 x2 x3 x4 r) j)

theorem loss_at (z : S_.Idx) : val_main_v28 (F := Ideal) x0 x1 x2 x3 x4 z =
    Ideal.div (RowLoss.half * ∑ r : Fin 16384, ∑ j : Fin 1024, erow x0 x1 x2 x3 x4 r j * erow x0 x1 x2 x3 x4 r j) RowNorm.len :=
  (v28 x0 x1 x2 x3 x4 z).trans (RowLoss.loss_eq _)

variable (m : (ℓ : Loc Cert.LossKernelIdeal.nD Cert.LossKernelIdeal.τ Cert.LossKernelIdeal.sig) → Buf (Elt Ideal) ℓ) (c : Dev Cert.LossKernelIdeal.nD)

open Cert.LossKernelIdeal.Value (A0 W0 H0 G0 T0 fin5 fin6 gain loss)

theorem loss_eq : val_main_v28 (F := Ideal) (A0 m c) (W0 m c) (H0 m c) (G0 m c) (T0 m c) = loss m c :=
  funext fun z => (loss_at z).trans (Cert.LossKernelIdeal.Value.loss_apply m c z).symm

theorem dh_eq : val_main_v54 (F := Ideal) (A0 m c) (W0 m c) (H0 m c) (G0 m c) (T0 m c) = fin5 m c :=
  funext fun z => (congrArg _ (by blk_ext : z = ix2 (z 0) (z 1))).trans (dh_at (z 0) (z 1))

theorem dhb_eq : val_main_v55 (F := Ideal) (A0 m c) (W0 m c) (H0 m c) (G0 m c) (T0 m c) = fin6 m c :=
  dh_eq m c

theorem gain_eq : val_main_v40 (F := Ideal) (A0 m c) (W0 m c) (H0 m c) (G0 m c) (T0 m c) = gain m c :=
  funext fun z => by
    rw [(by blk_ext : z = ix1 (z 0))]
    exact (v40 _ _ _ _ _ (z 0)).trans (Cert.LossKernelIdeal.Value.gain_apply m c (z 0)).symm

end Cert.LossReferenceIdeal.Read

end
-- ==== Proof.NormPoint.lean ====
module

public import proofs.«01_k».proof.Proof.Gen.NormKernelIdeal.Frame
public import proofs.«01_k».proof.Proof.RowNorm
public import Idealize.ShloMosaic.Lib.Pipeline.ValueKit
public import Idealize.ShloMosaic.Lib.Pipeline.ReadBack

@[expose] public section

set_option maxRecDepth 16384

noncomputable section

/-! What a grid point of the norm's backward leaves in its blocks. -/

namespace Cert.NormKernelIdeal.Value

open Cert.NormKernelIdeal Cert.NormKernelIdeal.Gen Idealize.ShloMosaic Idealize.ShloMosaic.TcCoe Idealize.SL.Sem
open Idealize.ShloMosaic.Pipeline (Dat)

/-- The product that precedes the norm's gradient. -/
def du (A : FVec Ideal S512x4096 .bf16) (W : FVec Ideal S4096x1024 .bf16) (i : Fin 512) (j : Fin 1024) : EReal := ∑ k : Fin 4096, A (ix2 i k) * W (ix2 k j)

/-- A grid point's block of the row's gradient. -/
def dxOf (A : FVec Ideal S512x4096 .bf16) (W : FVec Ideal S4096x1024 .bf16) (X : FVec Ideal S512x1024 .f32) (R : FVec Ideal S512x1 .f32) (G : FVec Ideal S1x1024 .f32)
    (D : FVec Ideal S512x1024 .f32) (i : Fin 512) (j : Fin 1024) : EReal :=
  D (ix2 i j) + R (ix2 i 0) * (du A W i j * G (ix2 0 j)
    - X (ix2 i j) * R (ix2 i 0) * Ideal.div (∑ k : Fin 1024, du A W i k * G (ix2 0 k) * (X (ix2 i k) * R (ix2 i 0))) RowNorm.len)

/-- What a grid point adds to the gain's gradient: every eighth row's product. -/
def dgOf (A : FVec Ideal S512x4096 .bf16) (W : FVec Ideal S4096x1024 .bf16) (X : FVec Ideal S512x1024 .f32) (R : FVec Ideal S512x1 .f32) (i : Fin 8) (j : Fin 1024) : EReal :=
  ∑ k : Fin 64, du A W ⟨k * 8 + i, by omega⟩ j * (X (ix2 ⟨k * 8 + i, by omega⟩ j) * R (ix2 ⟨k * 8 + i, by omega⟩ 0))

section pays
variable (A : FVec Ideal S512x4096 .bf16) (W : FVec Ideal S4096x1024 .bf16) (X : FVec Ideal S512x1024 .f32) (R : FVec Ideal S512x1 .f32) (G : FVec Ideal S1x1024 .f32)
    (D : FVec Ideal S512x1024 .f32)

theorem pay4_apply (i : Fin 512) (j : Fin 1024) : k0_pay4 (F := Ideal) A W (ix2 i j) = du A W i j := by pointwise [k0_pay4, du]
theorem pay5_apply (i : Fin 512) (j : Fin 1024) : k0_pay5 (F := Ideal) X R (ix2 i j) = X (ix2 i j) * R (ix2 i 0) := by pointwise [k0_pay5]
theorem pay7_apply (i : Fin 512) (j : Fin 1024) : k0_pay7 (F := Ideal) A W G (ix2 i j) = du A W i j * G (ix2 0 j) := by pointwise [k0_pay7, pay4_apply]
theorem pay8_apply (i : Fin 512) (j : Fin 1) : k0_pay8 (F := Ideal) R (ix2 i j) = R (ix2 i j) := by pointwise [k0_pay8]
theorem pay9_apply (i : Fin 512) (j : Fin 1024) : k0_pay9 (F := Ideal) A W X R G (ix2 i j) =
    X (ix2 i j) * R (ix2 i 0) * Ideal.div (∑ k : Fin 1024, du A W i k * G (ix2 0 k) * (X (ix2 i k) * R (ix2 i 0))) RowNorm.len := by
  pointwise [k0_pay9, pay5_apply, pay7_apply]
theorem pay3_apply (y : S8x1024.Idx) : k0_pay3 (F := Ideal) y = 0 := by pointwise [k0_pay3]
theorem pay6_apply (a : FVec Ideal S8x1024 .f32) (i : Fin 8) (j : Fin 1024) : k0_pay6 (F := Ideal) A W X R a (ix2 i j) = a (ix2 i j) + dgOf A W X R i j := by
  pointwise [k0_pay6, pay4_apply, pay5_apply, dgOf]
theorem pay1_apply (i : Fin 512) (j : Fin 1024) : k0_pay1 (F := Ideal) (k0_pay7 A W G) D (k0_pay8 R) (k0_pay9 A W X R G) (ix2 i j) = dxOf A W X R G D i j := by
  pointwise [k0_pay1, pay7_apply, pay8_apply, pay9_apply, dxOf]
theorem pay2_apply (i : Fin 512) (j : Fin 1024) : k0_pay2 (F := Ideal) (k0_pay7 A W G) D (k0_pay8 R) (k0_pay9 A W X R G) (ix2 i j) = dxOf A W X R G D i j :=
  pay1_apply A W X R G D i j
end pays

variable (m : (ℓ : Loc nD τ sig) → Buf (Elt Ideal) ℓ) (ρ : Dev nD → PrngReg)

theorem dxA (c : Dev nD) (t : Fin cfg0.N) (h : t.val % 32 = 0) (i : Fin 512) (j : Fin 1024) :
    (outsAt0 m c t.val t.isLt).1 (ix2 i j) = dxOf (iblk m c 0 t) (iblk m c 1 t) (iblk m c 2 t) (iblk m c 3 t) (iblk m c 4 t) (iblk m c 5 t) i j := by
  rw [outsAt0_A m c t h]
  frame_open
  simp (disch := decide) only [↓ View.readCov_skip, ↓ View.readCov_cons_toLoadRect, ↓ View.readCov_fill]
  frame_out
  exact pay1_apply _ _ _ _ _ _ _ _

theorem dxB (c : Dev nD) (t : Fin cfg0.N) (h : ¬ t.val % 32 = 0) (i : Fin 512) (j : Fin 1024) :
    (outsAt0 m c t.val t.isLt).1 (ix2 i j) = dxOf (iblk m c 0 t) (iblk m c 1 t) (iblk m c 2 t) (iblk m c 3 t) (iblk m c 4 t) (iblk m c 5 t) i j := by
  rw [outsAt0_B m c t h]
  frame_open
  simp (disch := decide) only [↓ View.readCov_skip, ↓ View.readCov_cons_toLoadRect, ↓ View.readCov_fill]
  frame_out
  exact pay1_apply _ _ _ _ _ _ _ _

theorem dxbA (c : Dev nD) (t : Fin cfg0.N) (h : t.val % 32 = 0) (i : Fin 512) (j : Fin 1024) :
    (outsAt0 m c t.val t.isLt).2.1 (ix2 i j) = dxOf (iblk m c 0 t) (iblk m c 1 t) (iblk m c 2 t) (iblk m c 3 t) (iblk m c 4 t) (iblk m c 5 t) i j := by
  rw [outsAt0_A m c t h]
  frame_open
  simp (disch := decide) only [↓ View.readCov_skip, ↓ View.readCov_cons_toLoadRect, ↓ View.readCov_fill]
  frame_out
  exact pay2_apply _ _ _ _ _ _ _ _

theorem dxbB (c : Dev nD) (t : Fin cfg0.N) (h : ¬ t.val % 32 = 0) (i : Fin 512) (j : Fin 1024) :
    (outsAt0 m c t.val t.isLt).2.1 (ix2 i j) = dxOf (iblk m c 0 t) (iblk m c 1 t) (iblk m c 2 t) (iblk m c 3 t) (iblk m c 4 t) (iblk m c 5 t) i j := by
  rw [outsAt0_B m c t h]
  frame_open
  simp (disch := decide) only [↓ View.readCov_skip, ↓ View.readCov_cons_toLoadRect, ↓ View.readCov_fill]
  frame_out
  exact pay2_apply _ _ _ _ _ _ _ _

theorem dgA (c : Dev nD) (t : Fin cfg0.N) (h : t.val % 32 = 0) (i : Fin 8) (j : Fin 1024) :
    (outsAt0 m c t.val t.isLt).2.2 (ix2 i j) = dgOf (iblk m c 0 t) (iblk m c 1 t) (iblk m c 2 t) (iblk m c 3 t) i j := by
  rw [outsAt0_A m c t h]
  frame_open
  simp (disch := decide) only [↓ View.readCov_skip, ↓ View.readCov_cons_toLoadRect, ↓ View.readCov_fill]
  frame_out
  exact (pay6_apply _ _ _ _ _ _ _).trans ((congrArg (· + _) (pay3_apply _)).trans (zero_add _))

theorem dgB (c : Dev nD) (t : Fin cfg0.N) (h : ¬ t.val % 32 = 0) (i : Fin 8) (j : Fin 1024) :
    (outsAt0 m c t.val t.isLt).2.2 (ix2 i j) = (outsAt0 m c (t.val - 1) (by omega)).2.2 (ix2 i j) + dgOf (iblk m c 0 t) (iblk m c 1 t) (iblk m c 2 t) (iblk m c 3 t) i j := by
  rw [outsAt0_B m c t h]
  frame_open
  simp (disch := decide) only [↓ View.readCov_skip, ↓ View.readCov_cons_toLoadRect, ↓ View.readCov_fill]
  frame_out
  exact pay6_apply _ _ _ _ _ _ _

end Cert.NormKernelIdeal.Value

end
-- ==== Proof.NormArray.lean ====
module

public import proofs.«01_k».proof.Proof.NormPoint
public import Idealize.ShloMosaic.Lib.StableHlo.RunRead

@[expose] public section

set_option maxRecDepth 16384

noncomputable section

/-! The arrays that the norm's backward leaves, and the gain's gradient after the host's last line. -/

namespace Cert.NormKernelIdeal.Value

open Cert.NormKernelIdeal Cert.NormKernelIdeal.Gen Idealize.ShloMosaic Idealize.ShloMosaic.TcCoe Idealize.SL.Sem
open Idealize.ShloMosaic.Tactic
open Idealize.ShloMosaic.Pipeline (Dat)

/-- Row `r` of the stream. -/
def row (h : FVec Ideal S16384x1024 .f32) (r : Fin 16384) (k : Fin 1024) : EReal := h (ix2 r k)

/-- The cotangent that reaches the normed row's product with the gain. -/
def cot (w : FVec Ideal S1024x4096 .f32) (da : FVec Ideal S16384x4096 .f32) (r : Fin 16384) (j : Fin 1024) : EReal := ∑ k : Fin 4096, da (ix2 r k) * w (ix2 j k)

/-- The stream's gradient: what reaches it beside the norm and what passes through. -/
def dh (h : FVec Ideal S16384x1024 .f32) (g : FVec Ideal S1x1024 .f32) (w : FVec Ideal S1024x4096 .f32) (da : FVec Ideal S16384x4096 .f32)
    (e : FVec Ideal S16384x1024 .f32) (r : Fin 16384) (j : Fin 1024) : EReal :=
  e (ix2 r j) + RowNorm.back (row h r) (fun k => cot w da r k * g (ix2 0 k)) j

/-- A row's part of the gain's gradient. -/
def part (h : FVec Ideal S16384x1024 .f32) (w : FVec Ideal S1024x4096 .f32) (da : FVec Ideal S16384x4096 .f32) (j : Fin 1024) (r : Fin 16384) : EReal :=
  cot w da r j * (row h r j * RowNorm.scale (row h r))

/-- The host's scale of each row. -/
def scales (h : FVec Ideal S16384x1024 .f32) : FVec Ideal S16384x1 .f32 :=
  Host.rsqrt (addf (Host.divf (broadcastInDim S16384x1 ![0] bcast_S16384_S16384x1_0
    (Host.reduceAdd (mulf h h) (constant S_ .f32 0x00000000#32 : FVec Ideal S_ .f32) reducesTo_S16384x1024_S16384_d1 h_S_ : FVec Ideal S16384 .f32))
    (broadcastInDim S16384x1 ![] bcast_S_S16384x1 (constant S_ .f32 0x44800000#32 : FVec Ideal S_ .f32)))
    (broadcastInDim S16384x1 ![] bcast_S_S16384x1 (constant S_ .f32 0x358637BD#32 : FVec Ideal S_ .f32)))

theorem scales_apply (h : FVec Ideal S16384x1024 .f32) (r : Fin 16384) : scales h (ix2 r 0) = RowNorm.scale (row h r) := by
  pointwise [scales, RowNorm.scale, RowNorm.meanSq, row]

variable (m : (ℓ : Loc nD τ sig) → Buf (Elt Ideal) ℓ)

/-- The arguments as launched. -/
abbrev H0 (c : Dev nD) : FVec Ideal S16384x1024 .f32 := m ((c.tc : Thread nD τ).loc main_arg0)
abbrev G0 (c : Dev nD) : FVec Ideal S1x1024 .f32 := m ((c.tc : Thread nD τ).loc main_arg1)
abbrev W0 (c : Dev nD) : FVec Ideal S1024x4096 .f32 := m ((c.tc : Thread nD τ).loc main_arg2)
abbrev A0 (c : Dev nD) : FVec Ideal S16384x4096 .f32 := m ((c.tc : Thread nD τ).loc main_arg3)
abbrev E0 (c : Dev nD) : FVec Ideal S16384x1024 .f32 := m ((c.tc : Thread nD τ).loc main_arg4)

theorem idx : ∀ t : Fin cfg0.N, win0_0.index t = ![t.val, 0] ∧ win0_1.index t = ![0, 0] ∧ win0_2.index t = ![t.val, 0] ∧ win0_3.index t = ![t.val, 0] ∧
    win0_4.index t = ![0, 0] ∧ win0_5.index t = ![t.val, 0] ∧ win0_6.index t = ![t.val, 0] ∧ win0_7.index t = ![t.val, 0] := (by decide +kernel : ∀ t : Fin grid0.N, _)

/-- Row `i` of grid point `t`. -/
def rowAt (t : Fin cfg0.N) (i : Fin 512) : Fin 16384 := ⟨t.val * 512 + i, by have := lt_of_lt_of_eq t.isLt N_0; omega⟩

theorem rowAt_val (t : Fin cfg0.N) (i : Fin 512) : (rowAt t i : ℕ) = t.val * 512 + i := rfl

/-- The grid's rows are all rows. -/
theorem sum_rows (f : Fin 16384 → EReal) : ∑ t : Fin cfg0.N, ∑ i : Fin 512, f (rowAt t i) = ∑ i : Fin 16384, f i :=
  Fin.sum_mul_add_congr fun t i h => rfl

theorem V_scales (c : Dev nD) : V m c main_v7 = scales (H0 m c) := by rfl
theorem V_da (c : Dev nD) : V m c main_v8 = (truncf .bf16 (A0 m c) bitsLt_bf16_f32 : FVec Ideal S16384x4096 .bf16) := by rfl
theorem V_w (c : Dev nD) : V m c main_v10 =
    (transpose S4096x1024 [1, 0] (truncf .bf16 (W0 m c) bitsLt_bf16_f32 : FVec Ideal S1024x4096 .bf16) transposes_S1024x4096_S4096x1024_1_0 : FVec Ideal S4096x1024 .bf16) := by rfl

theorem turned (w : FVec Ideal S1024x4096 .f32) (k : Fin 4096) (j : Fin 1024) :
    (transpose S4096x1024 [1, 0] (truncf .bf16 w bitsLt_bf16_f32 : FVec Ideal S1024x4096 .bf16) transposes_S1024x4096_S4096x1024_1_0 : FVec Ideal S4096x1024 .bf16) (ix2 k j) =
      w (ix2 j k) := by pointwise

/-- A block's gradient in terms of a row `x` and its cotangent `d`. -/
theorem dxOf_of {A : FVec Ideal S512x4096 .bf16} {W : FVec Ideal S4096x1024 .bf16} {X : FVec Ideal S512x1024 .f32} {R : FVec Ideal S512x1 .f32} {G : FVec Ideal S1x1024 .f32}
    {D : FVec Ideal S512x1024 .f32} {i : Fin 512} {x d : Fin 1024 → EReal} {e : EReal} (hd : ∀ k, du A W i k * G (ix2 0 k) = d k) (hx : ∀ k, X (ix2 i k) = x k)
    (hr : R (ix2 i 0) = RowNorm.scale x) (j : Fin 1024) (he : D (ix2 i j) = e) : dxOf A W X R G D i j = e + RowNorm.back x d j := by
  simp only [dxOf, hd, hx, hr, he, RowNorm.back]

section blocks
variable (c : Dev nD) (t : Fin cfg0.N)

theorem blk0 (i : Fin 512) (k : Fin 4096) : (iblk m c 0 t : FVec Ideal S512x4096 .bf16) (ix2 i k) = A0 m c (ix2 (rowAt t i) k) := by
  have e : iblk m c 0 t = fun x => A0 m c (((cfg0.win 0).blk t).view.emb x) := rfl
  refine (congrFun e _).trans (congrArg _ ?_)
  blk_ext [idx t, rowAt_val]
theorem blk1 (k : Fin 4096) (j : Fin 1024) : (iblk m c 1 t : FVec Ideal S4096x1024 .bf16) (ix2 k j) = W0 m c (ix2 j k) := by
  have e : iblk m c 1 t = fun x => V m c main_v10 (((cfg0.win 1).blk t).view.emb x) := rfl
  refine (congrFun e _).trans ?_
  rw [V_w]
  refine Eq.trans (congrArg _ ?_) (turned (W0 m c) k j)
  blk_ext [idx t]
theorem blk2 (i : Fin 512) (j : Fin 1024) : (iblk m c 2 t : FVec Ideal S512x1024 .f32) (ix2 i j) = row (H0 m c) (rowAt t i) j := by
  have e : iblk m c 2 t = fun x => H0 m c (((cfg0.win 2).blk t).view.emb x) := rfl
  refine (congrFun e _).trans (congrArg (H0 m c) ?_)
  blk_ext [idx t, rowAt_val]
theorem blk3 (i : Fin 512) : (iblk m c 3 t : FVec Ideal S512x1 .f32) (ix2 i 0) = RowNorm.scale (row (H0 m c) (rowAt t i)) := by
  rw [← scales_apply]
  have e : iblk m c 3 t = fun x => scales (H0 m c) (((cfg0.win 3).blk t).view.emb x) := rfl
  refine (congrFun e _).trans (congrArg _ ?_)
  blk_ext [idx t, rowAt_val]
theorem blk4 (j : Fin 1024) : (iblk m c 4 t : FVec Ideal S1x1024 .f32) (ix2 0 j) = G0 m c (ix2 0 j) := by
  have e : iblk m c 4 t = fun x => G0 m c (((cfg0.win 4).blk t).view.emb x) := rfl
  refine (congrFun e _).trans (congrArg _ ?_)
  blk_ext [idx t]
theorem blk5 (i : Fin 512) (j : Fin 1024) : (iblk m c 5 t : FVec Ideal S512x1024 .f32) (ix2 i j) = E0 m c (ix2 (rowAt t i) j) := by
  have e : iblk m c 5 t = fun x => E0 m c (((cfg0.win 5).blk t).view.emb x) := rfl
  refine (congrFun e _).trans (congrArg _ ?_)
  blk_ext [idx t, rowAt_val]

theorem du_blk (i : Fin 512) (j : Fin 1024) : du (iblk m c 0 t) (iblk m c 1 t) i j = cot (W0 m c) (A0 m c) (rowAt t i) j :=
  Finset.sum_congr rfl fun k _ => congrArg₂ (· * ·) (blk0 m c t i k) (blk1 m c t k j)

theorem dx_blk (i : Fin 512) (j : Fin 1024) : dxOf (iblk m c 0 t) (iblk m c 1 t) (iblk m c 2 t) (iblk m c 3 t) (iblk m c 4 t) (iblk m c 5 t) i j =
    dh (H0 m c) (G0 m c) (W0 m c) (A0 m c) (E0 m c) (rowAt t i) j :=
  dxOf_of (fun k => congrArg₂ (· * ·) (du_blk m c t i k) (blk4 m c t k)) (blk2 m c t i) (blk3 m c t i) j (blk5 m c t i j)

theorem dg_blk (i : Fin 8) (j : Fin 1024) : dgOf (iblk m c 0 t) (iblk m c 1 t) (iblk m c 2 t) (iblk m c 3 t) i j =
    ∑ k : Fin 64, part (H0 m c) (W0 m c) (A0 m c) j (rowAt t ⟨k * 8 + i, by omega⟩) :=
  Finset.sum_congr rfl fun k _ => congrArg₂ (· * ·) (du_blk m c t _ j) (congrArg₂ (· * ·) (blk2 m c t _ j) (blk3 m c t _))

theorem emb6 (i : Fin 512) (j : Fin 1024) : ((cfg0.win 6).blk t).view.emb (ix2 i j) = (ix2 (rowAt t i) j : S16384x1024.Idx) := by
  blk_ext [idx t, rowAt_val]
theorem emb7 (i : Fin 512) (j : Fin 1024) : ((cfg0.win 7).blk t).view.emb (ix2 i j) = (ix2 (rowAt t i) j : S16384x1024.Idx) := by
  blk_ext [idx t, rowAt_val]
end blocks

/-- The arrays after the grid. -/
def fin6 (c : Dev nD) : FVec Ideal S16384x1024 .f32 := fun z => dh (H0 m c) (G0 m c) (W0 m c) (A0 m c) (E0 m c) (z 0) (z 1)
def fin7 (c : Dev nD) : FVec Ideal S16384x1024 .bf16 := fun z => dh (H0 m c) (G0 m c) (W0 m c) (A0 m c) (E0 m c) (z 0) (z 1)
def fin8 (c : Dev nD) : FVec Ideal S8x1024 .f32 := fun z => ∑ t : Fin cfg0.N, ∑ k : Fin 64,
  part (H0 m c) (W0 m c) (A0 m c) (z 1) (rowAt t ⟨k * 8 + (z 0 : ℕ), by have : (z 0 : ℕ) < 8 := (z 0).isLt; omega⟩)

/-- The last grid point. -/
def tlast : Fin cfg0.N := ⟨31, (lt_of_lt_of_eq (by norm_num) N_0.symm : 31 < grid0.N)⟩

theorem dx_at (c : Dev nD) (t : Fin cfg0.N) (i : Fin 512) (j : Fin 1024) :
    (outsAt0 m c t.val t.isLt).1 (ix2 i j) = dh (H0 m c) (G0 m c) (W0 m c) (A0 m c) (E0 m c) (rowAt t i) j := by
  refine Eq.trans ?_ (dx_blk m c t i j)
  by_cases h : t.val % 32 = 0
  · exact dxA m c t h i j
  · exact dxB m c t h i j

theorem dxb_at (c : Dev nD) (t : Fin cfg0.N) (i : Fin 512) (j : Fin 1024) :
    (outsAt0 m c t.val t.isLt).2.1 (ix2 i j) = dh (H0 m c) (G0 m c) (W0 m c) (A0 m c) (E0 m c) (rowAt t i) j := by
  refine Eq.trans ?_ (dx_blk m c t i j)
  by_cases h : t.val % 32 = 0
  · exact dxbA m c t h i j
  · exact dxbB m c t h i j

theorem final6 (c : Dev nD) : (dats m 0 c).arrAt 6 cfg0.N = fin6 m c := by
  refine (dats m 0 c).arrAt_eq_of_covers 6 _ (by decide +kernel) fun t _ y => ?_
  blk_simp
  rw [after0_6]
  have ey : y = (ix2 (y 0) (y 1) : S512x1024.Idx) := by blk_ext
  rw [ey]
  exact (dx_at m c t (y 0) (y 1)).trans (congrArg (fin6 m c) (emb6 t (y 0) (y 1))).symm

theorem final7 (c : Dev nD) : (dats m 0 c).arrAt 7 cfg0.N = fin7 m c := by
  refine (dats m 0 c).arrAt_eq_of_covers 7 _ (by decide +kernel) fun t _ y => ?_
  blk_simp
  rw [after0_7]
  have ey : y = (ix2 (y 0) (y 1) : S512x1024.Idx) := by blk_ext
  rw [ey]
  exact (dxb_at m c t (y 0) (y 1)).trans (congrArg (fin7 m c) (emb7 t (y 0) (y 1))).symm

theorem final8 (c : Dev nD) : (dats m 0 c).arrAt 8 cfg0.N = fin8 m c := by
  refine (dats m 0 c).arrAt_eq_of_after_last 8 tlast (by decide +kernel) _ fun j => ?_
  blk_simp
  have e2 : ∀ j : S8x1024.Idx, j = ix2 (j 0) (j 1) := fun j => by blk_ext
  rw [after0_8, Pipeline.eq_sum_fin_of_reset_step_apply_last (fun n h => (outsAt0 m c n h).2.2) 32 (fun _ => 0)
    (fun p j => dgOf (iblk m c 0 p) (iblk m c 1 p) (iblk m c 2 p) (iblk m c 3 p) (j 0) (j 1))
    (fun t h j => by rw [e2 j]; exact (dgA m c t h (j 0) (j 1)).trans (zero_add _).symm)
    (fun t h j => by rw [e2 j]; exact dgB m c t h (j 0) (j 1)) (le_of_eq N_0) tlast rfl j, zero_add]
  show (∑ p : Fin cfg0.N, dgOf (iblk m c 0 p) (iblk m c 1 p) (iblk m c 2 p) (iblk m c 3 p) (j 0) (j 1) : EReal) = _
  exact Finset.sum_congr rfl fun p _ => dg_blk m c p (j 0) (j 1)

/-- The gain's gradient after the host's sum over the eight rows. -/
def gain (c : Dev nD) : FVec Ideal S1024 .f32 :=
  Host.reduceAdd (fin8 m c) (constant S_ .f32 0x00000000#32 : FVec Ideal S_ .f32) reducesTo_S8x1024_S1024_d0 h_S_

theorem gain_apply (c : Dev nD) (j : Fin 1024) : gain m c (ix1 j) = ∑ r : Fin 16384, part (H0 m c) (W0 m c) (A0 m c) j r := by
  have e : gain m c (ix1 j) = ∑ i : Fin 8, fin8 m c (ix2 i j) := by pointwise [gain]
  rw [e, ← sum_rows]
  show ∑ i : Fin 8, ∑ t : Fin cfg0.N, ∑ k : Fin 64, part (H0 m c) (W0 m c) (A0 m c) j (rowAt t ⟨k * 8 + i, by omega⟩) = _
  rw [Finset.sum_comm]
  refine Finset.sum_congr rfl fun t _ => ?_
  rw [Finset.sum_comm]
  exact Fin.sum_mul_add_congr fun k i h => rfl

theorem tail12 (c : Dev nD) : Pipeline.afterTail₀ cfgs (dats m) 0 (Gen.V0 m) [hostOps1] c main_v12 = gain m c := by
  have e := Pipeline.withArrays_arr (cfgs 0).spec launch0.win.arr_inj c (Gen.V0 m c) (fun w => (dats m 0 c).arrAt w (cfgs 0).N) 8
  unfold Pipeline.afterTail₀
  show StableHlo.after (List.flatten [hostOps1]) _ (Proc.devRef .tc main_v12) = _
  simp only [List.flatten_cons, List.flatten_nil, List.append_nil, hostOps1]
  after_reads_simp
  exact congrArg (fun x : FVec Ideal S8x1024 .f32 => (Host.reduceAdd x (constant S_ .f32 0x00000000#32 : FVec Ideal S_ .f32) reducesTo_S8x1024_S1024_d0 h_S_ : FVec Ideal S1024 .f32)) (e.trans (final8 m c))

/-- The three results of the run. -/
theorem run_results (ρ : Dev nD → PrngReg) : θ_run defs (onTc (τ := τ) (main (F := Ideal))) ⟨m, fun _ => 0, ρ⟩ (fun r => ∀ c : Dev nD,
      r.2.mem ((c.tc : Thread nD τ).loc main_v11_0) = fin6 m c
      ∧ r.2.mem ((c.tc : Thread nD τ).loc main_v11_1) = fin7 m c
      ∧ r.2.mem ((c.tc : Thread nD τ).loc main_v12) = gain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 := run_main_quiescent m ρ
  have h2 := frame m ρ
  refine (θ_run defs _ _).mono (fun r h c => ?_) (θ_run_and h1 h2)
  obtain ⟨⟨hp, -⟩, hf, -⟩ := h
  obtain ⟨hw, hr⟩ := hp c
  exact ⟨(hw 6).trans (final6 m c), (hw 7).trans (final7 m c), (hr main_v12 (by decide)).trans (tail12 m c), hf c⟩

end Cert.NormKernelIdeal.Value

end
-- ==== Proof.NormReference.lean ====
module

public import proofs.«01_k».proof.Proof.Gen.NormReferenceIdeal.Read
public import proofs.«01_k».proof.Proof.NormArray

@[expose] public section

set_option maxRecDepth 16384

noncomputable section

/-! The plain reverse pass of the norm, read entry by entry, and its equality with the kernel's gradients. -/

namespace Cert.NormReferenceIdeal.Read

open Cert.NormReferenceIdeal Cert.NormReferenceIdeal.Gen Idealize.ShloMosaic Idealize.ShloMosaic.TcCoe
open Cert.NormKernelIdeal.Value (row cot part dh)

variable (x0 : FVec Ideal S16384x1024 .f32) (x1 : FVec Ideal S1x1024 .f32) (x2 : FVec Ideal S1024x4096 .f32) (x3 : FVec Ideal S16384x4096 .f32) (x4 : FVec Ideal S16384x1024 .f32)

/-- The cotangent of the normed row before the gain. -/
def d (r : Fin 16384) (k : Fin 1024) : EReal := cot x2 x3 r k * x1 (ix2 0 k)

theorem v7 (r : Fin 16384) : val_main_v7 (F := Ideal) x0 (ix2 r 0) = RowNorm.meanSq (row x0 r) := by
  pointwise [val_main_v7, val_main_v5, val_main_v3, val_main_v2, val_main_v1, val_main_cst, val_main_v4, val_main_cst_0, val_main_v6, val_main_cst_1, RowNorm.meanSq, row]
theorem v8 (r : Fin 16384) : val_main_v8 (F := Ideal) x0 (ix2 r 0) = RowNorm.scale (row x0 r) := by
  rw [val_main_v8_apply (F := Ideal), v7]
  rfl
theorem v11 (r : Fin 16384) : val_main_v11 (F := Ideal) x0 (ix2 r 0) = RowNorm.minusHalf * Ideal.div (RowNorm.scale (row x0 r)) (RowNorm.meanSq (row x0 r)) := by
  rw [val_main_v11_apply (F := Ideal), val_main_v9_apply (F := Ideal), v8, v7, val_main_v10_apply (F := Ideal)]
  rfl
theorem v13 (r : Fin 16384) (j : Fin 1024) : val_main_v13 (F := Ideal) x0 (ix2 r j) = row x0 r j * RowNorm.scale (row x0 r) := by
  rw [val_main_v13_apply (F := Ideal), val_main_v12_apply (F := Ideal), show idx_main_v12 (ix2 r j) = ix2 r 0 by blk_ext, v8]
  rfl
theorem v18 (r : Fin 16384) (j : Fin 1024) : val_main_v18 (F := Ideal) x2 x3 (ix2 r j) = cot x2 x3 r j := by
  pointwise [val_main_v18, cot]
theorem v20 (j : Fin 1024) : val_main_v20 (F := Ideal) x0 x2 x3 (ix1 j) = ∑ r : Fin 16384, part x0 x2 x3 j r := by
  rw [val_main_v20_apply]
  refine (congrArg (· + _) (Ideal.ofBits_zero .f32)).trans ((zero_add _).trans (Finset.sum_congr rfl fun r _ => ?_))
  rw [show idx_main_v20 (ix1 j) r = ix2 r j by blk_ext, val_main_v19_apply (F := Ideal), v13, v18]
  exact mul_comm _ _

/-- The gain's gradient. -/
theorem v24 (j : Fin 1024) : val_main_v24 (F := Ideal) x0 x2 x3 (ix1 j) = ∑ r : Fin 16384, part x0 x2 x3 j r := by
  rw [val_main_v24_apply]
  refine (congrArg (· + _) (Ideal.ofBits_zero .f32)).trans ((zero_add _).trans ?_)
  rw [Fin.sum_univ_one, val_main_v21_apply (F := Ideal), show idx_main_v21 (idx_main_v24 (ix1 j) 0) = ix1 j by blk_ext, v20]

theorem v23 (r : Fin 16384) (j : Fin 1024) : val_main_v23 (F := Ideal) x1 x2 x3 (ix2 r j) = d x1 x2 x3 r j := by
  have e : val_main_v22 (F := Ideal) x1 (ix2 r j) = x1 (ix2 0 j) := by pointwise [val_main_v22, val_main_v14, val_main_v0]
  rw [val_main_v23_apply (F := Ideal), v18, e]
  rfl
theorem v27 (r : Fin 16384) : val_main_v27 (F := Ideal) x0 x1 x2 x3 (ix2 r 0) = ∑ k : Fin 1024, row x0 r k * d x1 x2 x3 r k := by
  rw [val_main_v27_apply (F := Ideal), show idx_main_v27 (ix2 r 0) = ix1 r by blk_ext, val_main_v26_apply]
  refine (congrArg (· + _) (Ideal.ofBits_zero .f32)).trans ((zero_add _).trans (Finset.sum_congr rfl fun k _ => ?_))
  rw [show idx_main_v26 (ix1 r) k = ix2 r k by blk_ext, val_main_v25_apply (F := Ideal), v23]
  rfl
theorem v33 (r : Fin 16384) : val_main_v33 (F := Ideal) x0 x1 x2 x3 (ix2 r 0) = RowNorm.through (row x0 r) (d x1 x2 x3 r) := by
  rw [val_main_v33_apply (F := Ideal), val_main_v31_apply (F := Ideal), v27, v11, val_main_v32_apply (F := Ideal)]
  rfl
theorem v35 (r : Fin 16384) (j : Fin 1024) : val_main_v35 (F := Ideal) x0 x1 x2 x3 (ix2 r j) = RowNorm.through (row x0 r) (d x1 x2 x3 r) := by
  rw [val_main_v35_apply (F := Ideal), show idx_main_v35 (ix2 r j) = ix1 r by blk_ext, val_main_v34_apply]
  refine (congrArg (· + _) (Ideal.ofBits_zero .f32)).trans ((zero_add _).trans ?_)
  rw [Fin.sum_univ_one, show idx_main_v34 (ix1 r) 0 = ix2 r 0 by blk_ext, v33]
theorem v29 (r : Fin 16384) (j : Fin 1024) : val_main_v29 (F := Ideal) x0 x1 x2 x3 (ix2 r j) = d x1 x2 x3 r j * RowNorm.scale (row x0 r) := by
  rw [val_main_v29_apply (F := Ideal), val_main_v28_apply (F := Ideal), show idx_main_v28 (ix2 r j) = ix2 r 0 by blk_ext, v23, v8]
  rfl

/-- The stream's gradient as the reverse pass forms it. -/
theorem v39 (r : Fin 16384) (j : Fin 1024) : val_main_v39 (F := Ideal) x0 x1 x2 x3 x4 (ix2 r j) =
    x4 (ix2 r j) + d x1 x2 x3 r j * RowNorm.scale (row x0 r) + row x0 r j * RowNorm.through (row x0 r) (d x1 x2 x3 r)
      + RowNorm.through (row x0 r) (d x1 x2 x3 r) * row x0 r j := by
  rw [val_main_v39_apply (F := Ideal), val_main_v37_apply (F := Ideal), val_main_v38_apply (F := Ideal), val_main_v36_apply (F := Ideal), val_main_v30_apply (F := Ideal), v35, v29]
  rfl

variable {x0 x1 x2 x3 x4}

theorem dh_at (r : Fin 16384) (j : Fin 1024) : val_main_v39 (F := Ideal) x0 x1 x2 x3 x4 (ix2 r j) = dh x0 x1 x2 x3 x4 r j :=
  (v39 x0 x1 x2 x3 x4 r j).trans (RowNorm.back_eq (row x0 r) (d x1 x2 x3 r) j (x4 (ix2 r j)))

variable (m : (ℓ : Loc Cert.NormKernelIdeal.nD Cert.NormKernelIdeal.τ Cert.NormKernelIdeal.sig) → Buf (Elt Ideal) ℓ) (c : Dev Cert.NormKernelIdeal.nD)

open Cert.NormKernelIdeal.Value (H0 G0 W0 A0 E0 fin6 fin7 gain)

theorem dh_eq : val_main_v39 (F := Ideal) (H0 m c) (G0 m c) (W0 m c) (A0 m c) (E0 m c) = fin6 m c :=
  funext fun z => (congrArg _ (by blk_ext : z = ix2 (z 0) (z 1))).trans (dh_at (z 0) (z 1))

theorem dhb_eq : val_main_v40 (F := Ideal) (H0 m c) (G0 m c) (W0 m c) (A0 m c) (E0 m c) = fin7 m c :=
  dh_eq m c

theorem gain_eq : val_main_v24 (F := Ideal) (H0 m c) (W0 m c) (A0 m c) = gain m c :=
  funext fun z => by
    rw [(by blk_ext : z = ix1 (z 0))]
    exact (v24 _ _ _ (z 0)).trans (Cert.NormKernelIdeal.Value.gain_apply m c (z 0)).symm

end Cert.NormReferenceIdeal.Read

end
-- ==== Proof.PostPoint.lean ====
module

public import proofs.«01_k».proof.Proof.Gen.PostKernelIdeal.Frame
public import Idealize.ShloMosaic.Lib.Pipeline.ValueKit
public import Idealize.ShloMosaic.Lib.Pipeline.ReadBack

@[expose] public section

set_option maxRecDepth 16384

noncomputable section

/-! What a grid point of the gates' backward computes from its blocks. -/

namespace Cert.PostKernelIdeal.Value

open Cert.PostKernelIdeal Cert.PostKernelIdeal.Gen Idealize.ShloMosaic Idealize.ShloMosaic.TcCoe Idealize.SL.Sem
open Idealize.ShloMosaic.Pipeline (Dat)

/-- The cotangent of the running sums in the lanes of the projection: row `k`, lane `l`. -/
def lane (R C : FVec Ideal S8x1024 .f32) (T : FVec Ideal S8x128 .f32) (k : Fin 1024) (l : Fin 128) : EReal :=
  ∑ h : Fin 8, (R (ix2 h k) - C (ix2 h k)) * T (ix2 h l)

/-- The logistic of the negated gate, as the kernel spells it. -/
def slope (z : EReal) : EReal := (Ideal.ofBits .f32 0x3F000000#32 : EReal) * Ideal.tanh ((Ideal.ofBits .f32 0x3F000000#32 : EReal) * (0 - z)) + (Ideal.ofBits .f32 0x3F000000#32 : EReal)

/-- The slope of a block's gate. -/
def slopeOf (P : FVec Ideal S1024x128 .f32) (B : FVec Ideal S1x128 .f32) (r : Fin 1024) (l : Fin 128) : EReal := slope (P (ix2 r l) + B (ix2 0 l))

theorem toInt_lane : ∀ k : Fin 1024, (BitVec.ofNat 32 k.val).toInt = (k.val : ℤ) := by decide +kernel

theorem mask_lane : ∀ l : Fin 128, 16 ≤ (l : ℕ) → (l : ℕ) < 24 →
    IntOp.andi (IntOp.cmpi .sge (BitVec.ofNat 32 l.val) 16#32) (IntOp.cmpi .slt (BitVec.ofNat 32 l.val) 24#32) = 1#1 := by decide +kernel

section pays
variable (Q : FVec Ideal S512x1024 .f32) (K : FVec Ideal S512x1024 .bf16) (R C : FVec Ideal S8x1024 .f32) (T : FVec Ideal S8x128 .f32) (k : FVec Ideal S1x128 .f32)
  (P : FVec Ideal S1024x128 .f32) (B : FVec Ideal S1x128 .f32)

theorem pay2_apply (y : S8x128.Idx) : k0_pay2 (F := Ideal) y = 0 := by pointwise [k0_pay2]
theorem pay3_apply (y : S8x128.Idx) : k0_pay3 (F := Ideal) y = 0 := by pointwise [k0_pay3]
theorem pay4_apply (r : Fin 1024) (j : Fin 512) : k0_pay4 (F := Ideal) Q (ix2 r j) = Q (ix2 j r) := by pointwise [k0_pay4]
theorem pay5_apply (r : Fin 1024) (j : Fin 512) : k0_pay5 (F := Ideal) K (ix2 r j) = K (ix2 j r) := by pointwise [k0_pay5]
theorem pay6_apply (r : Fin 1024) (j : Fin 512) : k0_pay6 (F := Ideal) K (ix2 r j) = K (ix2 j r) := by pointwise [k0_pay6]
theorem pay1_apply (D : FVec Ideal S1024x128 .f32) (a : FVec Ideal S8x128 .f32) (i : Fin 8) (l : Fin 128) : k0_pay1 (F := Ideal) D a (ix2 i l) =
    a (ix2 i l) + ∑ n : Fin 128, D (ix2 ⟨n * 8 + i, by omega⟩ l) := by pointwise [k0_pay1]
theorem pay7_apply (r s : Fin 1024) : k0_pay7 (F := Ideal) (ix2 r s) = if r ≤ s then (1 : EReal) else 0 := by
  pointwise [k0_pay7]
  show (((BitVec.setWidth 32 (BitVec.ofBool (BitVec.sle (BitVec.ofNat 32 r.val) (BitVec.ofNat 32 s.val)))).toInt : ℝ) : EReal) = _
  rw [BitVec.sle_eq_decide, toInt_lane, toInt_lane]
  by_cases h : r ≤ s
  · rw [if_pos h, decide_eq_true (by exact_mod_cast h)]
    show (((1 : ℤ) : ℝ) : EReal) = 1
    norm_num
  · rw [if_neg h, decide_eq_false (by exact_mod_cast h)]
    show (((0 : ℤ) : ℝ) : EReal) = 0
    norm_num
theorem pay8_hi (r : Fin 1024) (l : Fin 128) : k0_pay8 (F := Ideal) R C T (ix2 r ⟨l, by omega⟩) = lane R C T r l := by
  pointwise [k0_pay8, lane]
theorem pay8_mid (r : Fin 1024) (l : Fin 128) : k0_pay8 (F := Ideal) R C T (ix2 r ⟨128 + l, by omega⟩) = lane R C T r l - lane R C T r l := by
  pointwise [k0_pay8, lane]
theorem pay8_lo (r : Fin 1024) (l : Fin 128) : k0_pay8 (F := Ideal) R C T (ix2 r ⟨256 + l, by omega⟩) =
    lane R C T r l - lane R C T r l - (lane R C T r l - lane R C T r l) := by
  pointwise [k0_pay8, lane]
  rw [dif_neg (by omega), dif_neg (by omega)]
  have e : (⟨256 + (l : ℕ) - 128 - 128, by omega⟩ : Fin 128) = l := Fin.ext (by show 256 + (l : ℕ) - 128 - 128 = l; omega)
  rw [e]
theorem pay9_raw (M : FVec Ideal S1024x1024 .bf16) (D : FVec Ideal S1024x384 .bf16) (r : Fin 1024) (l : Fin 128) : k0_pay9 (F := Ideal) M D k (ix2 r l) =
    (∑ s, M (ix2 r s) * D (ix2 s ⟨l, by omega⟩)) + (∑ s, M (ix2 r s) * D (ix2 s ⟨128 + l, by omega⟩)) + (∑ s, M (ix2 r s) * D (ix2 s ⟨256 + l, by omega⟩)) + k (ix2 0 l) := by
  pointwise [k0_pay9]
theorem pay10_raw (M : FVec Ideal S1024x1024 .bf16) (D : FVec Ideal S1024x384 .bf16) (i : Fin 8) (l : Fin 128) : k0_pay10 (F := Ideal) M D k (ix2 i l) =
    k0_pay9 (F := Ideal) M D k (ix2 0 l) := by
  pointwise [k0_pay10]
theorem pay11_raw (M : FVec Ideal S1024x1024 .bf16) (D : FVec Ideal S1024x384 .bf16) (r : Fin 1024) (l : Fin 128) (hl : 16 ≤ (l : ℕ)) (hl' : (l : ℕ) < 24) :
    k0_pay11 (F := Ideal) M D k P B (ix2 r l) = k0_pay9 (F := Ideal) M D k (ix2 r l) * slope (P (ix2 r l) + B (ix2 0 l)) := by
  pointwise [k0_pay11, slope]
  rw [mask_lane l hl hl']
  rfl

/-- A row's sum of the rows from it on in its tile, and of what the later tiles carry. -/
def from_ (a : Fin 128 → EReal) (r : Fin 1024) (l : Fin 128) : EReal := (∑ s : Fin 1024, if r ≤ s then lane R C T s l else 0) + a l

variable {R C T k} in
theorem pay9_apply {l : Fin 128} (h : ∀ s, ∃ a : ℝ, lane R C T s l = a) {a : Fin 128 → EReal} (ha : ∀ l, k (ix2 0 l) = a l) (r : Fin 1024) :
    k0_pay9 (F := Ideal) k0_pay7 (k0_pay8 R C T) k (ix2 r l) = from_ R C T a r l := by
  have z : ∀ s, lane R C T s l - lane R C T s l = 0 := fun s => by
    obtain ⟨a, ha⟩ := h s
    rw [ha, ← EReal.coe_sub, sub_self, EReal.coe_zero]
  simp only [pay9_raw, pay7_apply, pay8_hi, pay8_mid, pay8_lo, z, sub_zero, mul_zero, Finset.sum_const_zero, add_zero, ite_mul, one_mul, zero_mul, from_, ha]

variable {R C T k P B} in
theorem pay11_apply {l : Fin 128} (h : ∀ s, ∃ a : ℝ, lane R C T s l = a) {a : Fin 128 → EReal} (ha : ∀ l, k (ix2 0 l) = a l) (r : Fin 1024) (hl : 16 ≤ (l : ℕ)) (hl' : (l : ℕ) < 24) :
    k0_pay11 (F := Ideal) k0_pay7 (k0_pay8 R C T) k P B (ix2 r l) = from_ R C T a r l * slopeOf P B r l :=
  (pay11_raw k P B _ _ r l hl hl').trans (congrArg (· * _) (pay9_apply h ha r))

variable {R C T k P B} in
theorem pay1_of {l : Fin 128} (h : ∀ s, ∃ a : ℝ, lane R C T s l = a) {a : Fin 128 → EReal} (ha : ∀ l, k (ix2 0 l) = a l) (d : FVec Ideal S8x128 .f32) (i : Fin 8)
    (hl : 16 ≤ (l : ℕ)) (hl' : (l : ℕ) < 24) :
    k0_pay1 (F := Ideal) (k0_pay11 k0_pay7 (k0_pay8 R C T) k P B) d (ix2 i l) =
      d (ix2 i l) + ∑ n : Fin 128, from_ R C T a ⟨n * 8 + i, by omega⟩ l * slopeOf P B ⟨n * 8 + i, by omega⟩ l :=
  (pay1_apply _ d i l).trans (congrArg (d (ix2 i l) + ·) (Finset.sum_congr rfl fun n _ => pay11_apply h ha _ hl hl'))
end pays

theorem ld_row (x : FVec Ideal S8x128 .f32) (l : Fin 128) :
    View.ld (Val := Elt Ideal) (e' := .f32) x (Rect.unit (s := S8x128) ![0, 0] S1x128.size inb_S8x128_S1x128_0_0) (ix2 0 l : S1x128.Idx) = x (ix2 0 l) := by
  refine congrArg x ?_
  blk_ext
  · rfl
  · exact (congrArg (0 + ·) (Nat.one_mul _)).trans (Nat.zero_add _)

theorem ld_zero (l : Fin 128) :
    View.ld (Val := Elt Ideal) (e' := .f32) (k0_pay2 (F := Ideal)) (Rect.unit (s := S8x128) ![0, 0] S1x128.size inb_S8x128_S1x128_0_0) (ix2 0 l : S1x128.Idx) = (0 : EReal) :=
  (ld_row _ l).trans (pay2_apply _)

variable (m : (ℓ : Loc nD τ sig) → Buf (Elt Ideal) ℓ) (ρ : Dev nD → PrngReg) (c : Dev nD) (t : Fin cfg0.N)

/-- What a grid point's successor finds in the carried row. -/
def carry (n : ℕ) (h : n < cfg0.N) (l : Fin 128) : EReal := (outsAt0 m c n h).2.2.2.2.2 (ix2 0 l)

/-- The lanes of a grid point's blocks, and their sums from a row on. -/
abbrev lanes (s : Fin 1024) (l : Fin 128) : EReal := lane (iblk m c 3 t) (iblk m c 4 t) (iblk m c 7 t) s l
abbrev from' (a : Fin 128 → EReal) (r : Fin 1024) (l : Fin 128) : EReal := from_ (iblk m c 3 t) (iblk m c 4 t) (iblk m c 7 t) a r l
abbrev slopes (r : Fin 1024) (l : Fin 128) : EReal := slopeOf (iblk m c 5 t) (iblk m c 6 t) r l

section turned
variable (r : Fin 1024) (j : Fin 512)

theorem dqA (h : t.val % 16 = 0) : (outsAt0 m c t.val t.isLt).1 (ix2 r j) = (iblk m c 0 t : FVec Ideal S512x1024 .f32) (ix2 j r) := by
  rw [outsAt0_A m c t h]
  frame_open
  simp (disch := decide) only [↓ View.readCov_skip, ↓ View.readCov_cons_toLoadRect, ↓ View.readCov_fill]
  frame_out
  exact pay4_apply _ _ _

theorem dqB (h : ¬ t.val % 16 = 0) : (outsAt0 m c t.val t.isLt).1 (ix2 r j) = (iblk m c 0 t : FVec Ideal S512x1024 .f32) (ix2 j r) := by
  rw [outsAt0_B m c t h]
  frame_open
  simp (disch := decide) only [↓ View.readCov_skip, ↓ View.readCov_cons_toLoadRect, ↓ View.readCov_fill]
  frame_out
  exact pay4_apply _ _ _

theorem dkA (h : t.val % 16 = 0) : (outsAt0 m c t.val t.isLt).2.1 (ix2 r j) = (iblk m c 1 t : FVec Ideal S512x1024 .bf16) (ix2 j r) := by
  rw [outsAt0_A m c t h]
  frame_open
  simp (disch := decide) only [↓ View.readCov_skip, ↓ View.readCov_cons_toLoadRect, ↓ View.readCov_fill]
  frame_out
  exact pay5_apply _ _ _

theorem dkB (h : ¬ t.val % 16 = 0) : (outsAt0 m c t.val t.isLt).2.1 (ix2 r j) = (iblk m c 1 t : FVec Ideal S512x1024 .bf16) (ix2 j r) := by
  rw [outsAt0_B m c t h]
  frame_open
  simp (disch := decide) only [↓ View.readCov_skip, ↓ View.readCov_cons_toLoadRect, ↓ View.readCov_fill]
  frame_out
  exact pay5_apply _ _ _

theorem dvA (h : t.val % 16 = 0) : (outsAt0 m c t.val t.isLt).2.2.1 (ix2 r j) = (iblk m c 2 t : FVec Ideal S512x1024 .bf16) (ix2 j r) := by
  rw [outsAt0_A m c t h]
  frame_open
  simp (disch := decide) only [↓ View.readCov_skip, ↓ View.readCov_cons_toLoadRect, ↓ View.readCov_fill]
  frame_out
  exact pay6_apply _ _ _

theorem dvB (h : ¬ t.val % 16 = 0) : (outsAt0 m c t.val t.isLt).2.2.1 (ix2 r j) = (iblk m c 2 t : FVec Ideal S512x1024 .bf16) (ix2 j r) := by
  rw [outsAt0_B m c t h]
  frame_open
  simp (disch := decide) only [↓ View.readCov_skip, ↓ View.readCov_cons_toLoadRect, ↓ View.readCov_fill]
  frame_out
  exact pay6_apply _ _ _

end turned

section sums
variable (l : Fin 128) (hr : ∀ s, ∃ a : ℝ, lanes m c t s l = a)
include hr

theorem deA (h : t.val % 16 = 0) (r : Fin 1024) (hl : 16 ≤ (l : ℕ)) (hl' : (l : ℕ) < 24) :
    (outsAt0 m c t.val t.isLt).2.2.2.1 (ix2 r l) = from' m c t (fun _ => 0) r l * slopes m c t r l := by
  rw [outsAt0_A m c t h]
  frame_open
  simp (disch := decide) only [↓ View.readCov_skip, ↓ View.readCov_cons_toLoadRect, ↓ View.readCov_fill]
  frame_out
  exact pay11_apply hr ld_zero r hl hl'

theorem deB (h : ¬ t.val % 16 = 0) (r : Fin 1024) (hl : 16 ≤ (l : ℕ)) (hl' : (l : ℕ) < 24) :
    (outsAt0 m c t.val t.isLt).2.2.2.1 (ix2 r l) = from' m c t (carry m c (t.val - 1) (by omega)) r l * slopes m c t r l := by
  rw [outsAt0_B m c t h]
  frame_open
  simp (disch := decide) only [↓ View.readCov_skip, ↓ View.readCov_cons_toLoadRect, ↓ View.readCov_fill]
  frame_out
  exact pay11_apply hr (fun l => (ld_row _ l).trans (congrFun (Memref.IsWhole.read_unread _ _) _)) r hl hl'

theorem dbA (h : t.val % 16 = 0) (i : Fin 8) (hl : 16 ≤ (l : ℕ)) (hl' : (l : ℕ) < 24) :
    (outsAt0 m c t.val t.isLt).2.2.2.2.1 (ix2 i l) = ∑ n : Fin 128, from' m c t (fun _ => 0) ⟨n * 8 + i, by omega⟩ l * slopes m c t ⟨n * 8 + i, by omega⟩ l := by
  rw [outsAt0_A m c t h]
  frame_open
  simp (disch := decide) only [↓ View.readCov_skip, ↓ View.readCov_cons_toLoadRect, ↓ View.readCov_fill]
  frame_out
  exact (pay1_of hr ld_zero _ i hl hl').trans ((congrArg (· + _) (pay3_apply _)).trans (zero_add _))

theorem dbB (h : ¬ t.val % 16 = 0) (i : Fin 8) (hl : 16 ≤ (l : ℕ)) (hl' : (l : ℕ) < 24) :
    (outsAt0 m c t.val t.isLt).2.2.2.2.1 (ix2 i l) = (outsAt0 m c (t.val - 1) (by omega)).2.2.2.2.1 (ix2 i l) +
      ∑ n : Fin 128, from' m c t (carry m c (t.val - 1) (by omega)) ⟨n * 8 + i, by omega⟩ l * slopes m c t ⟨n * 8 + i, by omega⟩ l := by
  rw [outsAt0_B m c t h]
  frame_open
  simp (disch := decide) only [↓ View.readCov_skip, ↓ View.readCov_cons_toLoadRect, ↓ View.readCov_fill]
  frame_out
  exact pay1_of hr (fun l => (ld_row _ l).trans (congrFun (Memref.IsWhole.read_unread _ _) _)) _ i hl hl'

theorem carryA (h : t.val % 16 = 0) : carry m c t.val t.isLt l = from' m c t (fun _ => 0) 0 l := by
  unfold carry
  rw [outsAt0_A m c t h]
  frame_open
  simp (disch := decide) only [↓ View.readCov_skip, ↓ View.readCov_cons_toLoadRect, ↓ View.readCov_fill]
  frame_out
  exact (pay10_raw _ _ _ _ _).trans (pay9_apply hr ld_zero 0)

theorem carryB (h : ¬ t.val % 16 = 0) : carry m c t.val t.isLt l = from' m c t (carry m c (t.val - 1) (by omega)) 0 l := by
  unfold carry
  rw [outsAt0_B m c t h]
  frame_open
  simp (disch := decide) only [↓ View.readCov_skip, ↓ View.readCov_cons_toLoadRect, ↓ View.readCov_fill]
  frame_out
  exact (pay10_raw _ _ _ _ _).trans (pay9_apply hr (fun l => (ld_row _ l).trans (congrFun (Memref.IsWhole.read_unread _ _) _)) 0)
end sums

end Cert.PostKernelIdeal.Value

end
-- ==== Proof.RunningSum.lean ====
module

public import Idealize.ShloMosaic.Lib.Pipeline.ValueKit
public import Idealize.ShloMosaic.Lib.StableHlo.RunRead

@[expose] public section

set_option maxRecDepth 16384

noncomputable section

/-! Sums of the rows from a row on: tile by tile, and as a window sum. -/

namespace Cert.RunningSum

open Idealize.ShloMosaic

/-- The sum of the entries from `n` on. -/
def from_ (g : Fin 16384 → EReal) (n : ℕ) : EReal := ∑ r : Fin 16384, if n ≤ (r : ℕ) then g r else 0

theorem from_end (g : Fin 16384 → EReal) : from_ g 16384 = 0 :=
  Finset.sum_eq_zero fun r _ => if_neg (not_le.2 r.isLt)

/-- Entry `s` of tile `u`. -/
def at_ (u : Fin 16) (s : Fin 1024) : Fin 16384 := ⟨u * 1024 + s, by omega⟩

/-- The sum from a row of a tile on: the tile's rows from it on, then the tiles after. -/
theorem from_tile (g : Fin 16384 → EReal) (u : Fin 16) (r : Fin 1024) :
    from_ g (u * 1024 + r) = (∑ s : Fin 1024, if r ≤ s then g (at_ u s) else 0) + from_ g ((u + 1) * 1024) := by
  have e : ∀ q : Fin 16384, (if (u * 1024 + r : ℕ) ≤ q then g q else 0) =
      (if (u * 1024 + r : ℕ) ≤ q ∧ (q : ℕ) < (u + 1) * 1024 then g q else 0) + if ((u + 1) * 1024 : ℕ) ≤ q then g q else 0 := by
    intro q
    by_cases h : ((u + 1) * 1024 : ℕ) ≤ q
    · rw [if_pos (by omega), if_neg (by omega), if_pos h, zero_add]
    · rw [if_neg h, add_zero]
      exact if_congr (by omega) rfl rfl
  have K : (∑ q : Fin 16384, if (u * 1024 + r : ℕ) ≤ q ∧ (q : ℕ) < (u + 1) * 1024 then g q else 0) = ∑ s : Fin 1024, if r ≤ s then g (at_ u s) else 0 := by
    have s : ∑ v : Fin 16, ∑ s : Fin 1024, (if (u * 1024 + r : ℕ) ≤ (at_ v s : ℕ) ∧ (at_ v s : ℕ) < (u + 1) * 1024 then g (at_ v s) else 0) =
        ∑ q : Fin 16384, if (u * 1024 + r : ℕ) ≤ q ∧ (q : ℕ) < (u + 1) * 1024 then g q else 0 := Fin.sum_mul_add_congr fun t i h => rfl
    rw [← s, Finset.sum_eq_single u]
    · refine Finset.sum_congr rfl fun s _ => if_congr ?_ rfl rfl
      simp only [at_, Fin.le_def]
      omega
    · intro v _ hv
      refine Finset.sum_eq_zero fun s _ => if_neg ?_
      have : (v : ℕ) ≠ u := fun h => hv (Fin.ext h)
      simp only [at_]
      omega
    · exact fun h => absurd (Finset.mem_univ u) h
  exact (Finset.sum_congr rfl fun q _ => e q).trans (Finset.sum_add_distrib.trans (congrArg (· + from_ g ((u + 1) * 1024)) K))

/-- The same sum over the distance from the row. -/
theorem from_shift (g : Fin 16384 → EReal) (n : Fin 16384) :
    (∑ d : Fin 16384, if h : n.val + d.val < 16384 then g ⟨n.val + d.val, h⟩ else 0) = from_ g n := by
  unfold from_
  rw [← Finset.sum_filter]
  have e : ∀ d : Fin 16384, (if h : n.val + d.val < 16384 then g ⟨n.val + d.val, h⟩ else 0) =
      if n.val + d.val < 16384 then g ⟨(n.val + d.val) % 16384, Nat.mod_lt _ (by norm_num)⟩ else 0 := by
    intro d
    by_cases h : n.val + d.val < 16384
    · rw [dif_pos h, if_pos h]
      exact congrArg g (Fin.ext (Nat.mod_eq_of_lt h).symm)
    · rw [dif_neg h, if_neg h]
  rw [Finset.sum_congr rfl fun d _ => e d, ← Finset.sum_filter]
  refine Finset.sum_bij' (fun d _ => ⟨(n.val + d.val) % 16384, Nat.mod_lt _ (by norm_num)⟩) (fun q _ => ⟨q.val - n.val, by omega⟩) ?_ ?_ ?_ ?_ ?_
  · intro d hd
    rw [Finset.mem_filter] at hd ⊢
    exact ⟨Finset.mem_univ _, by show n.val ≤ (n.val + d.val) % 16384; omega⟩
  · intro q hq
    rw [Finset.mem_filter] at hq ⊢
    exact ⟨Finset.mem_univ _, by show n.val + (q.val - n.val) < 16384; omega⟩
  · intro d hd
    rw [Finset.mem_filter] at hd
    exact Fin.ext (by show (n.val + d.val) % 16384 - n.val = d.val; omega)
  · intro q hq
    rw [Finset.mem_filter] at hq
    exact Fin.ext (by show (n.val + (q.val - n.val)) % 16384 = q.val; omega)
  · exact fun _ _ => rfl

theorem foldl_add {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

abbrev Cols : Shape := ⟨2, ![16384, 8]⟩
abbrev Win : Shape := ⟨2, ![16384, 1]⟩
abbrev Pt : Shape := ⟨0, ![]⟩

/-- A window's entry at distance `p` from the row, and zero past the last row. -/
def term (x : FVec Ideal Cols .f32) (r : Fin 16384) (c : Fin 8) (p : Win.Idx) : EReal :=
  if hin : ∀ a : Fin 2, (![0, 0] : Fin 2 → ℕ) a ≤ ((ix2 r c : Cols.Idx) a).val * (![1, 1] : Fin 2 → ℕ) a + (p a).val ∧
      ((ix2 r c : Cols.Idx) a).val * (![1, 1] : Fin 2 → ℕ) a + (p a).val - (![0, 0] : Fin 2 → ℕ) a < (![16384, 8] : Fin 2 → ℕ) a then
    x (fun a => ⟨((ix2 r c : Cols.Idx) a).val * (![1, 1] : Fin 2 → ℕ) a + (p a).val - (![0, 0] : Fin 2 → ℕ) a, (hin a).2⟩) else 0

theorem term_eq (x : FVec Ideal Cols .f32) (r : Fin 16384) (c : Fin 8) (d : Fin 16384) :
    term x r c (ix2 d 0) = if h : r.val + d.val < 16384 then x (ix2 ⟨r.val + d.val, h⟩ c) else 0 := by
  unfold term
  by_cases h : r.val + d.val < 16384
  · rw [dif_pos h, dif_pos]
    · refine congrArg x ?_
      funext a
      refine Fin.ext ?_
      match a with
      | ⟨0, _⟩ => exact congrArg (· + d.val) (Nat.mul_one r.val)
      | ⟨1, _⟩ => exact Nat.mul_one c.val
    · intro a
      match a with
      | ⟨0, _⟩ => exact ⟨Nat.zero_le _, by show r.val * 1 + d.val - 0 < 16384; omega⟩
      | ⟨1, _⟩ => exact ⟨Nat.zero_le _, by show c.val * 1 + 0 - 0 < 8; omega⟩
  · rw [dif_neg h, dif_neg]
    intro hin
    have := (hin 0).2
    have : r.val * 1 + d.val - 0 < 16384 := this
    omega

/-- The window sum over all rows below, padded with zeros, is the sum from a row on. -/
theorem window (x : FVec Ideal Cols .f32) (v : FVec Ideal Pt .f32) (hv : ∀ i, v i = (0 : EReal)) (h : Cols.ReduceWindows ![16384, 1] ![1, 1] ![0, 0] ![16383, 0] Cols) (hu : 0 < Pt.numel)
    (r : Fin 16384) (c : Fin 8) :
    Host.reduceWindowAdd (F := Ideal) ![16384, 1] ![1, 1] ![0, 0] ![16383, 0] x v h hu (ix2 r c) = from_ (fun q => x (ix2 q c)) r := by
  rw [Host.reduceWindowAdd, Ideal.hostReduceWindowAdd_def]
  unfold Ideal.hostReduceWindowAdd Host.reduceWindow
  dsimp only
  rw [foldl_add, hv, zero_add, ← from_shift]
  refine (Finset.sum_congr rfl fun k _ => ?_).trans ((Equiv.sum_comp Win.rowMajor.symm (term x r c)).trans ?_)
  · unfold term
    exact dite_congr rfl (fun _ => rfl) (fun _ => rfl)
  rw [sum_idx2]
  refine Finset.sum_congr rfl fun d _ => ?_
  rw [Fin.sum_univ_one]
  exact term_eq x r c d

end Cert.RunningSum

end
-- ==== Proof.PostBlock.lean ====
module

public import proofs.«01_k».proof.Proof.PostPoint
public import proofs.«01_k».proof.Proof.RunningSum

@[expose] public section

set_option maxRecDepth 16384

noncomputable section

/-! The blocks of the gates' backward in terms of the arguments. -/

namespace Cert.PostKernelIdeal.Value

open Cert.PostKernelIdeal Cert.PostKernelIdeal.Gen Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The arguments as launched: the projection, the gates' bias, the cotangents of the running sums through queries and keys, the three gradients to turn. -/
abbrev P0 (c : Dev nD) : FVec Ideal S16384x6680 .f32 := m ((c.tc : Thread nD τ).loc main_arg0)
abbrev B0 (c : Dev nD) : FVec Ideal S8 .f32 := m ((c.tc : Thread nD τ).loc main_arg1)
abbrev R0 (c : Dev nD) : FVec Ideal S8x16384 .f32 := m ((c.tc : Thread nD τ).loc main_arg2)
abbrev C0 (c : Dev nD) : FVec Ideal S8x16384 .f32 := m ((c.tc : Thread nD τ).loc main_arg3)
abbrev Q0 (c : Dev nD) : FVec Ideal S512x16384 .f32 := m ((c.tc : Thread nD τ).loc main_arg4)
abbrev K0 (c : Dev nD) : FVec Ideal S512x16384 .f32 := m ((c.tc : Thread nD τ).loc main_arg5)
abbrev U0 (c : Dev nD) : FVec Ideal S512x16384 .f32 := m ((c.tc : Thread nD τ).loc main_arg6)

/-- The running sums' cotangent and the gate. -/
def diff (R C : FVec Ideal S8x16384 .f32) (h : Fin 8) (r : Fin 16384) : EReal := R (ix2 h r) - C (ix2 h r)
def gate (P : FVec Ideal S16384x6680 .f32) (B : FVec Ideal S8 .f32) (h : Fin 8) (r : Fin 16384) : EReal := P (ix2 r ⟨3088 + h, by omega⟩) + B (ix1 h)

/-- The lane of gate `h`. -/
def lane_ (h : Fin 8) : Fin 128 := ⟨16 + h, by omega⟩

theorem idx : ∀ t : Fin cfg0.N, win0_0.index t = ![0, 15 - t.val] ∧ win0_1.index t = ![0, 15 - t.val] ∧ win0_2.index t = ![0, 15 - t.val] ∧ win0_3.index t = ![0, 15 - t.val] ∧
    win0_4.index t = ![0, 15 - t.val] ∧ win0_5.index t = ![15 - t.val, 0] ∧ win0_6.index t = ![0, 0] ∧ win0_7.index t = ![0, 0] ∧ win0_8.index t = ![15 - t.val, 0] ∧
    win0_9.index t = ![15 - t.val, 0] ∧ win0_10.index t = ![15 - t.val, 0] ∧ win0_11.index t = ![15 - t.val, 0] := (by decide +kernel : ∀ t : Fin grid0.N, _)

/-- The tile of a grid point: the last tile first. -/
def tile (t : Fin cfg0.N) : Fin 16 := ⟨15 - t.val, by omega⟩

/-- Row `i` of grid point `t`. -/
def rowAt (t : Fin cfg0.N) (i : Fin 1024) : Fin 16384 := RunningSum.at_ (tile t) i

theorem rowAt_val (t : Fin cfg0.N) (i : Fin 1024) : (rowAt t i : ℕ) = (15 - t.val) * 1024 + i := rfl

/-- The one-hot table of lanes. -/
theorem table : ∀ h l : Fin 8, lit0 (S8x128.rowMajor (ix2 h (lane_ l))) = if h = l then 0x3F800000#32 else 0#32 := by decide +kernel

theorem one : (FloatOps.ofBits .f32 0x3F800000#32 : Ideal .f32) = (1 : EReal) := by
  show Ideal.ofBits .f32 0x3F800000#32 = 1
  simp [Ideal.ofBits, Ideal.ieee]
  rw [← EReal.coe_mul]
  norm_num

section blocks
variable (c : Dev nD) (t : Fin cfg0.N)

theorem blk0 (j : Fin 512) (i : Fin 1024) : (iblk m c 0 t : FVec Ideal S512x1024 .f32) (ix2 j i) = Q0 m c (ix2 j (rowAt t i)) := by
  have e : iblk m c 0 t = fun x => Q0 m c (((cfg0.win 0).blk t).view.emb x) := rfl
  refine (congrFun e _).trans (congrArg _ ?_)
  blk_ext [idx t, rowAt_val]
theorem blk1 (j : Fin 512) (i : Fin 1024) : (iblk m c 1 t : FVec Ideal S512x1024 .bf16) (ix2 j i) = K0 m c (ix2 j (rowAt t i)) := by
  have e : iblk m c 1 t = fun x => K0 m c (((cfg0.win 1).blk t).view.emb x) := rfl
  refine (congrFun e _).trans (congrArg _ ?_)
  blk_ext [idx t, rowAt_val]
theorem blk2 (j : Fin 512) (i : Fin 1024) : (iblk m c 2 t : FVec Ideal S512x1024 .bf16) (ix2 j i) = U0 m c (ix2 j (rowAt t i)) := by
  have e : iblk m c 2 t = fun x => U0 m c (((cfg0.win 2).blk t).view.emb x) := rfl
  refine (congrFun e _).trans (congrArg _ ?_)
  blk_ext [idx t, rowAt_val]
theorem blk3 (h : Fin 8) (i : Fin 1024) : (iblk m c 3 t : FVec Ideal S8x1024 .f32) (ix2 h i) = R0 m c (ix2 h (rowAt t i)) := by
  have e : iblk m c 3 t = fun x => R0 m c (((cfg0.win 3).blk t).view.emb x) := rfl
  refine (congrFun e _).trans (congrArg _ ?_)
  blk_ext [idx t, rowAt_val]
theorem blk4 (h : Fin 8) (i : Fin 1024) : (iblk m c 4 t : FVec Ideal S8x1024 .f32) (ix2 h i) = C0 m c (ix2 h (rowAt t i)) := by
  have e : iblk m c 4 t = fun x => C0 m c (((cfg0.win 4).blk t).view.emb x) := rfl
  refine (congrFun e _).trans (congrArg _ ?_)
  blk_ext [idx t, rowAt_val]

/-- The host's array of small columns, and its row of biases. -/
def small (P : FVec Ideal S16384x6680 .f32) : FVec Ideal S16384x128 .f32 :=
  concatenate S16384x128 1 [⟨S16384x16, extractStridedSlice S16384x16 ![0, 1536] P slices_S16384x6680_S16384x16_0_1536⟩,
    ⟨S16384x8, extractStridedSlice S16384x8 ![0, 3088] P slices_S16384x6680_S16384x8_0_3088⟩,
    ⟨S16384x104, broadcastInDim S16384x104 ![] bcast_S_S16384x104 (constant S_ .f32 0x00000000#32 : FVec Ideal S_ .f32)⟩] concatenates_S16384x16_S16384x8_S16384x104_S16384x128_d1
def bias (B : FVec Ideal S8 .f32) : FVec Ideal S1x128 .f32 :=
  shapeCast S1x128 (concatenate S128 0 [⟨S16, broadcastInDim S16 ![] bcast_S_S16 (constant S_ .f32 0x00000000#32 : FVec Ideal S_ .f32)⟩, ⟨S8, B⟩,
    ⟨S104, broadcastInDim S104 ![] bcast_S_S104 (constant S_ .f32 0x00000000#32 : FVec Ideal S_ .f32)⟩] concatenates_S16_S8_S104_S128_d0) shapeCasts_S128_S1x128

theorem small_apply (P : FVec Ideal S16384x6680 .f32) (r : Fin 16384) (h : Fin 8) : small P (ix2 r (lane_ h)) = P (ix2 r ⟨3088 + h, by omega⟩) := by
  pointwise [small, lane_]
theorem bias_apply (B : FVec Ideal S8 .f32) (h : Fin 8) : bias B (ix2 0 (lane_ h)) = B (ix1 h) := by
  pointwise [bias, lane_]

theorem V_small (c : Dev nD) : V m c main_v9 = small (P0 m c) := by rfl
theorem V_bias (c : Dev nD) : V m c main_v13 = bias (B0 m c) := by rfl

theorem blk5 (i : Fin 1024) (h : Fin 8) : (iblk m c 5 t : FVec Ideal S1024x128 .f32) (ix2 i (lane_ h)) = P0 m c (ix2 (rowAt t i) ⟨3088 + h, by omega⟩) := by
  rw [← small_apply (P0 m c)]
  have e : iblk m c 5 t = fun x => V m c main_v9 (((cfg0.win 5).blk t).view.emb x) := rfl
  refine (congrFun e _).trans ?_
  rw [V_small]
  refine congrArg _ ?_
  blk_ext [idx t, rowAt_val]
theorem blk6 (h : Fin 8) : (iblk m c 6 t : FVec Ideal S1x128 .f32) (ix2 0 (lane_ h)) = B0 m c (ix1 h) := by
  rw [← bias_apply (B0 m c)]
  have e : iblk m c 6 t = fun x => V m c main_v13 (((cfg0.win 6).blk t).view.emb x) := rfl
  refine (congrFun e _).trans ?_
  rw [V_bias]
  refine congrArg _ ?_
  blk_ext [idx t]
theorem blk7 (h l : Fin 8) : (iblk m c 7 t : FVec Ideal S8x128 .f32) (ix2 h (lane_ l)) = if h = l then (1 : EReal) else 0 := by
  have e : iblk m c 7 t = fun x => (FloatOps.ofBits .f32 (lit0 (S8x128.rowMajor (((cfg0.win 7).blk t).view.emb x))) : Ideal .f32) := rfl
  have i : ((cfg0.win 7).blk t).view.emb (ix2 h (lane_ l)) = (ix2 h (lane_ l) : S8x128.Idx) := by blk_ext [idx t]
  refine (congrFun e _).trans ?_
  rw [i, table]
  by_cases q : h = l
  · rw [if_pos q, if_pos q]
    exact one
  · rw [if_neg q, if_neg q]
    exact Ideal.ofBits_zero .f32

theorem lane_of {R C : FVec Ideal S8x1024 .f32} {T : FVec Ideal S8x128 .f32} {s : Fin 1024} {h : Fin 8} {x : EReal} (hT : ∀ k, T (ix2 k (lane_ h)) = if k = h then (1 : EReal) else 0)
    (hx : R (ix2 h s) - C (ix2 h s) = x) : lane R C T s (lane_ h) = x := by
  unfold lane
  simp only [hT, mul_ite, mul_one, mul_zero]
  rw [Finset.sum_ite_eq' Finset.univ h, if_pos (Finset.mem_univ _), hx]

theorem lanes_eq (s : Fin 1024) (h : Fin 8) : lanes m c t s (lane_ h) = diff (R0 m c) (C0 m c) h (rowAt t s) :=
  lane_of (fun k => blk7 m c t k h) (congrArg₂ (· - ·) (blk3 m c t h s) (blk4 m c t h s))

theorem slopes_eq (i : Fin 1024) (h : Fin 8) : slopes m c t i (lane_ h) = slope (gate (P0 m c) (B0 m c) h (rowAt t i)) :=
  congrArg slope (congrArg₂ (· + ·) (blk5 m c t i h) (blk6 m c t h))

theorem from_eq (a : Fin 128 → EReal) (r : Fin 1024) (h : Fin 8) (ha : a (lane_ h) = RunningSum.from_ (diff (R0 m c) (C0 m c) h) ((15 - t.val + 1) * 1024)) :
    from' m c t a r (lane_ h) = RunningSum.from_ (diff (R0 m c) (C0 m c) h) (rowAt t r) := by
  refine Eq.trans ?_ (RunningSum.from_tile _ (tile t) r).symm
  exact congrArg₂ (· + ·) (Finset.sum_congr rfl fun s _ => if_congr Iff.rfl (lanes_eq m c t s h) rfl) ha
end blocks

end Cert.PostKernelIdeal.Value

end
-- ==== Proof.PostArray.lean ====
module

public import proofs.«01_k».proof.Proof.PostBlock
public import Idealize.ShloMosaic.Lib.StableHlo.RunRead

@[expose] public section

set_option maxRecDepth 16384

noncomputable section

/-! The arrays that the gates' backward leaves, and the results after the host's last lines. -/

namespace Cert.PostKernelIdeal.Value

open Cert.PostKernelIdeal Cert.PostKernelIdeal.Gen Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The gradient of gate `h` in row `r`. -/
def dgate (P : FVec Ideal S16384x6680 .f32) (B : FVec Ideal S8 .f32) (R C : FVec Ideal S8x16384 .f32) (h : Fin 8) (r : Fin 16384) : EReal :=
  RunningSum.from_ (diff R C h) r * slope (gate P B h r)

theorem N16 : cfg0.N = 16 := N_0

section sums
variable (c : Dev nD) (hr : ∀ (h : Fin 8) (r : Fin 16384), ∃ a : ℝ, diff (R0 m c) (C0 m c) h r = a)
include hr

theorem lanes_real (t : Fin cfg0.N) (h : Fin 8) (s : Fin 1024) : ∃ a : ℝ, lanes m c t s (lane_ h) = a := by
  rw [lanes_eq]
  exact hr h _

/-- What the tiles up to a grid point's carry: the sum from the tile's first row on. -/
theorem carry_eq (h : Fin 8) : ∀ (n : ℕ) (hn : n < cfg0.N), carry m c n hn (lane_ h) = RunningSum.from_ (diff (R0 m c) (C0 m c) h) ((15 - n) * 1024) := by
  intro n
  induction n with
  | zero =>
    intro hn
    refine (carryA m c ⟨0, hn⟩ (lane_ h) (lanes_real m c hr _ h) rfl).trans ?_
    exact from_eq m c ⟨0, hn⟩ _ 0 h (RunningSum.from_end _).symm
  | succ n ih =>
    intro hn
    have h16 : n + 1 < 16 := lt_of_lt_of_eq hn N16
    refine (carryB m c ⟨n + 1, hn⟩ (lane_ h) (lanes_real m c hr _ h) (by show ¬ (n + 1) % 16 = 0; omega)).trans ?_
    refine from_eq m c ⟨n + 1, hn⟩ _ 0 h ((ih (by omega)).trans ?_)
    exact congrArg (RunningSum.from_ _) (by show (15 - n) * 1024 = (15 - (n + 1) + 1) * 1024; omega)

theorem before_eq (h : Fin 8) (t : Fin cfg0.N) (ht : ¬ t.val % 16 = 0) :
    carry m c (t.val - 1) (by omega) (lane_ h) = RunningSum.from_ (diff (R0 m c) (C0 m c) h) ((15 - t.val + 1) * 1024) := by
  have h16 : t.val < 16 := lt_of_lt_of_eq t.isLt N16
  refine (carry_eq m c hr h _ _).trans (congrArg (RunningSum.from_ _) ?_)
  omega

theorem zero_eq (h : Fin 8) (t : Fin cfg0.N) (ht : t.val % 16 = 0) :
    (0 : EReal) = RunningSum.from_ (diff (R0 m c) (C0 m c) h) ((15 - t.val + 1) * 1024) := by
  have h16 : t.val < 16 := lt_of_lt_of_eq t.isLt N16
  have h0 : (15 - t.val + 1) * 1024 = 16384 := by omega
  rw [h0, RunningSum.from_end]

theorem de_at (t : Fin cfg0.N) (i : Fin 1024) (h : Fin 8) :
    (outsAt0 m c t.val t.isLt).2.2.2.1 (ix2 i (lane_ h)) = dgate (P0 m c) (B0 m c) (R0 m c) (C0 m c) h (rowAt t i) := by
  have l1 : 16 ≤ (lane_ h : ℕ) := by show 16 ≤ 16 + (h : ℕ); omega
  have l2 : (lane_ h : ℕ) < 24 := by show 16 + (h : ℕ) < 24; omega
  by_cases ht : t.val % 16 = 0
  · exact (deA m c t (lane_ h) (lanes_real m c hr t h) ht i l1 l2).trans (congrArg₂ (· * ·) (from_eq m c t _ i h (zero_eq m c hr h t ht)) (slopes_eq m c t i h))
  · exact (deB m c t (lane_ h) (lanes_real m c hr t h) ht i l1 l2).trans (congrArg₂ (· * ·) (from_eq m c t _ i h (before_eq m c hr h t ht)) (slopes_eq m c t i h))

theorem db_at (t : Fin cfg0.N) (i : Fin 8) (h : Fin 8) : (outsAt0 m c t.val t.isLt).2.2.2.2.1 (ix2 i (lane_ h)) =
    ∑ p : Fin (t.val + 1), ∑ n : Fin 128, dgate (P0 m c) (B0 m c) (R0 m c) (C0 m c) h (rowAt ⟨p, by omega⟩ ⟨n * 8 + i, by omega⟩) := by
  have l1 : 16 ≤ (lane_ h : ℕ) := by show 16 ≤ 16 + (h : ℕ); omega
  have l2 : (lane_ h : ℕ) < 24 := by show 16 + (h : ℕ) < 24; omega
  obtain ⟨n, hn⟩ := t
  have h16 : n < 16 := lt_of_lt_of_eq hn N16
  dsimp only
  induction n with
  | zero =>
    refine (dbA m c ⟨0, hn⟩ (lane_ h) (lanes_real m c hr _ h) rfl i l1 l2).trans ?_
    rw [Fin.sum_univ_one]
    exact Finset.sum_congr rfl fun k _ => congrArg₂ (· * ·) (from_eq m c ⟨0, hn⟩ _ _ h (zero_eq m c hr h ⟨0, hn⟩ rfl)) (slopes_eq m c ⟨0, hn⟩ _ h)
  | succ n ih =>
    have ht : ¬ (n + 1) % 16 = 0 := by omega
    refine (dbB m c ⟨n + 1, hn⟩ (lane_ h) (lanes_real m c hr _ h) ht i l1 l2).trans ?_
    refine Eq.trans ?_ (Fin.sum_univ_castSucc _).symm
    refine congrArg₂ (· + ·) (ih (by omega) (by omega)) ?_
    exact Finset.sum_congr rfl fun k _ => congrArg₂ (· * ·) (from_eq m c ⟨n + 1, hn⟩ _ _ h (before_eq m c hr h ⟨n + 1, hn⟩ ht)) (slopes_eq m c ⟨n + 1, hn⟩ _ h)
end sums

/-- The last grid point. -/
def tlast : Fin cfg0.N := ⟨15, (lt_of_lt_of_eq (by norm_num) N16.symm : 15 < cfg0.N)⟩

/-- The grid point and the place in its tile of a row. -/
def tOf (r : Fin 16384) : Fin cfg0.N := ⟨15 - r.val / 1024, lt_of_lt_of_eq (by omega) N16.symm⟩
def iOf (r : Fin 16384) : Fin 1024 := ⟨r.val % 1024, Nat.mod_lt _ (by norm_num)⟩

theorem rowAt_of (r : Fin 16384) : rowAt (tOf r) (iOf r) = r := Fin.ext (by
  show (15 - (15 - r.val / 1024)) * 1024 + r.val % 1024 = r.val
  omega)
theorem tOf_at (t : Fin cfg0.N) (i : Fin 1024) : tOf (rowAt t i) = t := Fin.ext (by
  have h16 : t.val < 16 := lt_of_lt_of_eq t.isLt N16
  show 15 - ((15 - t.val) * 1024 + i.val) / 1024 = t.val
  omega)
theorem iOf_at (t : Fin cfg0.N) (i : Fin 1024) : iOf (rowAt t i) = i := Fin.ext (by
  show ((15 - t.val) * 1024 + i.val) % 1024 = i.val
  omega)

/-- A gradient turned and cast. -/
def turn (X : FVec Ideal S512x16384 .f32) : FVec Ideal S16384x512 .bf16 := fun z => X (ix2 (z 1) (z 0))

/-- The arrays after the grid that the host reads on. -/
def fin11 (c : Dev nD) : FVec Ideal S16384x128 .f32 := fun z => (outsAt0 m c (tOf (z 0)).val (tOf (z 0)).isLt).2.2.2.1 (ix2 (iOf (z 0)) (z 1))
def fin12 (c : Dev nD) : FVec Ideal S8x128 .f32 := (outsAt0 m c tlast.val tlast.isLt).2.2.2.2.1

section arrays
variable (c : Dev nD)

theorem dq_at (t : Fin cfg0.N) (i : Fin 1024) (j : Fin 512) : (outsAt0 m c t.val t.isLt).1 (ix2 i j) = turn (Q0 m c) (ix2 (rowAt t i) j) := by
  refine Eq.trans ?_ (blk0 m c t j i)
  by_cases h : t.val % 16 = 0
  · exact dqA m c t i j h
  · exact dqB m c t i j h
theorem dk_at (t : Fin cfg0.N) (i : Fin 1024) (j : Fin 512) : (outsAt0 m c t.val t.isLt).2.1 (ix2 i j) = turn (K0 m c) (ix2 (rowAt t i) j) := by
  refine Eq.trans ?_ (blk1 m c t j i)
  by_cases h : t.val % 16 = 0
  · exact dkA m c t i j h
  · exact dkB m c t i j h
theorem dv_at (t : Fin cfg0.N) (i : Fin 1024) (j : Fin 512) : (outsAt0 m c t.val t.isLt).2.2.1 (ix2 i j) = turn (U0 m c) (ix2 (rowAt t i) j) := by
  refine Eq.trans ?_ (blk2 m c t j i)
  by_cases h : t.val % 16 = 0
  · exact dvA m c t i j h
  · exact dvB m c t i j h

theorem emb8 (t : Fin cfg0.N) (i : Fin 1024) (j : Fin 512) : ((cfg0.win 8).blk t).view.emb (ix2 i j) = (ix2 (rowAt t i) j : S16384x512.Idx) := by
  blk_ext [idx t, rowAt_val]
theorem emb9 (t : Fin cfg0.N) (i : Fin 1024) (j : Fin 512) : ((cfg0.win 9).blk t).view.emb (ix2 i j) = (ix2 (rowAt t i) j : S16384x512.Idx) := by
  blk_ext [idx t, rowAt_val]
theorem emb10 (t : Fin cfg0.N) (i : Fin 1024) (j : Fin 512) : ((cfg0.win 10).blk t).view.emb (ix2 i j) = (ix2 (rowAt t i) j : S16384x512.Idx) := by
  blk_ext [idx t, rowAt_val]
theorem emb11 (t : Fin cfg0.N) (i : Fin 1024) (j : Fin 128) : ((cfg0.win 11).blk t).view.emb (ix2 i j) = (ix2 (rowAt t i) j : S16384x128.Idx) := by
  blk_ext [idx t, rowAt_val]

theorem final8 : (dats m 0 c).arrAt 8 cfg0.N = turn (Q0 m c) := by
  refine (dats m 0 c).arrAt_eq_of_covers 8 _ (by decide +kernel) fun t _ y => ?_
  blk_simp
  rw [after0_8]
  have ey : y = (ix2 (y 0) (y 1) : S1024x512.Idx) := by blk_ext
  rw [ey]
  exact (dq_at m c t (y 0) (y 1)).trans (congrArg (turn (Q0 m c)) (emb8 t (y 0) (y 1))).symm

theorem final9 : (dats m 0 c).arrAt 9 cfg0.N = turn (K0 m c) := by
  refine (dats m 0 c).arrAt_eq_of_covers 9 _ (by decide +kernel) fun t _ y => ?_
  blk_simp
  rw [after0_9]
  have ey : y = (ix2 (y 0) (y 1) : S1024x512.Idx) := by blk_ext
  rw [ey]
  exact (dk_at m c t (y 0) (y 1)).trans (congrArg (turn (K0 m c)) (emb9 t (y 0) (y 1))).symm

theorem final10 : (dats m 0 c).arrAt 10 cfg0.N = turn (U0 m c) := by
  refine (dats m 0 c).arrAt_eq_of_covers 10 _ (by decide +kernel) fun t _ y => ?_
  blk_simp
  rw [after0_10]
  have ey : y = (ix2 (y 0) (y 1) : S1024x512.Idx) := by blk_ext
  rw [ey]
  exact (dv_at m c t (y 0) (y 1)).trans (congrArg (turn (U0 m c)) (emb10 t (y 0) (y 1))).symm

theorem fin11_at (t : Fin cfg0.N) (i : Fin 1024) (j : Fin 128) : fin11 m c (ix2 (rowAt t i) j) = (outsAt0 m c t.val t.isLt).2.2.2.1 (ix2 i j) := by
  show (outsAt0 m c (tOf (rowAt t i)).val (tOf (rowAt t i)).isLt).2.2.2.1 (ix2 (iOf (rowAt t i)) j) = _
  rw [iOf_at]
  have e : ∀ u : Fin cfg0.N, u = t → (outsAt0 m c u.val u.isLt).2.2.2.1 (ix2 i j) = (outsAt0 m c t.val t.isLt).2.2.2.1 (ix2 i j) := fun u h => by rw [h]
  exact e _ (tOf_at t i)

theorem final11 : (dats m 0 c).arrAt 11 cfg0.N = fin11 m c := by
  refine (dats m 0 c).arrAt_eq_of_covers 11 _ (by decide +kernel) fun t _ y => ?_
  blk_simp
  rw [after0_11]
  have ey : y = (ix2 (y 0) (y 1) : S1024x128.Idx) := by blk_ext
  rw [ey]
  exact (fin11_at m c t (y 0) (y 1)).symm.trans (congrArg (fin11 m c) (emb11 t (y 0) (y 1))).symm

theorem final12 : (dats m 0 c).arrAt 12 cfg0.N = fin12 m c := by
  refine (dats m 0 c).arrAt_eq_of_after_last 12 tlast (by decide +kernel) _ fun j => ?_
  blk_simp
  rw [after0_12]
  rfl
end arrays

/-- The gates' columns of the row gradient, and the bias's gradient after the host's sum over the eight rows. -/
def gates (c : Dev nD) : FVec Ideal S16384x8 .f32 := extractStridedSlice S16384x8 ![0, 16] (fin11 m c) slices_S16384x128_S16384x8_0_16
def biasGrad (c : Dev nD) : FVec Ideal S8 .f32 :=
  extractStridedSlice S8 ![16] (Host.reduceAdd (fin12 m c) (constant S_ .f32 0x00000000#32 : FVec Ideal S_ .f32) reducesTo_S8x128_S128_d0 h_S_ : FVec Ideal S128 .f32) slices_S128_S8_16

section results
variable (c : Dev nD) (hr : ∀ (h : Fin 8) (r : Fin 16384), ∃ a : ℝ, diff (R0 m c) (C0 m c) h r = a)
include hr

theorem gates_apply (r : Fin 16384) (h : Fin 8) : gates m c (ix2 r h) = dgate (P0 m c) (B0 m c) (R0 m c) (C0 m c) h r := by
  have e : gates m c (ix2 r h) = fin11 m c (ix2 r (lane_ h)) := by pointwise [gates, lane_]
  rw [e]
  have q := de_at m c hr (tOf r) (iOf r) h
  rw [rowAt_of] at q
  exact q

theorem sum_tiles (f : Fin 16384 → EReal) : ∑ t : Fin (15 + 1), ∑ i : Fin 1024, f (rowAt ⟨t, lt_of_lt_of_eq t.isLt N16.symm⟩ i) = ∑ r : Fin 16384, f r := by
  have e : ∑ u : Fin 16, ∑ i : Fin 1024, f (RunningSum.at_ u i) = ∑ r : Fin 16384, f r := Fin.sum_mul_add_congr fun t i h => rfl
  rw [← e, ← Equiv.sum_comp Fin.revPerm]
  refine Finset.sum_congr rfl fun t _ => Finset.sum_congr rfl fun i _ => congrArg f (Fin.ext ?_)
  show (15 - (16 - (t.val + 1))) * 1024 + i.val = t.val * 1024 + i.val
  omega

theorem biasGrad_apply (h : Fin 8) : biasGrad m c (ix1 h) = ∑ r : Fin 16384, dgate (P0 m c) (B0 m c) (R0 m c) (C0 m c) h r := by
  have e : biasGrad m c (ix1 h) = ∑ i : Fin 8, fin12 m c (ix2 i (lane_ h)) := by pointwise [biasGrad, lane_]
  rw [e, ← sum_tiles m c hr]
  refine (Finset.sum_congr rfl fun i _ => db_at m c hr tlast i h).trans ?_
  rw [Finset.sum_comm]
  refine Finset.sum_congr rfl fun t _ => ?_
  rw [Finset.sum_comm]
  exact Fin.sum_mul_add_congr fun k i h => rfl
end results

theorem tail17 (c : Dev nD) : Pipeline.afterTail₀ cfgs (dats m) 0 (Gen.V0 m) [hostOps1] c main_v17 = gates m c := by
  have e := Pipeline.withArrays_arr (cfgs 0).spec launch0.win.arr_inj c (Gen.V0 m c) (fun w => (dats m 0 c).arrAt w (cfgs 0).N) 11
  unfold Pipeline.afterTail₀
  show StableHlo.after (List.flatten [hostOps1]) _ (Proc.devRef .tc main_v17) = _
  simp only [List.flatten_cons, List.flatten_nil, List.append_nil, hostOps1]
  after_reads_simp
  exact congrArg (fun x : FVec Ideal S16384x128 .f32 => (extractStridedSlice S16384x8 ![0, 16] x slices_S16384x128_S16384x8_0_16 : FVec Ideal S16384x8 .f32)) (e.trans (final11 m c))

theorem tail19 (c : Dev nD) : Pipeline.afterTail₀ cfgs (dats m) 0 (Gen.V0 m) [hostOps1] c main_v19 = biasGrad m c := by
  have e := Pipeline.withArrays_arr (cfgs 0).spec launch0.win.arr_inj c (Gen.V0 m c) (fun w => (dats m 0 c).arrAt w (cfgs 0).N) 12
  unfold Pipeline.afterTail₀
  show StableHlo.after (List.flatten [hostOps1]) _ (Proc.devRef .tc main_v19) = _
  simp only [List.flatten_cons, List.flatten_nil, List.append_nil, hostOps1]
  after_reads_simp
  have q : Pipeline.withArrays (cfgs 0).spec c (Gen.V0 m c) (fun w => (dats m 0 c).arrAt w (cfgs 0).N) (Proc.tc.devRef main_v16_4) = fin12 m c := e.trans (final12 m c)
  rw [q]
  rfl

/-- The five results of the run. -/
theorem run_results (ρ : Dev nD → PrngReg) : θ_run defs (onTc (τ := τ) (main (F := Ideal))) ⟨m, fun _ => 0, ρ⟩ (fun r => ∀ c : Dev nD,
      r.2.mem ((c.tc : Thread nD τ).loc main_v16_0) = turn (Q0 m c)
      ∧ r.2.mem ((c.tc : Thread nD τ).loc main_v16_1) = turn (K0 m c)
      ∧ r.2.mem ((c.tc : Thread nD τ).loc main_v16_2) = turn (U0 m c)
      ∧ r.2.mem ((c.tc : Thread nD τ).loc main_v17) = gates m c
      ∧ r.2.mem ((c.tc : Thread nD τ).loc main_v19) = biasGrad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h1 := run_main_quiescent m ρ
  have h2 := frame m ρ
  refine (θ_run defs _ _).mono (fun r h c => ?_) (θ_run_and h1 h2)
  obtain ⟨⟨hp, -⟩, hf, -⟩ := h
  obtain ⟨hw, hr⟩ := hp c
  exact ⟨(hw 8).trans (final8 m c), (hw 9).trans (final9 m c), (hw 10).trans (final10 m c), (hr main_v17 (by decide)).trans (tail17 m c),
    (hr main_v19 (by decide)).trans (tail19 m c), hf c⟩

end Cert.PostKernelIdeal.Value

end
-- ==== Proof.PostReference.lean ====
module

public import proofs.«01_k».proof.Proof.Gen.PostReferenceIdeal.Read
public import proofs.«01_k».proof.Proof.PostArray
public import proofs.«01_k».proof.Proof.Softmax
public import proofs.«01_k».proof.Pre_post_finite
public import Idealize.ShloMosaic.Lib.ReduceAll

@[expose] public section

set_option maxRecDepth 16384

noncomputable section

/-! The plain reverse pass of log-sigmoid and of the running sum, read entry by entry, and its equality with the kernel's gradients. -/

namespace Cert.PostReferenceIdeal.Read

open Cert.PostReferenceIdeal Cert.PostReferenceIdeal.Gen Idealize.ShloMosaic Idealize.ShloMosaic.TcCoe
open Cert.PostKernelIdeal.Value (diff gate slope dgate turn)

/-- The softplus, an infinity dropped, and the reverse pass's derivative of the softplus. -/
def softplus (x : EReal) : EReal := max x 0 + Ideal.log1p (Ideal.exp (-max x (-x)))
def drop (y : EReal) : EReal := Scalar.select (Ideal.cmp .oeq y ⊤) 0 y
def up (x : EReal) : EReal := Ideal.exp (drop x - drop (softplus x))

theorem half : (Ideal.ofBits .f32 0x3F000000#32 : EReal) = ((1 / 2 : ℝ) : EReal) := by
  simp [Ideal.ofBits, Ideal.ieee]
  rw [← EReal.coe_mul]
  norm_num

theorem drop_top : drop ⊤ = 0 := by simp [drop, Ideal.cmp, Scalar.select]
theorem drop_real (a : ℝ) : drop a = a := by simp [drop, Ideal.cmp, Scalar.select]
theorem drop_bot : drop ⊥ = ⊥ := by simp [drop, Ideal.cmp, Scalar.select]

theorem log1p_exp_bot : Ideal.log1p (Ideal.exp ⊥) = 0 := by
  have e : Ideal.exp ⊥ = 0 := rfl
  rw [e, Ideal.log1p, add_zero, ← EReal.coe_one, Ideal.log_coe, if_neg (by norm_num), Real.log_one]
  rfl
theorem softplus_top : softplus ⊤ = ⊤ := by
  unfold softplus
  rw [max_eq_left (le_top : (-⊤ : EReal) ≤ ⊤), EReal.neg_top, log1p_exp_bot, max_eq_left le_top, add_zero]
theorem softplus_bot : softplus ⊥ = 0 := by
  unfold softplus
  rw [max_eq_right (bot_le : (⊥ : EReal) ≤ -⊥), EReal.neg_bot, EReal.neg_top, log1p_exp_bot, max_eq_right bot_le, add_zero]
theorem softplus_real (a : ℝ) : softplus a = ((max a 0 + Real.log (1 + Real.exp (-max a (-a))) : ℝ) : EReal) := by
  have h0 : max (a : EReal) 0 = ((max a 0 : ℝ) : EReal) := (EReal.coe_strictMono.monotone.map_max (a := a) (b := 0)).symm
  have h1 : max (a : EReal) (-a) = ((max a (-a) : ℝ) : EReal) := (EReal.coe_strictMono.monotone.map_max (a := a) (b := -a)).symm
  have hp : ¬ 1 + Real.exp (-max a (-a)) ≤ 0 := not_le.2 (by positivity)
  unfold softplus
  rw [h0, h1, ← EReal.coe_neg, Ideal.exp_coe, Ideal.log1p, ← EReal.coe_one, ← EReal.coe_add, Ideal.log_coe, if_neg hp, EReal.coe_add]

/-- The two spellings of the logistic of a real number. -/
theorem logistic (a : ℝ) : Real.exp (a - (max a 0 + Real.log (1 + Real.exp (-max a (-a))))) = 1 / 2 * Real.tanh (1 / 2 * a) + 1 / 2 := by
  have e : max a 0 + Real.log (1 + Real.exp (-max a (-a))) = Real.log (1 + Real.exp a) := by
    rcases le_total 0 a with h | h
    · rw [max_eq_left h, max_eq_left (by linarith)]
      have : 1 + Real.exp a = Real.exp a * (1 + Real.exp (-a)) := by rw [mul_add, ← Real.exp_add, mul_one, add_neg_cancel, Real.exp_zero, add_comm]
      rw [this, Real.log_mul (Real.exp_pos a).ne' (by positivity), Real.log_exp]
    · rw [max_eq_right h, max_eq_right (by linarith), neg_neg, zero_add]
  rw [e, Real.exp_sub, Real.exp_log (by positivity), Real.tanh_eq_sinh_div_cosh, Real.sinh_eq, Real.cosh_eq]
  have d : Real.exp a = Real.exp (1 / 2 * a) * Real.exp (1 / 2 * a) := by rw [← Real.exp_add]; congr 1; ring
  have n : Real.exp (-(1 / 2 * a)) = (Real.exp (1 / 2 * a))⁻¹ := Real.exp_neg _
  rw [d, n]
  have p : Real.exp (1 / 2 * a) ≠ 0 := (Real.exp_pos _).ne'
  generalize Real.exp (1 / 2 * a) = u at p
  have q : 1 + u * u ≠ 0 := ne_of_gt (by nlinarith [mul_self_nonneg u])
  have q' : u + u⁻¹ ≠ 0 := by
    intro h
    apply q
    have : u * (u + u⁻¹) = 0 := by rw [h, mul_zero]
    rw [mul_add, mul_inv_cancel₀ p] at this
    linarith
  field_simp
  ring

/-- The derivative of the softplus at the negated gate is the kernel's slope, for every extended real. -/
theorem up_neg (z : EReal) : up (-z) = slope z := by
  unfold Cert.PostKernelIdeal.Value.slope up
  rw [half]
  induction z using EReal.rec with
  | bot =>
    rw [EReal.neg_bot, drop_top, softplus_top, drop_top]
    have h : ((1 / 2 : ℝ) : EReal) * (0 - ⊥) = ⊤ := by
      rw [sub_eq_add_neg, EReal.neg_bot, zero_add]
      exact EReal.coe_mul_top_of_pos (by norm_num)
    rw [h, sub_zero]
    show Ideal.exp ((0 : ℝ) : EReal) = ((1 / 2 : ℝ) : EReal) * 1 + ((1 / 2 : ℝ) : EReal)
    rw [Ideal.exp_coe, mul_one, ← EReal.coe_add]
    norm_num
  | top =>
    rw [EReal.neg_top, drop_bot, softplus_bot]
    have h : ((1 / 2 : ℝ) : EReal) * (0 - ⊤) = ⊥ := by
      rw [sub_eq_add_neg, EReal.neg_top, zero_add]
      exact EReal.coe_mul_bot_of_pos (by norm_num)
    have z : drop 0 = 0 := drop_real 0
    rw [h, z, sub_zero]
    show (0 : EReal) = ((1 / 2 : ℝ) : EReal) * (-1) + ((1 / 2 : ℝ) : EReal)
    have e : (-1 : EReal) = ((-1 : ℝ) : EReal) := by norm_num
    rw [e, ← EReal.coe_mul, ← EReal.coe_add]
    norm_num
  | coe a =>
    have h : ((1 / 2 : ℝ) : EReal) * (0 - a) = ((1 / 2 * -a : ℝ) : EReal) := by
      rw [zero_sub, ← EReal.coe_neg, ← EReal.coe_mul]
    rw [h, ← EReal.coe_neg, drop_real, softplus_real, drop_real, ← EReal.coe_sub, Ideal.exp_coe, logistic]
    show _ = ((1 / 2 : ℝ) : EReal) * (Real.tanh (1 / 2 * -a) : EReal) + ((1 / 2 : ℝ) : EReal)
    rw [← EReal.coe_mul, ← EReal.coe_add]

variable (x0 : FVec Ideal S16384x6680 .f32) (x1 : FVec Ideal S8 .f32) (x2 x3 : FVec Ideal S8x16384 .f32)

theorem call0_v0 (r : Fin 16384) (h : Fin 8) : val_main_call0_v0 (F := Ideal) x0 x1 (ix2 r h) = -gate x0 x1 h r := by
  pointwise [val_main_call0_v0, val_main_v13, val_main_v12, val_main_v11, val_main_v8, gate]

theorem soft (r : Fin 16384) (h : Fin 8) : val_main_call0_v1_0 (F := Ideal) x0 x1 (ix2 r h) = softplus (-gate x0 x1 h r) := by
  pointwise [val_main_call0_v1_0, val_main_call0_call0_v11, val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1, val_main_call0_call0_v0, val_main_call0_call0_cst, call0_v0, softplus]
  rw [if_neg (fun h => h rfl)]
  rfl

theorem v14 (r : Fin 16384) (h : Fin 8) : val_main_v14_1 (F := Ideal) x0 x1 (ix2 r h) = slope (gate x0 x1 h r) := by
  rw [← up_neg]
  pointwise [val_main_v14_1, val_main_call0_call0_v21, val_main_call0_call0_v20, val_main_call0_call0_v19, val_main_call0_call0_cst_3, val_main_call0_call0_v18, val_main_call0_call0_v17, val_main_call0_call0_cst_2,
    val_main_call0_call0_v16, val_main_call0_call0_v15, val_main_call0_call0_cst_1, val_main_call0_call0_v14, val_main_call0_call0_v13, val_main_call0_call0_cst_0, call0_v0, soft, up, drop]
  rw [show (Ideal.ofBits .f32 2139095040#32 : EReal) = ⊤ from Softmax.ofBits_top]

theorem v18 (r : Fin 16384) (h : Fin 8) : val_main_v18 (F := Ideal) x2 x3 (ix2 r h) = RunningSum.from_ (diff x2 x3 h) r := by
  unfold val_main_v18
  refine (RunningSum.window _ _ (fun i => ?_) _ _ r h).trans (congrArg (fun g => RunningSum.from_ g (r : ℕ)) (funext fun q => ?_))
  · pointwise [val_main_call2_call0_v0, val_main_call2_call0_cst]
  · pointwise [val_main_v17, val_main_v16, diff]

theorem v19 (r : Fin 16384) (h : Fin 8) : val_main_v19 (F := Ideal) x0 x1 x2 x3 (ix2 r h) = dgate x0 x1 x2 x3 h r := by
  pointwise [val_main_v19, val_main_call3_v1, val_main_call3_v0, v14, v18, dgate]
  rw [EReal.neg_mul, neg_neg]

theorem v22 (h : Fin 8) : val_main_v22 (F := Ideal) x0 x1 x2 x3 (ix1 h) = ∑ r : Fin 16384, dgate x0 x1 x2 x3 h r := by
  pointwise [val_main_v22, val_main_cst_0, val_main_v21, val_main_v20, val_main_cst, v19]
  exact Fin.sum_univ_one _

theorem turned (x : FVec Ideal S512x16384 .f32) :
    (truncf .bf16 (transpose S16384x512 [1, 0] x transposes_S512x16384_S16384x512_1_0) bitsLt_bf16_f32 : FVec Ideal S16384x512 .bf16) = turn x := by
  funext z
  rw [show z = ix2 (z 0) (z 1) by blk_ext]
  pointwise [turn]

instance : Subsingleton Cert.Pre_post_finite.S_.Idx := ⟨fun a b => funext fun i => i.elim0⟩

/-- The precondition read: the running sums' cotangents are finite, and so is their difference. -/
theorem finite_of (hP : Cert.Pre_post_finite.Facts) {x4 x5 x6 : FVec Ideal S512x16384 .f32} (h : Cert.Pre_post_finite.fn (F := Ideal) x0 x1 x2 x3 x4 x5 x6 = fun _ => 1#1)
    (g : Fin 8) (r : Fin 16384) : ∃ a : ℝ, diff x2 x3 g r = a := by
  have e := congrFun h (fun a => a.elim0)
  dsimp only [Cert.Pre_post_finite.fn] at e
  obtain ⟨e1, e2⟩ := IntOp.andi_eq_one.1 e
  obtain ⟨a, ha⟩ := Softmax.real_of_olt Softmax.ofBits_top (Host.reduce_andi_all _ _ _ _ _ e1 (ix2 g r))
  obtain ⟨b, hb⟩ := Softmax.real_of_olt Softmax.ofBits_top (Host.reduce_andi_all _ _ _ _ _ e2 (ix2 g r))
  exact ⟨a - b, (congrArg₂ (· - ·) ha hb).trans (EReal.coe_sub a b).symm⟩

section equal
variable (m : (ℓ : Loc Cert.PostKernelIdeal.nD Cert.PostKernelIdeal.τ Cert.PostKernelIdeal.sig) → Buf (Elt Ideal) ℓ) (c : Dev Cert.PostKernelIdeal.nD)
open Cert.PostKernelIdeal.Value (P0 B0 R0 C0 gates biasGrad gates_apply biasGrad_apply)

theorem gates_eq (hr : ∀ (h : Fin 8) (r : Fin 16384), ∃ a : ℝ, diff (R0 m c) (C0 m c) h r = a) :
    val_main_v19 (F := Ideal) (P0 m c) (B0 m c) (R0 m c) (C0 m c) = gates m c := by
  funext z
  rw [show z = ix2 (z 0) (z 1) by blk_ext]
  exact (v19 _ _ _ _ _ _).trans (gates_apply m c hr _ _).symm

theorem bias_eq (hr : ∀ (h : Fin 8) (r : Fin 16384), ∃ a : ℝ, diff (R0 m c) (C0 m c) h r = a) :
    val_main_v22 (F := Ideal) (P0 m c) (B0 m c) (R0 m c) (C0 m c) = biasGrad m c := by
  funext z
  rw [show z = ix1 (z 0) by blk_ext]
  exact (v22 _ _ _ _ _).trans (biasGrad_apply m c hr _).symm
end equal

end Cert.PostReferenceIdeal.Read

end
-- ==== Proof.FirstPoint.lean ====
module

public import proofs.«01_k».proof.Proof.Gen.FirstKernelIdeal.Frame
public import proofs.«01_k».proof.Proof.RowNorm
public import Idealize.ShloMosaic.Lib.Pipeline.ValueKit
public import Idealize.ShloMosaic.Lib.Pipeline.ReadBack

@[expose] public section

set_option maxRecDepth 16384

noncomputable section

/-! What a grid point of the first norm's backward leaves in its blocks. -/

namespace Cert.FirstKernelIdeal.Value

open Cert.FirstKernelIdeal Cert.FirstKernelIdeal.Gen Idealize.ShloMosaic Idealize.ShloMosaic.TcCoe Idealize.SL.Sem
open Idealize.ShloMosaic.Pipeline (Dat)

/-- The product of a block with the packed weight's rows from `o` on. -/
def band {n : ℕ} (A : FVec Ideal ⟨2, ![512, n]⟩ .bf16) (W : FVec Ideal S6784x1024 .bf16) (o : ℕ) (ho : o + n ≤ 6784) (i : Fin 512) (j : Fin 1024) : EReal :=
  ∑ k : Fin n, A (ix2 i k) * W (ix2 ⟨o + k, by omega⟩ j)

theorem ld_rows {n o : ℕ} (W : FVec Ideal S6784x1024 .bf16) (h : ∀ a, (![o, 0] : Fin 2 → ℕ) a + (![n, 1024] : Fin 2 → ℕ) a ≤ S6784x1024.size a) (ho : o + n ≤ 6784) (k : Fin n)
    (j : Fin 1024) : View.ld (Val := Elt Ideal) (e' := .bf16) W (Rect.unit (s := S6784x1024) ![o, 0] ![n, 1024] h) (ix2 k j : (⟨2, ![n, 1024]⟩ : Shape).Idx) =
      W (ix2 ⟨o + k, by omega⟩ j) := by
  refine congrArg W ?_
  blk_ext
  · exact congrArg (o + ·) (Nat.one_mul _)
  · exact (congrArg (0 + ·) (Nat.one_mul _)).trans (Nat.zero_add _)

/-- The packed weight's rows from `o` on, as the kernel loads them. -/
abbrev rows (W : FVec Ideal S6784x1024 .bf16) (o n : ℕ) (h : ∀ a, (![o, 0] : Fin 2 → ℕ) a + (![n, 1024] : Fin 2 → ℕ) a ≤ S6784x1024.size a) : FVec Ideal ⟨2, ![n, 1024]⟩ .bf16 :=
  View.ld (Val := Elt Ideal) (e' := .bf16) W (Rect.unit (s := S6784x1024) ![o, 0] ![n, 1024] h)

theorem rows_sum {n o : ℕ} (A : FVec Ideal ⟨2, ![512, n]⟩ .bf16) (W : FVec Ideal S6784x1024 .bf16) (h : ∀ a, (![o, 0] : Fin 2 → ℕ) a + (![n, 1024] : Fin 2 → ℕ) a ≤ S6784x1024.size a)
    (ho : o + n ≤ 6784) (i : Fin 512) (j : Fin 1024) : ∑ k : Fin n, A (ix2 i k) * rows W o n h (ix2 k j) = band A W o ho i j :=
  Finset.sum_congr rfl fun k _ => congrArg (A (ix2 i k) * ·) (ld_rows W h ho k j)

/-- A grid point's block of the row's gradient, from the cotangent `U` of the normed row. -/
def dxOf (U X : FVec Ideal S512x1024 .f32) (R : FVec Ideal S512x1 .f32) (G : FVec Ideal S1x1024 .f32) (D : FVec Ideal S512x1024 .f32) (i : Fin 512) (j : Fin 1024) : EReal :=
  D (ix2 i j) + R (ix2 i 0) * (U (ix2 i j) * G (ix2 0 j)
    - X (ix2 i j) * R (ix2 i 0) * Ideal.div (∑ k : Fin 1024, U (ix2 i k) * G (ix2 0 k) * (X (ix2 i k) * R (ix2 i 0))) RowNorm.len)

/-- What a grid point adds to the gain's gradient: every eighth row's product. -/
def dgOf (U X : FVec Ideal S512x1024 .f32) (R : FVec Ideal S512x1 .f32) (i : Fin 8) (j : Fin 1024) : EReal :=
  ∑ k : Fin 64, U (ix2 ⟨k * 8 + i, by omega⟩ j) * (X (ix2 ⟨k * 8 + i, by omega⟩ j) * R (ix2 ⟨k * 8 + i, by omega⟩ 0))

section pays
variable (U X : FVec Ideal S512x1024 .f32) (R : FVec Ideal S512x1 .f32) (G : FVec Ideal S1x1024 .f32) (D : FVec Ideal S512x1024 .f32)

theorem pay1_apply (i : Fin 512) (j : Fin 1024) : k1_pay1 (F := Ideal) X R (ix2 i j) = X (ix2 i j) * R (ix2 i 0) := by pointwise [k1_pay1]
theorem pay4_apply (y : S8x1024.Idx) : k1_pay4 (F := Ideal) y = 0 := by pointwise [k1_pay4]
theorem pay2_apply (a : FVec Ideal S8x1024 .f32) (i : Fin 8) (j : Fin 1024) : k1_pay2 (F := Ideal) U X R a (ix2 i j) = a (ix2 i j) + dgOf U X R i j := by
  pointwise [k1_pay2, pay1_apply, dgOf]
theorem pay3_apply (i : Fin 512) (j : Fin 1024) : k1_pay3 (F := Ideal) U X R G D R (ix2 i j) = dxOf U X R G D i j := by
  pointwise [k1_pay3, pay1_apply, dxOf]
end pays

theorem pay5_apply (A0 : FVec Ideal S512x3072 .bf16) (B0 : FVec Ideal S3072x1024 .bf16) (A1 : FVec Ideal S512x256 .bf16) (B1 : FVec Ideal S256x1024 .bf16) (A2 : FVec Ideal S512x256 .bf16)
    (B2 : FVec Ideal S256x1024 .bf16) (A3 : FVec Ideal S512x512 .bf16) (B3 : FVec Ideal S512x1024 .bf16) (i : Fin 512) (j : Fin 1024) :
    k1_pay5 (F := Ideal) A0 B0 A1 B1 A2 B2 A3 B3 (ix2 i j) = (∑ k, A0 (ix2 i k) * B0 (ix2 k j)) + (∑ k, A1 (ix2 i k) * B1 (ix2 k j)) + (∑ k, A2 (ix2 i k) * B2 (ix2 k j))
      + ∑ k, A3 (ix2 i k) * B3 (ix2 k j) := by pointwise [k1_pay5]
theorem pay6_apply (A : FVec Ideal S512x512 .bf16) (B : FVec Ideal S512x1024 .bf16) (i : Fin 512) (j : Fin 1024) : k1_pay6 (F := Ideal) A B (ix2 i j) = ∑ k, A (ix2 i k) * B (ix2 k j) := by
  pointwise [k1_pay6]
theorem pay7_apply (x y : FVec Ideal S512x1024 .f32) (A5 : FVec Ideal S512x512 .bf16) (B5 : FVec Ideal S512x1024 .bf16) (A6 : FVec Ideal S512x512 .bf16) (B6 : FVec Ideal S512x1024 .bf16)
    (A7 : FVec Ideal S512x512 .bf16) (B7 : FVec Ideal S512x1024 .bf16) (A8 : FVec Ideal S512x512 .bf16) (B8 : FVec Ideal S512x1024 .bf16) (A9 : FVec Ideal S512x128 .bf16)
    (B9 : FVec Ideal S128x1024 .bf16) (i : Fin 512) (j : Fin 1024) : k1_pay7 (F := Ideal) x y A5 B5 A6 B6 A7 B7 A8 B8 A9 B9 (ix2 i j) =
      x (ix2 i j) + y (ix2 i j) + (∑ k, A5 (ix2 i k) * B5 (ix2 k j)) + (∑ k, A6 (ix2 i k) * B6 (ix2 k j)) + (∑ k, A7 (ix2 i k) * B7 (ix2 k j)) + (∑ k, A8 (ix2 i k) * B8 (ix2 k j))
      + ∑ k, A9 (ix2 i k) * B9 (ix2 k j) := by pointwise [k1_pay7]

section product
variable (A0 : FVec Ideal S512x3072 .bf16) (A1 A2 : FVec Ideal S512x256 .bf16) (A3 A4 A5 A6 A7 A8 : FVec Ideal S512x512 .bf16) (A9 : FVec Ideal S512x128 .bf16) (W : FVec Ideal S6784x1024 .bf16)

/-- The cotangent of the normed row: ten blocks times their rows of the packed weight. -/
def du : FVec Ideal S512x1024 .f32 :=
  k1_pay7 (k1_pay5 A0 (rows W 0 3072 inb_S6784x1024_S3072x1024_0_0) A1 (rows W 3072 256 inb_S6784x1024_S256x1024_3072_0) A2 (rows W 3328 256 inb_S6784x1024_S256x1024_3328_0)
      A3 (rows W 3584 512 inb_S6784x1024_S512x1024_3584_0)) (k1_pay6 A4 (rows W 4096 512 inb_S6784x1024_S512x1024_4096_0))
    A5 (rows W 4608 512 inb_S6784x1024_S512x1024_4608_0) A6 (rows W 5120 512 inb_S6784x1024_S512x1024_5120_0) A7 (rows W 5632 512 inb_S6784x1024_S512x1024_5632_0)
    A8 (rows W 6144 512 inb_S6784x1024_S512x1024_6144_0) A9 (rows W 6656 128 inb_S6784x1024_S128x1024_6656_0)

theorem du_apply (i : Fin 512) (j : Fin 1024) : du A0 A1 A2 A3 A4 A5 A6 A7 A8 A9 W (ix2 i j) =
    band A0 W 0 (by norm_num) i j + band A1 W 3072 (by norm_num) i j + band A2 W 3328 (by norm_num) i j + band A3 W 3584 (by norm_num) i j + band A4 W 4096 (by norm_num) i j
      + band A5 W 4608 (by norm_num) i j + band A6 W 5120 (by norm_num) i j + band A7 W 5632 (by norm_num) i j + band A8 W 6144 (by norm_num) i j + band A9 W 6656 (by norm_num) i j := by
  unfold du
  rw [pay7_apply, pay5_apply, pay6_apply, rows_sum, rows_sum, rows_sum, rows_sum, rows_sum, rows_sum, rows_sum, rows_sum, rows_sum, rows_sum]
end product

variable (V : (c : Dev nD) → (b : Ref sig .tc) → Buf (Elt Ideal) ((c : Thread nD τ).loc b))

/-- A grid point's cotangent. -/
abbrev duAt (c : Dev nD) (t : Fin cfg1.N) : FVec Ideal S512x1024 .f32 :=
  du (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

theorem dxA (c : Dev nD) (t : Fin cfg1.N) (h : t.val % 32 = 0) (i : Fin 512) (j : Fin 1024) :
    (outsAt1 V c t.val t.isLt).1 (ix2 i j) = dxOf (duAt V c t) (iblk1 V c 11 t) (iblk1 V c 12 t) (iblk1 V c 13 t) (iblk1 V c 14 t) i j := by
  rw [outsAt1_A V c t h]
  frame_open
  simp (disch := decide) only [↓ View.readCov_skip, ↓ View.readCov_cons_toLoadRect, ↓ View.readCov_fill]
  frame_out
  exact pay3_apply _ _ _ _ _ _ _

theorem dxB (c : Dev nD) (t : Fin cfg1.N) (h : ¬ t.val % 32 = 0) (i : Fin 512) (j : Fin 1024) :
    (outsAt1 V c t.val t.isLt).1 (ix2 i j) = dxOf (duAt V c t) (iblk1 V c 11 t) (iblk1 V c 12 t) (iblk1 V c 13 t) (iblk1 V c 14 t) i j := by
  rw [outsAt1_B V c t h]
  frame_open
  simp (disch := decide) only [↓ View.readCov_skip, ↓ View.readCov_cons_toLoadRect, ↓ View.readCov_fill]
  frame_out
  exact pay3_apply _ _ _ _ _ _ _

theorem dgA (c : Dev nD) (t : Fin cfg1.N) (h : t.val % 32 = 0) (i : Fin 8) (j : Fin 1024) :
    (outsAt1 V c t.val t.isLt).2 (ix2 i j) = dgOf (duAt V c t) (iblk1 V c 11 t) (iblk1 V c 12 t) i j := by
  rw [outsAt1_A V c t h]
  frame_open
  simp (disch := decide) only [↓ View.readCov_skip, ↓ View.readCov_cons_toLoadRect, ↓ View.readCov_fill]
  frame_out
  exact (pay2_apply _ _ _ _ _ _).trans ((congrArg (· + _) (pay4_apply _)).trans (zero_add _))

theorem dgB (c : Dev nD) (t : Fin cfg1.N) (h : ¬ t.val % 32 = 0) (i : Fin 8) (j : Fin 1024) :
    (outsAt1 V c t.val t.isLt).2 (ix2 i j) = (outsAt1 V c (t.val - 1) (by omega)).2 (ix2 i j) + dgOf (duAt V c t) (iblk1 V c 11 t) (iblk1 V c 12 t) i j := by
  rw [outsAt1_B V c t h]
  frame_open
  simp (disch := decide) only [↓ View.readCov_skip, ↓ View.readCov_cons_toLoadRect, ↓ View.readCov_fill]
  frame_out
  exact pay2_apply _ _ _ _ _ _

/-! The first call leaves the rows' scales. -/

theorem scale_apply (x : FVec Ideal S512x1024 .f32) (i : Fin 512) (j : Fin 1) : k0_pay1 (F := Ideal) x (ix2 i j) = RowNorm.scale fun k => x (ix2 i k) := by
  pointwise [k0_pay1, RowNorm.scale, RowNorm.meanSq]

theorem scale_at (c : Dev nD) (t : Fin cfg0.N) (i : Fin 512) : (dat0 V c).after 3 t (ix2 i 0 : S512x1.Idx) = RowNorm.scale fun k => (iblk0 V c 0 t : FVec Ideal S512x1024 .f32) (ix2 i k) := by
  rw [after0_3]
  frame_out
  exact scale_apply _ i 0

end Cert.FirstKernelIdeal.Value

end
-- ==== Proof.FirstColumns.lean ====
module

public import proofs.«01_k».proof.Proof.Gen.FirstKernelIdeal.Launch
public import Idealize.ShloMosaic.Lib.Pipeline.ValueKit

@[expose] public section

set_option maxRecDepth 16384

noncomputable section

/-! The order in which the kernel packs the projection's columns, and the sum over the packed columns. -/

namespace Cert.FirstKernelIdeal.Value

open Cert.FirstKernelIdeal Idealize.ShloMosaic Idealize.ShloMosaic.TcCoe

/-- The projection's column that stands at packed column `p`; 6680 is none. -/
def col (p : ℕ) : ℕ :=
  if p < 3072 then 3608 + p else if p < 4608 then p - 3072 else if p < 6144 then p - 3056 else if p < 6656 then p - 3048 else if p < 6672 then p - 5120
  else if p < 6680 then p - 3584 else 6680

/-- The sum of `n` terms from `a` on. -/
def seg (f : ℕ → EReal) (a n : ℕ) : EReal := ∑ k : Fin n, f (a + k)

theorem seg_append (f : ℕ → EReal) (a n b k m : ℕ) (hb : a + n = b) (hm : n + k = m) : seg f a n + seg f b k = seg f a m := by
  subst hb hm
  unfold seg
  rw [← Finset.sum_range (fun i => f (a + i)), ← Finset.sum_range (fun i => f (a + n + i)), ← Finset.sum_range (fun i => f (a + i)), Finset.sum_range_add]
  simp only [Nat.add_assoc]

/-- Packed columns in a run are columns in a run. -/
theorem seg_col (f : ℕ → EReal) (o n a : ℕ) (h : ∀ k, k < n → col (o + k) = a + k) : seg (fun p => f (col p)) o n = seg f a n :=
  Finset.sum_congr rfl fun k _ => congrArg f (h k k.isLt)

/-- The small columns: sixteen, eight, and none. -/
theorem seg_small (f : ℕ → EReal) (h0 : f 6680 = 0) : seg (fun p => f (col p)) 6656 128 = seg f 1536 16 + seg f 3088 8 := by
  rw [← seg_append _ 6656 24 6680 104 128 (by norm_num) (by norm_num), ← seg_append _ 6656 16 6672 8 24 (by norm_num) (by norm_num),
    seg_col f 6656 16 1536 (fun k h => by unfold col; split_ifs <;> omega), seg_col f 6672 8 3088 (fun k h => by unfold col; split_ifs <;> omega)]
  refine (congrArg _ ?_).trans (add_zero _)
  exact Finset.sum_eq_zero fun k _ => (congrArg f (show col (6680 + k) = 6680 by unfold col; split_ifs <;> omega)).trans h0

/-- The sum over the ten packed blocks is the sum over the projection's columns. -/
theorem seg_packed (f : ℕ → EReal) (h0 : f 6680 = 0) : seg (fun p => f (col p)) 0 3072 + seg (fun p => f (col p)) 3072 256 + seg (fun p => f (col p)) 3328 256
    + seg (fun p => f (col p)) 3584 512 + seg (fun p => f (col p)) 4096 512 + seg (fun p => f (col p)) 4608 512 + seg (fun p => f (col p)) 5120 512 + seg (fun p => f (col p)) 5632 512
    + seg (fun p => f (col p)) 6144 512 + seg (fun p => f (col p)) 6656 128 = seg f 0 6680 := by
  rw [seg_small f h0, seg_col f 0 3072 3608 (fun k h => by unfold col; split_ifs <;> omega), seg_col f 3072 256 0 (fun k h => by unfold col; split_ifs <;> omega),
    seg_col f 3328 256 256 (fun k h => by unfold col; split_ifs <;> omega), seg_col f 3584 512 512 (fun k h => by unfold col; split_ifs <;> omega),
    seg_col f 4096 512 1024 (fun k h => by unfold col; split_ifs <;> omega), seg_col f 4608 512 1552 (fun k h => by unfold col; split_ifs <;> omega),
    seg_col f 5120 512 2064 (fun k h => by unfold col; split_ifs <;> omega), seg_col f 5632 512 2576 (fun k h => by unfold col; split_ifs <;> omega),
    seg_col f 6144 512 3096 (fun k h => by unfold col; split_ifs <;> omega)]
  rw [← seg_append f 0 3608 3608 3072 6680 (by norm_num) (by norm_num), ← seg_append f 0 3096 3096 512 3608 (by norm_num) (by norm_num),
    ← seg_append f 0 3088 3088 8 3096 (by norm_num) (by norm_num), ← seg_append f 0 2576 2576 512 3088 (by norm_num) (by norm_num),
    ← seg_append f 0 2064 2064 512 2576 (by norm_num) (by norm_num), ← seg_append f 0 1552 1552 512 2064 (by norm_num) (by norm_num),
    ← seg_append f 0 1536 1536 16 1552 (by norm_num) (by norm_num), ← seg_append f 0 1024 1024 512 1536 (by norm_num) (by norm_num),
    ← seg_append f 0 512 512 512 1024 (by norm_num) (by norm_num), ← seg_append f 0 256 256 256 512 (by norm_num) (by norm_num)]
  abel

/-- Row `r`'s entry at a column, zero where there is none. -/
def at_ {R : ℕ} (P : FVec Ideal ⟨2, ![R, 6680]⟩ .f32) (r : Fin R) (n : ℕ) : EReal := if h : n < 6680 then P (ix2 r ⟨n, h⟩) else 0

/-- The product of two rows of 6680 columns. -/
theorem seg_at {R S : ℕ} (P : FVec Ideal ⟨2, ![R, 6680]⟩ .f32) (K : FVec Ideal ⟨2, ![S, 6680]⟩ .f32) (r : Fin R) (j : Fin S) :
    seg (fun n => at_ P r n * at_ K j n) 0 6680 = ∑ k : Fin 6680, P (ix2 r k) * K (ix2 j k) :=
  Finset.sum_congr rfl fun k _ => by
    have e : 0 + (k : ℕ) = k := Nat.zero_add _
    simp only [at_, e, k.isLt, dif_pos]

theorem at_none {R : ℕ} (P : FVec Ideal ⟨2, ![R, 6680]⟩ .f32) (r : Fin R) : at_ P r 6680 = 0 := dif_neg (lt_irrefl _)

theorem at_eq {R : ℕ} (P : FVec Ideal ⟨2, ![R, 6680]⟩ .f32) (r : Fin R) {n : ℕ} (k : ℕ) (hk : k < 6680) (h : n = k) : P (ix2 r ⟨k, hk⟩) = at_ P r n := by
  subst h
  unfold at_
  rw [dif_pos hk]
theorem at_zero {R : ℕ} (P : FVec Ideal ⟨2, ![R, 6680]⟩ .f32) (r : Fin R) {n : ℕ} (h : n = 6680) : (0 : EReal) = at_ P r n := by
  subst h
  exact (at_none P r).symm

/-- The weight as the host packs it. -/
def pack (K : FVec Ideal S1024x6680 .f32) : FVec Ideal S6784x1024 .bf16 :=
  have k : FVec Ideal S1024x6680 .bf16 := truncf .bf16 K Gen.facts.bitsLt_bf16_f32
  transpose S6784x1024 [1, 0] (concatenate S1024x6784 1
    [⟨S1024x6656, concatenate S1024x6656 1 [⟨S1024x3072, extractStridedSlice S1024x3072 ![0, 3608] k Gen.facts.slices_S1024x6680_S1024x3072_0_3608⟩,
      ⟨S1024x1536, extractStridedSlice S1024x1536 ![0, 0] k Gen.facts.slices_S1024x6680_S1024x1536_0_0⟩,
      ⟨S1024x1536, extractStridedSlice S1024x1536 ![0, 1552] k Gen.facts.slices_S1024x6680_S1024x1536_0_1552⟩,
      ⟨S1024x512, extractStridedSlice S1024x512 ![0, 3096] k Gen.facts.slices_S1024x6680_S1024x512_0_3096⟩] Gen.facts.concatenates_S1024x3072_S1024x1536_S1024x1536_S1024x512_S1024x6656_d1⟩,
    ⟨S1024x128, concatenate S1024x128 1 [⟨S1024x16, extractStridedSlice S1024x16 ![0, 1536] k Gen.facts.slices_S1024x6680_S1024x16_0_1536⟩,
      ⟨S1024x8, extractStridedSlice S1024x8 ![0, 3088] k Gen.facts.slices_S1024x6680_S1024x8_0_3088⟩,
      ⟨S1024x104, broadcastInDim S1024x104 ![] Gen.facts.bcast_S_S1024x104 (constant S_ .bf16 0x0000#16 : FVec Ideal S_ .bf16)⟩]
      Gen.facts.concatenates_S1024x16_S1024x8_S1024x104_S1024x128_d1⟩] Gen.facts.concatenates_S1024x6656_S1024x128_S1024x6784_d1) Gen.facts.transposes_S1024x6784_S6784x1024_1_0

theorem pack_apply (K : FVec Ideal S1024x6680 .f32) (p : Fin 6784) (j : Fin 1024) : pack K (ix2 p j) = at_ K j (col p) := by
  pointwise [pack]
  split_ifs <;> first | (refine at_eq K j _ _ ?_; unfold col; split_ifs <;> omega) | (refine at_zero K j ?_; unfold col; split_ifs <;> omega)

/-- The cotangent's small columns as the host packs them. -/
def small (P : FVec Ideal S16384x6680 .f32) : FVec Ideal S16384x128 .bf16 :=
  have p : FVec Ideal S16384x6680 .bf16 := truncf .bf16 P Gen.facts.bitsLt_bf16_f32
  concatenate S16384x128 1 [⟨S16384x16, extractStridedSlice S16384x16 ![0, 1536] p Gen.facts.slices_S16384x6680_S16384x16_0_1536⟩,
    ⟨S16384x8, extractStridedSlice S16384x8 ![0, 3088] p Gen.facts.slices_S16384x6680_S16384x8_0_3088⟩,
    ⟨S16384x104, broadcastInDim S16384x104 ![] Gen.facts.bcast_S_S16384x104 (constant S_ .bf16 0x0000#16 : FVec Ideal S_ .bf16)⟩] Gen.facts.concatenates_S16384x16_S16384x8_S16384x104_S16384x128_d1

theorem small_apply (P : FVec Ideal S16384x6680 .f32) (r : Fin 16384) (k : Fin 128) : small P (ix2 r k) = at_ P r (col (6656 + k)) := by
  pointwise [small]
  split_ifs <;> first | (refine at_eq P r _ _ ?_; unfold col; split_ifs <;> omega) | (refine at_zero P r ?_; unfold col; split_ifs <;> omega)

/-- A run of the cotangent's columns. -/
def cut (P : FVec Ideal S16384x6680 .f32) (a n : ℕ) (h : a + n ≤ 6680) : FVec Ideal ⟨2, ![16384, n]⟩ .bf16 := fun z =>
  P (ix2 (z 0) ⟨a + (z 1 : ℕ), by have : (z 1 : ℕ) < n := (z 1).isLt; omega⟩)

theorem cut_apply (P : FVec Ideal S16384x6680 .f32) (o a n : ℕ) (h : a + n ≤ 6680) (e : ∀ k, k < n → col (o + k) = a + k) (r : Fin 16384) (k : Fin n) :
    cut P a n h (ix2 r k) = at_ P r (col (o + k)) := by
  exact at_eq P r (a + (k : ℕ)) _ (e k k.isLt)

end Cert.FirstKernelIdeal.Value

end
-- ==== Proof.FirstArray.lean ====
module

public import proofs.«01_k».proof.Proof.FirstPoint
public import proofs.«01_k».proof.Proof.FirstColumns
public import Idealize.ShloMosaic.Lib.StableHlo.RunRead

@[expose] public section

set_option maxRecDepth 16384

noncomputable section

/-! The blocks and arrays of the first norm's backward. -/

namespace Cert.FirstKernelIdeal.Value

open Cert.FirstKernelIdeal Cert.FirstKernelIdeal.Gen Idealize.ShloMosaic Idealize.ShloMosaic.TcCoe Idealize.SL.Sem
open Idealize.ShloMosaic.Tactic
open Idealize.ShloMosaic.Pipeline (Dat)

/-- Row `r` of the stream. -/
def row (x : FVec Ideal S16384x1024 .f32) (r : Fin 16384) (k : Fin 1024) : EReal := x (ix2 r k)

/-- The cotangent that reaches the normed row's product with the gain. -/
def cot (w : FVec Ideal S1024x6680 .f32) (p : FVec Ideal S16384x6680 .f32) (r : Fin 16384) (j : Fin 1024) : EReal := ∑ k : Fin 6680, p (ix2 r k) * w (ix2 j k)

/-- The stream's gradient: what reaches it beside the norm and what passes through. -/
def dx (x : FVec Ideal S16384x1024 .f32) (g : FVec Ideal S1024 .f32) (w : FVec Ideal S1024x6680 .f32) (p : FVec Ideal S16384x6680 .f32) (e : FVec Ideal S16384x1024 .f32)
    (r : Fin 16384) (j : Fin 1024) : EReal :=
  e (ix2 r j) + RowNorm.back (row x r) (fun k => cot w p r k * g (ix1 k)) j

/-- A row's part of the gain's gradient. -/
def part (x : FVec Ideal S16384x1024 .f32) (w : FVec Ideal S1024x6680 .f32) (p : FVec Ideal S16384x6680 .f32) (j : Fin 1024) (r : Fin 16384) : EReal :=
  cot w p r j * (row x r j * RowNorm.scale (row x r))

variable (m : (ℓ : Loc nD τ sig) → Buf (Elt Ideal) ℓ) (ρ : Dev nD → PrngReg)

/-- The arguments as launched: the stream, the gain, the weight, the projection's cotangent, the cotangent beside the norm. -/
abbrev X0 (c : Dev nD) : FVec Ideal S16384x1024 .f32 := m ((c.tc : Thread nD τ).loc main_arg0)
abbrev G0 (c : Dev nD) : FVec Ideal S1024 .f32 := m ((c.tc : Thread nD τ).loc main_arg1)
abbrev K0 (c : Dev nD) : FVec Ideal S1024x6680 .f32 := m ((c.tc : Thread nD τ).loc main_arg2)
abbrev P0 (c : Dev nD) : FVec Ideal S16384x6680 .f32 := m ((c.tc : Thread nD τ).loc main_arg3)
abbrev E0 (c : Dev nD) : FVec Ideal S16384x1024 .f32 := m ((c.tc : Thread nD τ).loc main_arg4)

theorem idx0 : ∀ t : Fin cfg0.N, win0_0.index t = ![t.val, 0] ∧ win0_3.index t = ![t.val, 0] := (by decide +kernel : ∀ t : Fin grid0.N, _)
theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧
    win1_5.index t = ![t.val, 0] ∧ win1_6.index t = ![t.val, 0] ∧ win1_7.index t = ![t.val, 0] ∧ win1_8.index t = ![t.val, 0] ∧ win1_9.index t = ![t.val, 0] ∧ win1_10.index t = ![0, 0] ∧
    win1_11.index t = ![t.val, 0] ∧ win1_12.index t = ![t.val, 0] ∧ win1_13.index t = ![0, 0] ∧ win1_14.index t = ![t.val, 0] ∧ win1_15.index t = ![t.val, 0] :=
  (by decide +kernel : ∀ t : Fin grid1.N, _)

/-- Row `i` of the `t`-th grid point. -/
def rowAt (t : ℕ) (h : t < 32) (i : Fin 512) : Fin 16384 := ⟨t * 512 + i, by omega⟩
theorem rowAt_val (t : ℕ) (h : t < 32) (i : Fin 512) : (rowAt t h i : ℕ) = t * 512 + i := rfl
theorem lt0 (t : Fin cfg0.N) : t.val < 32 := lt_of_lt_of_eq t.isLt N_0
theorem lt1 (t : Fin cfg1.N) : t.val < 32 := lt_of_lt_of_eq t.isLt N_1

/-- The grid's rows are all rows. -/
theorem sum_rows (f : Fin 16384 → EReal) : ∑ t : Fin cfg1.N, ∑ i : Fin 512, f (rowAt t.val (lt1 t) i) = ∑ i : Fin 16384, f i :=
  Fin.sum_mul_add_congr fun t i h => rfl

/-! The first call. -/

/-- The rows' scales. -/
def scales (x : FVec Ideal S16384x1024 .f32) : FVec Ideal S16384x1 .f32 := fun z => RowNorm.scale (row x (z 0))
theorem scales_apply (x : FVec Ideal S16384x1024 .f32) (r : Fin 16384) : scales x (ix2 r 0) = RowNorm.scale (row x r) := by rfl

theorem V1_arg (c : Dev nD) : V1 m ρ c main_arg0 = X0 m c := W1_args m ρ c _ (by decide)

theorem blk0 (c : Dev nD) (t : Fin cfg0.N) (i : Fin 512) (k : Fin 1024) : (iblk0 (V1 m ρ) c 0 t : FVec Ideal S512x1024 .f32) (ix2 i k) = row (X0 m c) (rowAt t.val (lt0 t) i) k := by
  have e : iblk0 (V1 m ρ) c 0 t = fun x => V1 m ρ c main_arg0 (((cfg0.win 0).blk t).view.emb x) := rfl
  refine (congrFun e _).trans ?_
  rw [V1_arg]
  refine congrArg (X0 m c) ?_
  blk_ext [idx0 t, rowAt_val]

theorem emb0 (t : Fin cfg0.N) (i : Fin 512) : ((cfg0.win 3).blk t).view.emb (ix2 i 0) = (ix2 (rowAt t.val (lt0 t) i) 0 : S16384x1.Idx) := by
  blk_ext [idx0 t, rowAt_val]

theorem first (c : Dev nD) : (dat0 (V1 m ρ) c).arrAt 3 cfg0.N = scales (X0 m c) := by
  refine (dat0 (V1 m ρ) c).arrAt_eq_of_covers 3 _ (by decide +kernel) fun t _ y => ?_
  blk_simp
  have ey : y = (ix2 (y 0) 0 : S512x1.Idx) := by blk_ext
  rw [ey]
  refine (scale_at (V1 m ρ) c t (y 0)).trans ((congrArg RowNorm.scale (funext fun k => blk0 m ρ c t (y 0) k)).trans ?_)
  exact (congrArg (scales (X0 m c)) (emb0 t (y 0))).symm

/-! What the second call is entered with. -/

theorem W2_arg (c : Dev nD) : ∀ a ∈ argRefs, W2 m ρ c (Proc.devRef .tc a) = m ((c : Thread nD τ).loc a) := W2_args m ρ c
theorem V3_arg0 (c : Dev nD) : V3 m ρ c main_arg0 = X0 m c := W3_args m ρ c _ (by decide)
theorem V3_arg4 (c : Dev nD) : V3 m ρ c main_arg4 = E0 m c := W3_args m ρ c _ (by decide)
theorem V3_scales (c : Dev nD) : V3 m ρ c main_v1_1 = scales (X0 m c) := (W3_of m ρ c _ (by decide)).trans ((W2_arr m ρ c 3).trans (first m ρ c))
theorem V3_gain (c : Dev nD) : V3 m ρ c main_v0 = (shapeCast S1x1024 (G0 m c) shapeCasts_S1024_S1x1024 : FVec Ideal S1x1024 .f32) := by
  refine (W3_of m ρ c _ (by decide)).trans ((W2_of m ρ c main_v0 (by decide)).trans ?_)
  unfold W1 hostOps0
  after_results
  rfl
theorem V3_pack (c : Dev nD) : V3 m ρ c main_v14 = pack (K0 m c) := by
  have h : W2 m ρ c (Proc.devRef .tc main_arg2) = K0 m c := W2_arg m ρ c _ (by decide)
  rw [← h]
  show StableHlo.after hostOps1 (W2 m ρ c) (Proc.devRef .tc main_v14) = _
  unfold hostOps1
  after_reads_simp
  rfl
theorem V3_small (c : Dev nD) : V3 m ρ c main_v27 = small (P0 m c) := by
  have h : W2 m ρ c (Proc.devRef .tc main_arg3) = P0 m c := W2_arg m ρ c _ (by decide)
  rw [← h]
  show StableHlo.after hostOps1 (W2 m ρ c) (Proc.devRef .tc main_v27) = _
  unfold hostOps1
  after_reads_simp
  rfl

/-- The cotangent's large parts, as the host cuts them. -/
theorem V3_cuts (c : Dev nD) : V3 m ρ c main_v25 = cut (P0 m c) 3608 3072 (by norm_num) ∧ V3 m ρ c main_v15 = cut (P0 m c) 0 256 (by norm_num) ∧
    V3 m ρ c main_v16 = cut (P0 m c) 256 256 (by norm_num) ∧ V3 m ρ c main_v17 = cut (P0 m c) 512 512 (by norm_num) ∧ V3 m ρ c main_v18 = cut (P0 m c) 1024 512 (by norm_num) ∧
    V3 m ρ c main_v20 = cut (P0 m c) 1552 512 (by norm_num) ∧ V3 m ρ c main_v21 = cut (P0 m c) 2064 512 (by norm_num) ∧ V3 m ρ c main_v22 = cut (P0 m c) 2576 512 (by norm_num) ∧
    V3 m ρ c main_v24 = cut (P0 m c) 3096 512 (by norm_num) := by
  have h : W2 m ρ c (Proc.devRef .tc main_arg3) = P0 m c := W2_arg m ρ c _ (by decide)
  rw [← h]
  refine ⟨?_, ?_, ?_, ?_, ?_, ?_, ?_, ?_, ?_⟩ <;>
  · show StableHlo.after hostOps1 (W2 m ρ c) (Proc.devRef .tc _) = _
    unfold hostOps1
    after_reads_simp
    funext z
    rw [(by blk_ext : z = ix2 (z 0) (z 1))]
    pointwise [cut]

/-- The product of a cotangent's entry and the weight's at a column. -/
def term (P : FVec Ideal S16384x6680 .f32) (K : FVec Ideal S1024x6680 .f32) (r : Fin 16384) (j : Fin 1024) (q : ℕ) : EReal := at_ P r q * at_ K j q

theorem term_none (P : FVec Ideal S16384x6680 .f32) (K : FVec Ideal S1024x6680 .f32) (r : Fin 16384) (j : Fin 1024) : term P K r j 6680 = 0 := by
  unfold term
  rw [at_none, zero_mul]

/-- One block's product in terms of the projection's columns. -/
theorem band_of {n : ℕ} {A : FVec Ideal ⟨2, ![512, n]⟩ .bf16} {W : FVec Ideal S6784x1024 .bf16} {o : ℕ} (ho : o + n ≤ 6784) {i : Fin 512} {j : Fin 1024}
    {P : FVec Ideal S16384x6680 .f32} {K : FVec Ideal S1024x6680 .f32} {r : Fin 16384} (hA : ∀ k : Fin n, A (ix2 i k) = at_ P r (col (o + k)))
    (hW : ∀ p : Fin 6784, W (ix2 p j) = at_ K j (col p)) : band A W o ho i j = seg (fun p => term P K r j (col p)) o n :=
  Finset.sum_congr rfl fun k _ => congrArg₂ (· * ·) (hA k) (hW ⟨o + k, by omega⟩)

/-- A cut part's block. -/
theorem cut_block {n a : ℕ} {A : FVec Ideal ⟨2, ![512, n]⟩ .bf16} {P : FVec Ideal S16384x6680 .f32} {h : a + n ≤ 6680} {r : Fin 16384} {i : Fin 512}
    (hA : ∀ k : Fin n, A (ix2 i k) = cut P a n h (ix2 r k)) (o : ℕ) (e : ∀ k, k < n → col (o + k) = a + k) (k : Fin n) : A (ix2 i k) = at_ P r (col (o + k)) :=
  (hA k).trans (cut_apply P o a n h e r k)

section blocks
variable (c : Dev nD) (t : Fin cfg1.N) (i : Fin 512)

theorem part0 (k : Fin 3072) : (iblk1 (V3 m ρ) c 0 t : FVec Ideal S512x3072 .bf16) (ix2 i k) = cut (P0 m c) 3608 3072 (by norm_num) (ix2 (rowAt t.val (lt1 t) i) k) := by
  have e : iblk1 (V3 m ρ) c 0 t = fun x => V3 m ρ c main_v25 (((cfg1.win 0).blk t).view.emb x) := rfl
  rw [(V3_cuts m ρ c).1] at e
  exact (congrFun e _).trans (congrArg _ (by blk_ext [idx1 t, rowAt_val]))
theorem part1 (k : Fin 256) : (iblk1 (V3 m ρ) c 1 t : FVec Ideal S512x256 .bf16) (ix2 i k) = cut (P0 m c) 0 256 (by norm_num) (ix2 (rowAt t.val (lt1 t) i) k) := by
  have e : iblk1 (V3 m ρ) c 1 t = fun x => V3 m ρ c main_v15 (((cfg1.win 1).blk t).view.emb x) := rfl
  rw [(V3_cuts m ρ c).2.1] at e
  exact (congrFun e _).trans (congrArg _ (by blk_ext [idx1 t, rowAt_val]))
theorem part2 (k : Fin 256) : (iblk1 (V3 m ρ) c 2 t : FVec Ideal S512x256 .bf16) (ix2 i k) = cut (P0 m c) 256 256 (by norm_num) (ix2 (rowAt t.val (lt1 t) i) k) := by
  have e : iblk1 (V3 m ρ) c 2 t = fun x => V3 m ρ c main_v16 (((cfg1.win 2).blk t).view.emb x) := rfl
  rw [(V3_cuts m ρ c).2.2.1] at e
  exact (congrFun e _).trans (congrArg _ (by blk_ext [idx1 t, rowAt_val]))
theorem part3 (k : Fin 512) : (iblk1 (V3 m ρ) c 3 t : FVec Ideal S512x512 .bf16) (ix2 i k) = cut (P0 m c) 512 512 (by norm_num) (ix2 (rowAt t.val (lt1 t) i) k) := by
  have e : iblk1 (V3 m ρ) c 3 t = fun x => V3 m ρ c main_v17 (((cfg1.win 3).blk t).view.emb x) := rfl
  rw [(V3_cuts m ρ c).2.2.2.1] at e
  exact (congrFun e _).trans (congrArg _ (by blk_ext [idx1 t, rowAt_val]))
theorem part4 (k : Fin 512) : (iblk1 (V3 m ρ) c 4 t : FVec Ideal S512x512 .bf16) (ix2 i k) = cut (P0 m c) 1024 512 (by norm_num) (ix2 (rowAt t.val (lt1 t) i) k) := by
  have e : iblk1 (V3 m ρ) c 4 t = fun x => V3 m ρ c main_v18 (((cfg1.win 4).blk t).view.emb x) := rfl
  rw [(V3_cuts m ρ c).2.2.2.2.1] at e
  exact (congrFun e _).trans (congrArg _ (by blk_ext [idx1 t, rowAt_val]))
theorem part5 (k : Fin 512) : (iblk1 (V3 m ρ) c 5 t : FVec Ideal S512x512 .bf16) (ix2 i k) = cut (P0 m c) 1552 512 (by norm_num) (ix2 (rowAt t.val (lt1 t) i) k) := by
  have e : iblk1 (V3 m ρ) c 5 t = fun x => V3 m ρ c main_v20 (((cfg1.win 5).blk t).view.emb x) := rfl
  rw [(V3_cuts m ρ c).2.2.2.2.2.1] at e
  exact (congrFun e _).trans (congrArg _ (by blk_ext [idx1 t, rowAt_val]))
theorem part6 (k : Fin 512) : (iblk1 (V3 m ρ) c 6 t : FVec Ideal S512x512 .bf16) (ix2 i k) = cut (P0 m c) 2064 512 (by norm_num) (ix2 (rowAt t.val (lt1 t) i) k) := by
  have e : iblk1 (V3 m ρ) c 6 t = fun x => V3 m ρ c main_v21 (((cfg1.win 6).blk t).view.emb x) := rfl
  rw [(V3_cuts m ρ c).2.2.2.2.2.2.1] at e
  exact (congrFun e _).trans (congrArg _ (by blk_ext [idx1 t, rowAt_val]))
theorem part7 (k : Fin 512) : (iblk1 (V3 m ρ) c 7 t : FVec Ideal S512x512 .bf16) (ix2 i k) = cut (P0 m c) 2576 512 (by norm_num) (ix2 (rowAt t.val (lt1 t) i) k) := by
  have e : iblk1 (V3 m ρ) c 7 t = fun x => V3 m ρ c main_v22 (((cfg1.win 7).blk t).view.emb x) := rfl
  rw [(V3_cuts m ρ c).2.2.2.2.2.2.2.1] at e
  exact (congrFun e _).trans (congrArg _ (by blk_ext [idx1 t, rowAt_val]))
theorem part8 (k : Fin 512) : (iblk1 (V3 m ρ) c 8 t : FVec Ideal S512x512 .bf16) (ix2 i k) = cut (P0 m c) 3096 512 (by norm_num) (ix2 (rowAt t.val (lt1 t) i) k) := by
  have e : iblk1 (V3 m ρ) c 8 t = fun x => V3 m ρ c main_v24 (((cfg1.win 8).blk t).view.emb x) := rfl
  rw [(V3_cuts m ρ c).2.2.2.2.2.2.2.2] at e
  exact (congrFun e _).trans (congrArg _ (by blk_ext [idx1 t, rowAt_val]))
theorem part9 (k : Fin 128) : (iblk1 (V3 m ρ) c 9 t : FVec Ideal S512x128 .bf16) (ix2 i k) = at_ (P0 m c) (rowAt t.val (lt1 t) i) (col (6656 + k)) := by
  have e : iblk1 (V3 m ρ) c 9 t = fun x => V3 m ρ c main_v27 (((cfg1.win 9).blk t).view.emb x) := rfl
  rw [V3_small] at e
  exact (congrFun e _).trans ((congrArg _ (by blk_ext [idx1 t, rowAt_val])).trans (small_apply (P0 m c) (rowAt t.val (lt1 t) i) k))
theorem packed (p : Fin 6784) (j : Fin 1024) : (iblk1 (V3 m ρ) c 10 t : FVec Ideal S6784x1024 .bf16) (ix2 p j) = at_ (K0 m c) j (col p) := by
  have e : iblk1 (V3 m ρ) c 10 t = fun x => V3 m ρ c main_v14 (((cfg1.win 10).blk t).view.emb x) := rfl
  rw [V3_pack] at e
  exact (congrFun e _).trans ((congrArg _ (by blk_ext [idx1 t])).trans (pack_apply (K0 m c) p j))
theorem blk11 (j : Fin 1024) : (iblk1 (V3 m ρ) c 11 t : FVec Ideal S512x1024 .f32) (ix2 i j) = row (X0 m c) (rowAt t.val (lt1 t) i) j := by
  have e : iblk1 (V3 m ρ) c 11 t = fun x => V3 m ρ c main_arg0 (((cfg1.win 11).blk t).view.emb x) := rfl
  rw [V3_arg0] at e
  exact (congrFun e _).trans (congrArg (X0 m c) (by blk_ext [idx1 t, rowAt_val]))
theorem blk12 : (iblk1 (V3 m ρ) c 12 t : FVec Ideal S512x1 .f32) (ix2 i 0) = RowNorm.scale (row (X0 m c) (rowAt t.val (lt1 t) i)) := by
  have e : iblk1 (V3 m ρ) c 12 t = fun x => V3 m ρ c main_v1_1 (((cfg1.win 12).blk t).view.emb x) := rfl
  rw [V3_scales] at e
  have x : ((cfg1.win 12).blk t).view.emb (ix2 i 0) = (ix2 (rowAt t.val (lt1 t) i) 0 : S16384x1.Idx) := by blk_ext [idx1 t, rowAt_val]
  exact (congrFun e _).trans ((congrArg (scales (X0 m c)) x).trans (scales_apply (X0 m c) _))
theorem turned (g : FVec Ideal S1024 .f32) (j : Fin 1024) : (shapeCast S1x1024 g shapeCasts_S1024_S1x1024 : FVec Ideal S1x1024 .f32) (ix2 0 j) = g (ix1 j) := by pointwise
theorem blk13 (j : Fin 1024) : (iblk1 (V3 m ρ) c 13 t : FVec Ideal S1x1024 .f32) (ix2 0 j) = G0 m c (ix1 j) := by
  have e : iblk1 (V3 m ρ) c 13 t = fun x => V3 m ρ c main_v0 (((cfg1.win 13).blk t).view.emb x) := rfl
  rw [V3_gain] at e
  exact (congrFun e _).trans ((congrArg _ (by blk_ext [idx1 t])).trans (turned (G0 m c) j))
theorem blk14 (j : Fin 1024) : (iblk1 (V3 m ρ) c 14 t : FVec Ideal S512x1024 .f32) (ix2 i j) = E0 m c (ix2 (rowAt t.val (lt1 t) i) j) := by
  have e : iblk1 (V3 m ρ) c 14 t = fun x => V3 m ρ c main_arg4 (((cfg1.win 14).blk t).view.emb x) := rfl
  rw [V3_arg4] at e
  exact (congrFun e _).trans (congrArg (E0 m c) (by blk_ext [idx1 t, rowAt_val]))

/-- A grid point's cotangent is the product's over all the projection's columns. -/
theorem du_blk (j : Fin 1024) : duAt (V3 m ρ) c t (ix2 i j) = cot (K0 m c) (P0 m c) (rowAt t.val (lt1 t) i) j := by
  have w := fun p => packed m ρ c t p j
  refine (du_apply _ _ _ _ _ _ _ _ _ _ _ i j).trans ?_
  rw [band_of _ (cut_block (part0 m ρ c t i) 0 (fun k h => by unfold col; split_ifs <;> omega)) w,
    band_of _ (cut_block (part1 m ρ c t i) 3072 (fun k h => by unfold col; split_ifs <;> omega)) w,
    band_of _ (cut_block (part2 m ρ c t i) 3328 (fun k h => by unfold col; split_ifs <;> omega)) w,
    band_of _ (cut_block (part3 m ρ c t i) 3584 (fun k h => by unfold col; split_ifs <;> omega)) w,
    band_of _ (cut_block (part4 m ρ c t i) 4096 (fun k h => by unfold col; split_ifs <;> omega)) w,
    band_of _ (cut_block (part5 m ρ c t i) 4608 (fun k h => by unfold col; split_ifs <;> omega)) w,
    band_of _ (cut_block (part6 m ρ c t i) 5120 (fun k h => by unfold col; split_ifs <;> omega)) w,
    band_of _ (cut_block (part7 m ρ c t i) 5632 (fun k h => by unfold col; split_ifs <;> omega)) w,
    band_of _ (cut_block (part8 m ρ c t i) 6144 (fun k h => by unfold col; split_ifs <;> omega)) w,
    band_of _ (part9 m ρ c t i) w]
  exact (seg_packed (term (P0 m c) (K0 m c) (rowAt t.val (lt1 t) i) j) (term_none _ _ _ _)).trans (seg_at (P0 m c) (K0 m c) _ j)

/-- A block's gradient in terms of a row `x` and its cotangent `d`. -/
theorem dxOf_of {U X : FVec Ideal S512x1024 .f32} {R : FVec Ideal S512x1 .f32} {G : FVec Ideal S1x1024 .f32} {D : FVec Ideal S512x1024 .f32} {i : Fin 512} {x d : Fin 1024 → EReal} {e : EReal}
    (hd : ∀ k, U (ix2 i k) * G (ix2 0 k) = d k) (hx : ∀ k, X (ix2 i k) = x k) (hr : R (ix2 i 0) = RowNorm.scale x) (j : Fin 1024) (he : D (ix2 i j) = e) :
    dxOf U X R G D i j = e + RowNorm.back x d j := by
  simp only [dxOf, hd, hx, hr, he, RowNorm.back]

theorem dx_blk (j : Fin 1024) : dxOf (duAt (V3 m ρ) c t) (iblk1 (V3 m ρ) c 11 t) (iblk1 (V3 m ρ) c 12 t) (iblk1 (V3 m ρ) c 13 t) (iblk1 (V3 m ρ) c 14 t) i j =
    dx (X0 m c) (G0 m c) (K0 m c) (P0 m c) (E0 m c) (rowAt t.val (lt1 t) i) j :=
  dxOf_of (fun k => congrArg₂ (· * ·) (du_blk m ρ c t i k) (blk13 m ρ c t k)) (blk11 m ρ c t i) (blk12 m ρ c t i) j (blk14 m ρ c t i j)

theorem dg_blk (i : Fin 8) (j : Fin 1024) : dgOf (duAt (V3 m ρ) c t) (iblk1 (V3 m ρ) c 11 t) (iblk1 (V3 m ρ) c 12 t) i j =
    ∑ k : Fin 64, part (X0 m c) (K0 m c) (P0 m c) j (rowAt t.val (lt1 t) ⟨k * 8 + i, by omega⟩) :=
  Finset.sum_congr rfl fun k _ => congrArg₂ (· * ·) (du_blk m ρ c t _ j) (congrArg₂ (· * ·) (blk11 m ρ c t _ j) (blk12 m ρ c t _))

theorem emb15 (j : Fin 1024) : ((cfg1.win 15).blk t).view.emb (ix2 i j) = (ix2 (rowAt t.val (lt1 t) i) j : S16384x1024.Idx) := by
  blk_ext [idx1 t, rowAt_val]
end blocks

/-- The arrays after the grid. -/
def fin15 (c : Dev nD) : FVec Ideal S16384x1024 .f32 := fun z => dx (X0 m c) (G0 m c) (K0 m c) (P0 m c) (E0 m c) (z 0) (z 1)
def fin16 (c : Dev nD) : FVec Ideal S8x1024 .f32 := fun z => ∑ t : Fin cfg1.N, ∑ k : Fin 64,
  part (X0 m c) (K0 m c) (P0 m c) (z 1) (rowAt t.val (lt1 t) ⟨k * 8 + (z 0 : ℕ), by have : (z 0 : ℕ) < 8 := (z 0).isLt; omega⟩)

/-- The last grid point. -/
def tlast : Fin cfg1.N := ⟨31, (lt_of_lt_of_eq (by norm_num) N_1.symm : 31 < grid1.N)⟩

theorem dx_at (c : Dev nD) (t : Fin cfg1.N) (i : Fin 512) (j : Fin 1024) :
    (outsAt1 (V3 m ρ) c t.val t.isLt).1 (ix2 i j) = dx (X0 m c) (G0 m c) (K0 m c) (P0 m c) (E0 m c) (rowAt t.val (lt1 t) i) j := by
  refine Eq.trans ?_ (dx_blk m ρ c t i j)
  by_cases h : t.val % 32 = 0
  · exact dxA (V3 m ρ) c t h i j
  · exact dxB (V3 m ρ) c t h i j

theorem final15 (c : Dev nD) : (dat1 (V3 m ρ) c).arrAt 15 cfg1.N = fin15 m c := by
  refine (dat1 (V3 m ρ) c).arrAt_eq_of_covers 15 _ (by decide +kernel) fun t _ y => ?_
  blk_simp
  rw [after1_15]
  have ey : y = (ix2 (y 0) (y 1) : S512x1024.Idx) := by blk_ext
  rw [ey]
  exact (dx_at m ρ c t (y 0) (y 1)).trans (congrArg (fin15 m c) (emb15 t (y 0) (y 1))).symm

theorem final16 (c : Dev nD) : (dat1 (V3 m ρ) c).arrAt 16 cfg1.N = fin16 m c := by
  refine (dat1 (V3 m ρ) c).arrAt_eq_of_after_last 16 tlast (by decide +kernel) _ fun j => ?_
  blk_simp
  have e2 : ∀ j : S8x1024.Idx, j = ix2 (j 0) (j 1) := fun j => by blk_ext
  rw [after1_16, Pipeline.eq_sum_fin_of_reset_step_apply_last (fun n h => (outsAt1 (V3 m ρ) c n h).2) 32 (fun _ => 0)
    (fun p j => dgOf (duAt (V3 m ρ) c p) (iblk1 (V3 m ρ) c 11 p) (iblk1 (V3 m ρ) c 12 p) (j 0) (j 1))
    (fun t h j => by rw [e2 j]; exact (dgA (V3 m ρ) c t h (j 0) (j 1)).trans (zero_add _).symm)
    (fun t h j => by rw [e2 j]; exact dgB (V3 m ρ) c t h (j 0) (j 1)) (le_of_eq N_1) tlast rfl j, zero_add]
  show (∑ p : Fin cfg1.N, dgOf (duAt (V3 m ρ) c p) (iblk1 (V3 m ρ) c 11 p) (iblk1 (V3 m ρ) c 12 p) (j 0) (j 1) : EReal) = _
  exact Finset.sum_congr rfl fun p _ => dg_blk m ρ c p (j 0) (j 1)

/-- The gain's gradient after the host's sum over the eight rows. -/
def gain (c : Dev nD) : FVec Ideal S1024 .f32 :=
  Host.reduceAdd (fin16 m c) (constant S_ .f32 0x00000000#32 : FVec Ideal S_ .f32) reducesTo_S8x1024_S1024_d0 h_S_

theorem gain_apply (c : Dev nD) (j : Fin 1024) : gain m c (ix1 j) = ∑ r : Fin 16384, part (X0 m c) (K0 m c) (P0 m c) j r := by
  have e : gain m c (ix1 j) = ∑ i : Fin 8, fin16 m c (ix2 i j) := by pointwise [gain]
  rw [e, ← sum_rows]
  show ∑ i : Fin 8, ∑ t : Fin cfg1.N, ∑ k : Fin 64, part (X0 m c) (K0 m c) (P0 m c) j (rowAt t.val (lt1 t) ⟨k * 8 + i, by omega⟩) = _
  rw [Finset.sum_comm]
  refine Finset.sum_congr rfl fun t _ => ?_
  rw [Finset.sum_comm]
  exact Fin.sum_mul_add_congr fun k i h => rfl

end Cert.FirstKernelIdeal.Value

end
-- ==== Proof.FirstRun.lean ====
module

public import proofs.«01_k».proof.Proof.FirstArray

@[expose] public section

set_option maxRecDepth 16384

noncomputable section

/-! The run of the two calls and the host lines between them, and the two results it ends with. -/

namespace Cert.FirstKernelIdeal.Value

open Cert.FirstKernelIdeal Cert.FirstKernelIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

theorem result_dx (c : Dev nD) : W5 m ρ c (Proc.devRef .tc main_v28_0) = fin15 m c :=
  (W5_of m ρ c _ (by decide)).trans ((W4_arr m ρ c 15).trans (final15 m ρ c))

theorem result_gain (c : Dev nD) : W5 m ρ c (Proc.devRef .tc main_v29) = gain m c := by
  have h : W4 m ρ c (Proc.devRef .tc main_v28_1) = fin16 m c := (W4_arr m ρ c 16).trans (final16 m ρ c)
  unfold gain
  rw [← h]
  unfold W5 hostOps2
  after_results

/-- Every weakly fair execution ends with each buffer at the last boundary's contents. -/
theorem whole : θ_run defs (onTc (τ := τ) (main (F := Ideal))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The two results of the run. -/
theorem run_results : θ_run defs (onTc (τ := τ) (main (F := Ideal))) ⟨m, fun _ => 0, ρ⟩ (fun r => ∀ c : Dev nD,
      r.2.mem ((c.tc : Thread nD τ).loc main_v28_0) = fin15 m c
      ∧ r.2.mem ((c.tc : Thread nD τ).loc main_v29) = gain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c _ (mem_uc main_v28_0 (by decide))).trans (result_dx m ρ c),
    (h c _ (mem_uc main_v29 (by decide))).trans (result_gain m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c)⟩) (whole m ρ)

end Cert.FirstKernelIdeal.Value

end
-- ==== Proof.FirstReference.lean ====
module

public import proofs.«01_k».proof.Proof.Gen.FirstReferenceIdeal.Read
public import proofs.«01_k».proof.Proof.FirstRun

@[expose] public section

set_option maxRecDepth 16384

noncomputable section

/-! The plain reverse pass of the norm, read entry by entry, and its equality with the kernel's gradients. -/

namespace Cert.FirstReferenceIdeal.Read

open Cert.FirstReferenceIdeal Cert.FirstReferenceIdeal.Gen Idealize.ShloMosaic Idealize.ShloMosaic.TcCoe
open Cert.FirstKernelIdeal.Value (row cot part dx)

variable (x0 : FVec Ideal S16384x1024 .f32) (x1 : FVec Ideal S1024 .f32) (x2 : FVec Ideal S1024x6680 .f32) (x3 : FVec Ideal S16384x6680 .f32) (x4 : FVec Ideal S16384x1024 .f32)

/-- The cotangent of the normed row before the gain. -/
def d (r : Fin 16384) (k : Fin 1024) : EReal := cot x2 x3 r k * x1 (ix1 k)

theorem v6 (r : Fin 16384) : val_main_v6 (F := Ideal) x0 (ix2 r 0) = RowNorm.meanSq (row x0 r) := by
  pointwise [val_main_v6, val_main_v4, val_main_v2, val_main_v1, val_main_v0, val_main_cst, val_main_v3, val_main_cst_0, val_main_v5, val_main_cst_1, RowNorm.meanSq, row]
theorem v7 (r : Fin 16384) : val_main_v7 (F := Ideal) x0 (ix2 r 0) = RowNorm.scale (row x0 r) := by
  rw [val_main_v7_apply (F := Ideal), v6]
  rfl
theorem v10 (r : Fin 16384) : val_main_v10 (F := Ideal) x0 (ix2 r 0) = RowNorm.minusHalf * Ideal.div (RowNorm.scale (row x0 r)) (RowNorm.meanSq (row x0 r)) := by
  rw [val_main_v10_apply (F := Ideal), val_main_v8_apply (F := Ideal), v7, v6, val_main_v9_apply (F := Ideal)]
  rfl
theorem v12 (r : Fin 16384) (j : Fin 1024) : val_main_v12 (F := Ideal) x0 (ix2 r j) = row x0 r j * RowNorm.scale (row x0 r) := by
  rw [val_main_v12_apply (F := Ideal), val_main_v11_apply (F := Ideal), show idx_main_v11 (ix2 r j) = ix2 r 0 by blk_ext, v7]
  rfl
theorem v17 (r : Fin 16384) (j : Fin 1024) : val_main_v17 (F := Ideal) x2 x3 (ix2 r j) = cot x2 x3 r j := by
  pointwise [val_main_v17, cot]
theorem v19 (j : Fin 1024) : val_main_v19 (F := Ideal) x0 x2 x3 (ix1 j) = ∑ r : Fin 16384, part x0 x2 x3 j r := by
  rw [val_main_v19_apply]
  refine (congrArg (· + _) (Ideal.ofBits_zero .f32)).trans ((zero_add _).trans (Finset.sum_congr rfl fun r _ => ?_))
  rw [show idx_main_v19 (ix1 j) r = ix2 r j by blk_ext, val_main_v18_apply (F := Ideal), v12, v17]
  exact mul_comm _ _

/-- The gain's gradient. -/
theorem v23 (j : Fin 1024) : val_main_v23 (F := Ideal) x0 x2 x3 (ix1 j) = ∑ r : Fin 16384, part x0 x2 x3 j r := by
  rw [val_main_v23_apply]
  refine (congrArg (· + _) (Ideal.ofBits_zero .f32)).trans ((zero_add _).trans ?_)
  rw [Fin.sum_univ_one, val_main_v20_apply (F := Ideal), show idx_main_v20 (idx_main_v23 (ix1 j) 0) = ix1 j by blk_ext, v19]

theorem v22 (r : Fin 16384) (j : Fin 1024) : val_main_v22 (F := Ideal) x1 x2 x3 (ix2 r j) = d x1 x2 x3 r j := by
  have e : val_main_v21 (F := Ideal) x1 (ix2 r j) = x1 (ix1 j) := by pointwise [val_main_v21, val_main_v13]
  rw [val_main_v22_apply (F := Ideal), v17, e]
  rfl
theorem v26 (r : Fin 16384) : val_main_v26 (F := Ideal) x0 x1 x2 x3 (ix2 r 0) = ∑ k : Fin 1024, row x0 r k * d x1 x2 x3 r k := by
  rw [val_main_v26_apply (F := Ideal), show idx_main_v26 (ix2 r 0) = ix1 r by blk_ext, val_main_v25_apply]
  refine (congrArg (· + _) (Ideal.ofBits_zero .f32)).trans ((zero_add _).trans (Finset.sum_congr rfl fun k _ => ?_))
  rw [show idx_main_v25 (ix1 r) k = ix2 r k by blk_ext, val_main_v24_apply (F := Ideal), v22]
  rfl
theorem v32 (r : Fin 16384) : val_main_v32 (F := Ideal) x0 x1 x2 x3 (ix2 r 0) = RowNorm.through (row x0 r) (d x1 x2 x3 r) := by
  rw [val_main_v32_apply (F := Ideal), val_main_v30_apply (F := Ideal), v26, v10, val_main_v31_apply (F := Ideal)]
  rfl
theorem v34 (r : Fin 16384) (j : Fin 1024) : val_main_v34 (F := Ideal) x0 x1 x2 x3 (ix2 r j) = RowNorm.through (row x0 r) (d x1 x2 x3 r) := by
  rw [val_main_v34_apply (F := Ideal), show idx_main_v34 (ix2 r j) = ix1 r by blk_ext, val_main_v33_apply]
  refine (congrArg (· + _) (Ideal.ofBits_zero .f32)).trans ((zero_add _).trans ?_)
  rw [Fin.sum_univ_one, show idx_main_v33 (ix1 r) 0 = ix2 r 0 by blk_ext, v32]
theorem v28 (r : Fin 16384) (j : Fin 1024) : val_main_v28 (F := Ideal) x0 x1 x2 x3 (ix2 r j) = d x1 x2 x3 r j * RowNorm.scale (row x0 r) := by
  rw [val_main_v28_apply (F := Ideal), val_main_v27_apply (F := Ideal), show idx_main_v27 (ix2 r j) = ix2 r 0 by blk_ext, v22, v7]
  rfl

/-- The stream's gradient as the reverse pass forms it. -/
theorem v38 (r : Fin 16384) (j : Fin 1024) : val_main_v38 (F := Ideal) x0 x1 x2 x3 x4 (ix2 r j) =
    x4 (ix2 r j) + d x1 x2 x3 r j * RowNorm.scale (row x0 r) + row x0 r j * RowNorm.through (row x0 r) (d x1 x2 x3 r)
      + RowNorm.through (row x0 r) (d x1 x2 x3 r) * row x0 r j := by
  rw [val_main_v38_apply (F := Ideal), val_main_v36_apply (F := Ideal), val_main_v37_apply (F := Ideal), val_main_v35_apply (F := Ideal), val_main_v29_apply (F := Ideal), v34, v28]
  rfl

variable {x0 x1 x2 x3 x4}

theorem dx_at (r : Fin 16384) (j : Fin 1024) : val_main_v38 (F := Ideal) x0 x1 x2 x3 x4 (ix2 r j) = dx x0 x1 x2 x3 x4 r j :=
  (v38 x0 x1 x2 x3 x4 r j).trans (RowNorm.back_eq (row x0 r) (d x1 x2 x3 r) j (x4 (ix2 r j)))

variable (m : (ℓ : Loc Cert.FirstKernelIdeal.nD Cert.FirstKernelIdeal.τ Cert.FirstKernelIdeal.sig) → Buf (Elt Ideal) ℓ) (c : Dev Cert.FirstKernelIdeal.nD)

open Cert.FirstKernelIdeal.Value (X0 G0 K0 P0 E0 fin15 gain)

theorem dx_eq : val_main_v38 (F := Ideal) (X0 m c) (G0 m c) (K0 m c) (P0 m c) (E0 m c) = fin15 m c :=
  funext fun z => (congrArg _ (by blk_ext : z = ix2 (z 0) (z 1))).trans (dx_at (z 0) (z 1))

theorem gain_eq : val_main_v23 (F := Ideal) (X0 m c) (K0 m c) (P0 m c) = gain m c :=
  funext fun z => by
    rw [(by blk_ext : z = ix1 (z 0))]
    exact (v23 _ _ _ (z 0)).trans (Cert.FirstKernelIdeal.Value.gain_apply m c (z 0)).symm

end Cert.FirstReferenceIdeal.Read

end
-- ==== Proof.lean ====
module

public import proofs.«01_k».proof.Defs
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.Gen.LossReferenceIdeal.Run
public import proofs.«01_k».proof.Proof.Gen.LossReferenceIdeal.Read
public import proofs.«01_k».proof.Proof.Gen.NormReferenceIdeal.Run
public import proofs.«01_k».proof.Proof.Gen.NormReferenceIdeal.Read
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstReferenceIdeal
public import proofs.«01_k».proof.Proof.Gen.FirstReferenceIdeal.Run
public import proofs.«01_k».proof.Proof.Gen.FirstReferenceIdeal.Read
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemKernelIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Proof.Gen.FoxKernel
public import proofs.«01_k».proof.Proof.Gen.FoxKernel.Skeleton
public import proofs.«01_k».proof.Proof.Gen.FoxKernel.Launch
public import proofs.«01_k».proof.Proof.Gen.FoxKernel.Points
public import proofs.«01_k».proof.Proof.Gen.FoxKernel.Loops
public import proofs.«01_k».proof.Proof.Gen.FoxKernel.Frame
public import proofs.«01_k».proof.Proof.Gen.FoxKernelIdeal
public import proofs.«01_k».proof.Proof.Gen.FoxKernelIdeal.Skeleton
public import proofs.«01_k».proof.Proof.Gen.FoxKernelIdeal.Launch
public import proofs.«01_k».proof.Proof.Gen.FoxKernelIdeal.Points
public import proofs.«01_k».proof.Proof.Gen.FoxKernelIdeal.Frame
public import proofs.«01_k».proof.Proof.Gen.FoxKernelIdeal.Loops
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.GainReference
public import proofs.«01_k».proof.Proof.MemEquation
public import proofs.«01_k».proof.Proof.FoxPlain
public import proofs.«01_k».proof.Proof.FoxGrads
public import proofs.«01_k».proof.Proof.ActReference
public import proofs.«01_k».proof.Proof.LossReference
public import proofs.«01_k».proof.Proof.NormReference
public import proofs.«01_k».proof.Proof.PostReference
public import proofs.«01_k».proof.Proof.FirstReference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two programs' gradients of the gain are equal. -/
theorem algebraic : Cert.algebraic_KernelIdeal_ReferenceIdeal (hKernelIdeal := Cert.KernelIdeal.Gen.facts) (hReferenceIdeal := Cert.ReferenceIdeal.Gen.facts) :=
  fun m ρ m' ρ' _ hag => ⟨_, Cert.KernelIdeal.Value.run m ρ,
    (θ_run _ _ _).mono (fun _ h c => ⟨(h c).1.trans (by
      rw [(hag c).1, (hag c).2.2]
      exact Cert.ReferenceIdeal.Read.gain_eq _ _), (h c).2⟩) (Cert.ReferenceIdeal.Value.run m' ρ')⟩

/-- The reference ends with its arguments unchanged and no semaphore to count. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The side conditions of the memory's precondition. -/
theorem facts_mem_finite : Cert.Pre_mem_finite.Facts := ⟨by decide, by decide, by decide, by decide, by decide, by decide⟩

/-- The two programs' gradients of the memory's attention are equal where its arguments are finite. -/
theorem algebraic_mem : Cert.algebraic_MemKernelIdeal_MemReferenceIdeal_pre_mem_finite (hMemKernelIdeal := Cert.MemKernelIdeal.Gen.facts)
    (hMemReferenceIdeal := Cert.MemReferenceIdeal.Gen.facts) (hPre_mem_finite := facts_mem_finite) :=
  fun m ρ m' ρ' hp hag => ⟨_, _, _, (θ_run _ _ _).mono (fun _ h c => h c) (Cert.MemKernelIdeal.Value.run_blocks (F := Ideal) m ρ),
    (θ_run _ _ _).mono (fun _ h c => by
      have f := Cert.MemReferenceIdeal.Read.finite_of facts_mem_finite (hp c)
      obtain ⟨h0, h1, h2, h⟩ := h c
      obtain ⟨a0, a1, a2⟩ := hag c
      refine ⟨h0.trans ?_, h1.trans ?_, h2.trans ?_, h⟩
      · rw [Cert.MemKernelIdeal.Value.final4, Cert.MemReferenceIdeal.Read.val_main_v78_eq, a0, a1, a2]
        exact Cert.MemReferenceIdeal.Read.dq_eq f
      · rw [Cert.MemKernelIdeal.Value.final5, Cert.MemReferenceIdeal.Read.val_main_v79_eq, a0, a1, a2]
        exact Cert.MemReferenceIdeal.Read.dk_eq f
      · rw [Cert.MemKernelIdeal.Value.final6, Cert.MemReferenceIdeal.Read.val_main_v80_eq, a0, a1, a2]
        exact Cert.MemReferenceIdeal.Read.dv_eq) (Cert.MemReferenceIdeal.Value.run m' ρ')⟩

/-- The memory's reference ends with its arguments unchanged and no semaphore to count. -/
theorem frame_mem_reference : Cert.quiescent_MemReferenceIdeal (hMemReferenceIdeal := Cert.MemReferenceIdeal.Gen.facts) :=
  fun m ρ _ => (θ_run _ _ _).mono (fun r h => ⟨fun c => (h c).2.2.2, sem_eq_zero_of_no_sems (by decide) r.2⟩)
    (Cert.MemReferenceIdeal.Value.run m ρ)

/-- The side conditions of the forgetting attention's precondition. -/
theorem facts_fox_finite : Cert.Pre_fox_finite.Facts := ⟨by decide, by decide, by decide, by decide, by decide, by decide, by decide, by decide⟩

/-- The two programs' gradients of the forgetting attention are equal where its arguments are finite. -/
theorem algebraic_fox : Cert.algebraic_FoxKernelIdeal_FoxReferenceIdeal_pre_fox_finite (hFoxKernelIdeal := Cert.FoxKernelIdeal.Gen.facts)
    (hFoxReferenceIdeal := Cert.FoxReferenceIdeal.Gen.facts) (hPre_fox_finite := facts_fox_finite) :=
  fun m ρ m' ρ' hp hag => ⟨_, _, _, _, _, (θ_run _ _ _).mono (fun _ h c => h c) (Cert.FoxKernelIdeal.Value.run_results m ρ),
    (θ_run _ _ _).mono (fun _ h c => by
      have f := Cert.FoxReferenceIdeal.Read.finite_of facts_fox_finite (hp c)
      obtain ⟨h0, h1, h2, h3, h4, h⟩ := h c
      obtain ⟨a0, a1, a2⟩ := hag c
      refine ⟨h0.trans ?_, h1.trans ?_, h2.trans ?_, h3.trans ?_, h4.trans ?_, h⟩
      · rw [Cert.FoxReferenceIdeal.Read.val_main_v105_eq, a0, a1, a2]
        exact Cert.FoxReferenceIdeal.Read.dq_eq m c f
      · rw [Cert.FoxReferenceIdeal.Read.val_main_v107_eq, a0, a1, a2]
        exact Cert.FoxReferenceIdeal.Read.dk_eq m c f
      · rw [Cert.FoxReferenceIdeal.Read.val_main_v109_eq, a0, a1, a2]
        exact Cert.FoxReferenceIdeal.Read.dv_eq m c f
      · rw [Cert.FoxReferenceIdeal.Read.val_main_v110_eq, a0, a1, a2]
        exact Cert.FoxReferenceIdeal.Read.rows_eq m c f
      · rw [Cert.FoxReferenceIdeal.Read.val_main_v112_eq, a0, a1, a2]
        exact Cert.FoxReferenceIdeal.Read.cols_eq m c f) (Cert.FoxReferenceIdeal.Value.run m' ρ')⟩

/-- The forgetting attention's reference ends with its arguments unchanged and no semaphore to count. -/
theorem frame_fox_reference : Cert.quiescent_FoxReferenceIdeal (hFoxReferenceIdeal := Cert.FoxReferenceIdeal.Gen.facts) :=
  fun m ρ _ => (θ_run _ _ _).mono (fun r h => ⟨fun c => (h c).2.2.2.2.2, sem_eq_zero_of_no_sems (by decide) r.2⟩)
    (Cert.FoxReferenceIdeal.Value.run m ρ)

/-- The mask's stand-in for minus infinity, read as minus infinity. -/
theorem preserves_fox : Cert.preserves_FoxKernel_FoxKernelIdeal :=
  IdealRules.named_const.statement Cert.FoxKernelIdeal.κ "mask" .f32 0xF149F2CA#32 ⊥ rfl

/-- The two programs' gradients of the squared relu are equal. -/
theorem algebraic_act : Cert.algebraic_ActKernelIdeal_ActReferenceIdeal (hActKernelIdeal := Cert.ActKernelIdeal.Gen.facts)
    (hActReferenceIdeal := Cert.ActReferenceIdeal.Gen.facts) :=
  fun m ρ m' ρ' _ hag => ⟨_, (θ_run _ _ _).mono (fun _ h c => h c) (Cert.ActKernelIdeal.Value.run_blocks (F := Ideal) m ρ),
    (θ_run _ _ _).mono (fun _ h c => by
      obtain ⟨h0, h⟩ := h c
      obtain ⟨a0, a1, a2⟩ := hag c
      refine ⟨h0.trans ?_, h⟩
      rw [Cert.ActKernelIdeal.Value.final3, Cert.ActReferenceIdeal.Read.val_main_v12_eq, a0, a1, a2]
      exact Cert.ActReferenceIdeal.Read.act_eq _ _ _) (Cert.ActReferenceIdeal.Value.run m' ρ')⟩

/-- The squared relu's reference ends with its arguments unchanged and no semaphore to count. -/
theorem frame_act_reference : Cert.quiescent_ActReferenceIdeal (hActReferenceIdeal := Cert.ActReferenceIdeal.Gen.facts) :=
  fun m ρ _ => (θ_run _ _ _).mono (fun r h => ⟨fun c => (h c).2, sem_eq_zero_of_no_sems (by decide) r.2⟩)
    (Cert.ActReferenceIdeal.Value.run m ρ)

/-- The two programs' losses and gradients of the final norm are equal. -/
theorem algebraic_loss : Cert.algebraic_LossKernelIdeal_LossReferenceIdeal (hLossKernelIdeal := Cert.LossKernelIdeal.Gen.facts)
    (hLossReferenceIdeal := Cert.LossReferenceIdeal.Gen.facts) :=
  fun m ρ m' ρ' _ hag => ⟨_, _, _, _, (θ_run _ _ _).mono (fun _ h c => h c) (Cert.LossKernelIdeal.Value.run_results m ρ),
    (θ_run _ _ _).mono (fun _ h c => by
      obtain ⟨h0, h1, h2, h3, h⟩ := h c
      obtain ⟨a0, a1, a2, a3, a4⟩ := hag c
      refine ⟨h0.trans ?_, h1.trans ?_, h2.trans ?_, h3.trans ?_, h⟩
      · rw [Cert.LossReferenceIdeal.Read.val_main_v28_eq, a0, a1, a2, a3, a4]
        exact Cert.LossReferenceIdeal.Read.loss_eq m c
      · rw [Cert.LossReferenceIdeal.Read.val_main_v54_eq, a0, a1, a2, a3, a4]
        exact Cert.LossReferenceIdeal.Read.dh_eq m c
      · rw [Cert.LossReferenceIdeal.Read.val_main_v55_eq, a0, a1, a2, a3, a4]
        exact Cert.LossReferenceIdeal.Read.dhb_eq m c
      · rw [Cert.LossReferenceIdeal.Read.val_main_v40_eq, a0, a1, a2, a3, a4]
        exact Cert.LossReferenceIdeal.Read.gain_eq m c) (Cert.LossReferenceIdeal.Value.run m' ρ')⟩

/-- The loss's reference ends with its arguments unchanged and no semaphore to count. -/
theorem frame_loss_reference : Cert.quiescent_LossReferenceIdeal (hLossReferenceIdeal := Cert.LossReferenceIdeal.Gen.facts) :=
  fun m ρ _ => (θ_run _ _ _).mono (fun r h => ⟨fun c => (h c).2.2.2.2, sem_eq_zero_of_no_sems (by decide) r.2⟩)
    (Cert.LossReferenceIdeal.Value.run m ρ)

/-- The two programs' gradients of the norm before the feed-forward are equal. -/
theorem algebraic_norm : Cert.algebraic_NormKernelIdeal_NormReferenceIdeal (hNormKernelIdeal := Cert.NormKernelIdeal.Gen.facts)
    (hNormReferenceIdeal := Cert.NormReferenceIdeal.Gen.facts) :=
  fun m ρ m' ρ' _ hag => ⟨_, _, _, (θ_run _ _ _).mono (fun _ h c => h c) (Cert.NormKernelIdeal.Value.run_results m ρ),
    (θ_run _ _ _).mono (fun _ h c => by
      obtain ⟨h0, h1, h2, h⟩ := h c
      obtain ⟨a0, a1, a2, a3, a4⟩ := hag c
      refine ⟨h0.trans ?_, h1.trans ?_, h2.trans ?_, h⟩
      · rw [Cert.NormReferenceIdeal.Read.val_main_v39_eq, a0, a1, a2, a3, a4]
        exact Cert.NormReferenceIdeal.Read.dh_eq m c
      · rw [Cert.NormReferenceIdeal.Read.val_main_v40_eq, a0, a1, a2, a3, a4]
        exact Cert.NormReferenceIdeal.Read.dhb_eq m c
      · rw [Cert.NormReferenceIdeal.Read.val_main_v24_eq, a0, a2, a3]
        exact Cert.NormReferenceIdeal.Read.gain_eq m c) (Cert.NormReferenceIdeal.Value.run m' ρ')⟩

/-- The norm's reference ends with its arguments unchanged and no semaphore to count. -/
theorem frame_norm_reference : Cert.quiescent_NormReferenceIdeal (hNormReferenceIdeal := Cert.NormReferenceIdeal.Gen.facts) :=
  fun m ρ _ => (θ_run _ _ _).mono (fun r h => ⟨fun c => (h c).2.2.2, sem_eq_zero_of_no_sems (by decide) r.2⟩)
    (Cert.NormReferenceIdeal.Value.run m ρ)

/-- The side conditions of the running gate sums' precondition. -/
theorem facts_post_finite : Cert.Pre_post_finite.Facts := ⟨by decide, by decide, by decide⟩

/-- The two programs' gradients of the gates are equal where the running sums' cotangents are finite. -/
theorem algebraic_post : Cert.algebraic_PostKernelIdeal_PostReferenceIdeal_pre_post_finite (hPostKernelIdeal := Cert.PostKernelIdeal.Gen.facts)
    (hPostReferenceIdeal := Cert.PostReferenceIdeal.Gen.facts) (hPre_post_finite := facts_post_finite) :=
  fun m ρ m' ρ' hp hag => ⟨_, _, _, _, _, (θ_run _ _ _).mono (fun _ h c => h c) (Cert.PostKernelIdeal.Value.run_results m ρ),
    (θ_run _ _ _).mono (fun _ h c => by
      have f := Cert.PostReferenceIdeal.Read.finite_of _ _ _ _ facts_post_finite (hp c)
      obtain ⟨h0, h1, h2, h3, h4, h⟩ := h c
      obtain ⟨a0, a1, a2, a3, a4, a5, a6⟩ := hag c
      refine ⟨h0.trans ?_, h1.trans ?_, h2.trans ?_, h3.trans ?_, h4.trans ?_, h⟩
      · rw [a4]
        exact Cert.PostReferenceIdeal.Read.turned _
      · rw [a5]
        exact Cert.PostReferenceIdeal.Read.turned _
      · rw [a6]
        exact Cert.PostReferenceIdeal.Read.turned _
      · rw [Cert.PostReferenceIdeal.Read.val_main_v19_eq, a0, a1, a2, a3]
        exact Cert.PostReferenceIdeal.Read.gates_eq m c f
      · rw [Cert.PostReferenceIdeal.Read.val_main_v22_eq, a0, a1, a2, a3]
        exact Cert.PostReferenceIdeal.Read.bias_eq m c f) (Cert.PostReferenceIdeal.Value.run m' ρ')⟩

/-- The gates' reference ends with its arguments unchanged and no semaphore to count. -/
theorem frame_post_reference : Cert.quiescent_PostReferenceIdeal (hPostReferenceIdeal := Cert.PostReferenceIdeal.Gen.facts) :=
  fun m ρ _ => (θ_run _ _ _).mono (fun r h => ⟨fun c => (h c).2.2.2.2.2, sem_eq_zero_of_no_sems (by decide) r.2⟩)
    (Cert.PostReferenceIdeal.Value.run m ρ)

/-- The two programs' gradients of the first norm are equal. -/
theorem algebraic_first : Cert.algebraic_FirstKernelIdeal_FirstReferenceIdeal (hFirstKernelIdeal := Cert.FirstKernelIdeal.Gen.facts)
    (hFirstReferenceIdeal := Cert.FirstReferenceIdeal.Gen.facts) :=
  fun m ρ m' ρ' _ hag => ⟨_, _, (θ_run _ _ _).mono (fun _ h c => h c) (Cert.FirstKernelIdeal.Value.run_results m ρ),
    (θ_run _ _ _).mono (fun _ h c => by
      obtain ⟨h0, h1, h⟩ := h c
      obtain ⟨a0, a1, a2, a3, a4⟩ := hag c
      refine ⟨h0.trans ?_, h1.trans ?_, h⟩
      · rw [Cert.FirstReferenceIdeal.Read.val_main_v38_eq, a0, a1, a2, a3, a4]
        exact Cert.FirstReferenceIdeal.Read.dx_eq m c
      · rw [Cert.FirstReferenceIdeal.Read.val_main_v23_eq, a0, a2, a3]
        exact Cert.FirstReferenceIdeal.Read.gain_eq m c) (Cert.FirstReferenceIdeal.Value.run m' ρ')⟩

/-- The first norm's reference ends with its arguments unchanged and no semaphore to count. -/
theorem frame_first_reference : Cert.quiescent_FirstReferenceIdeal (hFirstReferenceIdeal := Cert.FirstReferenceIdeal.Gen.facts) :=
  fun m ρ _ => (θ_run _ _ _).mono (fun r h => ⟨fun c => (h c).2.2, sem_eq_zero_of_no_sems (by decide) r.2⟩)
    (Cert.FirstReferenceIdeal.Value.run m ρ)

theorem claim : Cert.Claim := ⟨Cert.Kernel.Gen.facts, Cert.KernelIdeal.Gen.facts, Cert.ReferenceIdeal.Gen.facts,
  Cert.MemKernel.Gen.facts, Cert.MemKernelIdeal.Gen.facts, Cert.MemReferenceIdeal.Gen.facts,
  Cert.FoxKernel.Gen.facts, Cert.FoxKernelIdeal.Gen.facts, Cert.FoxReferenceIdeal.Gen.facts,
  Cert.ActKernel.Gen.facts, Cert.ActKernelIdeal.Gen.facts, Cert.ActReferenceIdeal.Gen.facts,
  Cert.LossKernel.Gen.facts, Cert.LossKernelIdeal.Gen.facts, Cert.LossReferenceIdeal.Gen.facts,
  Cert.NormKernel.Gen.facts, Cert.NormKernelIdeal.Gen.facts, Cert.NormReferenceIdeal.Gen.facts,
  Cert.PostKernel.Gen.facts, Cert.PostKernelIdeal.Gen.facts, Cert.PostReferenceIdeal.Gen.facts,
  Cert.FirstKernel.Gen.facts, Cert.FirstKernelIdeal.Gen.facts, Cert.FirstReferenceIdeal.Gen.facts,
  facts_mem_finite, facts_fox_finite, facts_post_finite,
  fun m ρ _ => Cert.Kernel.Gen.frame m ρ, fun m ρ _ => Cert.KernelIdeal.Gen.frame m ρ, frame_reference,
  fun m ρ _ => Cert.MemKernel.Gen.frame m ρ, fun m ρ _ => Cert.MemKernelIdeal.Gen.frame m ρ, fun m ρ _ => Cert.MemKernelIdeal.Gen.frame m ρ,
  frame_mem_reference, fun m ρ _ => frame_mem_reference m ρ trivial,
  fun m ρ _ => Cert.FoxKernel.Plain.frame m ρ, fun m ρ _ => Cert.FoxKernelIdeal.Value.frame m ρ, fun m ρ _ => Cert.FoxKernelIdeal.Value.frame m ρ,
  frame_fox_reference, fun m ρ _ => frame_fox_reference m ρ trivial,
  fun m ρ _ => Cert.ActKernel.Gen.frame m ρ, fun m ρ _ => Cert.ActKernelIdeal.Gen.frame m ρ, frame_act_reference,
  fun m ρ _ => Cert.LossKernel.Gen.frame m ρ, fun m ρ _ => Cert.LossKernelIdeal.Gen.frame m ρ, frame_loss_reference,
  fun m ρ _ => Cert.NormKernel.Gen.frame m ρ, fun m ρ _ => Cert.NormKernelIdeal.Gen.frame m ρ, frame_norm_reference,
  fun m ρ _ => Cert.PostKernel.Gen.frame m ρ, fun m ρ _ => Cert.PostKernelIdeal.Gen.frame m ρ, fun m ρ _ => Cert.PostKernelIdeal.Gen.frame m ρ,
  frame_post_reference, fun m ρ _ => frame_post_reference m ρ trivial,
  fun m ρ _ => Cert.FirstKernel.Gen.frame m ρ, fun m ρ _ => Cert.FirstKernelIdeal.Gen.frame m ρ, frame_first_reference,
  trivial, algebraic, trivial, algebraic_mem, preserves_fox, algebraic_fox, trivial, algebraic_act, trivial, algebraic_loss, trivial, algebraic_norm, trivial, algebraic_post,
  trivial, algebraic_first⟩

end Cert.Proof

end
